-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_args2 [hPre_finite_args2 : Cert.Pre_finite_args2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_args2 [hPre_finite_args2 : Cert.Pre_finite_args2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_args2 [hKernel2Ideal : Cert.Kernel2Ideal.Facts] [hPre_finite_args2 : Cert.Pre_finite_args2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_args2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_args2 [hReference2Ideal : Cert.Reference2Ideal.Facts] [hPre_finite_args2 : Cert.Pre_finite_args2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_args2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "att_scale" .f32 0x3D93CD3A#32 (((Real.sqrt 192)⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)) (v3 : (c : Dev Cert.KernelIdeal.nD) → Buf (Elt Ideal) ((c.tc : Thread Cert.KernelIdeal.nD Cert.KernelIdeal.τ).loc Cert.KernelIdeal.main_v67_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_v67_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_args2 [hKernel2Ideal : Cert.Kernel2Ideal.Facts] [hReference2Ideal : Cert.Reference2Ideal.Facts] [hPre_finite_args2 : Cert.Pre_finite_args2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_args2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_args : Cert.Pre_finite_args.Facts) (hPre_finite_args2 : Cert.Pre_finite_args2.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Kernel2Ideal_pre_finite_args2 (hKernel2Ideal := hKernel2Ideal) (hPre_finite_args2 := hPre_finite_args2)
    ∧ quiescent_Reference2Ideal (hReference2Ideal := hReference2Ideal)
    ∧ quiescent_Reference2Ideal_pre_finite_args2 (hReference2Ideal := hReference2Ideal) (hPre_finite_args2 := hPre_finite_args2)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal_pre_finite_args2 (hKernel2Ideal := hKernel2Ideal) (hReference2Ideal := hReference2Ideal) (hPre_finite_args2 := hPre_finite_args2)
-- ==== Pre_finite_args.lean ====
abbrev S8192x8x192 : Shape := ⟨3, ![8192, 8, 192]⟩
abbrev S8192x8x128 : Shape := ⟨3, ![8192, 8, 128]⟩
abbrev S8192x1024 : Shape := ⟨2, ![8192, 1024]⟩
abbrev S8192x32 : Shape := ⟨2, ![8192, 32]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)
  bcast_S_S8192x1024 : S_.BroadcastsInDim S8192x1024 (![] : Fin 0 → Fin S8192x1024.rank)
  bcast_S_S8192x32 : S_.BroadcastsInDim S8192x32 (![] : Fin 0 → Fin S8192x32.rank)

variable [Facts]

def fn_part1 {F : FTy → Type} [FloatOps F] (main_arg6 : FVec F S8192x1024 .f32) (main_v2 : IVec S8192x8x192 1) (main_v5 : IVec S8192x8x192 1) (main_v8 : IVec S8192x8x128 1) (main_v11 : IVec S8192x1024 1) (main_v14 : IVec S8192x32 1) (main_v17 : IVec S8192x32 1) : IVec S8192x8x192 1 × IVec S8192x8x192 1 × IVec S8192x8x128 1 × IVec S8192x1024 1 × IVec S8192x32 1 × IVec S8192x32 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x8x192 .f32) (main_arg1 : FVec F S8192x8x192 .f32) (main_arg2 : FVec F S8192x8x128 .f32) (main_arg3 : FVec F S8192x1024 .f32) (main_arg4 : FVec F S8192x32 .f32) (main_arg5 : FVec F S8192x32 .f32) (main_arg6 : FVec F S8192x1024 .f32) : IVec S8192x8x192 1 × IVec S8192x8x192 1 × IVec S8192x8x128 1 × IVec S8192x1024 1 × IVec S8192x32 1 × IVec S8192x32 1 × IVec S8192x1024 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x32 .f32 := Host.absf main_arg4
  let main_cst_3 : FVec F S_ .f32 := constant S_ .f32 0x7F800000#32
  let main_v13 : FVec F S8192x32 .f32 := broadcastInDim S8192x32 ![] bcast_S_S8192x32 main_cst_3
  let main_v14 : IVec S8192x32 1 := cmpf .olt main_v12 main_v13
  let main_v15 : FVec F S8192x32 .f32 := Host.absf main_arg5
  let main_cst_4 : FVec F S_ .f32 := constant S_ .f32 0x7F800000#32
  let main_v16 : FVec F S8192x32 .f32 := broadcastInDim S8192x32 ![] bcast_S_S8192x32 main_cst_4
  let main_v17 : IVec S8192x32 1 := cmpf .olt main_v15 main_v16
  fn_part1 (F := F) main_arg6 main_v2 main_v5 main_v8 main_v11 main_v14 main_v17
-- ==== Pre_finite_args2.lean ====
abbrev S8192x8x192 : Shape := ⟨3, ![8192, 8, 192]⟩
abbrev S8192x8x128 : Shape := ⟨3, ![8192, 8, 128]⟩
abbrev S8192x1024 : Shape := ⟨2, ![8192, 1024]⟩
abbrev S8192x32 : Shape := ⟨2, ![8192, 32]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)
  bcast_S_S8192x1024 : S_.BroadcastsInDim S8192x1024 (![] : Fin 0 → Fin S8192x1024.rank)
  bcast_S_S8192x32 : S_.BroadcastsInDim S8192x32 (![] : Fin 0 → Fin S8192x32.rank)

variable [Facts]

def fn {F : FTy → Type} [FloatOps F] (main_arg0 : FVec F S8192x8x192 .f32) (main_arg1 : FVec F S8192x8x192 .f32) (main_arg2 : FVec F S8192x8x128 .f32) (main_arg3 : FVec F S8192x1024 .f32) (main_arg4 : FVec F S8192x32 .f32) (main_arg5 : FVec F S8192x32 .f32) : IVec S8192x8x192 1 × IVec S8192x8x192 1 × IVec S8192x8x128 1 × IVec S8192x1024 1 × IVec S8192x32 1 × IVec S8192x32 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x32 .f32 := Host.absf main_arg4
  let main_cst_3 : FVec F S_ .f32 := constant S_ .f32 0x7F800000#32
  let main_v13 : FVec F S8192x32 .f32 := broadcastInDim S8192x32 ![] bcast_S_S8192x32 main_cst_3
  let main_v14 : IVec S8192x32 1 := cmpf .olt main_v12 main_v13
  let main_v15 : FVec F S8192x32 .f32 := Host.absf main_arg5
  let main_cst_4 : FVec F S_ .f32 := constant S_ .f32 0x7F800000#32
  let main_v16 : FVec F S8192x32 .f32 := broadcastInDim S8192x32 ![] bcast_S_S8192x32 main_cst_4
  let main_v17 : IVec S8192x32 1 := cmpf .olt main_v15 main_v16
  (main_v2, main_v5, main_v8, main_v11, main_v14, main_v17)
-- ==== Kernel.lean ====
abbrev S8192x8x192 : Shape := ⟨3, ![8192, 8, 192]⟩
abbrev S8192x8x128 : Shape := ⟨3, ![8192, 8, 128]⟩
abbrev S8192x1024 : Shape := ⟨2, ![8192, 1024]⟩
abbrev S8192x32 : Shape := ⟨2, ![8192, 32]⟩
abbrev S8192x8x32 : Shape := ⟨3, ![8192, 8, 32]⟩
abbrev S8192x1x32 : Shape := ⟨3, ![8192, 1, 32]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩
abbrev S8x8192x192 : Shape := ⟨3, ![8, 8192, 192]⟩
abbrev S8x8192x256 : Shape := ⟨3, ![8, 8192, 256]⟩
abbrev S8192x64 : Shape := ⟨2, ![8192, 64]⟩
abbrev S8192x128 : Shape := ⟨2, ![8192, 128]⟩
abbrev S1x1024x256 : Shape := ⟨3, ![1, 1024, 256]⟩
abbrev S1x8192x256 : Shape := ⟨3, ![1, 8192, 256]⟩
abbrev S1x8192x128 : Shape := ⟨3, ![1, 8192, 128]⟩
abbrev S1024x128 : Shape := ⟨2, ![1024, 128]⟩
abbrev S1x1024x128 : Shape := ⟨3, ![1, 1024, 128]⟩
abbrev S1024x256 : Shape := ⟨2, ![1024, 256]⟩
abbrev S8192x256 : Shape := ⟨2, ![8192, 256]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 94
  | .vmem => 31
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8192x32, .f32⟩
  | .hbm, ⟨5, _⟩ => ⟨S8192x32, .f32⟩
  | .hbm, ⟨6, _⟩ => ⟨S8192x1024, .f32⟩
  | .hbm, ⟨7, _⟩ => ⟨S8192x8x32, .f32⟩
  | .hbm, ⟨8, _⟩ => ⟨S8192x8x32, .f32⟩
  | .hbm, ⟨9, _⟩ => ⟨S8192x1x32, .f32⟩
  | .hbm, ⟨10, _⟩ => ⟨S8192x1x32, .f32⟩
  | .hbm, ⟨11, _⟩ => ⟨S8192x8x128, .f32⟩
  | .hbm, ⟨12, _⟩ => ⟨S8192x8x32, .f32⟩
  | .hbm, ⟨13, _⟩ => ⟨S8192x8x32, .f32⟩
  | .hbm, ⟨14, _⟩ => ⟨S8192x8x32, .f32⟩
  | .hbm, ⟨15, _⟩ => ⟨S8192x8x32, .f32⟩
  | .hbm, ⟨16, _⟩ => ⟨S8192x8x32, .f32⟩
  | .hbm, ⟨17, _⟩ => ⟨S8192x8x32, .f32⟩
  | .hbm, ⟨18, _⟩ => ⟨S8192x8x32, .f32⟩
  | .hbm, ⟨19, _⟩ => ⟨S8192x8x32, .f32⟩
  | .hbm, ⟨20, _⟩ => ⟨S8192x8x32, .f32⟩
  | .hbm, ⟨21, _⟩ => ⟨S8192x8x32, .f32⟩
  | .hbm, ⟨22, _⟩ => ⟨S8192x8x192, .f32⟩
  | .hbm, ⟨23, _⟩ => ⟨S8x8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x8192x8192, .f32⟩
  | .hbm, ⟨28, _⟩ => ⟨S8x8192x8192, .f32⟩
  | .hbm, ⟨29, _⟩ => ⟨S8192, .i32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8x8192x8192, .i1⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x128x8192, .f32⟩
  | .hbm, ⟨52, _⟩ => ⟨S8192x8x128, .f32⟩
  | .hbm, ⟨53, _⟩ => ⟨S8192x1024, .f32⟩
  | .hbm, ⟨54, _⟩ => ⟨S8x8192x1, .f32⟩
  | .hbm, ⟨55, _⟩ => ⟨S8x8192x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x128, .f32⟩
  | .hbm, ⟨62, _⟩ => ⟨S8x8192x192, .f32⟩
  | .hbm, ⟨63, _⟩ => ⟨S_, .i32⟩
  | .hbm, ⟨64, _⟩ => ⟨S_, .f32⟩
  | .hbm, ⟨65, _⟩ => ⟨S8x8192x256, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8x8192x256, .f32⟩
  | .hbm, ⟨73, _⟩ => ⟨S8x8192x256, .f32⟩
  | .hbm, ⟨74, _⟩ => ⟨S8x8192x256, .bf16⟩
  | .hbm, ⟨75, _⟩ => ⟨S8x8192x192, .f32⟩
  | .hbm, ⟨76, _⟩ => ⟨S_, .i32⟩
  | .hbm, ⟨77, _⟩ => ⟨S_, .f32⟩
  | .hbm, ⟨78, _⟩ => ⟨S8x8192x256, .f32⟩
  | .hbm, ⟨79, _⟩ => ⟨S8x8192x256, .bf16⟩
  | .hbm, ⟨80, _⟩ => ⟨S8x8192x128, .f32⟩
  | .hbm, ⟨81, _⟩ => ⟨S8x8192x128, .bf16⟩
  | .hbm, ⟨82, _⟩ => ⟨S_, .f32⟩
  | .hbm, ⟨83, _⟩ => ⟨S8192x32, .f32⟩
  | .hbm, ⟨84, _⟩ => ⟨S_, .f32⟩
  | .hbm, ⟨85, _⟩ => ⟨S8192x64, .f32⟩
  | .hbm, ⟨86, _⟩ => ⟨S8192x128, .f32⟩
  | .hbm, ⟨87, _⟩ => ⟨S8192x128, .f32⟩
  | .hbm, ⟨88, _⟩ => ⟨S8192x32, .f32⟩
  | .hbm, ⟨89, _⟩ => ⟨S8192x128, .f32⟩
  | .hbm, ⟨90, _⟩ => ⟨S8x8192x256, .bf16⟩
  | .hbm, ⟨91, _⟩ => ⟨S8x8192x256, .f32⟩
  | .hbm, ⟨92, _⟩ => ⟨S8x8192x128, .f32⟩
  | .hbm, ⟨93, _⟩ => ⟨S8192x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1024x256, .bf16⟩
  | .local _ .vmem, ⟨21, _⟩ => ⟨S1x1024x256, .bf16⟩
  | .local _ .vmem, ⟨22, _⟩ => ⟨S1x8192x256, .f32⟩
  | .local _ .vmem, ⟨23, _⟩ => ⟨S1x8192x256, .f32⟩
  | .local _ .vmem, ⟨24, _⟩ => ⟨S1x8192x128, .f32⟩
  | .local _ .vmem, ⟨25, _⟩ => ⟨S1x8192x128, .f32⟩
  | .local _ .vmem, ⟨26, _⟩ => ⟨S1024x128, .bf16⟩
  | .local _ .vmem, ⟨27, _⟩ => ⟨S1024x128, .bf16⟩
  | .local _ .vmem, ⟨28, _⟩ => ⟨S1024x256, .f32⟩
  | .local _ .vmem, ⟨29, _⟩ => ⟨S1024x128, .f32⟩
  | .local _ .vmem, ⟨30, _⟩ => ⟨S1024x128, .bf16⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_call1_v0 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_6 : Ref sig .tc := ⟨.hbm, 76, rfl⟩
abbrev main_call2_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_cst_8 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67_0 : Ref sig .tc := ⟨.hbm, 90, rfl⟩
abbrev main_v67_1 : Ref sig .tc := ⟨.hbm, 91, rfl⟩
abbrev main_v67_2 : Ref sig .tc := ⟨.hbm, 92, rfl⟩
abbrev main_v67_3 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_23 : BitVec 32 := 0#32
  let arg1 : BitVec 32 := BitVec.ofNat 32 (i 1).val
  let c0_i32_17 : BitVec 32 := 0#32
  let v37 : BitVec 1 := Scalar.cmpi .sgt arg1 c0_i32_17
  let v38 : BitVec 32 := Scalar.extui v37
  let c0_i32_18 : BitVec 32 := 0#32
  let v39 : BitVec 1 := Scalar.cmpi .slt arg1 c0_i32_18
  let v40 : BitVec 32 := Scalar.extui v39
  let v41 : BitVec 32 := Scalar.subi v38 v40
  let c2_i32 : BitVec 32 := 2#32
  let c0_i32_19 : BitVec 32 := 0#32
  let v42 : BitVec 1 := Scalar.cmpi .sgt c2_i32 c0_i32_19
  let v43 : BitVec 32 := Scalar.extui v42
  let c0_i32_20 : BitVec 32 := 0#32
  let v44 : BitVec 1 := Scalar.cmpi .slt c2_i32 c0_i32_20
  let v45 : BitVec 32 := Scalar.extui v44
  let v46 : BitVec 32 := Scalar.subi v43 v45
  let v47 : BitVec 1 := Scalar.cmpi .ne v41 v46
  let v48 : BitVec 32 := Scalar.remsi arg1 c2_i32
  let c0_i32_21 : BitVec 32 := 0#32
  let v49 : BitVec 1 := Scalar.cmpi .ne v48 c0_i32_21
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_25 : BitVec 32 := 1#32
  ⟨c0_i32_23, v57, c1_i32_25⟩
def k0_mult1 (i : grid0.Coords) (k0_t1 : Fin (k0_t1_loop i).trips) : BitVec 32 :=
  let c4_i32 : BitVec 32 := 4#32
  let c0_i32_23 : BitVec 32 := 0#32
  let c1_i32_25 : BitVec 32 := 1#32
  let arg19 : BitVec 32 := Scf.iv c0_i32_23 c1_i32_25 k0_t1
  let v232 : BitVec 32 := Scalar.muli c4_i32 arg19
  let c0_i32_135 : BitVec 32 := 0#32
  let v233 : BitVec 32 := Scalar.addi v232 c0_i32_135
  let c512_i32_136 : BitVec 32 := 512#32
  let v234 : BitVec 32 := Scalar.muli v233 c512_i32_136
  v234
def k0_off1 (i : grid0.Coords) (k0_t1 : Fin (k0_t1_loop i).trips) (c0_i32_135 : BitVec 32) : Fin 3 → Nat :=
  let c0_137 : Index := 0#32
  let c4_i32 : BitVec 32 := 4#32
  let c0_i32_23 : BitVec 32 := 0#32
  let c1_i32_25 : BitVec 32 := 1#32
  let arg19 : BitVec 32 := Scf.iv c0_i32_23 c1_i32_25 k0_t1
  let v232 : BitVec 32 := Scalar.muli c4_i32 arg19
  let v233 : BitVec 32 := Scalar.addi v232 c0_i32_135
  let c512_i32_136 : BitVec 32 := 512#32
  let v234 : BitVec 32 := Scalar.muli v233 c512_i32_136
  let v235 : BitVec 32 := v234
  let v236 : Index := Scalar.indexCast v235
  let c0_138 : Index := 0#32
  ![0, v236.toNat, 0]
def k0_off2 (i : grid0.Coords) (k0_t1 : Fin (k0_t1_loop i).trips) (c0_i32_135 : BitVec 32) : Fin 3 → Nat :=
  let c0_139 : Index := 0#32
  let c4_i32 : BitVec 32 := 4#32
  let c0_i32_23 : BitVec 32 := 0#32
  let c1_i32_25 : BitVec 32 := 1#32
  let arg19 : BitVec 32 := Scf.iv c0_i32_23 c1_i32_25 k0_t1
  let v232 : BitVec 32 := Scalar.muli c4_i32 arg19
  let v233 : BitVec 32 := Scalar.addi v232 c0_i32_135
  let c512_i32_136 : BitVec 32 := 512#32
  let v234 : BitVec 32 := Scalar.muli v233 c512_i32_136
  let v235 : BitVec 32 := v234
  let v239 : Index := Scalar.indexCast v235
  let c0_140 : Index := 0#32
  ![0, v239.toNat, 0]
def k0_mult2 (i : grid0.Coords) (k0_t1 : Fin (k0_t1_loop i).trips) : BitVec 32 :=
  let c4_i32_187 : BitVec 32 := 4#32
  let c0_i32_23 : BitVec 32 := 0#32
  let c1_i32_25 : BitVec 32 := 1#32
  let arg19 : BitVec 32 := Scf.iv c0_i32_23 c1_i32_25 k0_t1
  let v308 : BitVec 32 := Scalar.muli c4_i32_187 arg19
  let c1_i32_188 : BitVec 32 := 1#32
  let v309 : BitVec 32 := Scalar.addi v308 c1_i32_188
  let c512_i32_189 : BitVec 32 := 512#32
  let v310 : BitVec 32 := Scalar.muli v309 c512_i32_189
  v310
def k0_mult3 (i : grid0.Coords) (k0_t1 : Fin (k0_t1_loop i).trips) : BitVec 32 :=
  let c4_i32_240 : BitVec 32 := 4#32
  let c0_i32_23 : BitVec 32 := 0#32
  let c1_i32_25 : BitVec 32 := 1#32
  let arg19 : BitVec 32 := Scf.iv c0_i32_23 c1_i32_25 k0_t1
  let v384 : BitVec 32 := Scalar.muli c4_i32_240 arg19
  let c2_i32_241 : BitVec 32 := 2#32
  let v385 : BitVec 32 := Scalar.addi v384 c2_i32_241
  let c512_i32_242 : BitVec 32 := 512#32
  let v386 : BitVec 32 := Scalar.muli v385 c512_i32_242
  v386
def k0_mult4 (i : grid0.Coords) (k0_t1 : Fin (k0_t1_loop i).trips) : BitVec 32 :=
  let c4_i32_293 : BitVec 32 := 4#32
  let c0_i32_23 : BitVec 32 := 0#32
  let c1_i32_25 : BitVec 32 := 1#32
  let arg19 : BitVec 32 := Scf.iv c0_i32_23 c1_i32_25 k0_t1
  let v460 : BitVec 32 := Scalar.muli c4_i32_293 arg19
  let c3_i32 : BitVec 32 := 3#32
  let v461 : BitVec 32 := Scalar.addi v460 c3_i32
  let c512_i32_294 : BitVec 32 := 512#32
  let v462 : BitVec 32 := Scalar.muli v461 c512_i32_294
  v462
@[reducible] def k0_t2_loop (i : grid0.Coords) : Scf.Loop 32 :=
  let c0_i32_23 : BitVec 32 := 0#32
  let arg1 : BitVec 32 := BitVec.ofNat 32 (i 1).val
  let c0_i32_17 : BitVec 32 := 0#32
  let v37 : BitVec 1 := Scalar.cmpi .sgt arg1 c0_i32_17
  let v38 : BitVec 32 := Scalar.extui v37
  let c0_i32_18 : BitVec 32 := 0#32
  let v39 : BitVec 1 := Scalar.cmpi .slt arg1 c0_i32_18
  let v40 : BitVec 32 := Scalar.extui v39
  let v41 : BitVec 32 := Scalar.subi v38 v40
  let c2_i32 : BitVec 32 := 2#32
  let c0_i32_19 : BitVec 32 := 0#32
  let v42 : BitVec 1 := Scalar.cmpi .sgt c2_i32 c0_i32_19
  let v43 : BitVec 32 := Scalar.extui v42
  let c0_i32_20 : BitVec 32 := 0#32
  let v44 : BitVec 1 := Scalar.cmpi .slt c2_i32 c0_i32_20
  let v45 : BitVec 32 := Scalar.extui v44
  let v46 : BitVec 32 := Scalar.subi v43 v45
  let v47 : BitVec 1 := Scalar.cmpi .ne v41 v46
  let v48 : BitVec 32 := Scalar.remsi arg1 c2_i32
  let c0_i32_21 : BitVec 32 := 0#32
  let v49 : BitVec 1 := Scalar.cmpi .ne v48 c0_i32_21
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let v54 : BitVec 32 := Scalar.addi c0_i32_23 v53
  let c1_i32_26 : BitVec 32 := 1#32
  ⟨v57, v54, c1_i32_26⟩
def k0_mult5 (i : grid0.Coords) (k0_t2 : Fin (k0_t2_loop i).trips) : BitVec 32 :=
  let c4_i32 : BitVec 32 := 4#32
  let c0_i32_23 : BitVec 32 := 0#32
  let arg1 : BitVec 32 := BitVec.ofNat 32 (i 1).val
  let c0_i32_17 : BitVec 32 := 0#32
  let v37 : BitVec 1 := Scalar.cmpi .sgt arg1 c0_i32_17
  let v38 : BitVec 32 := Scalar.extui v37
  let c0_i32_18 : BitVec 32 := 0#32
  let v39 : BitVec 1 := Scalar.cmpi .slt arg1 c0_i32_18
  let v40 : BitVec 32 := Scalar.extui v39
  let v41 : BitVec 32 := Scalar.subi v38 v40
  let c2_i32 : BitVec 32 := 2#32
  let c0_i32_19 : BitVec 32 := 0#32
  let v42 : BitVec 1 := Scalar.cmpi .sgt c2_i32 c0_i32_19
  let v43 : BitVec 32 := Scalar.extui v42
  let c0_i32_20 : BitVec 32 := 0#32
  let v44 : BitVec 1 := Scalar.cmpi .slt c2_i32 c0_i32_20
  let v45 : BitVec 32 := Scalar.extui v44
  let v46 : BitVec 32 := Scalar.subi v43 v45
  let v47 : BitVec 1 := Scalar.cmpi .ne v41 v46
  let v48 : BitVec 32 := Scalar.remsi arg1 c2_i32
  let c0_i32_21 : BitVec 32 := 0#32
  let v49 : BitVec 1 := Scalar.cmpi .ne v48 c0_i32_21
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg19 : BitVec 32 := Scf.iv v57 c1_i32_26 k0_t2
  let v232 : BitVec 32 := Scalar.muli c4_i32 arg19
  let c0_i32_135 : BitVec 32 := 0#32
  let v233 : BitVec 32 := Scalar.addi v232 c0_i32_135
  let c512_i32_136 : BitVec 32 := 512#32
  let v234 : BitVec 32 := Scalar.muli v233 c512_i32_136
  v234
def k0_off3 (i : grid0.Coords) (k0_t2 : Fin (k0_t2_loop i).trips) (c0_i32_135 : BitVec 32) : Fin 3 → Nat :=
  let c0_137 : Index := 0#32
  let c4_i32 : BitVec 32 := 4#32
  let c0_i32_23 : BitVec 32 := 0#32
  let arg1 : BitVec 32 := BitVec.ofNat 32 (i 1).val
  let c0_i32_17 : BitVec 32 := 0#32
  let v37 : BitVec 1 := Scalar.cmpi .sgt arg1 c0_i32_17
  let v38 : BitVec 32 := Scalar.extui v37
  let c0_i32_18 : BitVec 32 := 0#32
  let v39 : BitVec 1 := Scalar.cmpi .slt arg1 c0_i32_18
  let v40 : BitVec 32 := Scalar.extui v39
  let v41 : BitVec 32 := Scalar.subi v38 v40
  let c2_i32 : BitVec 32 := 2#32
  let c0_i32_19 : BitVec 32 := 0#32
  let v42 : BitVec 1 := Scalar.cmpi .sgt c2_i32 c0_i32_19
  let v43 : BitVec 32 := Scalar.extui v42
  let c0_i32_20 : BitVec 32 := 0#32
  let v44 : BitVec 1 := Scalar.cmpi .slt c2_i32 c0_i32_20
  let v45 : BitVec 32 := Scalar.extui v44
  let v46 : BitVec 32 := Scalar.subi v43 v45
  let v47 : BitVec 1 := Scalar.cmpi .ne v41 v46
  let v48 : BitVec 32 := Scalar.remsi arg1 c2_i32
  let c0_i32_21 : BitVec 32 := 0#32
  let v49 : BitVec 1 := Scalar.cmpi .ne v48 c0_i32_21
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg19 : BitVec 32 := Scf.iv v57 c1_i32_26 k0_t2
  let v232 : BitVec 32 := Scalar.muli c4_i32 arg19
  let v233 : BitVec 32 := Scalar.addi v232 c0_i32_135
  let c512_i32_136 : BitVec 32 := 512#32
  let v234 : BitVec 32 := Scalar.muli v233 c512_i32_136
  let v235 : BitVec 32 := v234
  let v236 : Index := Scalar.indexCast v235
  let c0_138 : Index := 0#32
  ![0, v236.toNat, 0]
def k0_off4 (i : grid0.Coords) (k0_t2 : Fin (k0_t2_loop i).trips) (c0_i32_135 : BitVec 32) : Fin 3 → Nat :=
  let c0_139 : Index := 0#32
  let c4_i32 : BitVec 32 := 4#32
  let c0_i32_23 : BitVec 32 := 0#32
  let arg1 : BitVec 32 := BitVec.ofNat 32 (i 1).val
  let c0_i32_17 : BitVec 32 := 0#32
  let v37 : BitVec 1 := Scalar.cmpi .sgt arg1 c0_i32_17
  let v38 : BitVec 32 := Scalar.extui v37
  let c0_i32_18 : BitVec 32 := 0#32
  let v39 : BitVec 1 := Scalar.cmpi .slt arg1 c0_i32_18
  let v40 : BitVec 32 := Scalar.extui v39
  let v41 : BitVec 32 := Scalar.subi v38 v40
  let c2_i32 : BitVec 32 := 2#32
  let c0_i32_19 : BitVec 32 := 0#32
  let v42 : BitVec 1 := Scalar.cmpi .sgt c2_i32 c0_i32_19
  let v43 : BitVec 32 := Scalar.extui v42
  let c0_i32_20 : BitVec 32 := 0#32
  let v44 : BitVec 1 := Scalar.cmpi .slt c2_i32 c0_i32_20
  let v45 : BitVec 32 := Scalar.extui v44
  let v46 : BitVec 32 := Scalar.subi v43 v45
  let v47 : BitVec 1 := Scalar.cmpi .ne v41 v46
  let v48 : BitVec 32 := Scalar.remsi arg1 c2_i32
  let c0_i32_21 : BitVec 32 := 0#32
  let v49 : BitVec 1 := Scalar.cmpi .ne v48 c0_i32_21
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg19 : BitVec 32 := Scf.iv v57 c1_i32_26 k0_t2
  let v232 : BitVec 32 := Scalar.muli c4_i32 arg19
  let v233 : BitVec 32 := Scalar.addi v232 c0_i32_135
  let c512_i32_136 : BitVec 32 := 512#32
  let v234 : BitVec 32 := Scalar.muli v233 c512_i32_136
  let v235 : BitVec 32 := v234
  let v239 : Index := Scalar.indexCast v235
  let c0_140 : Index := 0#32
  ![0, v239.toNat, 0]
def k0_mult6 (i : grid0.Coords) (k0_t2 : Fin (k0_t2_loop i).trips) : BitVec 32 :=
  let c4_i32_187 : BitVec 32 := 4#32
  let c0_i32_23 : BitVec 32 := 0#32
  let arg1 : BitVec 32 := BitVec.ofNat 32 (i 1).val
  let c0_i32_17 : BitVec 32 := 0#32
  let v37 : BitVec 1 := Scalar.cmpi .sgt arg1 c0_i32_17
  let v38 : BitVec 32 := Scalar.extui v37
  let c0_i32_18 : BitVec 32 := 0#32
  let v39 : BitVec 1 := Scalar.cmpi .slt arg1 c0_i32_18
  let v40 : BitVec 32 := Scalar.extui v39
  let v41 : BitVec 32 := Scalar.subi v38 v40
  let c2_i32 : BitVec 32 := 2#32
  let c0_i32_19 : BitVec 32 := 0#32
  let v42 : BitVec 1 := Scalar.cmpi .sgt c2_i32 c0_i32_19
  let v43 : BitVec 32 := Scalar.extui v42
  let c0_i32_20 : BitVec 32 := 0#32
  let v44 : BitVec 1 := Scalar.cmpi .slt c2_i32 c0_i32_20
  let v45 : BitVec 32 := Scalar.extui v44
  let v46 : BitVec 32 := Scalar.subi v43 v45
  let v47 : BitVec 1 := Scalar.cmpi .ne v41 v46
  let v48 : BitVec 32 := Scalar.remsi arg1 c2_i32
  let c0_i32_21 : BitVec 32 := 0#32
  let v49 : BitVec 1 := Scalar.cmpi .ne v48 c0_i32_21
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg19 : BitVec 32 := Scf.iv v57 c1_i32_26 k0_t2
  let v308 : BitVec 32 := Scalar.muli c4_i32_187 arg19
  let c1_i32_188 : BitVec 32 := 1#32
  let v309 : BitVec 32 := Scalar.addi v308 c1_i32_188
  let c512_i32_189 : BitVec 32 := 512#32
  let v310 : BitVec 32 := Scalar.muli v309 c512_i32_189
  v310
def k0_mult7 (i : grid0.Coords) (k0_t2 : Fin (k0_t2_loop i).trips) : BitVec 32 :=
  let c4_i32_240 : BitVec 32 := 4#32
  let c0_i32_23 : BitVec 32 := 0#32
  let arg1 : BitVec 32 := BitVec.ofNat 32 (i 1).val
  let c0_i32_17 : BitVec 32 := 0#32
  let v37 : BitVec 1 := Scalar.cmpi .sgt arg1 c0_i32_17
  let v38 : BitVec 32 := Scalar.extui v37
  let c0_i32_18 : BitVec 32 := 0#32
  let v39 : BitVec 1 := Scalar.cmpi .slt arg1 c0_i32_18
  let v40 : BitVec 32 := Scalar.extui v39
  let v41 : BitVec 32 := Scalar.subi v38 v40
  let c2_i32 : BitVec 32 := 2#32
  let c0_i32_19 : BitVec 32 := 0#32
  let v42 : BitVec 1 := Scalar.cmpi .sgt c2_i32 c0_i32_19
  let v43 : BitVec 32 := Scalar.extui v42
  let c0_i32_20 : BitVec 32 := 0#32
  let v44 : BitVec 1 := Scalar.cmpi .slt c2_i32 c0_i32_20
  let v45 : BitVec 32 := Scalar.extui v44
  let v46 : BitVec 32 := Scalar.subi v43 v45
  let v47 : BitVec 1 := Scalar.cmpi .ne v41 v46
  let v48 : BitVec 32 := Scalar.remsi arg1 c2_i32
  let c0_i32_21 : BitVec 32 := 0#32
  let v49 : BitVec 1 := Scalar.cmpi .ne v48 c0_i32_21
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg19 : BitVec 32 := Scf.iv v57 c1_i32_26 k0_t2
  let v384 : BitVec 32 := Scalar.muli c4_i32_240 arg19
  let c2_i32_241 : BitVec 32 := 2#32
  let v385 : BitVec 32 := Scalar.addi v384 c2_i32_241
  let c512_i32_242 : BitVec 32 := 512#32
  let v386 : BitVec 32 := Scalar.muli v385 c512_i32_242
  v386
def k0_mult8 (i : grid0.Coords) (k0_t2 : Fin (k0_t2_loop i).trips) : BitVec 32 :=
  let c4_i32_293 : BitVec 32 := 4#32
  let c0_i32_23 : BitVec 32 := 0#32
  let arg1 : BitVec 32 := BitVec.ofNat 32 (i 1).val
  let c0_i32_17 : BitVec 32 := 0#32
  let v37 : BitVec 1 := Scalar.cmpi .sgt arg1 c0_i32_17
  let v38 : BitVec 32 := Scalar.extui v37
  let c0_i32_18 : BitVec 32 := 0#32
  let v39 : BitVec 1 := Scalar.cmpi .slt arg1 c0_i32_18
  let v40 : BitVec 32 := Scalar.extui v39
  let v41 : BitVec 32 := Scalar.subi v38 v40
  let c2_i32 : BitVec 32 := 2#32
  let c0_i32_19 : BitVec 32 := 0#32
  let v42 : BitVec 1 := Scalar.cmpi .sgt c2_i32 c0_i32_19
  let v43 : BitVec 32 := Scalar.extui v42
  let c0_i32_20 : BitVec 32 := 0#32
  let v44 : BitVec 1 := Scalar.cmpi .slt c2_i32 c0_i32_20
  let v45 : BitVec 32 := Scalar.extui v44
  let v46 : BitVec 32 := Scalar.subi v43 v45
  let v47 : BitVec 1 := Scalar.cmpi .ne v41 v46
  let v48 : BitVec 32 := Scalar.remsi arg1 c2_i32
  let c0_i32_21 : BitVec 32 := 0#32
  let v49 : BitVec 1 := Scalar.cmpi .ne v48 c0_i32_21
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg19 : BitVec 32 := Scf.iv v57 c1_i32_26 k0_t2
  let v460 : BitVec 32 := Scalar.muli c4_i32_293 arg19
  let c3_i32 : BitVec 32 := 3#32
  let v461 : BitVec 32 := Scalar.addi v460 c3_i32
  let c512_i32_294 : BitVec 32 := 512#32
  let v462 : BitVec 32 := Scalar.muli v461 c512_i32_294
  v462
def k0_cond2 (i : grid0.Coords) : BitVec 1 :=
  let arg1 : BitVec 32 := BitVec.ofNat 32 (i 1).val
  let c2_i32_27 : BitVec 32 := 2#32
  let c0_i32_28 : BitVec 32 := 0#32
  let v58 : BitVec 1 := Scalar.cmpi .eq c2_i32_27 c0_i32_28
  let c1_i32_29 : BitVec 32 := 1#32
  let v59 : BitVec 32 := Scalar.select v58 c1_i32_29 c2_i32_27
  let v60 : BitVec 32 := Scalar.remsi arg1 v59
  let c0_i32_31 : BitVec 32 := 0#32
  let v62 : BitVec 1 := Scalar.cmpi .slt v60 c0_i32_31
  let c0_i32_32 : BitVec 32 := 0#32
  let v63 : BitVec 1 := Scalar.cmpi .slt v59 c0_i32_32
  let v64 : BitVec 1 := Scalar.xori v62 v63
  let c0_i32_30 : BitVec 32 := 0#32
  let v61 : BitVec 1 := Scalar.cmpi .ne v60 c0_i32_30
  let v65 : BitVec 1 := Scalar.andi v64 v61
  let v66 : BitVec 32 := Scalar.addi v60 v59
  let v67 : BitVec 32 := Scalar.select v65 v66 v60
  let c1_i32_33 : BitVec 32 := 1#32
  let v68 : BitVec 1 := Scalar.cmpi .eq v67 c1_i32_33
  let v69 : BitVec 32 := Scalar.extui v68
  let c0_i32_34 : BitVec 32 := 0#32
  let v70 : BitVec 1 := Scalar.cmpi .ne v69 c0_i32_34
  v70

def k0_mult9 (i : grid0.Coords) : BitVec 32 :=
  let c2_i32_135 : BitVec 32 := 2#32
  let arg1 : BitVec 32 := BitVec.ofNat 32 (i 1).val
  let v232 : BitVec 32 := Scalar.muli c2_i32_135 arg1
  let c2_i32_136 : BitVec 32 := 2#32
  let v233 : BitVec 32 := Scalar.subi v232 c2_i32_136
  let c512_i32_137 : BitVec 32 := 512#32
  let v234 : BitVec 32 := Scalar.muli v233 c512_i32_137
  v234
def k0_off5 (i : grid0.Coords) (c2_i32_136 : BitVec 32) : Fin 3 → Nat :=
  let c0_138 : Index := 0#32
  let c2_i32_135 : BitVec 32 := 2#32
  let arg1 : BitVec 32 := BitVec.ofNat 32 (i 1).val
  let v232 : BitVec 32 := Scalar.muli c2_i32_135 arg1
  let v233 : BitVec 32 := Scalar.subi v232 c2_i32_136
  let c512_i32_137 : BitVec 32 := 512#32
  let v234 : BitVec 32 := Scalar.muli v233 c512_i32_137
  let v235 : BitVec 32 := v234
  let v236 : Index := Scalar.indexCast v235
  let c0_139 : Index := 0#32
  ![0, v236.toNat, 0]
def k0_off6 (i : grid0.Coords) (c2_i32_136 : BitVec 32) : Fin 3 → Nat :=
  let c0_140 : Index := 0#32
  let c2_i32_135 : BitVec 32 := 2#32
  let arg1 : BitVec 32 := BitVec.ofNat 32 (i 1).val
  let v232 : BitVec 32 := Scalar.muli c2_i32_135 arg1
  let v233 : BitVec 32 := Scalar.subi v232 c2_i32_136
  let c512_i32_137 : BitVec 32 := 512#32
  let v234 : BitVec 32 := Scalar.muli v233 c512_i32_137
  let v235 : BitVec 32 := v234
  let v239 : Index := Scalar.indexCast v235
  let c0_141 : Index := 0#32
  ![0, v239.toNat, 0]
def k0_mult10 (i : grid0.Coords) : BitVec 32 :=
  let c2_i32_188 : BitVec 32 := 2#32
  let arg1 : BitVec 32 := BitVec.ofNat 32 (i 1).val
  let v308 : BitVec 32 := Scalar.muli c2_i32_188 arg1
  let c1_i32_189 : BitVec 32 := 1#32
  let v309 : BitVec 32 := Scalar.subi v308 c1_i32_189
  let c512_i32_190 : BitVec 32 := 512#32
  let v310 : BitVec 32 := Scalar.muli v309 c512_i32_190
  v310
def k0_mult11 (i : grid0.Coords) : BitVec 32 :=
  let c2_i32_35 : BitVec 32 := 2#32
  let arg1 : BitVec 32 := BitVec.ofNat 32 (i 1).val
  let v71 : BitVec 32 := Scalar.muli c2_i32_35 arg1
  let c512_i32 : BitVec 32 := 512#32
  let v72 : BitVec 32 := Scalar.muli v71 c512_i32
  v72
def k0_off7 (i : grid0.Coords) : Fin 3 → Nat :=
  let c0_36 : Index := 0#32
  let c2_i32_35 : BitVec 32 := 2#32
  let arg1 : BitVec 32 := BitVec.ofNat 32 (i 1).val
  let v71 : BitVec 32 := Scalar.muli c2_i32_35 arg1
  let c512_i32 : BitVec 32 := 512#32
  let v72 : BitVec 32 := Scalar.muli v71 c512_i32
  let v73 : BitVec 32 := v72
  let v74 : Index := Scalar.indexCast v73
  let c0_37 : Index := 0#32
  ![0, v74.toNat, 0]
def k0_off8 (i : grid0.Coords) : Fin 3 → Nat :=
  let c0_38 : Index := 0#32
  let c2_i32_35 : BitVec 32 := 2#32
  let arg1 : BitVec 32 := BitVec.ofNat 32 (i 1).val
  let v71 : BitVec 32 := Scalar.muli c2_i32_35 arg1
  let c512_i32 : BitVec 32 := 512#32
  let v72 : BitVec 32 := Scalar.muli v71 c512_i32
  let v73 : BitVec 32 := v72
  let v77 : Index := Scalar.indexCast v73
  let c0_39 : Index := 0#32
  ![0, v77.toNat, 0]
def k0_mult12 (i : grid0.Coords) : BitVec 32 :=
  let c2_i32_86 : BitVec 32 := 2#32
  let arg1 : BitVec 32 := BitVec.ofNat 32 (i 1).val
  let v151 : BitVec 32 := Scalar.muli c2_i32_86 arg1
  let c1_i32_87 : BitVec 32 := 1#32
  let v152 : BitVec 32 := Scalar.addi v151 c1_i32_87
  let c512_i32_88 : BitVec 32 := 512#32
  let v153 : BitVec 32 := Scalar.muli v152 c512_i32_88
  v153
def k0_off9 (i : grid0.Coords) : Fin 3 → Nat :=
  let c0_89 : Index := 0#32
  let c2_i32_86 : BitVec 32 := 2#32
  let arg1 : BitVec 32 := BitVec.ofNat 32 (i 1).val
  let v151 : BitVec 32 := Scalar.muli c2_i32_86 arg1
  let c1_i32_87 : BitVec 32 := 1#32
  let v152 : BitVec 32 := Scalar.addi v151 c1_i32_87
  let c512_i32_88 : BitVec 32 := 512#32
  let v153 : BitVec 32 := Scalar.muli v152 c512_i32_88
  let v154 : BitVec 32 := v153
  let v155 : Index := Scalar.indexCast v154
  let c0_90 : Index := 0#32
  ![0, v155.toNat, 0]
def k0_off10 (i : grid0.Coords) : Fin 3 → Nat :=
  let c0_91 : Index := 0#32
  let c2_i32_86 : BitVec 32 := 2#32
  let arg1 : BitVec 32 := BitVec.ofNat 32 (i 1).val
  let v151 : BitVec 32 := Scalar.muli c2_i32_86 arg1
  let c1_i32_87 : BitVec 32 := 1#32
  let v152 : BitVec 32 := Scalar.addi v151 c1_i32_87
  let c512_i32_88 : BitVec 32 := 512#32
  let v153 : BitVec 32 := Scalar.muli v152 c512_i32_88
  let v154 : BitVec 32 := v153
  let v158 : Index := Scalar.indexCast v154
  let c0_92 : Index := 0#32
  ![0, v158.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8192x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "att_scale" => some (((Real.sqrt 192)⁻¹ : ℝ) : EReal)
  | _ => none
-- ==== ReferenceIdeal.lean ====
abbrev S8192x8x192 : Shape := ⟨3, ![8192, 8, 192]⟩
abbrev S8192x8x128 : Shape := ⟨3, ![8192, 8, 128]⟩
abbrev S8192x1024 : Shape := ⟨2, ![8192, 1024]⟩
abbrev S8192x32 : Shape := ⟨2, ![8192, 32]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x64 : Shape := ⟨3, ![8, 8192, 64]⟩
abbrev S8x8192x128 : Shape := ⟨3, ![8, 8192, 128]⟩
abbrev S8x8192x192 : Shape := ⟨3, ![8, 8192, 192]⟩
abbrev S8x8192x256 : Shape := ⟨3, ![8, 8192, 256]⟩

abbrev nBuf : Space → Nat
  | .hbm => 184
  | .vmem => 0
  | .smem => 0
  | _ => 0

abbrev hbmTy0_0 (i : Nat) : BufTy := match i % 128 with
  | 0 => ⟨S8192x8x192, .f32⟩
  | 1 => ⟨S8192x8x192, .f32⟩
  | 2 => ⟨S8192x8x128, .f32⟩
  | 3 => ⟨S8192x1024, .f32⟩
  | 4 => ⟨S8192x32, .f32⟩
  | 5 => ⟨S8192x32, .f32⟩
  | 6 => ⟨S8192x1024, .f32⟩
  | 7 => ⟨S8192x8x64, .f32⟩
  | 8 => ⟨S8192x1x32, .f32⟩
  | 9 => ⟨S8192x1x32, .f32⟩
  | 10 => ⟨S8192x8x32, .f32⟩
  | 11 => ⟨S8192x8x32, .f32⟩
  | 12 => ⟨S8192x8x32, .f32⟩
  | 13 => ⟨S8192x8x32, .f32⟩
  | 14 => ⟨S8192x8x32, .f32⟩
  | 15 => ⟨S8192x8x32, .f32⟩
  | 16 => ⟨S8192x8x32, .f32⟩
  | 17 => ⟨S8192x8x32, .f32⟩
  | 18 => ⟨S8192x8x32, .f32⟩
  | 19 => ⟨S8192x8x32, .f32⟩
  | 20 => ⟨S8192x8x32, .f32⟩
  | 21 => ⟨S8192x8x32, .f32⟩
  | 22 => ⟨S8192x8x64, .f32⟩
  | 23 => ⟨S8192x8x128, .f32⟩
  | 24 => ⟨S8192x8x128, .f32⟩
  | 25 => ⟨S8x8192x8192, .f32⟩
  | 26 => ⟨S8192x8x64, .f32⟩
  | 27 => ⟨S8x8192x8192, .f32⟩
  | 28 => ⟨S8x8192x8192, .f32⟩
  | 29 => ⟨S_, .f32⟩
  | 30 => ⟨S_, .f32⟩
  | 31 => ⟨S_, .f32⟩
  | 32 => ⟨S8x8192x8192, .f32⟩
  | 33 => ⟨S8x8192x8192, .f32⟩
  | 34 => ⟨S8192, .i32⟩
  | 35 => ⟨S8192x1, .i32⟩
  | 36 => ⟨S1x8192, .i32⟩
  | 37 => ⟨S8192x8192, .i32⟩
  | 38 => ⟨S8192x8192, .i32⟩
  | 39 => ⟨S8192x8192, .i1⟩
  | 40 => ⟨S_, .f32⟩
  | 41 => ⟨S_, .f32⟩
  | 42 => ⟨S8x8192x8192, .i1⟩
  | 43 => ⟨S8x8192x8192, .f32⟩
  | 44 => ⟨S8x8192x8192, .f32⟩
  | 45 => ⟨S_, .f32⟩
  | 46 => ⟨S8x8192x8192, .f32⟩
  | 47 => ⟨S_, .f32⟩
  | 48 => ⟨S8x8192, .f32⟩
  | 49 => ⟨S8x8192x1, .f32⟩
  | 50 => ⟨S8x8192x8192, .f32⟩
  | 51 => ⟨S8x8192x8192, .i1⟩
  | 52 => ⟨S8x8192x8192, .f32⟩
  | 53 => ⟨S_, .f32⟩
  | 54 => ⟨S8x8192, .f32⟩
  | 55 => ⟨S_, .f32⟩
  | 56 => ⟨S8x8192, .f32⟩
  | 57 => ⟨S8x8192, .f32⟩
  | 58 => ⟨S_, .f32⟩
  | 59 => ⟨S8x8192, .f32⟩
  | 60 => ⟨S8x8192, .i1⟩
  | 61 => ⟨S_, .f32⟩
  | 62 => ⟨S8x8192, .f32⟩
  | 63 => ⟨S8x8192, .i1⟩
  | 64 => ⟨S_, .f32⟩
  | 65 => ⟨S8x8192, .f32⟩
  | 66 => ⟨S_, .f32⟩
  | 67 => ⟨S8x8192, .f32⟩
  | 68 => ⟨S_, .f32⟩
  | 69 => ⟨S8x8192, .f32⟩
  | 70 => ⟨S8x8192, .f32⟩
  | 71 => ⟨S8x8192, .f32⟩
  | 72 => ⟨S8x8192x1, .f32⟩
  | 73 => ⟨S8x8192x8192, .f32⟩
  | 74 => ⟨S8x8192x8192, .f32⟩
  | 75 => ⟨S8x8192x8192, .f32⟩
  | 76 => ⟨S_, .f32⟩
  | 77 => ⟨S8x8192, .f32⟩
  | 78 => ⟨S8x8192x1, .f32⟩
  | 79 => ⟨S8x8192x8192, .f32⟩
  | 80 => ⟨S8x8192x8192, .f32⟩
  | 81 => ⟨S8x8192x1, .f32⟩
  | 82 => ⟨S_, .f32⟩
  | 83 => ⟨S8x8192x1, .f32⟩
  | 84 => ⟨S8x8192x1, .f32⟩
  | 85 => ⟨S8x128x8192, .f32⟩
  | 86 => ⟨S8192x8x128, .f32⟩
  | 87 => ⟨S8192x1024, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x8x128, .f32⟩
  | 109 => ⟨S8x128x8192, .f32⟩
  | 110 => ⟨S8x8192x8192, .f32⟩
  | 111 => ⟨S8x128x8192, .f32⟩
  | 112 => ⟨S8192x8x128, .f32⟩
  | 113 => ⟨S8x8192x8192, .f32⟩
  | 114 => ⟨S8x8192x8192, .f32⟩
  | 115 => ⟨S8x8192x8192, .f32⟩
  | 116 => ⟨S_, .f32⟩
  | 117 => ⟨S8x8192, .f32⟩
  | 118 => ⟨S8x8192x1, .f32⟩
  | 119 => ⟨S8x8192x1, .f32⟩
  | 120 => ⟨S8x8192x8192, .f32⟩
  | 121 => ⟨S8x8192x8192, .f32⟩
  | 122 => ⟨S_, .f32⟩
  | 123 => ⟨S8x8192, .f32⟩
  | 124 => ⟨S8x8192x8192, .f32⟩
  | 125 => ⟨S8x8192x8192, .f32⟩
  | 126 => ⟨S8x8192x8192, .f32⟩
  | 127 => ⟨S_, .f32⟩
  | _ => ⟨S8192x8x192, .f32⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S8x8192x8192, .f32⟩
  | 4 => ⟨S8x8192x64, .f32⟩
  | 5 => ⟨S8192x8x64, .f32⟩
  | 6 => ⟨S8x8192x64, .f32⟩
  | 7 => ⟨S8192x8x64, .f32⟩
  | 8 => ⟨S_, .f32⟩
  | 9 => ⟨S8192x8x192, .f32⟩
  | 10 => ⟨S8x8192x128, .f32⟩
  | 11 => ⟨S8192x8x128, .f32⟩
  | 12 => ⟨S8x8192x128, .f32⟩
  | 13 => ⟨S8192x8x128, .f32⟩
  | 14 => ⟨S_, .f32⟩
  | 15 => ⟨S8192x8x192, .f32⟩
  | 16 => ⟨S8192x8x192, .f32⟩
  | 17 => ⟨S_, .f32⟩
  | 18 => ⟨S8192x8x192, .f32⟩
  | 19 => ⟨S8192x8x32, .f32⟩
  | 20 => ⟨S8192x8x32, .f32⟩
  | 21 => ⟨S8192x8x32, .f32⟩
  | 22 => ⟨S8192x8x32, .f32⟩
  | 23 => ⟨S8192x8x32, .f32⟩
  | 24 => ⟨S8192x8x32, .f32⟩
  | 25 => ⟨S8192x8x32, .f32⟩
  | 26 => ⟨S8192x8x32, .f32⟩
  | 27 => ⟨S8192x8x32, .f32⟩
  | 28 => ⟨S8192x8x32, .f32⟩
  | 29 => ⟨S8192x8x32, .f32⟩
  | 30 => ⟨S8192x8x32, .f32⟩
  | 31 => ⟨S8192x8x32, .f32⟩
  | 32 => ⟨S_, .f32⟩
  | 33 => ⟨S8192x8x64, .f32⟩
  | 34 => ⟨S_, .f32⟩
  | 35 => ⟨S8192x8x64, .f32⟩
  | 36 => ⟨S8192x8x64, .f32⟩
  | 37 => ⟨S_, .f32⟩
  | 38 => ⟨S8192x8x192, .f32⟩
  | 39 => ⟨S8192x8x192, .f32⟩
  | 40 => ⟨S8x8192x192, .f32⟩
  | 41 => ⟨S_, .i32⟩
  | 42 => ⟨S_, .f32⟩
  | 43 => ⟨S8x8192x256, .f32⟩
  | 44 => ⟨S8x8192x256, .bf16⟩
  | 45 => ⟨S8x8192x192, .f32⟩
  | 46 => ⟨S_, .i32⟩
  | 47 => ⟨S_, .f32⟩
  | 48 => ⟨S8x8192x256, .f32⟩
  | 49 => ⟨S_, .f32⟩
  | 50 => ⟨S_, .f32⟩
  | 51 => ⟨S_, .f32⟩
  | 52 => ⟨S8x8192x256, .f32⟩
  | 53 => ⟨S8x8192x256, .f32⟩
  | 54 => ⟨S8x8192x128, .f32⟩
  | 55 => ⟨S8192x1024, .bf16⟩
  | _ => ⟨S8192x8x192, .f32⟩

abbrev hbmTy (i : Nat) : BufTy := match i / 128 with
  | 0 => hbmTy0_0 i
  | 1 => hbmTy0_1 i
  | _ => ⟨S8192x8x192, .f32⟩

abbrev bufTy : (tb : Table) → Fin (tcTables nBuf tb) → BufTy
  | .hbm, ⟨i, _⟩ => hbmTy i
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_call0_v0 : Ref sig .tc := ⟨.hbm, 41, rfl⟩
abbrev main_v32_1 : Ref sig .tc := ⟨.hbm, 42, rfl⟩
abbrev main_call0_v2 : Ref sig .tc := ⟨.hbm, 43, rfl⟩
abbrev main_v32_0 : Ref sig .tc := ⟨.hbm, 44, rfl⟩
abbrev main_call0_cst : Ref sig .tc := ⟨.hbm, 45, rfl⟩
abbrev main_v32_2 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_v64_2 : Ref sig .tc := ⟨.hbm, 95, rfl⟩
abbrev main_call1_cst_1 : Ref sig .tc := ⟨.hbm, 96, rfl⟩
abbrev main_call1_v6 : Ref sig .tc := ⟨.hbm, 97, rfl⟩
abbrev main_call1_v7 : Ref sig .tc := ⟨.hbm, 98, rfl⟩
abbrev main_v64_1 : Ref sig .tc := ⟨.hbm, 99, rfl⟩
abbrev main_v64_0 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_11 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_12 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call3_cst : Ref sig .tc := ⟨.hbm, 127, rfl⟩
abbrev main_call3_v0 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_13 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_14 : Ref sig .tc := ⟨.hbm, 142, rfl⟩
abbrev main_v98 : Ref sig .tc := ⟨.hbm, 143, rfl⟩
abbrev main_v99 : Ref sig .tc := ⟨.hbm, 144, rfl⟩
abbrev main_cst_15 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_16 : Ref sig .tc := ⟨.hbm, 160, rfl⟩
abbrev main_v114 : Ref sig .tc := ⟨.hbm, 161, rfl⟩
abbrev main_cst_17 : Ref sig .tc := ⟨.hbm, 162, rfl⟩
abbrev main_v115 : Ref sig .tc := ⟨.hbm, 163, rfl⟩
abbrev main_v116 : Ref sig .tc := ⟨.hbm, 164, rfl⟩
abbrev main_cst_18 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c : Ref sig .tc := ⟨.hbm, 169, rfl⟩
abbrev main_call4_v0 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_19 : Ref sig .tc := ⟨.hbm, 174, rfl⟩
abbrev main_call5_v0 : Ref sig .tc := ⟨.hbm, 175, rfl⟩
abbrev main_v123 : Ref sig .tc := ⟨.hbm, 176, rfl⟩
abbrev main_cst_20 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩

abbrev nD : Nat := 1
abbrev τ : Topo := Topo.v7x

variable {F : FTy → Type} [FloatOps F]
-- ==== Kernel2.lean ====
abbrev S8192x8x192 : Shape := ⟨3, ![8192, 8, 192]⟩
abbrev S8192x8x128 : Shape := ⟨3, ![8192, 8, 128]⟩
abbrev S8192x1024 : Shape := ⟨2, ![8192, 1024]⟩
abbrev S8192x32 : Shape := ⟨2, ![8192, 32]⟩
abbrev S8192x8x32 : Shape := ⟨3, ![8192, 8, 32]⟩
abbrev S8192x1x32 : Shape := ⟨3, ![8192, 1, 32]⟩
abbrev S8x8192x192 : Shape := ⟨3, ![8, 8192, 192]⟩
abbrev S_ : Shape := ⟨0, ![]⟩
abbrev S8x8192x256 : Shape := ⟨3, ![8, 8192, 256]⟩
abbrev S8x8192x128 : Shape := ⟨3, ![8, 8192, 128]⟩
abbrev S2x1024x256 : Shape := ⟨3, ![2, 1024, 256]⟩
abbrev S2x8192x256 : Shape := ⟨3, ![2, 8192, 256]⟩
abbrev S2x8192x128 : Shape := ⟨3, ![2, 8192, 128]⟩
abbrev S1024x256 : Shape := ⟨2, ![1024, 256]⟩
abbrev S2x1024x128 : Shape := ⟨3, ![2, 1024, 128]⟩
abbrev S1x1024x256 : Shape := ⟨3, ![1, 1024, 256]⟩
abbrev S1x512x256 : Shape := ⟨3, ![1, 512, 256]⟩
abbrev S512x256 : Shape := ⟨2, ![512, 256]⟩
abbrev S1024x512 : Shape := ⟨2, ![1024, 512]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 45
  | .vmem => 17
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8192x32, .f32⟩
  | .hbm, ⟨5, _⟩ => ⟨S8192x32, .f32⟩
  | .hbm, ⟨6, _⟩ => ⟨S8192x8x32, .f32⟩
  | .hbm, ⟨7, _⟩ => ⟨S8192x8x32, .f32⟩
  | .hbm, ⟨8, _⟩ => ⟨S8192x1x32, .f32⟩
  | .hbm, ⟨9, _⟩ => ⟨S8192x1x32, .f32⟩
  | .hbm, ⟨10, _⟩ => ⟨S8192x8x128, .f32⟩
  | .hbm, ⟨11, _⟩ => ⟨S8192x8x32, .f32⟩
  | .hbm, ⟨12, _⟩ => ⟨S8192x8x32, .f32⟩
  | .hbm, ⟨13, _⟩ => ⟨S8192x8x32, .f32⟩
  | .hbm, ⟨14, _⟩ => ⟨S8192x8x32, .f32⟩
  | .hbm, ⟨15, _⟩ => ⟨S8192x8x32, .f32⟩
  | .hbm, ⟨16, _⟩ => ⟨S8192x8x32, .f32⟩
  | .hbm, ⟨17, _⟩ => ⟨S8192x8x32, .f32⟩
  | .hbm, ⟨18, _⟩ => ⟨S8192x8x32, .f32⟩
  | .hbm, ⟨19, _⟩ => ⟨S8192x8x32, .f32⟩
  | .hbm, ⟨20, _⟩ => ⟨S8192x8x32, .f32⟩
  | .hbm, ⟨21, _⟩ => ⟨S8192x8x192, .f32⟩
  | .hbm, ⟨22, _⟩ => ⟨S8x8192x192, .f32⟩
  | .hbm, ⟨23, _⟩ => ⟨S_, .i32⟩
  | .hbm, ⟨24, _⟩ => ⟨S_, .f32⟩
  | .hbm, ⟨25, _⟩ => ⟨S8x8192x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x8192x256, .f32⟩
  | .hbm, ⟨33, _⟩ => ⟨S8x8192x256, .f32⟩
  | .hbm, ⟨34, _⟩ => ⟨S8x8192x256, .bf16⟩
  | .hbm, ⟨35, _⟩ => ⟨S8x8192x192, .f32⟩
  | .hbm, ⟨36, _⟩ => ⟨S_, .i32⟩
  | .hbm, ⟨37, _⟩ => ⟨S_, .f32⟩
  | .hbm, ⟨38, _⟩ => ⟨S8x8192x256, .f32⟩
  | .hbm, ⟨39, _⟩ => ⟨S8x8192x256, .bf16⟩
  | .hbm, ⟨40, _⟩ => ⟨S8x8192x128, .f32⟩
  | .hbm, ⟨41, _⟩ => ⟨S8x8192x128, .bf16⟩
  | .hbm, ⟨42, _⟩ => ⟨S8192x1024, .f32⟩
  | .hbm, ⟨43, _⟩ => ⟨S8192x1024, .bf16⟩
  | .hbm, ⟨44, _⟩ => ⟨S8x8192x128, .f32⟩
  | .local _ .vmem, ⟨0, _⟩ => ⟨S2x1024x256, .bf16⟩
  | .local _ .vmem, ⟨1, _⟩ => ⟨S2x1024x256, .bf16⟩
  | .local _ .vmem, ⟨2, _⟩ => ⟨S2x8192x256, .bf16⟩
  | .local _ .vmem, ⟨3, _⟩ => ⟨S2x8192x256, .bf16⟩
  | .local _ .vmem, ⟨4, _⟩ => ⟨S2x8192x128, .bf16⟩
  | .local _ .vmem, ⟨5, _⟩ => ⟨S2x8192x128, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S2x1024x128, .f32⟩
  | .local _ .vmem, ⟨13, _⟩ => ⟨S2x1024x128, .f32⟩
  | .local _ .vmem, ⟨14, _⟩ => ⟨S2x1024x128, .f32⟩
  | .local _ .vmem, ⟨15, _⟩ => ⟨S2x1024x128, .f32⟩
  | .local _ .vmem, ⟨16, _⟩ => ⟨S2x1024x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_17 : BitVec 32 := 1#32
  ⟨c0_i32_15, v33, c1_i32_17⟩
def k0_mult1 (i : grid0.Coords) (k0_t1 : Fin (k0_t1_loop i).trips) : BitVec 32 :=
  let c4_i32 : BitVec 32 := 4#32
  let c0_i32_15 : BitVec 32 := 0#32
  let c1_i32_17 : BitVec 32 := 1#32
  let arg12 : BitVec 32 := Scf.iv c0_i32_15 c1_i32_17 k0_t1
  let v380 : BitVec 32 := Scalar.muli c4_i32 arg12
  let c0_i32_250 : BitVec 32 := 0#32
  let v381 : BitVec 32 := Scalar.addi v380 c0_i32_250
  let c512_i32_251 : BitVec 32 := 512#32
  let v382 : BitVec 32 := Scalar.muli v381 c512_i32_251
  v382
def k0_off1 (i : grid0.Coords) (k0_t1 : Fin (k0_t1_loop i).trips) (c0_i32_250 : BitVec 32) : Fin 3 → Nat :=
  let c0_255 : Index := 0#32
  let c4_i32 : BitVec 32 := 4#32
  let c0_i32_15 : BitVec 32 := 0#32
  let c1_i32_17 : BitVec 32 := 1#32
  let arg12 : BitVec 32 := Scf.iv c0_i32_15 c1_i32_17 k0_t1
  let v380 : BitVec 32 := Scalar.muli c4_i32 arg12
  let v381 : BitVec 32 := Scalar.addi v380 c0_i32_250
  let c512_i32_251 : BitVec 32 := 512#32
  let v382 : BitVec 32 := Scalar.muli v381 c512_i32_251
  let v383 : BitVec 32 := v382
  let v386 : Index := Scalar.indexCast v383
  let c0_256 : Index := 0#32
  ![0, v386.toNat, 0]
def k0_off2 (i : grid0.Coords) (k0_t1 : Fin (k0_t1_loop i).trips) (c0_i32_250 : BitVec 32) : Fin 3 → Nat :=
  let c0_272 : Index := 0#32
  let c4_i32 : BitVec 32 := 4#32
  let c0_i32_15 : BitVec 32 := 0#32
  let c1_i32_17 : BitVec 32 := 1#32
  let arg12 : BitVec 32 := Scf.iv c0_i32_15 c1_i32_17 k0_t1
  let v380 : BitVec 32 := Scalar.muli c4_i32 arg12
  let v381 : BitVec 32 := Scalar.addi v380 c0_i32_250
  let c512_i32_251 : BitVec 32 := 512#32
  let v382 : BitVec 32 := Scalar.muli v381 c512_i32_251
  let v383 : BitVec 32 := v382
  let v416 : Index := Scalar.indexCast v383
  let c0_273 : Index := 0#32
  ![0, v416.toNat, 0]
def k0_off3 (i : grid0.Coords) (k0_t1 : Fin (k0_t1_loop i).trips) (c0_i32_250 : BitVec 32) : Fin 3 → Nat :=
  let c1_284 : Index := 1#32
  let c4_i32 : BitVec 32 := 4#32
  let c0_i32_15 : BitVec 32 := 0#32
  let c1_i32_17 : BitVec 32 := 1#32
  let arg12 : BitVec 32 := Scf.iv c0_i32_15 c1_i32_17 k0_t1
  let v380 : BitVec 32 := Scalar.muli c4_i32 arg12
  let v381 : BitVec 32 := Scalar.addi v380 c0_i32_250
  let c512_i32_251 : BitVec 32 := 512#32
  let v382 : BitVec 32 := Scalar.muli v381 c512_i32_251
  let v383 : BitVec 32 := v382
  let v429 : Index := Scalar.indexCast v383
  let c0_285 : Index := 0#32
  ![1, v429.toNat, 0]
def k0_off4 (i : grid0.Coords) (k0_t1 : Fin (k0_t1_loop i).trips) (c0_i32_250 : BitVec 32) : Fin 3 → Nat :=
  let c1_301 : Index := 1#32
  let c4_i32 : BitVec 32 := 4#32
  let c0_i32_15 : BitVec 32 := 0#32
  let c1_i32_17 : BitVec 32 := 1#32
  let arg12 : BitVec 32 := Scf.iv c0_i32_15 c1_i32_17 k0_t1
  let v380 : BitVec 32 := Scalar.muli c4_i32 arg12
  let v381 : BitVec 32 := Scalar.addi v380 c0_i32_250
  let c512_i32_251 : BitVec 32 := 512#32
  let v382 : BitVec 32 := Scalar.muli v381 c512_i32_251
  let v383 : BitVec 32 := v382
  let v459 : Index := Scalar.indexCast v383
  let c0_302 : Index := 0#32
  ![1, v459.toNat, 0]
def k0_mult2 (i : grid0.Coords) (k0_t1 : Fin (k0_t1_loop i).trips) : BitVec 32 :=
  let c4_i32_310 : BitVec 32 := 4#32
  let c0_i32_15 : BitVec 32 := 0#32
  let c1_i32_17 : BitVec 32 := 1#32
  let arg12 : BitVec 32 := Scf.iv c0_i32_15 c1_i32_17 k0_t1
  let v470 : BitVec 32 := Scalar.muli c4_i32_310 arg12
  let c1_i32_311 : BitVec 32 := 1#32
  let v471 : BitVec 32 := Scalar.addi v470 c1_i32_311
  let c512_i32_312 : BitVec 32 := 512#32
  let v472 : BitVec 32 := Scalar.muli v471 c512_i32_312
  v472
def k0_mult3 (i : grid0.Coords) (k0_t1 : Fin (k0_t1_loop i).trips) : BitVec 32 :=
  let c4_i32_371 : BitVec 32 := 4#32
  let c0_i32_15 : BitVec 32 := 0#32
  let c1_i32_17 : BitVec 32 := 1#32
  let arg12 : BitVec 32 := Scf.iv c0_i32_15 c1_i32_17 k0_t1
  let v560 : BitVec 32 := Scalar.muli c4_i32_371 arg12
  let c2_i32_372 : BitVec 32 := 2#32
  let v561 : BitVec 32 := Scalar.addi v560 c2_i32_372
  let c512_i32_373 : BitVec 32 := 512#32
  let v562 : BitVec 32 := Scalar.muli v561 c512_i32_373
  v562
def k0_mult4 (i : grid0.Coords) (k0_t1 : Fin (k0_t1_loop i).trips) : BitVec 32 :=
  let c4_i32_432 : BitVec 32 := 4#32
  let c0_i32_15 : BitVec 32 := 0#32
  let c1_i32_17 : BitVec 32 := 1#32
  let arg12 : BitVec 32 := Scf.iv c0_i32_15 c1_i32_17 k0_t1
  let v650 : BitVec 32 := Scalar.muli c4_i32_432 arg12
  let c3_i32 : BitVec 32 := 3#32
  let v651 : BitVec 32 := Scalar.addi v650 c3_i32
  let c512_i32_433 : BitVec 32 := 512#32
  let v652 : BitVec 32 := Scalar.muli v651 c512_i32_433
  v652
@[reducible] def k0_t2_loop (i : grid0.Coords) : Scf.Loop 32 :=
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let v30 : BitVec 32 := Scalar.addi c0_i32_15 v29
  let c1_i32_18 : BitVec 32 := 1#32
  ⟨v33, v30, c1_i32_18⟩
def k0_mult5 (i : grid0.Coords) (k0_t2 : Fin (k0_t2_loop i).trips) : BitVec 32 :=
  let c4_i32 : BitVec 32 := 4#32
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg12 : BitVec 32 := Scf.iv v33 c1_i32_18 k0_t2
  let v380 : BitVec 32 := Scalar.muli c4_i32 arg12
  let c0_i32_250 : BitVec 32 := 0#32
  let v381 : BitVec 32 := Scalar.addi v380 c0_i32_250
  let c512_i32_251 : BitVec 32 := 512#32
  let v382 : BitVec 32 := Scalar.muli v381 c512_i32_251
  v382
def k0_off5 (i : grid0.Coords) (k0_t2 : Fin (k0_t2_loop i).trips) (c0_i32_250 : BitVec 32) : Fin 3 → Nat :=
  let c0_255 : Index := 0#32
  let c4_i32 : BitVec 32 := 4#32
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg12 : BitVec 32 := Scf.iv v33 c1_i32_18 k0_t2
  let v380 : BitVec 32 := Scalar.muli c4_i32 arg12
  let v381 : BitVec 32 := Scalar.addi v380 c0_i32_250
  let c512_i32_251 : BitVec 32 := 512#32
  let v382 : BitVec 32 := Scalar.muli v381 c512_i32_251
  let v383 : BitVec 32 := v382
  let v386 : Index := Scalar.indexCast v383
  let c0_256 : Index := 0#32
  ![0, v386.toNat, 0]
def k0_off6 (i : grid0.Coords) (k0_t2 : Fin (k0_t2_loop i).trips) (c0_i32_250 : BitVec 32) : Fin 3 → Nat :=
  let c0_272 : Index := 0#32
  let c4_i32 : BitVec 32 := 4#32
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg12 : BitVec 32 := Scf.iv v33 c1_i32_18 k0_t2
  let v380 : BitVec 32 := Scalar.muli c4_i32 arg12
  let v381 : BitVec 32 := Scalar.addi v380 c0_i32_250
  let c512_i32_251 : BitVec 32 := 512#32
  let v382 : BitVec 32 := Scalar.muli v381 c512_i32_251
  let v383 : BitVec 32 := v382
  let v416 : Index := Scalar.indexCast v383
  let c0_273 : Index := 0#32
  ![0, v416.toNat, 0]
def k0_off7 (i : grid0.Coords) (k0_t2 : Fin (k0_t2_loop i).trips) (c0_i32_250 : BitVec 32) : Fin 3 → Nat :=
  let c1_284 : Index := 1#32
  let c4_i32 : BitVec 32 := 4#32
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg12 : BitVec 32 := Scf.iv v33 c1_i32_18 k0_t2
  let v380 : BitVec 32 := Scalar.muli c4_i32 arg12
  let v381 : BitVec 32 := Scalar.addi v380 c0_i32_250
  let c512_i32_251 : BitVec 32 := 512#32
  let v382 : BitVec 32 := Scalar.muli v381 c512_i32_251
  let v383 : BitVec 32 := v382
  let v429 : Index := Scalar.indexCast v383
  let c0_285 : Index := 0#32
  ![1, v429.toNat, 0]
def k0_off8 (i : grid0.Coords) (k0_t2 : Fin (k0_t2_loop i).trips) (c0_i32_250 : BitVec 32) : Fin 3 → Nat :=
  let c1_301 : Index := 1#32
  let c4_i32 : BitVec 32 := 4#32
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg12 : BitVec 32 := Scf.iv v33 c1_i32_18 k0_t2
  let v380 : BitVec 32 := Scalar.muli c4_i32 arg12
  let v381 : BitVec 32 := Scalar.addi v380 c0_i32_250
  let c512_i32_251 : BitVec 32 := 512#32
  let v382 : BitVec 32 := Scalar.muli v381 c512_i32_251
  let v383 : BitVec 32 := v382
  let v459 : Index := Scalar.indexCast v383
  let c0_302 : Index := 0#32
  ![1, v459.toNat, 0]
def k0_mult6 (i : grid0.Coords) (k0_t2 : Fin (k0_t2_loop i).trips) : BitVec 32 :=
  let c4_i32_310 : BitVec 32 := 4#32
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg12 : BitVec 32 := Scf.iv v33 c1_i32_18 k0_t2
  let v470 : BitVec 32 := Scalar.muli c4_i32_310 arg12
  let c1_i32_311 : BitVec 32 := 1#32
  let v471 : BitVec 32 := Scalar.addi v470 c1_i32_311
  let c512_i32_312 : BitVec 32 := 512#32
  let v472 : BitVec 32 := Scalar.muli v471 c512_i32_312
  v472
def k0_mult7 (i : grid0.Coords) (k0_t2 : Fin (k0_t2_loop i).trips) : BitVec 32 :=
  let c4_i32_371 : BitVec 32 := 4#32
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg12 : BitVec 32 := Scf.iv v33 c1_i32_18 k0_t2
  let v560 : BitVec 32 := Scalar.muli c4_i32_371 arg12
  let c2_i32_372 : BitVec 32 := 2#32
  let v561 : BitVec 32 := Scalar.addi v560 c2_i32_372
  let c512_i32_373 : BitVec 32 := 512#32
  let v562 : BitVec 32 := Scalar.muli v561 c512_i32_373
  v562
def k0_mult8 (i : grid0.Coords) (k0_t2 : Fin (k0_t2_loop i).trips) : BitVec 32 :=
  let c4_i32_432 : BitVec 32 := 4#32
  let c0_i32_15 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_10 : BitVec 32 := 0#32
  let v15 : BitVec 1 := Scalar.cmpi .slt arg1 c0_i32_10
  let v16 : BitVec 32 := Scalar.extui v15
  let v17 : BitVec 32 := Scalar.subi v14 v16
  let c2_i32 : BitVec 32 := 2#32
  let c0_i32_11 : BitVec 32 := 0#32
  let v18 : BitVec 1 := Scalar.cmpi .sgt c2_i32 c0_i32_11
  let v19 : BitVec 32 := Scalar.extui v18
  let c0_i32_12 : BitVec 32 := 0#32
  let v20 : BitVec 1 := Scalar.cmpi .slt c2_i32 c0_i32_12
  let v21 : BitVec 32 := Scalar.extui v20
  let v22 : BitVec 32 := Scalar.subi v19 v21
  let v23 : BitVec 1 := Scalar.cmpi .ne v17 v22
  let v24 : BitVec 32 := Scalar.remsi arg1 c2_i32
  let c0_i32_13 : BitVec 32 := 0#32
  let v25 : BitVec 1 := Scalar.cmpi .ne v24 c0_i32_13
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_15
  let c1_i32_16 : BitVec 32 := 1#32
  let v31 : BitVec 32 := Scalar.divsi v29 c1_i32_16
  let v32 : BitVec 32 := Scalar.muli v31 c1_i32_16
  let v33 : BitVec 32 := Scalar.addi c0_i32_15 v32
  let c1_i32_18 : BitVec 32 := 1#32
  let arg12 : BitVec 32 := Scf.iv v33 c1_i32_18 k0_t2
  let v650 : BitVec 32 := Scalar.muli c4_i32_432 arg12
  let c3_i32 : BitVec 32 := 3#32
  let v651 : BitVec 32 := Scalar.addi v650 c3_i32
  let c512_i32_433 : BitVec 32 := 512#32
  let v652 : BitVec 32 := Scalar.muli v651 c512_i32_433
  v652
def k0_cond1 (i : grid0.Coords) : BitVec 1 :=
  let arg1 : BitVec 32 := BitVec.ofNat 32 (i 1).val
  let c2_i32_19 : BitVec 32 := 2#32
  let c0_i32_20 : BitVec 32 := 0#32
  let v34 : BitVec 1 := Scalar.cmpi .eq c2_i32_19 c0_i32_20
  let c1_i32_21 : BitVec 32 := 1#32
  let v35 : BitVec 32 := Scalar.select v34 c1_i32_21 c2_i32_19
  let v36 : BitVec 32 := Scalar.remsi arg1 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c1_i32_25 : BitVec 32 := 1#32
  let v44 : BitVec 1 := Scalar.cmpi .eq v43 c1_i32_25
  let v45 : BitVec 32 := Scalar.extui v44
  let c0_i32_26 : BitVec 32 := 0#32
  let v46 : BitVec 1 := Scalar.cmpi .ne v45 c0_i32_26
  v46

def k0_mult9 (i : grid0.Coords) : BitVec 32 :=
  let c2_i32_250 : BitVec 32 := 2#32
  let arg1 : BitVec 32 := BitVec.ofNat 32 (i 1).val
  let v380 : BitVec 32 := Scalar.muli c2_i32_250 arg1
  let c2_i32_251 : BitVec 32 := 2#32
  let v381 : BitVec 32 := Scalar.subi v380 c2_i32_251
  let c512_i32_252 : BitVec 32 := 512#32
  let v382 : BitVec 32 := Scalar.muli v381 c512_i32_252
  v382
def k0_off9 (i : grid0.Coords) (c2_i32_251 : BitVec 32) : Fin 3 → Nat :=
  let c0_256 : Index := 0#32
  let c2_i32_250 : BitVec 32 := 2#32
  let arg1 : BitVec 32 := BitVec.ofNat 32 (i 1).val
  let v380 : BitVec 32 := Scalar.muli c2_i32_250 arg1
  let v381 : BitVec 32 := Scalar.subi v380 c2_i32_251
  let c512_i32_252 : BitVec 32 := 512#32
  let v382 : BitVec 32 := Scalar.muli v381 c512_i32_252
  let v383 : BitVec 32 := v382
  let v386 : Index := Scalar.indexCast v383
  let c0_257 : Index := 0#32
  ![0, v386.toNat, 0]
def k0_off10 (i : grid0.Coords) (c2_i32_251 : BitVec 32) : Fin 3 → Nat :=
  let c0_273 : Index := 0#32
  let c2_i32_250 : BitVec 32 := 2#32
  let arg1 : BitVec 32 := BitVec.ofNat 32 (i 1).val
  let v380 : BitVec 32 := Scalar.muli c2_i32_250 arg1
  let v381 : BitVec 32 := Scalar.subi v380 c2_i32_251
  let c512_i32_252 : BitVec 32 := 512#32
  let v382 : BitVec 32 := Scalar.muli v381 c512_i32_252
  let v383 : BitVec 32 := v382
  let v416 : Index := Scalar.indexCast v383
  let c0_274 : Index := 0#32
  ![0, v416.toNat, 0]
def k0_off11 (i : grid0.Coords) (c2_i32_251 : BitVec 32) : Fin 3 → Nat :=
  let c1_285 : Index := 1#32
  let c2_i32_250 : BitVec 32 := 2#32
  let arg1 : BitVec 32 := BitVec.ofNat 32 (i 1).val
  let v380 : BitVec 32 := Scalar.muli c2_i32_250 arg1
  let v381 : BitVec 32 := Scalar.subi v380 c2_i32_251
  let c512_i32_252 : BitVec 32 := 512#32
  let v382 : BitVec 32 := Scalar.muli v381 c512_i32_252
  let v383 : BitVec 32 := v382
  let v429 : Index := Scalar.indexCast v383
  let c0_286 : Index := 0#32
  ![1, v429.toNat, 0]
def k0_off12 (i : grid0.Coords) (c2_i32_251 : BitVec 32) : Fin 3 → Nat :=
  let c1_302 : Index := 1#32
  let c2_i32_250 : BitVec 32 := 2#32
  let arg1 : BitVec 32 := BitVec.ofNat 32 (i 1).val
  let v380 : BitVec 32 := Scalar.muli c2_i32_250 arg1
  let v381 : BitVec 32 := Scalar.subi v380 c2_i32_251
  let c512_i32_252 : BitVec 32 := 512#32
  let v382 : BitVec 32 := Scalar.muli v381 c512_i32_252
  let v383 : BitVec 32 := v382
  let v459 : Index := Scalar.indexCast v383
  let c0_303 : Index := 0#32
  ![1, v459.toNat, 0]
def k0_mult10 (i : grid0.Coords) : BitVec 32 :=
  let c2_i32_311 : BitVec 32 := 2#32
  let arg1 : BitVec 32 := BitVec.ofNat 32 (i 1).val
  let v470 : BitVec 32 := Scalar.muli c2_i32_311 arg1
  let c1_i32_312 : BitVec 32 := 1#32
  let v471 : BitVec 32 := Scalar.subi v470 c1_i32_312
  let c512_i32_313 : BitVec 32 := 512#32
  let v472 : BitVec 32 := Scalar.muli v471 c512_i32_313
  v472
def k0_mult11 (i : grid0.Coords) : BitVec 32 :=
  let c2_i32_27 : BitVec 32 := 2#32
  let arg1 : BitVec 32 := BitVec.ofNat 32 (i 1).val
  let v47 : BitVec 32 := Scalar.muli c2_i32_27 arg1
  let c512_i32 : BitVec 32 := 512#32
  let v48 : BitVec 32 := Scalar.muli v47 c512_i32
  v48
def k0_off13 (i : grid0.Coords) : Fin 3 → Nat :=
  let c0_31 : Index := 0#32
  let c2_i32_27 : BitVec 32 := 2#32
  let arg1 : BitVec 32 := BitVec.ofNat 32 (i 1).val
  let v47 : BitVec 32 := Scalar.muli c2_i32_27 arg1
  let c512_i32 : BitVec 32 := 512#32
  let v48 : BitVec 32 := Scalar.muli v47 c512_i32
  let v49 : BitVec 32 := v48
  let v52 : Index := Scalar.indexCast v49
  let c0_32 : Index := 0#32
  ![0, v52.toNat, 0]
def k0_off14 (i : grid0.Coords) : Fin 3 → Nat :=
  let c0_49 : Index := 0#32
  let c2_i32_27 : BitVec 32 := 2#32
  let arg1 : BitVec 32 := BitVec.ofNat 32 (i 1).val
  let v47 : BitVec 32 := Scalar.muli c2_i32_27 arg1
  let c512_i32 : BitVec 32 := 512#32
  let v48 : BitVec 32 := Scalar.muli v47 c512_i32
  let v49 : BitVec 32 := v48
  let v87 : Index := Scalar.indexCast v49
  let c0_50 : Index := 0#32
  ![0, v87.toNat, 0]
def k0_off15 (i : grid0.Coords) : Fin 3 → Nat :=
  let c1_88 : Index := 1#32
  let c2_i32_27 : BitVec 32 := 2#32
  let arg1 : BitVec 32 := BitVec.ofNat 32 (i 1).val
  let v47 : BitVec 32 := Scalar.muli c2_i32_27 arg1
  let c512_i32 : BitVec 32 := 512#32
  let v48 : BitVec 32 := Scalar.muli v47 c512_i32
  let v49 : BitVec 32 := v48
  let v143 : Index := Scalar.indexCast v49
  let c0_89 : Index := 0#32
  ![1, v143.toNat, 0]
def k0_off16 (i : grid0.Coords) : Fin 3 → Nat :=
  let c1_106 : Index := 1#32
  let c2_i32_27 : BitVec 32 := 2#32
  let arg1 : BitVec 32 := BitVec.ofNat 32 (i 1).val
  let v47 : BitVec 32 := Scalar.muli c2_i32_27 arg1
  let c512_i32 : BitVec 32 := 512#32
  let v48 : BitVec 32 := Scalar.muli v47 c512_i32
  let v49 : BitVec 32 := v48
  let v178 : Index := Scalar.indexCast v49
  let c0_107 : Index := 0#32
  ![1, v178.toNat, 0]
def k0_mult12 (i : grid0.Coords) : BitVec 32 :=
  let c2_i32_144 : BitVec 32 := 2#32
  let arg1 : BitVec 32 := BitVec.ofNat 32 (i 1).val
  let v232 : BitVec 32 := Scalar.muli c2_i32_144 arg1
  let c1_i32_145 : BitVec 32 := 1#32
  let v233 : BitVec 32 := Scalar.addi v232 c1_i32_145
  let c512_i32_146 : BitVec 32 := 512#32
  let v234 : BitVec 32 := Scalar.muli v233 c512_i32_146
  v234
def k0_off17 (i : grid0.Coords) : Fin 3 → Nat :=
  let c0_150 : Index := 0#32
  let c2_i32_144 : BitVec 32 := 2#32
  let arg1 : BitVec 32 := BitVec.ofNat 32 (i 1).val
  let v232 : BitVec 32 := Scalar.muli c2_i32_144 arg1
  let c1_i32_145 : BitVec 32 := 1#32
  let v233 : BitVec 32 := Scalar.addi v232 c1_i32_145
  let c512_i32_146 : BitVec 32 := 512#32
  let v234 : BitVec 32 := Scalar.muli v233 c512_i32_146
  let v235 : BitVec 32 := v234
  let v238 : Index := Scalar.indexCast v235
  let c0_151 : Index := 0#32
  ![0, v238.toNat, 0]
def k0_off18 (i : grid0.Coords) : Fin 3 → Nat :=
  let c0_168 : Index := 0#32
  let c2_i32_144 : BitVec 32 := 2#32
  let arg1 : BitVec 32 := BitVec.ofNat 32 (i 1).val
  let v232 : BitVec 32 := Scalar.muli c2_i32_144 arg1
  let c1_i32_145 : BitVec 32 := 1#32
  let v233 : BitVec 32 := Scalar.addi v232 c1_i32_145
  let c512_i32_146 : BitVec 32 := 512#32
  let v234 : BitVec 32 := Scalar.muli v233 c512_i32_146
  let v235 : BitVec 32 := v234
  let v273 : Index := Scalar.indexCast v235
  let c0_169 : Index := 0#32
  ![0, v273.toNat, 0]
def k0_off19 (i : grid0.Coords) : Fin 3 → Nat :=
  let c1_180 : Index := 1#32
  let c2_i32_144 : BitVec 32 := 2#32
  let arg1 : BitVec 32 := BitVec.ofNat 32 (i 1).val
  let v232 : BitVec 32 := Scalar.muli c2_i32_144 arg1
  let c1_i32_145 : BitVec 32 := 1#32
  let v233 : BitVec 32 := Scalar.addi v232 c1_i32_145
  let c512_i32_146 : BitVec 32 := 512#32
  let v234 : BitVec 32 := Scalar.muli v233 c512_i32_146
  let v235 : BitVec 32 := v234
  let v286 : Index := Scalar.indexCast v235
  let c0_181 : Index := 0#32
  ![1, v286.toNat, 0]
def k0_off20 (i : grid0.Coords) : Fin 3 → Nat :=
  let c1_198 : Index := 1#32
  let c2_i32_144 : BitVec 32 := 2#32
  let arg1 : BitVec 32 := BitVec.ofNat 32 (i 1).val
  let v232 : BitVec 32 := Scalar.muli c2_i32_144 arg1
  let c1_i32_145 : BitVec 32 := 1#32
  let v233 : BitVec 32 := Scalar.addi v232 c1_i32_145
  let c512_i32_146 : BitVec 32 := 512#32
  let v234 : BitVec 32 := Scalar.muli v233 c512_i32_146
  let v235 : BitVec 32 := v234
  let v321 : Index := Scalar.indexCast v235
  let c0_199 : Index := 0#32
  ![1, v321.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8192x8x192 : Shape := ⟨3, ![8192, 8, 192]⟩
abbrev S8192x8x128 : Shape := ⟨3, ![8192, 8, 128]⟩
abbrev S8192x1024 : Shape := ⟨2, ![8192, 1024]⟩
abbrev S8192x32 : Shape := ⟨2, ![8192, 32]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8192x32, .f32⟩
  | .hbm, ⟨5, _⟩ => ⟨S8192x32, .f32⟩
  | .hbm, ⟨6, _⟩ => ⟨S8192x8x64, .f32⟩
  | .hbm, ⟨7, _⟩ => ⟨S8192x1x32, .f32⟩
  | .hbm, ⟨8, _⟩ => ⟨S8192x1x32, .f32⟩
  | .hbm, ⟨9, _⟩ => ⟨S8192x8x32, .f32⟩
  | .hbm, ⟨10, _⟩ => ⟨S8192x8x32, .f32⟩
  | .hbm, ⟨11, _⟩ => ⟨S8192x8x32, .f32⟩
  | .hbm, ⟨12, _⟩ => ⟨S8192x8x32, .f32⟩
  | .hbm, ⟨13, _⟩ => ⟨S8192x8x32, .f32⟩
  | .hbm, ⟨14, _⟩ => ⟨S8192x8x32, .f32⟩
  | .hbm, ⟨15, _⟩ => ⟨S8192x8x32, .f32⟩
  | .hbm, ⟨16, _⟩ => ⟨S8192x8x32, .f32⟩
  | .hbm, ⟨17, _⟩ => ⟨S8192x8x32, .f32⟩
  | .hbm, ⟨18, _⟩ => ⟨S8192x8x32, .f32⟩
  | .hbm, ⟨19, _⟩ => ⟨S8192x8x32, .f32⟩
  | .hbm, ⟨20, _⟩ => ⟨S8192x8x32, .f32⟩
  | .hbm, ⟨21, _⟩ => ⟨S8192x8x64, .f32⟩
  | .hbm, ⟨22, _⟩ => ⟨S8192x8x128, .f32⟩
  | .hbm, ⟨23, _⟩ => ⟨S8192x8x128, .f32⟩
  | .hbm, ⟨24, _⟩ => ⟨S8x8192x8192, .f32⟩
  | .hbm, ⟨25, _⟩ => ⟨S8192x8x64, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x8192x8192, .f32⟩
  | .hbm, ⟨32, _⟩ => ⟨S8x8192x8192, .f32⟩
  | .hbm, ⟨33, _⟩ => ⟨S8192, .i32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S8x8192x8192, .i1⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S8x8192x8192, .f32⟩
  | .hbm, ⟨57, _⟩ => ⟨S8x8192x8192, .f32⟩
  | .hbm, ⟨58, _⟩ => ⟨S8x128x8192, .f32⟩
  | .hbm, ⟨59, _⟩ => ⟨S8192x8x128, .f32⟩
  | .hbm, ⟨60, _⟩ => ⟨S8192x1024, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192, .f32⟩
  | .hbm, ⟨70, _⟩ => ⟨S8x8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8x8192, .f32⟩
  | .hbm, ⟨75, _⟩ => ⟨S8x8192, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .bf16⟩
  | .hbm, ⟨87, _⟩ => ⟨S8x8192x1, .f32⟩
  | .hbm, ⟨88, _⟩ => ⟨S8x8192x128, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Proof.Offsets.lean ====
module

public import proofs.«01_k».proof.Proof.Gen.KernelIdeal
public import Idealize.ShloMosaic.Lib.Tactic

@[expose] public section

namespace Cert.KernelIdeal.Body

open Cert.KernelIdeal Cert.KernelIdeal.Gen
open Idealize.ShloMosaic Idealize.ShloMosaic.TcCoe Idealize.ShloMosaic.Tactic

theorem trips_eq : ∀ i : grid0.Coords, (k0_t1_loop i).trips = (i 1).val / 2 := by decide +kernel
theorem trips2_eq : ∀ i : grid0.Coords, (k0_t2_loop i).trips = 0 := by decide +kernel

theorem off1_eq : ∀ (i : grid0.Coords) (t : Fin (k0_t1_loop i).trips) (r : Fin 4),
    k0_off1 i t (BitVec.ofNat 32 r.val) = ![0, 2048 * t.val + 512 * r.val, 0] := by decide +kernel
theorem off2_eq : ∀ (i : grid0.Coords) (t : Fin (k0_t1_loop i).trips) (r : Fin 4),
    k0_off2 i t (BitVec.ofNat 32 r.val) = ![0, 2048 * t.val + 512 * r.val, 0] := by decide +kernel
theorem cond2_iff : ∀ i : grid0.Coords, k0_cond2 i = 1#1 ↔ (i 1).val % 2 = 1 := by decide +kernel
theorem cond1_iff : ∀ i : grid0.Coords, (Scalar.cmpi .ne (Scalar.extui (Scalar.cmpi .eq (BitVec.ofNat 32 (i 1).val) 0#32)) 0#32) = 1#1 ↔ (i 1).val = 0 := by decide +kernel
theorem off5_eq : ∀ (i : grid0.Coords) (_ : k0_cond2 i = 1#1) (r : Fin 2),
    k0_off5 i (BitVec.ofNat 32 (1 + r.val)) = ![0, 1024 * (i 1).val - 512 * (1 + r.val), 0] := by decide +kernel
theorem off6_eq : ∀ (i : grid0.Coords) (_ : k0_cond2 i = 1#1) (r : Fin 2),
    k0_off6 i (BitVec.ofNat 32 (1 + r.val)) = ![0, 1024 * (i 1).val - 512 * (1 + r.val), 0] := by decide +kernel

instance closedOff1_0 (i : grid0.Coords) (t : Fin (k0_t1_loop i).trips) : ClosedOff (k0_off1 i t 0#32) := ⟨![0, 2048 * t.val + 0, 0], off1_eq i t 0⟩
instance closedOff2_0 (i : grid0.Coords) (t : Fin (k0_t1_loop i).trips) : ClosedOff (k0_off2 i t 0#32) := ⟨![0, 2048 * t.val + 0, 0], off2_eq i t 0⟩
instance closedOff1_1 (i : grid0.Coords) (t : Fin (k0_t1_loop i).trips) : ClosedOff (k0_off1 i t 1#32) := ⟨![0, 2048 * t.val + 512, 0], off1_eq i t 1⟩
instance closedOff2_1 (i : grid0.Coords) (t : Fin (k0_t1_loop i).trips) : ClosedOff (k0_off2 i t 1#32) := ⟨![0, 2048 * t.val + 512, 0], off2_eq i t 1⟩
instance closedOff1_2 (i : grid0.Coords) (t : Fin (k0_t1_loop i).trips) : ClosedOff (k0_off1 i t 2#32) := ⟨![0, 2048 * t.val + 1024, 0], off1_eq i t 2⟩
instance closedOff2_2 (i : grid0.Coords) (t : Fin (k0_t1_loop i).trips) : ClosedOff (k0_off2 i t 2#32) := ⟨![0, 2048 * t.val + 1024, 0], off2_eq i t 2⟩
instance closedOff1_3 (i : grid0.Coords) (t : Fin (k0_t1_loop i).trips) : ClosedOff (k0_off1 i t 3#32) := ⟨![0, 2048 * t.val + 1536, 0], off1_eq i t 3⟩
instance closedOff2_3 (i : grid0.Coords) (t : Fin (k0_t1_loop i).trips) : ClosedOff (k0_off2 i t 3#32) := ⟨![0, 2048 * t.val + 1536, 0], off2_eq i t 3⟩
instance closedOff5_1 (i : grid0.Coords) [h : Fact (k0_cond2 i = 1#1)] : ClosedOff (k0_off5 i 1#32) := ⟨![0, 1024 * (i 1).val - 512, 0], off5_eq i h.out 0⟩
instance closedOff5_2 (i : grid0.Coords) [h : Fact (k0_cond2 i = 1#1)] : ClosedOff (k0_off5 i 2#32) := ⟨![0, 1024 * (i 1).val - 1024, 0], off5_eq i h.out 1⟩
instance closedOff6_1 (i : grid0.Coords) [h : Fact (k0_cond2 i = 1#1)] : ClosedOff (k0_off6 i 1#32) := ⟨![0, 1024 * (i 1).val - 512, 0], off6_eq i h.out 0⟩
instance closedOff6_2 (i : grid0.Coords) [h : Fact (k0_cond2 i = 1#1)] : ClosedOff (k0_off6 i 2#32) := ⟨![0, 1024 * (i 1).val - 1024, 0], off6_eq i h.out 1⟩

end Cert.KernelIdeal.Body

end
-- ==== Proof.Step.lean ====
module

public import proofs.«01_k».proof.Proof.Offsets
public import proofs.«01_k».proof.Proof.Gen.KernelIdeal.Skeleton
public import Idealize.ShloMosaic.Lib.Pipeline.FrameBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A load of a box sees past a store that misses it. -/
theorem readCov_past {Val : EltTy → Type} [∀ e, Nonempty (Val e)] {sig : RefSig} {κ : Kind} {sp : Space} {s : Shape} {e : EltTy}
    (a : View sig κ sp s e) (r r' : Rect s) (hr : ∀ y ∈ r'.set, y ∉ r.set) (w : r.shape.Idx → Val e) (w' : r'.shape.Idx → Val e)
    (L : List (View.Piece Val s e)) : a.readCov (⟨r, w⟩ :: ⟨r', w'⟩ :: L) r'.toLoadRect = w' := by
  refine (View.readCov_eq_canon a _ r'.toLoadRect fun y => ⟨⟨r', w'⟩, by simp, r'.idx_mem y⟩).trans ?_
  funext y
  rw [View.canon_cons_of_not_mem _ _ (hr _ (r'.idx_mem y))]
  exact View.canon_cons_emb r' w' L y

/-- An array after stores into it, the last first. -/
def put {Val : EltTy → Type} {s : Shape} {e : EltTy} (X : s.Idx → Val e) : List (View.Piece Val s e) → s.Idx → Val e
  | [] => X
  | p :: L => p.1.overlay (put X L) p.2

theorem read_writes_put {Val : EltTy → Type} {sig : RefSig} {κ : Kind} {sp : Space} {s : Shape} {e : EltTy}
    (v : View sig κ sp s e) (f : v.ty.Contents Val) : ∀ L : List (View.Piece Val s e), v.read Val (v.writes Val f L) = put (v.read Val f) L
  | [] => rfl
  | ⟨r, w⟩ :: L => by
    funext y
    by_cases hy : y ∈ r.set
    · obtain ⟨x, rfl⟩ : ∃ x, r.emb x = y := r.exists_idx_of_mem hy
      rw [View.read_writes_cons_emb]; exact (r.overlay_emb _ _ x).symm
    · rw [View.read_writes_cons_miss _ _ _ _ _ hy, read_writes_put v f L]; exact (r.overlay_of_not_mem _ _ hy).symm

variable {F : FTy → Type} [FloatOps F] [Named F]

/-- What one grid point's sweep over the key blocks reads: its 1024 queries, the head's keys and values, the queries'
    row log-sums, their deltas, and the gated output gradients. -/
structure Ins (F : FTy → Type) where
  q : Vec F S1x1024x256 .bf16
  k : Vec F S1x8192x256 .bf16
  v : Vec F S1x8192x128 .bf16
  l : Vec F S1x1024x128 .f32
  d : Vec F S1024x128 .f32
  g : Vec F S1024x128 .bf16

/-- The keys' and the values' 512-row boxes, and the queries' two halves. -/
abbrev kBox (o : Fin 3 → ℕ) (h : ∀ a, o a + S1x512x256.size a ≤ S1x8192x256.size a) : Rect S1x8192x256 := Rect.unit (s := S1x8192x256) o S1x512x256.size h
abbrev vBox (o : Fin 3 → ℕ) (h : ∀ a, o a + S1x512x128.size a ≤ S1x8192x128.size a) : Rect S1x8192x128 := Rect.unit (s := S1x8192x128) o S1x512x128.size h
abbrev half0 : Rect S1024x256 := Rect.unit (s := S1024x256) ![0, 0] S512x256.size inb_S1024x256_S512x256_0_0
abbrev half1 : Rect S1024x256 := Rect.unit (s := S1024x256) ![512, 0] S512x256.size inb_S1024x256_S512x256_512_0

namespace Ins
variable (I : Ins F)
def q0 : Vec F S1x512x256 .bf16 := View.ld I.q (Rect.unit (s := S1x1024x256) ![0, 0, 0] S1x512x256.size inb_S1x1024x256_S1x512x256_0_0_0)
def q1 : Vec F S1x512x256 .bf16 := View.ld I.q (Rect.unit (s := S1x1024x256) ![0, 512, 0] S1x512x256.size inb_S1x1024x256_S1x512x256_0_512_0)
def l0 : Vec F S1x512x128 .f32 := View.ld I.l (Rect.unit (s := S1x1024x128) ![0, 0, 0] S1x512x128.size inb_S1x1024x128_S1x512x128_0_0_0)
def l1 : Vec F S1x512x128 .f32 := View.ld I.l (Rect.unit (s := S1x1024x128) ![0, 512, 0] S1x512x128.size inb_S1x1024x128_S1x512x128_0_512_0)
def d0 : Vec F S512x128 .f32 := View.ld I.d (Rect.unit (s := S1024x128) ![0, 0] S512x128.size inb_S1024x128_S512x128_0_0)
def d1 : Vec F S512x128 .f32 := View.ld I.d (Rect.unit (s := S1024x128) ![512, 0] S512x128.size inb_S1024x128_S512x128_512_0)
def g0 : Vec F S512x128 .bf16 := View.ld I.g (Rect.unit (s := S1024x128) ![0, 0] S512x128.size inb_S1024x128_S512x128_0_0)
def g1 : Vec F S512x128 .bf16 := View.ld I.g (Rect.unit (s := S1024x128) ![512, 0] S512x128.size inb_S1024x128_S512x128_512_0)
def kb (o : Fin 3 → ℕ) (h : ∀ a, o a + S1x512x256.size a ≤ S1x8192x256.size a) : Vec F S1x512x256 .bf16 := View.ld I.k (kBox o h)
def vb (o : Fin 3 → ℕ) (h : ∀ a, o a + S1x512x128.size a ≤ S1x8192x128.size a) : Vec F S1x512x128 .bf16 := View.ld I.v (vBox o h)

variable (o1 : Fin 3 → ℕ) (h1 : ∀ a, o1 a + S1x512x256.size a ≤ S1x8192x256.size a) (o2 : Fin 3 → ℕ) (h2 : ∀ a, o2 a + S1x512x128.size a ≤ S1x8192x128.size a)

/-- A key block's new value gradients, both query halves below the diagonal: the old ones plus the two halves' products. -/
def dvFull (old : Vec F S1x512x128 .f32) : Vec F S1x512x128 .f32 :=
  k0_pay167 (addf (k0_pay8 (I.kb o1 h1) I.q0 I.g0 I.l0) (k0_pay8 (I.kb o1 h1) I.q1 I.g1 I.l1)) old
/-- Its new key gradients. -/
def dkFull (old : Vec F S1x512x256 .f32) : Vec F S1x512x256 .f32 :=
  k0_pay168 (addf (k0_pay9 (I.kb o1 h1) (I.vb o2 h2) I.q0 I.g0 I.l0 I.d0) (k0_pay9 (I.kb o1 h1) (I.vb o2 h2) I.q1 I.g1 I.l1 I.d1)) old
/-- The first half's new query gradients over a key block below the diagonal; the second half's. -/
def dq0 (old : FVec F S512x256 .f32) : FVec F S512x256 .f32 := k0_pay11 (k0_pay10 (I.kb o1 h1) (I.vb o2 h2) I.q0 I.g0 I.l0 I.d0 old)
def dq1 (old : FVec F S512x256 .f32) : FVec F S512x256 .f32 := k0_pay11 (k0_pay10 (I.kb o1 h1) (I.vb o2 h2) I.q1 I.g1 I.l1 I.d1 old)
/-- The first diagonal key block: the first half masked, the second whole. -/
def dvDiag0 (old : Vec F S1x512x128 .f32) : Vec F S1x512x128 .f32 :=
  k0_pay167 (addf (k0_pay174 (I.kb o1 h1) I.q0 I.g0 I.l0) (k0_pay8 (I.kb o1 h1) I.q1 I.g1 I.l1)) old
def dkDiag0 (old : Vec F S1x512x256 .f32) : Vec F S1x512x256 .f32 :=
  k0_pay168 (addf (k0_pay175 (I.kb o1 h1) (I.vb o2 h2) I.q0 I.g0 I.l0 I.d0) (k0_pay9 (I.kb o1 h1) (I.vb o2 h2) I.q1 I.g1 I.l1 I.d1)) old
def dq0Diag (old : FVec F S512x256 .f32) : FVec F S512x256 .f32 := k0_pay177 (k0_pay176 (I.kb o1 h1) (I.vb o2 h2) I.q0 I.g0 I.l0 I.d0 old)
/-- The second diagonal key block: the second half alone, masked. -/
def dvDiag1 (old : Vec F S1x512x128 .f32) : Vec F S1x512x128 .f32 :=
  k0_pay167 (k0_pay174 (I.kb o1 h1) I.q1 I.g1 I.l1) old
def dkDiag1 (old : Vec F S1x512x256 .f32) : Vec F S1x512x256 .f32 :=
  k0_pay168 (k0_pay175 (I.kb o1 h1) (I.vb o2 h2) I.q1 I.g1 I.l1 I.d1) old
def dq1Diag (old : FVec F S512x256 .f32) : FVec F S512x256 .f32 := k0_pay177 (k0_pay176 (I.kb o1 h1) (I.vb o2 h2) I.q1 I.g1 I.l1 I.d1 old)

end Ins

section Trip
variable (I : Ins F) (i : grid0.Coords) (t : Fin (k0_t1_loop i).trips)

/-- What one trip of the sweep (four key blocks) stores into the value gradients, the last store first; the key
    gradients; the query gradients' scratch. -/
def dvPieces (X : Vec F S1x8192x128 .f32) : List (View.Piece (Elt F) S1x8192x128 .f32) :=
  [⟨vBox (k0_off2 i t 3#32) (k0_off2_inb i t 3), I.dvFull (k0_off1 i t 3#32) (k0_off1_inb i t 3) (View.ld X (vBox (k0_off2 i t 3#32) (k0_off2_inb i t 3)))⟩,
   ⟨vBox (k0_off2 i t 2#32) (k0_off2_inb i t 2), I.dvFull (k0_off1 i t 2#32) (k0_off1_inb i t 2) (View.ld X (vBox (k0_off2 i t 2#32) (k0_off2_inb i t 2)))⟩,
   ⟨vBox (k0_off2 i t 1#32) (k0_off2_inb i t 1), I.dvFull (k0_off1 i t 1#32) (k0_off1_inb i t 1) (View.ld X (vBox (k0_off2 i t 1#32) (k0_off2_inb i t 1)))⟩,
   ⟨vBox (k0_off2 i t 0#32) (k0_off2_inb i t 0), I.dvFull (k0_off1 i t 0#32) (k0_off1_inb i t 0) (View.ld X (vBox (k0_off2 i t 0#32) (k0_off2_inb i t 0)))⟩]
def dkPieces (X : Vec F S1x8192x256 .f32) : List (View.Piece (Elt F) S1x8192x256 .f32) :=
  [⟨kBox (k0_off1 i t 3#32) (k0_off1_inb i t 3), I.dkFull (k0_off1 i t 3#32) (k0_off1_inb i t 3) (k0_off2 i t 3#32) (k0_off2_inb i t 3) (View.ld X (kBox (k0_off1 i t 3#32) (k0_off1_inb i t 3)))⟩,
   ⟨kBox (k0_off1 i t 2#32) (k0_off1_inb i t 2), I.dkFull (k0_off1 i t 2#32) (k0_off1_inb i t 2) (k0_off2 i t 2#32) (k0_off2_inb i t 2) (View.ld X (kBox (k0_off1 i t 2#32) (k0_off1_inb i t 2)))⟩,
   ⟨kBox (k0_off1 i t 1#32) (k0_off1_inb i t 1), I.dkFull (k0_off1 i t 1#32) (k0_off1_inb i t 1) (k0_off2 i t 1#32) (k0_off2_inb i t 1) (View.ld X (kBox (k0_off1 i t 1#32) (k0_off1_inb i t 1)))⟩,
   ⟨kBox (k0_off1 i t 0#32) (k0_off1_inb i t 0), I.dkFull (k0_off1 i t 0#32) (k0_off1_inb i t 0) (k0_off2 i t 0#32) (k0_off2_inb i t 0) (View.ld X (kBox (k0_off1 i t 0#32) (k0_off1_inb i t 0)))⟩]
def dqAt00 (X : Vec F S1024x256 .f32) : FVec F S512x256 .f32 := I.dq0 (k0_off1 i t 0#32) (k0_off1_inb i t 0) (k0_off2 i t 0#32) (k0_off2_inb i t 0) (View.ld X half0)
def dqAt01 (X : Vec F S1024x256 .f32) : FVec F S512x256 .f32 := I.dq0 (k0_off1 i t 1#32) (k0_off1_inb i t 1) (k0_off2 i t 1#32) (k0_off2_inb i t 1) (dqAt00 I i t X)
def dqAt02 (X : Vec F S1024x256 .f32) : FVec F S512x256 .f32 := I.dq0 (k0_off1 i t 2#32) (k0_off1_inb i t 2) (k0_off2 i t 2#32) (k0_off2_inb i t 2) (dqAt01 I i t X)
def dqAt03 (X : Vec F S1024x256 .f32) : FVec F S512x256 .f32 := I.dq0 (k0_off1 i t 3#32) (k0_off1_inb i t 3) (k0_off2 i t 3#32) (k0_off2_inb i t 3) (dqAt02 I i t X)
def dqAt10 (X : Vec F S1024x256 .f32) : FVec F S512x256 .f32 := I.dq1 (k0_off1 i t 0#32) (k0_off1_inb i t 0) (k0_off2 i t 0#32) (k0_off2_inb i t 0) (View.ld X half1)
def dqAt11 (X : Vec F S1024x256 .f32) : FVec F S512x256 .f32 := I.dq1 (k0_off1 i t 1#32) (k0_off1_inb i t 1) (k0_off2 i t 1#32) (k0_off2_inb i t 1) (dqAt10 I i t X)
def dqAt12 (X : Vec F S1024x256 .f32) : FVec F S512x256 .f32 := I.dq1 (k0_off1 i t 2#32) (k0_off1_inb i t 2) (k0_off2 i t 2#32) (k0_off2_inb i t 2) (dqAt11 I i t X)
def dqAt13 (X : Vec F S1024x256 .f32) : FVec F S512x256 .f32 := I.dq1 (k0_off1 i t 3#32) (k0_off1_inb i t 3) (k0_off2 i t 3#32) (k0_off2_inb i t 3) (dqAt12 I i t X)
def dqPieces (X : Vec F S1024x256 .f32) : List (View.Piece (Elt F) S1024x256 .f32) :=
  [⟨half1, dqAt13 I i t X⟩, ⟨half0, dqAt03 I i t X⟩,
   ⟨half1, dqAt12 I i t X⟩, ⟨half0, dqAt02 I i t X⟩,
   ⟨half1, dqAt11 I i t X⟩, ⟨half0, dqAt01 I i t X⟩,
   ⟨half1, dqAt10 I i t X⟩, ⟨half0, dqAt00 I i t X⟩]

/-- The same stores as a run finds them, each load back a read over the stores before it. -/
def dqRun1 (a : View sig .tc .vmem S1024x256 .f32) (X : Vec F S1024x256 .f32) : List (View.Piece (Elt F) S1024x256 .f32) :=
  ⟨half0, I.dq0 (k0_off1 i t 0#32) (k0_off1_inb i t 0) (k0_off2 i t 0#32) (k0_off2_inb i t 0) (View.ld X half0)⟩ :: []
def dqRun2 (a : View sig .tc .vmem S1024x256 .f32) (X : Vec F S1024x256 .f32) : List (View.Piece (Elt F) S1024x256 .f32) :=
  ⟨half1, I.dq1 (k0_off1 i t 0#32) (k0_off1_inb i t 0) (k0_off2 i t 0#32) (k0_off2_inb i t 0) (View.ld X half1)⟩ :: dqRun1 I i t a X
def dqRun3 (a : View sig .tc .vmem S1024x256 .f32) (X : Vec F S1024x256 .f32) : List (View.Piece (Elt F) S1024x256 .f32) :=
  ⟨half0, I.dq0 (k0_off1 i t 1#32) (k0_off1_inb i t 1) (k0_off2 i t 1#32) (k0_off2_inb i t 1) (a.readCov (dqRun2 I i t a X) half0.toLoadRect)⟩ :: dqRun2 I i t a X
def dqRun4 (a : View sig .tc .vmem S1024x256 .f32) (X : Vec F S1024x256 .f32) : List (View.Piece (Elt F) S1024x256 .f32) :=
  ⟨half1, I.dq1 (k0_off1 i t 1#32) (k0_off1_inb i t 1) (k0_off2 i t 1#32) (k0_off2_inb i t 1) (a.readCov (dqRun3 I i t a X) half1.toLoadRect)⟩ :: dqRun3 I i t a X
def dqRun5 (a : View sig .tc .vmem S1024x256 .f32) (X : Vec F S1024x256 .f32) : List (View.Piece (Elt F) S1024x256 .f32) :=
  ⟨half0, I.dq0 (k0_off1 i t 2#32) (k0_off1_inb i t 2) (k0_off2 i t 2#32) (k0_off2_inb i t 2) (a.readCov (dqRun4 I i t a X) half0.toLoadRect)⟩ :: dqRun4 I i t a X
def dqRun6 (a : View sig .tc .vmem S1024x256 .f32) (X : Vec F S1024x256 .f32) : List (View.Piece (Elt F) S1024x256 .f32) :=
  ⟨half1, I.dq1 (k0_off1 i t 2#32) (k0_off1_inb i t 2) (k0_off2 i t 2#32) (k0_off2_inb i t 2) (a.readCov (dqRun5 I i t a X) half1.toLoadRect)⟩ :: dqRun5 I i t a X
def dqRun7 (a : View sig .tc .vmem S1024x256 .f32) (X : Vec F S1024x256 .f32) : List (View.Piece (Elt F) S1024x256 .f32) :=
  ⟨half0, I.dq0 (k0_off1 i t 3#32) (k0_off1_inb i t 3) (k0_off2 i t 3#32) (k0_off2_inb i t 3) (a.readCov (dqRun6 I i t a X) half0.toLoadRect)⟩ :: dqRun6 I i t a X
def dqRun8 (a : View sig .tc .vmem S1024x256 .f32) (X : Vec F S1024x256 .f32) : List (View.Piece (Elt F) S1024x256 .f32) :=
  ⟨half1, I.dq1 (k0_off1 i t 3#32) (k0_off1_inb i t 3) (k0_off2 i t 3#32) (k0_off2_inb i t 3) (a.readCov (dqRun7 I i t a X) half1.toLoadRect)⟩ :: dqRun7 I i t a X

omit [FloatOps F] [Named F] in
theorem not_mem_half0 {y : S1024x256.Idx} (h : y ∈ half1.set) : y ∉ half0.set := fun h0 => by
  have h1 := Rect.mem_set_unit.mp h 0
  have h2 := Rect.mem_set_unit.mp h0 0
  have e1 : 512 ≤ (y 0).val := h1.1
  have e2 : (y 0).val < 0 + 512 := h2.2
  omega

omit [FloatOps F] [Named F] in
theorem not_mem_half1 {y : S1024x256.Idx} (h : y ∈ half0.set) : y ∉ half1.set := fun h1 => not_mem_half0 h1 h

theorem dqRun8_eq (a : View sig .tc .vmem S1024x256 .f32) (X : Vec F S1024x256 .f32) : dqRun8 I i t a X = dqPieces I i t X := by
  have e1 : dqRun2 I i t a X = [⟨half1, dqAt10 I i t X⟩, ⟨half0, dqAt00 I i t X⟩] := rfl
  have e3 : dqRun3 I i t a X = ⟨half0, dqAt01 I i t X⟩ :: dqRun2 I i t a X := by
    unfold dqRun3; rw [e1, readCov_past a half1 half0 fun _ => not_mem_half1]; rfl
  have e4 : dqRun4 I i t a X = ⟨half1, dqAt11 I i t X⟩ :: dqRun3 I i t a X := by
    unfold dqRun4; rw [e3, e1, readCov_past a half0 half1 fun _ => not_mem_half0]; rfl
  have e5 : dqRun5 I i t a X = ⟨half0, dqAt02 I i t X⟩ :: dqRun4 I i t a X := by
    unfold dqRun5; rw [e4, e3, readCov_past a half1 half0 fun _ => not_mem_half1]; rfl
  have e6 : dqRun6 I i t a X = ⟨half1, dqAt12 I i t X⟩ :: dqRun5 I i t a X := by
    unfold dqRun6; rw [e5, e4, readCov_past a half0 half1 fun _ => not_mem_half0]; rfl
  have e7 : dqRun7 I i t a X = ⟨half0, dqAt03 I i t X⟩ :: dqRun6 I i t a X := by
    unfold dqRun7; rw [e6, e5, readCov_past a half1 half0 fun _ => not_mem_half1]; rfl
  have e8 : dqRun8 I i t a X = ⟨half1, dqAt13 I i t X⟩ :: dqRun7 I i t a X := by
    unfold dqRun8; rw [e7, e6, readCov_past a half0 half1 fun _ => not_mem_half0]; rfl
  rw [e8, e7, e6, e5, e4, e3, e1]; rfl

end Trip

end Cert.KernelIdeal.Body

end
-- ==== Proof.Trip.lean ====
module

public import proofs.«01_k».proof.Proof.Step
public import proofs.«01_k».proof.Proof.Gen.KernelIdeal.Loops
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer held whole. -/
abbrev has {s : Shape} {e : EltTy} (c : Dev nD) (a : Memref sig .tc .vmem s e) (f : Buf (Elt F) (a.view.loc (c : Thread nD τ))) : sProp 𝕄 :=
  a.view.loc (c : Thread nD τ) ↦[a.view.set]{fullShare} f

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S1x8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x128 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1x1024x256 .bf16) (harg12 : arg12.IsWhole)
  (arg13 : Memref sig .tc .vmem S1x8192x256 .f32) (harg13 : arg13.IsWhole)
  (arg14 : Memref sig .tc .vmem S1x8192x128 .f32) (harg14 : arg14.IsWhole)
  (arg15 : Memref sig .tc .vmem S1024x128 .bf16) (harg15 : arg15.IsWhole)
  (arg16 : Memref sig .tc .vmem S1024x256 .f32) (harg16 : arg16.IsWhole)
  (arg17 : Memref sig .tc .vmem S1024x128 .f32) (harg17 : arg17.IsWhole)
  (arg18 : Memref sig .tc .vmem S1024x128 .bf16) (harg18 : arg18.IsWhole)
  (arg1 : BitVec 32) (v32 : FVec F S1024x256 .f32) (v33 : Vec F S1024x256 .f32)

/-- The sweep's inputs as the buffers hold them. -/
abbrev insOf (f2 : Buf (Elt F) (arg2.view.loc (c : Thread nD τ))) (f3 : Buf (Elt F) (arg3.view.loc (c : Thread nD τ)))
    (f4 : Buf (Elt F) (arg4.view.loc (c : Thread nD τ))) (f8 : Buf (Elt F) (arg8.view.loc (c : Thread nD τ)))
    (f17 : Buf (Elt F) (arg17.view.loc (c : Thread nD τ))) (f18 : Buf (Elt F) (arg18.view.loc (c : Thread nD τ))) : Ins F :=
  ⟨arg2.view.read (Elt F) f2, arg3.view.read (Elt F) f3, arg4.view.read (Elt F) f4, arg8.view.read (Elt F) f8,
    arg17.view.read (Elt F) f17, arg18.view.read (Elt F) f18⟩

set_option maxHeartbeats 800000 in
theorem trip (k : Fin (k0_t1_loop i).trips) (f2 f3 f4 f8 f17 f18 f13 f14 f16) :
    iprop(has c arg2 f2 ∗ has c arg3 f3 ∗ has c arg4 f4 ∗ has c arg8 f8 ∗ has c arg17 f17 ∗ has c arg18 f18
      ∗ has c arg13 f13 ∗ has c arg14 f14 ∗ has c arg16 f16)
    ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v32 v33 k ())
        (fun _ => iprop(has c arg2 f2 ∗ has c arg3 f3 ∗ has c arg4 f4 ∗ has c arg8 f8 ∗ has c arg17 f17 ∗ has c arg18 f18
          ∗ has c arg13 (arg13.view.writes (Elt F) f13 (dkPieces (insOf c arg2 arg3 arg4 arg8 arg17 arg18 f2 f3 f4 f8 f17 f18) i k (arg13.view.read (Elt F) f13)))
          ∗ has c arg14 (arg14.view.writes (Elt F) f14 (dvPieces (insOf c arg2 arg3 arg4 arg8 arg17 arg18 f2 f3 f4 f8 f17 f18) i k (arg14.view.read (Elt F) f14)))
          ∗ has c arg16 (arg16.view.writes (Elt F) f16 (dqPieces (insOf c arg2 arg3 arg4 arg8 arg17 arg18 f2 f3 f4 f8 f17 f18) i k (arg16.view.read (Elt F) f16))))) := by
  iintro ⟨H2, H3, H4, H8, H17, H18, H13, H14, H16⟩
  unfold k0_t1_body
  sl_open_parts
  sl_exec
  sl_step
  isplitl [H2]; · iexact H2
  isplitl [H3]; · iexact H3
  isplitl [H4]; · iexact H4
  isplitl [H8]; · iexact H8
  isplitl [H17]; · iexact H17
  isplitl [H18]; · iexact H18
  isplitl [H13]; · iexact H13
  isplitl [H14]; · iexact H14
  have e2 : trip.sl.H16_2 c i arg2 arg3 arg4 arg8 arg16 arg17 arg18 k f2 f3 f4 f8 f17 f18 f16 = dqRun2 (insOf c arg2 arg3 arg4 arg8 arg17 arg18 f2 f3 f4 f8 f17 f18) i k arg16.view (arg16.view.read (Elt F) f16) := by
    rfl
  have e3 : trip.sl.H16_3 c i arg2 arg3 arg4 arg8 arg16 arg17 arg18 k f2 f3 f4 f8 f17 f18 f16 = dqRun3 (insOf c arg2 arg3 arg4 arg8 arg17 arg18 f2 f3 f4 f8 f17 f18) i k arg16.view (arg16.view.read (Elt F) f16) := by
    unfold dqRun3; rw [← e2]; rfl
  have e4 : trip.sl.H16_4 c i arg2 arg3 arg4 arg8 arg16 arg17 arg18 k f2 f3 f4 f8 f17 f18 f16 = dqRun4 (insOf c arg2 arg3 arg4 arg8 arg17 arg18 f2 f3 f4 f8 f17 f18) i k arg16.view (arg16.view.read (Elt F) f16) := by
    unfold dqRun4; rw [← e3]; rfl
  have e5 : trip.sl.H16_5 c i arg2 arg3 arg4 arg8 arg16 arg17 arg18 k f2 f3 f4 f8 f17 f18 f16 = dqRun5 (insOf c arg2 arg3 arg4 arg8 arg17 arg18 f2 f3 f4 f8 f17 f18) i k arg16.view (arg16.view.read (Elt F) f16) := by
    unfold dqRun5; rw [← e4]; rfl
  have e6 : trip.sl.H16_6 c i arg2 arg3 arg4 arg8 arg16 arg17 arg18 k f2 f3 f4 f8 f17 f18 f16 = dqRun6 (insOf c arg2 arg3 arg4 arg8 arg17 arg18 f2 f3 f4 f8 f17 f18) i k arg16.view (arg16.view.read (Elt F) f16) := by
    unfold dqRun6; rw [← e5]; rfl
  have e7 : trip.sl.H16_7 c i arg2 arg3 arg4 arg8 arg16 arg17 arg18 k f2 f3 f4 f8 f17 f18 f16 = dqRun7 (insOf c arg2 arg3 arg4 arg8 arg17 arg18 f2 f3 f4 f8 f17 f18) i k arg16.view (arg16.view.read (Elt F) f16) := by
    unfold dqRun7; rw [← e6]; rfl
  rw [← dqRun8_eq _ i k arg16.view]
  unfold dqRun8
  rw [← e7]
  iexact H16

end Cert.KernelIdeal.Body

end

end
-- ==== Proof.Loops.lean ====
module

public import proofs.«01_k».proof.Proof.Trip

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S1x8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x128 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1x1024x256 .bf16) (harg12 : arg12.IsWhole)
  (arg13 : Memref sig .tc .vmem S1x8192x256 .f32) (harg13 : arg13.IsWhole)
  (arg14 : Memref sig .tc .vmem S1x8192x128 .f32) (harg14 : arg14.IsWhole)
  (arg15 : Memref sig .tc .vmem S1024x128 .bf16) (harg15 : arg15.IsWhole)
  (arg16 : Memref sig .tc .vmem S1024x256 .f32) (harg16 : arg16.IsWhole)
  (arg17 : Memref sig .tc .vmem S1024x128 .f32) (harg17 : arg17.IsWhole)
  (arg18 : Memref sig .tc .vmem S1024x128 .bf16) (harg18 : arg18.IsWhole)

/-- The key gradients before trip `n` of the sweep, from what the buffer holds at its start. -/
def acc13 (arg13 : Memref sig .tc .vmem S1x8192x256 .f32) (I : Ins F) (f : Buf (Elt F) (arg13.view.loc (c : Thread nD τ))) : ℕ → Buf (Elt F) (arg13.view.loc (c : Thread nD τ))
  | 0 => f
  | n + 1 => if h : n < (k0_t1_loop i).trips then
      arg13.view.writes (Elt F) (acc13 arg13 I f n) (dkPieces I i ⟨n, h⟩ (arg13.view.read (Elt F) (acc13 arg13 I f n)))
    else acc13 arg13 I f n

/-- The value gradients before trip `n` of the sweep, from what the buffer holds at its start. -/
def acc14 (arg14 : Memref sig .tc .vmem S1x8192x128 .f32) (I : Ins F) (f : Buf (Elt F) (arg14.view.loc (c : Thread nD τ))) : ℕ → Buf (Elt F) (arg14.view.loc (c : Thread nD τ))
  | 0 => f
  | n + 1 => if h : n < (k0_t1_loop i).trips then
      arg14.view.writes (Elt F) (acc14 arg14 I f n) (dvPieces I i ⟨n, h⟩ (arg14.view.read (Elt F) (acc14 arg14 I f n)))
    else acc14 arg14 I f n

/-- The query gradients' scratch before trip `n` of the sweep, from what the buffer holds at its start. -/
def acc16 (arg16 : Memref sig .tc .vmem S1024x256 .f32) (I : Ins F) (f : Buf (Elt F) (arg16.view.loc (c : Thread nD τ))) : ℕ → Buf (Elt F) (arg16.view.loc (c : Thread nD τ))
  | 0 => f
  | n + 1 => if h : n < (k0_t1_loop i).trips then
      arg16.view.writes (Elt F) (acc16 arg16 I f n) (dqPieces I i ⟨n, h⟩ (arg16.view.read (Elt F) (acc16 arg16 I f n)))
    else acc16 arg16 I f n

variable (arg1 : BitVec 32) (v32 : FVec F S1024x256 .f32) (v33 : Vec F S1024x256 .f32) (f2 : Buf (Elt F) (arg2.view.loc (c : Thread nD τ))) (f3 : Buf (Elt F) (arg3.view.loc (c : Thread nD τ))) (f4 : Buf (Elt F) (arg4.view.loc (c : Thread nD τ))) (f8 : Buf (Elt F) (arg8.view.loc (c : Thread nD τ))) (f17 : Buf (Elt F) (arg17.view.loc (c : Thread nD τ))) (f18 : Buf (Elt F) (arg18.view.loc (c : Thread nD τ))) (f13 : Buf (Elt F) (arg13.view.loc (c : Thread nD τ))) (f14 : Buf (Elt F) (arg14.view.loc (c : Thread nD τ))) (f16 : Buf (Elt F) (arg16.view.loc (c : Thread nD τ)))

set_option warn.classDefReducibility false in
/-- The sweep below the diagonal blocks, by its invariant. -/
@[sl_loop] def loopInv1 :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v32 v33 where
  inv n _ := iprop(has c arg2 f2 ∗ has c arg3 f3 ∗ has c arg4 f4 ∗ has c arg8 f8 ∗ has c arg17 f17 ∗ has c arg18 f18
    ∗ has c arg13 (acc13 c i arg13 (insOf c arg2 arg3 arg4 arg8 arg17 arg18 f2 f3 f4 f8 f17 f18) f13 n) ∗ has c arg14 (acc14 c i arg14 (insOf c arg2 arg3 arg4 arg8 arg17 arg18 f2 f3 f4 f8 f17 f18) f14 n) ∗ has c arg16 (acc16 c i arg16 (insOf c arg2 arg3 arg4 arg8 arg17 arg18 f2 f3 f4 f8 f17 f18) f16 n))
  step k _ := by
    have e13 : acc13 c i arg13 (insOf c arg2 arg3 arg4 arg8 arg17 arg18 f2 f3 f4 f8 f17 f18) f13 (k.val + 1) = _ := dif_pos k.isLt
    have e14 : acc14 c i arg14 (insOf c arg2 arg3 arg4 arg8 arg17 arg18 f2 f3 f4 f8 f17 f18) f14 (k.val + 1) = _ := dif_pos k.isLt
    have e16 : acc16 c i arg16 (insOf c arg2 arg3 arg4 arg8 arg17 arg18 f2 f3 f4 f8 f17 f18) f16 (k.val + 1) = _ := dif_pos k.isLt
    rw [e13, e14, e16]
    exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v32 v33 k f2 f3 f4 f8 f17 f18 _ _ _

set_option warn.classDefReducibility false in
/-- The remainder loop has no trip. -/
@[sl_loop] def loopInv2 (v57 : BitVec 32) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v32 v33 v57 where
  inv _ _ := iprop(has c arg2 f2 ∗ has c arg3 f3 ∗ has c arg4 f4 ∗ has c arg8 f8 ∗ has c arg17 f17 ∗ has c arg18 f18
    ∗ has c arg13 f13 ∗ has c arg14 f14 ∗ has c arg16 f16)
  step k _ := (Nat.not_lt_zero _ (Nat.lt_of_lt_of_eq k.isLt (trips2_eq i))).elim

end Cert.KernelIdeal.Body

end

end
-- ==== Proof.Point.lean ====
module

public import proofs.«01_k».proof.Proof.Loops
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- A load of a box sees past stores that miss it. -/
theorem ld_put_all {Val : EltTy → Type} {s : Shape} {e : EltTy} (X : s.Idx → Val e) (B : Rect s) :
    ∀ L : List (View.Piece Val s e), (∀ p ∈ L, ∀ y ∈ B.set, y ∉ p.1.set) → View.ld (put X L) B = View.ld X B
  | [], _ => rfl
  | p :: L, h => by
    refine Eq.trans ?_ (ld_put_all X B L fun p hp => h p (List.mem_cons_of_mem _ hp))
    funext y
    exact Rect.overlay_of_not_mem _ _ _ (h p (List.mem_cons_self ..) _ (B.idx_mem y))

/-- Boxes of 512 rows that miss each other. -/
theorem kBox_miss (o o' : Fin 3 → ℕ) (h h') (hd : o 1 + 512 ≤ o' 1 ∨ o' 1 + 512 ≤ o 1) : ∀ y ∈ (kBox o h).set, y ∉ (kBox o' h').set := fun y h1 h2 => by
  have h1' : o 1 ≤ (y 1).val ∧ (y 1).val < o 1 + 512 := Rect.mem_set_unit.mp h1 1
  have h2' : o' 1 ≤ (y 1).val ∧ (y 1).val < o' 1 + 512 := Rect.mem_set_unit.mp h2 1
  omega
theorem vBox_miss (o o' : Fin 3 → ℕ) (h h') (hd : o 1 + 512 ≤ o' 1 ∨ o' 1 + 512 ≤ o 1) : ∀ y ∈ (vBox o h).set, y ∉ (vBox o' h').set := fun y h1 h2 => by
  have h1' : o 1 ≤ (y 1).val ∧ (y 1).val < o 1 + 512 := Rect.mem_set_unit.mp h1 1
  have h2' : o' 1 ≤ (y 1).val ∧ (y 1).val < o' 1 + 512 := Rect.mem_set_unit.mp h2 1
  omega

theorem off7_eq : ∀ i : grid0.Coords, k0_off7 i = ![0, 1024 * (i 1).val, 0] := by decide +kernel
theorem off8_eq : ∀ i : grid0.Coords, k0_off8 i = ![0, 1024 * (i 1).val, 0] := by decide +kernel
theorem off9_eq : ∀ i : grid0.Coords, k0_off9 i = ![0, 1024 * (i 1).val + 512, 0] := by decide +kernel
theorem off10_eq : ∀ i : grid0.Coords, k0_off10 i = ![0, 1024 * (i 1).val + 512, 0] := by decide +kernel

/-- A load of the box stored last reads what was stored. -/
theorem readCov_top {Val : EltTy → Type} [∀ e, Nonempty (Val e)] {sig : RefSig} {κ : Kind} {sp : Space} {s : Shape} {e : EltTy}
    (a : View sig κ sp s e) (r : Rect s) (w : r.shape.Idx → Val e) (L : List (View.Piece Val s e)) : a.readCov (⟨r, w⟩ :: L) r.toLoadRect = w := by
  refine (View.readCov_eq_canon a _ r.toLoadRect fun y => ⟨⟨r, w⟩, by simp, r.idx_mem y⟩).trans ?_
  funext y
  exact View.canon_cons_emb r w L y

/-- An array whose two parts were stored last reads as the two stores, whatever was stored before. -/
theorem readCov_two {Val : EltTy → Type} [∀ e, Nonempty (Val e)] {sig : RefSig} {κ : Kind} {sp : Space} {s : Shape} {e : EltTy}
    (a : View sig κ sp s e) (r1 r0 : Rect s) (hcov : ∀ j, j ∈ r1.set ∨ j ∈ r0.set) (hd : ∀ j ∈ r0.set, j ∉ r1.set)
    (w1 : r1.shape.Idx → Val e) (w0 : r0.shape.Idx → Val e) (M L : List (View.Piece Val s e)) (hM : M = [] ∨ ∃ w, M = [⟨r1, w⟩])
    (off : Fin s.rank → ℕ) (h0 : off = 0) (inb : ∀ a, off a + s.size a ≤ s.size a) :
    a.readCov (⟨r1, w1⟩ :: (M ++ ⟨r0, w0⟩ :: L)) (Rect.unit off s.size inb).toLoadRect = View.canon (Val := Val) (e := e) [⟨r1, w1⟩, ⟨r0, w0⟩] := by
  subst h0
  have hc : ∀ y, ∃ p ∈ (⟨r1, w1⟩ :: (M ++ ⟨r0, w0⟩ :: L) : List (View.Piece Val s e)), (Rect.unit 0 s.size inb).toLoadRect.idx y ∈ p.1.set := fun y => by
    rcases hcov ((Rect.unit 0 s.size inb).toLoadRect.idx y) with h | h
    · exact ⟨⟨r1, w1⟩, by simp, h⟩
    · exact ⟨⟨r0, w0⟩, by simp, h⟩
  refine (View.readCov_eq_canon a _ _ hc).trans ?_
  funext y
  have hy : (Rect.unit 0 s.size inb).toLoadRect.idx y = y := by
    funext b; apply Fin.ext; exact (Nat.zero_add _).trans (Nat.one_mul _)
  rw [hy]
  by_cases h : y ∈ r1.set
  · obtain ⟨x, rfl⟩ : ∃ x, r1.emb x = y := r1.exists_idx_of_mem h
    exact (View.canon_cons_emb r1 w1 _ x).trans (View.canon_cons_emb r1 w1 _ x).symm
  · obtain ⟨x, rfl⟩ : ∃ x, r0.emb x = y := r0.exists_idx_of_mem ((hcov y).resolve_left h)
    rw [View.canon_cons_of_not_mem _ _ h, View.canon_cons_of_not_mem _ _ h]
    rcases hM with rfl | ⟨w, rfl⟩
    · exact (View.canon_cons_emb r0 w0 _ x).trans (View.canon_cons_emb r0 w0 _ x).symm
    · refine (View.canon_cons_of_not_mem _ _ h).trans ?_
      exact (View.canon_cons_emb r0 w0 _ x).trans (View.canon_cons_emb r0 w0 _ x).symm

variable {F : FTy → Type} [FloatOps F] [Named F]

section Point
variable (I : Ins F) (i : grid0.Coords)

/-- The key gradients before trip `n` of the sweep; the value gradients; the query gradients' scratch. -/
def dkSweep (X : Vec F S1x8192x256 .f32) : ℕ → Vec F S1x8192x256 .f32
  | 0 => X
  | n + 1 => if h : n < (k0_t1_loop i).trips then put (dkSweep X n) (dkPieces I i ⟨n, h⟩ (dkSweep X n)) else dkSweep X n
def dvSweep (X : Vec F S1x8192x128 .f32) : ℕ → Vec F S1x8192x128 .f32
  | 0 => X
  | n + 1 => if h : n < (k0_t1_loop i).trips then put (dvSweep X n) (dvPieces I i ⟨n, h⟩ (dvSweep X n)) else dvSweep X n
def dqSweep (X : Vec F S1024x256 .f32) : ℕ → Vec F S1024x256 .f32
  | 0 => X
  | n + 1 => if h : n < (k0_t1_loop i).trips then put (dqSweep X n) (dqPieces I i ⟨n, h⟩ (dqSweep X n)) else dqSweep X n

/-- What follows the sweep: the two remaining blocks of an odd number of pairs, and the two diagonal blocks. -/
def dkOdd (h : k0_cond2 i = 1#1) (X : Vec F S1x8192x256 .f32) : List (View.Piece (Elt F) S1x8192x256 .f32) :=
  [⟨kBox (k0_off5 i 1#32) (k0_off5_inb i h 0), I.dkFull (k0_off5 i 1#32) (k0_off5_inb i h 0) (k0_off6 i 1#32) (k0_off6_inb i h 0) (View.ld X (kBox (k0_off5 i 1#32) (k0_off5_inb i h 0)))⟩,
   ⟨kBox (k0_off5 i 2#32) (k0_off5_inb i h 1), I.dkFull (k0_off5 i 2#32) (k0_off5_inb i h 1) (k0_off6 i 2#32) (k0_off6_inb i h 1) (View.ld X (kBox (k0_off5 i 2#32) (k0_off5_inb i h 1)))⟩]
def dvOdd (h : k0_cond2 i = 1#1) (X : Vec F S1x8192x128 .f32) : List (View.Piece (Elt F) S1x8192x128 .f32) :=
  [⟨vBox (k0_off6 i 1#32) (k0_off6_inb i h 0), I.dvFull (k0_off5 i 1#32) (k0_off5_inb i h 0) (View.ld X (vBox (k0_off6 i 1#32) (k0_off6_inb i h 0)))⟩,
   ⟨vBox (k0_off6 i 2#32) (k0_off6_inb i h 1), I.dvFull (k0_off5 i 2#32) (k0_off5_inb i h 1) (View.ld X (vBox (k0_off6 i 2#32) (k0_off6_inb i h 1)))⟩]
def dkDiag (X : Vec F S1x8192x256 .f32) : List (View.Piece (Elt F) S1x8192x256 .f32) :=
  [⟨kBox (k0_off9 i) (k0_off9_inb i), I.dkDiag1 (k0_off9 i) (k0_off9_inb i) (k0_off10 i) (k0_off10_inb i) (View.ld X (kBox (k0_off9 i) (k0_off9_inb i)))⟩,
   ⟨kBox (k0_off7 i) (k0_off7_inb i), I.dkDiag0 (k0_off7 i) (k0_off7_inb i) (k0_off8 i) (k0_off8_inb i) (View.ld X (kBox (k0_off7 i) (k0_off7_inb i)))⟩]
def dvDiag (X : Vec F S1x8192x128 .f32) : List (View.Piece (Elt F) S1x8192x128 .f32) :=
  [⟨vBox (k0_off10 i) (k0_off10_inb i), I.dvDiag1 (k0_off9 i) (k0_off9_inb i) (View.ld X (vBox (k0_off10 i) (k0_off10_inb i)))⟩,
   ⟨vBox (k0_off8 i) (k0_off8_inb i), I.dvDiag0 (k0_off7 i) (k0_off7_inb i) (View.ld X (vBox (k0_off8 i) (k0_off8_inb i)))⟩]

/-- The query gradients after the two remaining blocks, by halves. -/
def q0Odd (h : k0_cond2 i = 1#1) (x : FVec F S512x256 .f32) : FVec F S512x256 .f32 := I.dq0 (k0_off5 i 1#32) (k0_off5_inb i h 0) (k0_off6 i 1#32) (k0_off6_inb i h 0) (I.dq0 (k0_off5 i 2#32) (k0_off5_inb i h 1) (k0_off6 i 2#32) (k0_off6_inb i h 1) x)
def q1Odd (h : k0_cond2 i = 1#1) (x : FVec F S512x256 .f32) : FVec F S512x256 .f32 := I.dq1 (k0_off5 i 1#32) (k0_off5_inb i h 0) (k0_off6 i 1#32) (k0_off6_inb i h 0) (I.dq1 (k0_off5 i 2#32) (k0_off5_inb i h 1) (k0_off6 i 2#32) (k0_off6_inb i h 1) x)
/-- And after the diagonal blocks. -/
def q0Diag (x : FVec F S512x256 .f32) : FVec F S512x256 .f32 := I.dq0Diag (k0_off7 i) (k0_off7_inb i) (k0_off8 i) (k0_off8_inb i) x
def q1Diag (x : FVec F S512x256 .f32) : FVec F S512x256 .f32 := I.dq1Diag (k0_off9 i) (k0_off9_inb i) (k0_off10 i) (k0_off10_inb i) (I.dq1 (k0_off7 i) (k0_off7_inb i) (k0_off8 i) (k0_off8_inb i) x)

/-- One point's key gradients, from what the array held before; its value gradients. -/
def dkPoint (X : Vec F S1x8192x256 .f32) : Vec F S1x8192x256 .f32 :=
  let E := dkSweep I i X (k0_t1_loop i).trips
  if h : k0_cond2 i = 1#1 then put E (dkDiag I i E ++ dkOdd I i h E) else put E (dkDiag I i E)
def dvPoint (X : Vec F S1x8192x128 .f32) : Vec F S1x8192x128 .f32 :=
  let E := dvSweep I i X (k0_t1_loop i).trips
  if h : k0_cond2 i = 1#1 then put E (dvDiag I i E ++ dvOdd I i h E) else put E (dvDiag I i E)
/-- One point's query gradients before the scale and the rotation's transpose. -/
def dqPoint : Vec F S1024x256 .f32 :=
  let E := dqSweep I i (k0_pay166 k0_pay165) (k0_t1_loop i).trips
  if h : k0_cond2 i = 1#1 then
    View.canon (Val := Elt F) (e := .f32) [⟨half1, q1Diag I i (q1Odd I i h (View.ld E half1))⟩, ⟨half0, q0Diag I i (q0Odd I i h (View.ld E half0))⟩]
  else View.canon (Val := Elt F) (e := .f32) [⟨half1, q1Diag I i (View.ld E half1)⟩, ⟨half0, q0Diag I i (View.ld E half0)⟩]

/-- The scratch's last stores as a run finds them. -/
def even1 (X : Vec F S1024x256 .f32) : List (View.Piece (Elt F) S1024x256 .f32) := ⟨half0, I.dq0Diag (k0_off7 i) (k0_off7_inb i) (k0_off8 i) (k0_off8_inb i) (View.ld X half0)⟩ :: []
def even2 (X : Vec F S1024x256 .f32) : List (View.Piece (Elt F) S1024x256 .f32) := ⟨half1, I.dq1 (k0_off7 i) (k0_off7_inb i) (k0_off8 i) (k0_off8_inb i) (View.ld X half1)⟩ :: even1 I i X
def even3 (a : View sig .tc .vmem S1024x256 .f32) (X : Vec F S1024x256 .f32) : List (View.Piece (Elt F) S1024x256 .f32) :=
  ⟨half1, I.dq1Diag (k0_off9 i) (k0_off9_inb i) (k0_off10 i) (k0_off10_inb i) (a.readCov (even2 I i X) half1.toLoadRect)⟩ :: even2 I i X
def odd1 (h : k0_cond2 i = 1#1) (X : Vec F S1024x256 .f32) : List (View.Piece (Elt F) S1024x256 .f32) := ⟨half0, I.dq0 (k0_off5 i 2#32) (k0_off5_inb i h 1) (k0_off6 i 2#32) (k0_off6_inb i h 1) (View.ld X half0)⟩ :: []
def odd2 (h : k0_cond2 i = 1#1) (X : Vec F S1024x256 .f32) : List (View.Piece (Elt F) S1024x256 .f32) := ⟨half1, I.dq1 (k0_off5 i 2#32) (k0_off5_inb i h 1) (k0_off6 i 2#32) (k0_off6_inb i h 1) (View.ld X half1)⟩ :: odd1 I i h X
def odd3 (a : View sig .tc .vmem S1024x256 .f32) (h : k0_cond2 i = 1#1) (X : Vec F S1024x256 .f32) : List (View.Piece (Elt F) S1024x256 .f32) :=
  ⟨half0, I.dq0 (k0_off5 i 1#32) (k0_off5_inb i h 0) (k0_off6 i 1#32) (k0_off6_inb i h 0) (a.readCov (odd2 I i h X) half0.toLoadRect)⟩ :: odd2 I i h X
def odd4 (a : View sig .tc .vmem S1024x256 .f32) (h : k0_cond2 i = 1#1) (X : Vec F S1024x256 .f32) : List (View.Piece (Elt F) S1024x256 .f32) :=
  ⟨half1, I.dq1 (k0_off5 i 1#32) (k0_off5_inb i h 0) (k0_off6 i 1#32) (k0_off6_inb i h 0) (a.readCov (odd3 I i a h X) half1.toLoadRect)⟩ :: odd3 I i a h X
def odd5 (a : View sig .tc .vmem S1024x256 .f32) (h : k0_cond2 i = 1#1) (X : Vec F S1024x256 .f32) : List (View.Piece (Elt F) S1024x256 .f32) :=
  ⟨half0, I.dq0Diag (k0_off7 i) (k0_off7_inb i) (k0_off8 i) (k0_off8_inb i) (a.readCov (odd4 I i a h X) half0.toLoadRect)⟩ :: odd4 I i a h X
def odd6 (a : View sig .tc .vmem S1024x256 .f32) (h : k0_cond2 i = 1#1) (X : Vec F S1024x256 .f32) : List (View.Piece (Elt F) S1024x256 .f32) :=
  ⟨half1, I.dq1 (k0_off7 i) (k0_off7_inb i) (k0_off8 i) (k0_off8_inb i) (a.readCov (odd5 I i a h X) half1.toLoadRect)⟩ :: odd5 I i a h X
def odd7 (a : View sig .tc .vmem S1024x256 .f32) (h : k0_cond2 i = 1#1) (X : Vec F S1024x256 .f32) : List (View.Piece (Elt F) S1024x256 .f32) :=
  ⟨half1, I.dq1Diag (k0_off9 i) (k0_off9_inb i) (k0_off10 i) (k0_off10_inb i) (a.readCov (odd6 I i a h X) half1.toLoadRect)⟩ :: odd6 I i a h X

theorem halves_cover (j : S1024x256.Idx) : j ∈ half1.set ∨ j ∈ half0.set := by
  have h1 : (j 1).val < 256 := (j 1).isLt
  have h0 : (j 0).val < 1024 := (j 0).isLt
  by_cases h : 512 ≤ (j 0).val
  · refine .inl (Rect.mem_set_unit.mpr fun a => ?_)
    match a with
    | ⟨0, _⟩ => exact ⟨h, h0⟩
    | ⟨1, _⟩ => exact ⟨Nat.zero_le _, (Nat.zero_add 256).symm ▸ h1⟩
  · refine .inr (Rect.mem_set_unit.mpr fun a => ?_)
    match a with
    | ⟨0, _⟩ => exact ⟨Nat.zero_le _, (Nat.zero_add 512).symm ▸ Nat.lt_of_not_le h⟩
    | ⟨1, _⟩ => exact ⟨Nat.zero_le _, (Nat.zero_add 256).symm ▸ h1⟩

theorem readCov_even3 (a : View sig .tc .vmem S1024x256 .f32) (h : ¬ k0_cond2 i = 1#1) (X : Vec F S1024x256 .f32) :
    a.readCov (even3 I i a X) (Rect.unit ![0, 0] S1024x256.size inb_S1024x256_S1024x256_0_0).toLoadRect
      = View.canon (Val := Elt F) (e := .f32) [⟨half1, q1Diag I i (View.ld X half1)⟩, ⟨half0, q0Diag I i (View.ld X half0)⟩] := by
  unfold even3 even2
  rw [readCov_top]
  exact readCov_two a half1 half0 halves_cover (fun _ => not_mem_half1) _ _ [⟨half1, _⟩] _ (.inr ⟨_, rfl⟩) ![0, 0] (by decide) _

theorem readCov_odd7 (a : View sig .tc .vmem S1024x256 .f32) (h : k0_cond2 i = 1#1) (X : Vec F S1024x256 .f32) :
    a.readCov (odd7 I i a h X) (Rect.unit ![0, 0] S1024x256.size inb_S1024x256_S1024x256_0_0).toLoadRect
      = View.canon (Val := Elt F) (e := .f32) [⟨half1, q1Diag I i (q1Odd I i h (View.ld X half1))⟩, ⟨half0, q0Diag I i (q0Odd I i h (View.ld X half0))⟩] := by
  have e3 : odd3 I i a h X = ⟨half0, q0Odd I i h (View.ld X half0)⟩ :: odd2 I i h X := by
    unfold odd3 odd2 odd1; rw [readCov_past a half1 half0 fun _ => not_mem_half1]; rfl
  have e4 : odd4 I i a h X = ⟨half1, q1Odd I i h (View.ld X half1)⟩ :: odd3 I i a h X := by
    unfold odd4; rw [e3]; unfold odd2; rw [readCov_past a half0 half1 fun _ => not_mem_half0]; rfl
  have e5 : odd5 I i a h X = ⟨half0, q0Diag I i (q0Odd I i h (View.ld X half0))⟩ :: odd4 I i a h X := by
    unfold odd5; rw [e4, e3, readCov_past a half1 half0 fun _ => not_mem_half1]; rfl
  have e6 : odd6 I i a h X = ⟨half1, I.dq1 (k0_off7 i) (k0_off7_inb i) (k0_off8 i) (k0_off8_inb i) (q1Odd I i h (View.ld X half1))⟩ :: odd5 I i a h X := by
    unfold odd6; rw [e5, e4, readCov_past a half0 half1 fun _ => not_mem_half0]
  have e7 : odd7 I i a h X = ⟨half1, q1Diag I i (q1Odd I i h (View.ld X half1))⟩ :: odd6 I i a h X := by
    unfold odd7; rw [e6, readCov_top]; rfl
  rw [e7, e6, e5]
  exact readCov_two a half1 half0 halves_cover (fun _ => not_mem_half1) _ _ [⟨half1, _⟩] _ (.inr ⟨_, rfl⟩) ![0, 0] (by decide) _

theorem dkPoint_even (h : ¬ k0_cond2 i = 1#1) (X) : dkPoint I i X = put (dkSweep I i X (k0_t1_loop i).trips) (dkDiag I i (dkSweep I i X (k0_t1_loop i).trips)) := dif_neg h
theorem dvPoint_even (h : ¬ k0_cond2 i = 1#1) (X) : dvPoint I i X = put (dvSweep I i X (k0_t1_loop i).trips) (dvDiag I i (dvSweep I i X (k0_t1_loop i).trips)) := dif_neg h
theorem dkPoint_odd (h : k0_cond2 i = 1#1) (X) : dkPoint I i X = put (dkSweep I i X (k0_t1_loop i).trips)
    (dkDiag I i (dkSweep I i X (k0_t1_loop i).trips) ++ dkOdd I i h (dkSweep I i X (k0_t1_loop i).trips)) := dif_pos h
theorem dvPoint_odd (h : k0_cond2 i = 1#1) (X) : dvPoint I i X = put (dvSweep I i X (k0_t1_loop i).trips)
    (dvDiag I i (dvSweep I i X (k0_t1_loop i).trips) ++ dvOdd I i h (dvSweep I i X (k0_t1_loop i).trips)) := dif_pos h
theorem dqPoint_even (h : ¬ k0_cond2 i = 1#1) : dqPoint I i = View.canon (Val := Elt F) (e := .f32)
    [⟨half1, q1Diag I i (View.ld (dqSweep I i (k0_pay166 k0_pay165) (k0_t1_loop i).trips) half1)⟩,
     ⟨half0, q0Diag I i (View.ld (dqSweep I i (k0_pay166 k0_pay165) (k0_t1_loop i).trips) half0)⟩] := dif_neg h
theorem dqPoint_odd (h : k0_cond2 i = 1#1) : dqPoint I i = View.canon (Val := Elt F) (e := .f32)
    [⟨half1, q1Diag I i (q1Odd I i h (View.ld (dqSweep I i (k0_pay166 k0_pay165) (k0_t1_loop i).trips) half1))⟩,
     ⟨half0, q0Diag I i (q0Odd I i h (View.ld (dqSweep I i (k0_pay166 k0_pay165) (k0_t1_loop i).trips) half0))⟩] := dif_pos h

end Point

/-- What one grid point reads. -/
structure Pt (F : FTy → Type) where
  q : Vec F S1x1024x256 .bf16
  k : Vec F S1x8192x256 .bf16
  v : Vec F S1x8192x128 .bf16
  y : Vec F S1024x128 .f32
  z : Vec F S1024x128 .f32
  o : Vec F S1024x128 .f32
  l : Vec F S1x1024x128 .f32
  c : Vec F S1024x128 .f32
  sa : Vec F S1024x128 .f32
  sb : Vec F S1024x128 .f32

def Pt.ins (P : Pt F) : Ins F := ⟨P.q, P.k, P.v, P.l, k0_pay163 P.z P.y P.o, k0_pay164 P.z P.y⟩

/-- What one grid point leaves of the query gradients: its two halves of columns. -/
def dqOut (P : Pt F) (i : grid0.Coords) : Vec F S1x1024x256 .bf16 :=
  View.canon (Val := Elt F) (e := .bf16)
    [⟨Rect.unit (s := S1x1024x256) ![0, 0, 128] S1x1024x128.size inb_S1x1024x256_S1x1024x128_0_0_128, k0_pay2 (k0_pay194 (dqPoint P.ins i)) P.c P.sa P.sb⟩,
     ⟨Rect.unit (s := S1x1024x256) ![0, 0, 0] S1x1024x128.size inb_S1x1024x256_S1x1024x128_0_0_0, k0_pay1 (k0_pay195 (dqPoint P.ins i))⟩]
theorem read_dqOut (P : Pt F) (i : grid0.Coords) (a : Memref sig .tc .vmem S1x1024x256 .bf16) (f : a.view.ty.Contents (Elt F))
    (d : Vec F S1024x256 .f32) (hd : d = dqPoint P.ins i) (x9 x10 x11 : Vec F S1024x128 .f32) (h9 : x9 = P.c) (h10 : x10 = P.sa) (h11 : x11 = P.sb) :
    a.view.read (Elt F) (a.view.writes (Elt F) f
      [⟨Rect.unit (s := S1x1024x256) ![0, 0, 128] S1x1024x128.size inb_S1x1024x256_S1x1024x128_0_0_128, k0_pay2 (k0_pay194 d) x9 x10 x11⟩,
       ⟨Rect.unit (s := S1x1024x256) ![0, 0, 0] S1x1024x128.size inb_S1x1024x256_S1x1024x128_0_0_0, k0_pay1 (k0_pay195 d)⟩]) = dqOut P i := by
  subst hd h9 h10 h11
  refine View.read_writes_eq_canon _ _ _ fun j => ?_
  have h0 : (j 0).val < 1 := (j 0).isLt
  have h1 : (j 1).val < 1024 := (j 1).isLt
  have h2 : (j 2).val < 256 := (j 2).isLt
  by_cases h : 128 ≤ (j 2).val
  · refine ⟨_, List.mem_cons_self .., ?_⟩
    show j ∈ (Rect.unit (s := S1x1024x256) ![0, 0, 128] S1x1024x128.size inb_S1x1024x256_S1x1024x128_0_0_128).set
    refine Rect.mem_set_unit.mpr fun a => ?_
    match a with
    | ⟨0, _⟩ => exact ⟨Nat.zero_le _, (Nat.zero_add 1).symm ▸ h0⟩
    | ⟨1, _⟩ => exact ⟨Nat.zero_le _, (Nat.zero_add 1024).symm ▸ h1⟩
    | ⟨2, _⟩ => exact ⟨h, h2⟩
  · refine ⟨_, List.mem_cons_of_mem _ (List.mem_cons_self ..), ?_⟩
    show j ∈ (Rect.unit (s := S1x1024x256) ![0, 0, 0] S1x1024x128.size inb_S1x1024x256_S1x1024x128_0_0_0).set
    refine Rect.mem_set_unit.mpr fun a => ?_
    match a with
    | ⟨0, _⟩ => exact ⟨Nat.zero_le _, (Nat.zero_add 1).symm ▸ h0⟩
    | ⟨1, _⟩ => exact ⟨Nat.zero_le _, (Nat.zero_add 1024).symm ▸ h1⟩
    | ⟨2, _⟩ => exact ⟨Nat.zero_le _, (Nat.zero_add 128).symm ▸ Nat.lt_of_not_le h⟩
def dmzOut (P : Pt F) : Vec F S1024x128 .bf16 := k0_pay162 P.z P.y P.o

variable (c : Dev nD) (i : grid0.Coords)

theorem read_acc13 (arg13 : Memref sig .tc .vmem S1x8192x256 .f32) (I : Ins F) (f : Buf (Elt F) (arg13.view.loc (c : Thread nD τ))) :
    ∀ n, arg13.view.read (Elt F) (acc13 c i arg13 I f n) = dkSweep I i (arg13.view.read (Elt F) f) n
  | 0 => rfl
  | n + 1 => by
    unfold acc13 dkSweep
    by_cases h : n < (k0_t1_loop i).trips
    · rw [dif_pos h, dif_pos h]
      exact (read_writes_put _ _ _).trans (by rw [read_acc13 arg13 I f n])
    · rw [dif_neg h, dif_neg h]; exact read_acc13 arg13 I f n
theorem read_acc14 (arg14 : Memref sig .tc .vmem S1x8192x128 .f32) (I : Ins F) (f : Buf (Elt F) (arg14.view.loc (c : Thread nD τ))) :
    ∀ n, arg14.view.read (Elt F) (acc14 c i arg14 I f n) = dvSweep I i (arg14.view.read (Elt F) f) n
  | 0 => rfl
  | n + 1 => by
    unfold acc14 dvSweep
    by_cases h : n < (k0_t1_loop i).trips
    · rw [dif_pos h, dif_pos h]
      exact (read_writes_put _ _ _).trans (by rw [read_acc14 arg14 I f n])
    · rw [dif_neg h, dif_neg h]; exact read_acc14 arg14 I f n
theorem read_acc16 (arg16 : Memref sig .tc .vmem S1024x256 .f32) (I : Ins F) (f : Buf (Elt F) (arg16.view.loc (c : Thread nD τ))) :
    ∀ n, arg16.view.read (Elt F) (acc16 c i arg16 I f n) = dqSweep I i (arg16.view.read (Elt F) f) n
  | 0 => rfl
  | n + 1 => by
    unfold acc16 dqSweep
    by_cases h : n < (k0_t1_loop i).trips
    · rw [dif_pos h, dif_pos h]
      exact (read_writes_put _ _ _).trans (by rw [read_acc16 arg16 I f n])
    · rw [dif_neg h, dif_neg h]; exact read_acc16 arg16 I f n

/-- The point's inputs as the buffers hold them. -/
abbrev ptOf (arg2 : Memref sig .tc .vmem S1x1024x256 .bf16) (arg3 : Memref sig .tc .vmem S1x8192x256 .bf16) (arg4 : Memref sig .tc .vmem S1x8192x128 .bf16)
    (arg5 arg6 arg7 : Memref sig .tc .vmem S1024x128 .f32) (arg8 : Memref sig .tc .vmem S1x1024x128 .f32) (arg9 arg10 arg11 : Memref sig .tc .vmem S1024x128 .f32)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) : Pt F :=
  ⟨arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11⟩

local notation "𝕄" => MT nD τ sig Unit (Elt F) ℕ (UR sig nD τ) ℕ

theorem owns_of {s : Shape} {e : EltTy} (a : Memref sig .tc .vmem s e) (f : Buf (Elt F) (a.view.loc (c : Thread nD τ))) {X : s.Idx → Elt F e}
    (h : a.view.read (Elt F) f = X) : (has c a f : sProp 𝕄) ⊢ ownsTc c a fullShare X := by
  unfold ownsTc owns
  iintro H
  iexists f
  isplitr [H]
  · ipureintro; exact h
  · iexact H

end Cert.KernelIdeal.Body

end

end
-- ==== Proof.BodyEven.lean ====
module

public import proofs.«01_k».proof.Proof.Point

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S1x8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x128 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1x1024x256 .bf16) (harg12 : arg12.IsWhole)
  (arg13 : Memref sig .tc .vmem S1x8192x256 .f32) (harg13 : arg13.IsWhole)
  (arg14 : Memref sig .tc .vmem S1x8192x128 .f32) (harg14 : arg14.IsWhole)
  (arg15 : Memref sig .tc .vmem S1024x128 .bf16) (harg15 : arg15.IsWhole)
  (arg16 : Memref sig .tc .vmem S1024x256 .f32) (harg16 : arg16.IsWhole)
  (arg17 : Memref sig .tc .vmem S1024x128 .f32) (harg17 : arg17.IsWhole)
  (arg18 : Memref sig .tc .vmem S1024x128 .bf16) (harg18 : arg18.IsWhole)

variable (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ)))

set_option maxHeartbeats 4000000 in
theorem body_even (hc1 : ¬ Scalar.cmpi .ne (Scalar.extui (Scalar.cmpi .eq (BitVec.ofNat 32 (i 1).val) 0#32)) 0#32 = 1#1) (hc2 : ¬ k0_cond2 i = 1#1) :
    iprop(has c arg2 f2 ∗ has c arg3 f3 ∗ has c arg4 f4 ∗ has c arg5 f5 ∗ has c arg6 f6 ∗ has c arg7 f7 ∗ has c arg8 f8 ∗ has c arg9 f9 ∗ has c arg10 f10 ∗ has c arg11 f11 ∗ has c arg12 f12 ∗ has c arg13 f13 ∗ has c arg14 f14 ∗ has c arg15 f15 ∗ has c arg16 f16 ∗ has c arg17 f17 ∗ has c arg18 f18)
    ⊢ wp frame (wpE (defs₀ (F := F)) Variants.none (c : Thread nD τ) none) Set.univ
        (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(has c arg2 f2 ∗ has c arg3 f3 ∗ has c arg4 f4 ∗ has c arg5 f5 ∗ has c arg6 f6 ∗ has c arg7 f7 ∗ has c arg8 f8 ∗ has c arg9 f9 ∗ has c arg10 f10 ∗ has c arg11 f11
          ∗ ownsTc c arg12 fullShare (dqOut (ptOf c arg2 arg3 arg4 arg5 arg6 arg7 arg8 arg9 arg10 arg11 f2 f3 f4 f5 f6 f7 f8 f9 f10 f11) i)
          ∗ ownsTc c arg13 fullShare (dkPoint (ptOf c arg2 arg3 arg4 arg5 arg6 arg7 arg8 arg9 arg10 arg11 f2 f3 f4 f5 f6 f7 f8 f9 f10 f11).ins i (arg13.view.read (Elt F) f13))
          ∗ ownsTc c arg14 fullShare (dvPoint (ptOf c arg2 arg3 arg4 arg5 arg6 arg7 arg8 arg9 arg10 arg11 f2 f3 f4 f5 f6 f7 f8 f9 f10 f11).ins i (arg14.view.read (Elt F) f14))
          ∗ ownsTc c arg15 fullShare (dmzOut (ptOf c arg2 arg3 arg4 arg5 arg6 arg7 arg8 arg9 arg10 arg11 f2 f3 f4 f5 f6 f7 f8 f9 f10 f11))
          ∗ (∃ f, has c arg16 f) ∗ (∃ f, has c arg17 f) ∗ (∃ f, has c arg18 f))) := by
  iintro ⟨H2, H3, H4, H5, H6, H7, H8, H9, H10, H11, H12, H13, H14, H15, H16, H17, H18⟩
  rw [cc0_flash_bwd_eq_skeleton]
  unfold cc0_flash_bwd_skel
  rw [k0_part23_eq_skeleton, k0_part24_eq_skeleton, k0_part25_eq_skeleton, k0_part26_eq_skeleton, k0_part27_eq_skeleton, k0_part28_eq_skeleton]
  unfold k0_part25_skel
  rw [k0_part19_eq_skeleton, k0_part20_eq_skeleton, k0_part21_eq_skeleton, k0_part22_eq_skeleton]
  sl_exec (disch := assumption)
  sl_step
  have hI : (insOf c arg2 arg3 arg4 arg8 arg17 arg18 f2 f3 f4 f8 (arg17.view.writes (Elt F) arg17.view.junk (body_even.sl.H17_1 c arg5 arg6 arg7 f5 f6 f7)) (arg18.view.writes (Elt F) arg18.view.junk (body_even.sl.H18_1 c arg5 arg6 f5 f6))) = (ptOf c arg2 arg3 arg4 arg5 arg6 arg7 arg8 arg9 arg10 arg11 f2 f3 f4 f5 f6 f7 f8 f9 f10 f11).ins := by
    unfold insOf Pt.ins ptOf
    congr 1
    · exact (View.read_writes_full _ _ _ _ _).trans (congr (congr (congrArg k0_pay163 (View.readAt_full _ _ _)) (View.readAt_full _ _ _)) (View.readAt_full _ _ _))
    · exact (View.read_writes_full _ _ _ _ _).trans (congr (congrArg k0_pay164 (View.readAt_full _ _ _)) (View.readAt_full _ _ _))
  have hX : arg16.view.read (Elt F) (acc16 c i arg16 (insOf c arg2 arg3 arg4 arg8 arg17 arg18 f2 f3 f4 f8 (arg17.view.writes (Elt F) arg17.view.junk (body_even.sl.H17_1 c arg5 arg6 arg7 f5 f6 f7)) (arg18.view.writes (Elt F) arg18.view.junk (body_even.sl.H18_1 c arg5 arg6 f5 f6))) (arg16.view.writes (Elt F) arg16.view.junk [⟨Rect.unit ![0, 0] S1024x256.size inb_S1024x256_S1024x256_0_0, k0_pay166 k0_pay165⟩]) (k0_t1_loop i).trips) = dqSweep (ptOf c arg2 arg3 arg4 arg5 arg6 arg7 arg8 arg9 arg10 arg11 f2 f3 f4 f5 f6 f7 f8 f9 f10 f11).ins i (k0_pay166 k0_pay165) (k0_t1_loop i).trips := by
    rw [read_acc16, hI]
    congr 1
    exact View.read_writes_full _ _ _ _ _
  have hE13 : dkSweep (ptOf c arg2 arg3 arg4 arg5 arg6 arg7 arg8 arg9 arg10 arg11 f2 f3 f4 f5 f6 f7 f8 f9 f10 f11).ins i (arg13.view.read (Elt F) f13) (k0_t1_loop i).trips = arg13.view.read (Elt F) (acc13 c i arg13 (insOf c arg2 arg3 arg4 arg8 arg17 arg18 f2 f3 f4 f8 (arg17.view.writes (Elt F) arg17.view.junk (body_even.sl.H17_1 c arg5 arg6 arg7 f5 f6 f7)) (arg18.view.writes (Elt F) arg18.view.junk (body_even.sl.H18_1 c arg5 arg6 f5 f6))) f13 (k0_t1_loop i).trips) := by
    rw [read_acc13, hI]
  have hE14 : dvSweep (ptOf c arg2 arg3 arg4 arg5 arg6 arg7 arg8 arg9 arg10 arg11 f2 f3 f4 f5 f6 f7 f8 f9 f10 f11).ins i (arg14.view.read (Elt F) f14) (k0_t1_loop i).trips = arg14.view.read (Elt F) (acc14 c i arg14 (insOf c arg2 arg3 arg4 arg8 arg17 arg18 f2 f3 f4 f8 (arg17.view.writes (Elt F) arg17.view.junk (body_even.sl.H17_1 c arg5 arg6 arg7 f5 f6 f7)) (arg18.view.writes (Elt F) arg18.view.junk (body_even.sl.H18_1 c arg5 arg6 f5 f6))) f14 (k0_t1_loop i).trips) := by
    rw [read_acc14, hI]
  have e2 : body_even.sl.H16_2 c i arg2 arg3 arg4 arg5 arg6 arg7 arg8 arg16 arg17 arg18 f2 f3 f4 f5 f6 f7 f8 = even2 (insOf c arg2 arg3 arg4 arg8 arg17 arg18 f2 f3 f4 f8 (arg17.view.writes (Elt F) arg17.view.junk (body_even.sl.H17_1 c arg5 arg6 arg7 f5 f6 f7)) (arg18.view.writes (Elt F) arg18.view.junk (body_even.sl.H18_1 c arg5 arg6 f5 f6))) i (arg16.view.read (Elt F) (acc16 c i arg16 (insOf c arg2 arg3 arg4 arg8 arg17 arg18 f2 f3 f4 f8 (arg17.view.writes (Elt F) arg17.view.junk (body_even.sl.H17_1 c arg5 arg6 arg7 f5 f6 f7)) (arg18.view.writes (Elt F) arg18.view.junk (body_even.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := rfl
  have e3 : body_even.sl.H16_3 c i arg2 arg3 arg4 arg5 arg6 arg7 arg8 arg16 arg17 arg18 f2 f3 f4 f5 f6 f7 f8 = even3 (insOf c arg2 arg3 arg4 arg8 arg17 arg18 f2 f3 f4 f8 (arg17.view.writes (Elt F) arg17.view.junk (body_even.sl.H17_1 c arg5 arg6 arg7 f5 f6 f7)) (arg18.view.writes (Elt F) arg18.view.junk (body_even.sl.H18_1 c arg5 arg6 f5 f6))) i arg16.view (arg16.view.read (Elt F) (acc16 c i arg16 (insOf c arg2 arg3 arg4 arg8 arg17 arg18 f2 f3 f4 f8 (arg17.view.writes (Elt F) arg17.view.junk (body_even.sl.H17_1 c arg5 arg6 arg7 f5 f6 f7)) (arg18.view.writes (Elt F) arg18.view.junk (body_even.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := by
    unfold even3; rw [← e2]; rfl
  have hdq : body_even.sl.v206 c i arg2 arg3 arg4 arg5 arg6 arg7 arg8 arg16 arg17 arg18 f2 f3 f4 f5 f6 f7 f8 = dqPoint (ptOf c arg2 arg3 arg4 arg5 arg6 arg7 arg8 arg9 arg10 arg11 f2 f3 f4 f5 f6 f7 f8 f9 f10 f11).ins i := by
    rw [dqPoint_even _ _ hc2, ← hX, ← hI, ← readCov_even3 _ _ _ hc2, ← e3]
    rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (owns_of c arg12 _ (read_dqOut (ptOf c arg2 arg3 arg4 arg5 arg6 arg7 arg8 arg9 arg10 arg11 f2 f3 f4 f5 f6 f7 f8 f9 f10 f11) i arg12 f12 (body_even.sl.v206 c i arg2 arg3 arg4 arg5 arg6 arg7 arg8 arg16 arg17 arg18 f2 f3 f4 f5 f6 f7 f8) hdq _ _ _ (View.readAt_full arg9.view f9 inb_S1024x128_S1024x128_0_0) (View.readAt_full arg10.view f10 inb_S1024x128_S1024x128_0_0) (View.readAt_full arg11.view f11 inb_S1024x128_S1024x128_0_0)))
    iexact H12
  isplitl [H13]
  · iapply (owns_of c arg13 _ ?h13)
    pick_goal 2
    · iexact H13
    rw [dkPoint_even _ _ hc2, hE13, ← hI]
    exact read_writes_put _ _ _
  isplitl [H14]
  · iapply (owns_of c arg14 _ ?h14)
    pick_goal 2
    · iexact H14
    rw [dvPoint_even _ _ hc2, hE14, ← hI]
    exact read_writes_put _ _ _
  isplitl [H15]
  · iapply (owns_of c arg15 _ ?h15)
    pick_goal 2
    · iexact H15
    exact (View.read_writes_full _ _ _ _ _).trans (congr (congr (congrArg k0_pay162 (View.readAt_full _ _ _)) (View.readAt_full _ _ _)) (View.readAt_full _ _ _))
  isplitl [H16]
  · iexists _; iexact H16
  isplitl [H17]
  · iexists _; iexact H17
  iexists _; iexact H18

end Cert.KernelIdeal.Body

end

end
-- ==== Proof.BodyOdd.lean ====
module

public import proofs.«01_k».proof.Proof.Point

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S1x8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x128 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1x1024x256 .bf16) (harg12 : arg12.IsWhole)
  (arg13 : Memref sig .tc .vmem S1x8192x256 .f32) (harg13 : arg13.IsWhole)
  (arg14 : Memref sig .tc .vmem S1x8192x128 .f32) (harg14 : arg14.IsWhole)
  (arg15 : Memref sig .tc .vmem S1024x128 .bf16) (harg15 : arg15.IsWhole)
  (arg16 : Memref sig .tc .vmem S1024x256 .f32) (harg16 : arg16.IsWhole)
  (arg17 : Memref sig .tc .vmem S1024x128 .f32) (harg17 : arg17.IsWhole)
  (arg18 : Memref sig .tc .vmem S1024x128 .bf16) (harg18 : arg18.IsWhole)

variable (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ)))

set_option maxHeartbeats 4000000 in
theorem body_odd (hc1 : ¬ Scalar.cmpi .ne (Scalar.extui (Scalar.cmpi .eq (BitVec.ofNat 32 (i 1).val) 0#32)) 0#32 = 1#1) (hc2 : k0_cond2 i = 1#1) :
    iprop(has c arg2 f2 ∗ has c arg3 f3 ∗ has c arg4 f4 ∗ has c arg5 f5 ∗ has c arg6 f6 ∗ has c arg7 f7 ∗ has c arg8 f8 ∗ has c arg9 f9 ∗ has c arg10 f10 ∗ has c arg11 f11 ∗ has c arg12 f12 ∗ has c arg13 f13 ∗ has c arg14 f14 ∗ has c arg15 f15 ∗ has c arg16 f16 ∗ has c arg17 f17 ∗ has c arg18 f18)
    ⊢ wp frame (wpE (defs₀ (F := F)) Variants.none (c : Thread nD τ) none) Set.univ
        (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(has c arg2 f2 ∗ has c arg3 f3 ∗ has c arg4 f4 ∗ has c arg5 f5 ∗ has c arg6 f6 ∗ has c arg7 f7 ∗ has c arg8 f8 ∗ has c arg9 f9 ∗ has c arg10 f10 ∗ has c arg11 f11
          ∗ ownsTc c arg12 fullShare (dqOut (ptOf c arg2 arg3 arg4 arg5 arg6 arg7 arg8 arg9 arg10 arg11 f2 f3 f4 f5 f6 f7 f8 f9 f10 f11) i)
          ∗ ownsTc c arg13 fullShare (dkPoint (ptOf c arg2 arg3 arg4 arg5 arg6 arg7 arg8 arg9 arg10 arg11 f2 f3 f4 f5 f6 f7 f8 f9 f10 f11).ins i (arg13.view.read (Elt F) f13))
          ∗ ownsTc c arg14 fullShare (dvPoint (ptOf c arg2 arg3 arg4 arg5 arg6 arg7 arg8 arg9 arg10 arg11 f2 f3 f4 f5 f6 f7 f8 f9 f10 f11).ins i (arg14.view.read (Elt F) f14))
          ∗ ownsTc c arg15 fullShare (dmzOut (ptOf c arg2 arg3 arg4 arg5 arg6 arg7 arg8 arg9 arg10 arg11 f2 f3 f4 f5 f6 f7 f8 f9 f10 f11))
          ∗ (∃ f, has c arg16 f) ∗ (∃ f, has c arg17 f) ∗ (∃ f, has c arg18 f))) := by
  iintro ⟨H2, H3, H4, H5, H6, H7, H8, H9, H10, H11, H12, H13, H14, H15, H16, H17, H18⟩
  have hodd := (cond2_iff i).mp hc2
  haveI : Fact (k0_cond2 i = 1#1) := ⟨hc2⟩
  rw [cc0_flash_bwd_eq_skeleton]
  unfold cc0_flash_bwd_skel
  rw [k0_part23_eq_skeleton, k0_part24_eq_skeleton, k0_part25_eq_skeleton, k0_part26_eq_skeleton, k0_part27_eq_skeleton, k0_part28_eq_skeleton]
  unfold k0_part25_skel
  rw [k0_part19_eq_skeleton, k0_part20_eq_skeleton, k0_part21_eq_skeleton, k0_part22_eq_skeleton]
  sl_exec (disch := assumption)
  sl_step
  have hI : (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) = (ptOf c arg2 arg3 arg4 arg5 arg6 arg7 arg8 arg9 arg10 arg11 f2 f3 f4 f5 f6 f7 f8 f9 f10 f11).ins := by
    unfold insOf Pt.ins ptOf
    congr 1
    · exact (View.read_writes_full _ _ _ _ _).trans (congr (congr (congrArg k0_pay163 (View.readAt_full _ _ _)) (View.readAt_full _ _ _)) (View.readAt_full _ _ _))
    · exact (View.read_writes_full _ _ _ _ _).trans (congr (congrArg k0_pay164 (View.readAt_full _ _ _)) (View.readAt_full _ _ _))
  have hX : arg16.view.read (Elt F) (acc16 c i arg16 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) (arg16.view.writes (Elt F) arg16.view.junk [⟨Rect.unit ![0, 0] S1024x256.size inb_S1024x256_S1024x256_0_0, k0_pay166 k0_pay165⟩]) (k0_t1_loop i).trips) = dqSweep (ptOf c arg2 arg3 arg4 arg5 arg6 arg7 arg8 arg9 arg10 arg11 f2 f3 f4 f5 f6 f7 f8 f9 f10 f11).ins i (k0_pay166 k0_pay165) (k0_t1_loop i).trips := by
    rw [read_acc16, hI]
    congr 1
    exact View.read_writes_full _ _ _ _ _
  have hE13 : dkSweep (ptOf c arg2 arg3 arg4 arg5 arg6 arg7 arg8 arg9 arg10 arg11 f2 f3 f4 f5 f6 f7 f8 f9 f10 f11).ins i (arg13.view.read (Elt F) f13) (k0_t1_loop i).trips = arg13.view.read (Elt F) (acc13 c i arg13 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f13 (k0_t1_loop i).trips) := by
    rw [read_acc13, hI]
  have hE14 : dvSweep (ptOf c arg2 arg3 arg4 arg5 arg6 arg7 arg8 arg9 arg10 arg11 f2 f3 f4 f5 f6 f7 f8 f9 f10 f11).ins i (arg14.view.read (Elt F) f14) (k0_t1_loop i).trips = arg14.view.read (Elt F) (acc14 c i arg14 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f14 (k0_t1_loop i).trips) := by
    rw [read_acc14, hI]
  have e2 : body_odd.sl.H16_2 c i arg2 arg3 arg4 arg5 arg6 arg7 arg8 arg16 arg17 arg18 f2 f3 f4 f5 f6 f7 f8 hc2 = odd2 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) i hc2 (arg16.view.read (Elt F) (acc16 c i arg16 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := rfl
  have e3 : body_odd.sl.H16_3 c i arg2 arg3 arg4 arg5 arg6 arg7 arg8 arg16 arg17 arg18 f2 f3 f4 f5 f6 f7 f8 hc2 = odd3 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) i arg16.view hc2 (arg16.view.read (Elt F) (acc16 c i arg16 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := by
    unfold odd3; rw [← e2]; rfl
  have e4 : body_odd.sl.H16_4 c i arg2 arg3 arg4 arg5 arg6 arg7 arg8 arg16 arg17 arg18 f2 f3 f4 f5 f6 f7 f8 hc2 = odd4 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) i arg16.view hc2 (arg16.view.read (Elt F) (acc16 c i arg16 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := by
    unfold odd4; rw [← e3]; rfl
  have e5 : body_odd.sl.H16_5 c i arg2 arg3 arg4 arg5 arg6 arg7 arg8 arg16 arg17 arg18 f2 f3 f4 f5 f6 f7 f8 hc2 = odd5 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) i arg16.view hc2 (arg16.view.read (Elt F) (acc16 c i arg16 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := by
    unfold odd5; rw [← e4]; rfl
  have e6 : body_odd.sl.H16_6 c i arg2 arg3 arg4 arg5 arg6 arg7 arg8 arg16 arg17 arg18 f2 f3 f4 f5 f6 f7 f8 hc2 = odd6 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) i arg16.view hc2 (arg16.view.read (Elt F) (acc16 c i arg16 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := by
    unfold odd6; rw [← e5]; rfl
  have e7 : body_odd.sl.H16_7 c i arg2 arg3 arg4 arg5 arg6 arg7 arg8 arg16 arg17 arg18 f2 f3 f4 f5 f6 f7 f8 hc2 = odd7 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) i arg16.view hc2 (arg16.view.read (Elt F) (acc16 c i arg16 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := by
    unfold odd7; rw [← e6]; rfl
  have hdq : body_odd.sl.v206 c i arg2 arg3 arg4 arg5 arg6 arg7 arg8 arg16 arg17 arg18 f2 f3 f4 f5 f6 f7 f8 hc2 = dqPoint (ptOf c arg2 arg3 arg4 arg5 arg6 arg7 arg8 arg9 arg10 arg11 f2 f3 f4 f5 f6 f7 f8 f9 f10 f11).ins i := by
    rw [dqPoint_odd _ _ hc2, ← hX, ← hI, ← readCov_odd7 _ _ _ hc2, ← e7]
    rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (owns_of c arg12 _ (read_dqOut (ptOf c arg2 arg3 arg4 arg5 arg6 arg7 arg8 arg9 arg10 arg11 f2 f3 f4 f5 f6 f7 f8 f9 f10 f11) i arg12 f12 (body_odd.sl.v206 c i arg2 arg3 arg4 arg5 arg6 arg7 arg8 arg16 arg17 arg18 f2 f3 f4 f5 f6 f7 f8 hc2) hdq _ _ _ (View.readAt_full arg9.view f9 inb_S1024x128_S1024x128_0_0) (View.readAt_full arg10.view f10 inb_S1024x128_S1024x128_0_0) (View.readAt_full arg11.view f11 inb_S1024x128_S1024x128_0_0)))
    iexact H12
  isplitl [H13]
  · iapply (owns_of c arg13 _ ?h13)
    pick_goal 2
    · iexact H13
    rw [dkPoint_odd _ _ hc2, hE13, ← hI]
    have hge : 1 ≤ (i 1).val := by omega
    have x0 : (k0_off5 i 2#32) 1 = 1024 * (i 1).val - 1024 := congrFun (off5_eq i hc2 1) 1
    have x1 : (k0_off5 i 1#32) 1 = 1024 * (i 1).val - 512 := congrFun (off5_eq i hc2 0) 1
    have x2 : (k0_off7 i) 1 = 1024 * (i 1).val := congrFun (off7_eq i) 1
    have x3 : (k0_off9 i) 1 = 1024 * (i 1).val + 512 := congrFun (off9_eq i) 1
    have q1 : body_odd.sl.H13_1 c i arg2 arg3 arg4 arg5 arg6 arg7 arg8 arg13 arg17 arg18 f2 f3 f4 f5 f6 f7 f8 f13 hc2 = [(⟨kBox (k0_off5 i 2#32) (k0_off5_inb i hc2 1), (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))).dkFull (k0_off5 i 2#32) (k0_off5_inb i hc2 1) (k0_off6 i 2#32) (k0_off6_inb i hc2 1) (View.ld (arg13.view.read (Elt F) (acc13 c i arg13 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f13 (k0_t1_loop i).trips)) (kBox (k0_off5 i 2#32) (k0_off5_inb i hc2 1)))⟩ : View.Piece (Elt F) S1x8192x256 .f32)] := rfl
    have ev1 : body_odd.sl.v377 c i arg2 arg3 arg4 arg5 arg6 arg7 arg8 arg13 arg17 arg18 f2 f3 f4 f5 f6 f7 f8 f13 hc2 = (View.ld (arg13.view.read (Elt F) (acc13 c i arg13 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f13 (k0_t1_loop i).trips)) (kBox (k0_off5 i 1#32) (k0_off5_inb i hc2 0))) := by
      refine (congrArg (fun X => View.ld X (kBox (k0_off5 i 1#32) (k0_off5_inb i hc2 0))) (read_writes_put arg13.view _ (body_odd.sl.H13_1 c i arg2 arg3 arg4 arg5 arg6 arg7 arg8 arg13 arg17 arg18 f2 f3 f4 f5 f6 f7 f8 f13 hc2))).trans (ld_put_all _ _ _ ?_)
      rw [q1]
      exact List.forall_mem_cons.mpr ⟨kBox_miss (k0_off5 i 1#32) (k0_off5 i 2#32) (k0_off5_inb i hc2 0) (k0_off5_inb i hc2 1) (by omega), fun _ hp => absurd hp List.not_mem_nil⟩
    have q2 : body_odd.sl.H13_2 c i arg2 arg3 arg4 arg5 arg6 arg7 arg8 arg13 arg17 arg18 f2 f3 f4 f5 f6 f7 f8 f13 hc2 = (⟨kBox (k0_off5 i 1#32) (k0_off5_inb i hc2 0), (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))).dkFull (k0_off5 i 1#32) (k0_off5_inb i hc2 0) (k0_off6 i 1#32) (k0_off6_inb i hc2 0) (body_odd.sl.v377 c i arg2 arg3 arg4 arg5 arg6 arg7 arg8 arg13 arg17 arg18 f2 f3 f4 f5 f6 f7 f8 f13 hc2)⟩ : View.Piece (Elt F) S1x8192x256 .f32) :: body_odd.sl.H13_1 c i arg2 arg3 arg4 arg5 arg6 arg7 arg8 arg13 arg17 arg18 f2 f3 f4 f5 f6 f7 f8 f13 hc2 := rfl
    rw [ev1] at q2
    have ev2 : body_odd.sl.v144 c i arg2 arg3 arg4 arg5 arg6 arg7 arg8 arg13 arg17 arg18 f2 f3 f4 f5 f6 f7 f8 f13 hc2 = (View.ld (arg13.view.read (Elt F) (acc13 c i arg13 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f13 (k0_t1_loop i).trips)) (kBox (k0_off7 i) (k0_off7_inb i))) := by
      refine (congrArg (fun X => View.ld X (kBox (k0_off7 i) (k0_off7_inb i))) (read_writes_put arg13.view _ (body_odd.sl.H13_2 c i arg2 arg3 arg4 arg5 arg6 arg7 arg8 arg13 arg17 arg18 f2 f3 f4 f5 f6 f7 f8 f13 hc2))).trans (ld_put_all _ _ _ ?_)
      rw [q2, q1]
      exact List.forall_mem_cons.mpr ⟨kBox_miss (k0_off7 i) (k0_off5 i 1#32) (k0_off7_inb i) (k0_off5_inb i hc2 0) (by omega), List.forall_mem_cons.mpr ⟨kBox_miss (k0_off7 i) (k0_off5 i 2#32) (k0_off7_inb i) (k0_off5_inb i hc2 1) (by omega), fun _ hp => absurd hp List.not_mem_nil⟩⟩
    have q3 : body_odd.sl.H13_3 c i arg2 arg3 arg4 arg5 arg6 arg7 arg8 arg13 arg17 arg18 f2 f3 f4 f5 f6 f7 f8 f13 hc2 = (⟨kBox (k0_off7 i) (k0_off7_inb i), (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))).dkDiag0 (k0_off7 i) (k0_off7_inb i) (k0_off8 i) (k0_off8_inb i) (body_odd.sl.v144 c i arg2 arg3 arg4 arg5 arg6 arg7 arg8 arg13 arg17 arg18 f2 f3 f4 f5 f6 f7 f8 f13 hc2)⟩ : View.Piece (Elt F) S1x8192x256 .f32) :: body_odd.sl.H13_2 c i arg2 arg3 arg4 arg5 arg6 arg7 arg8 arg13 arg17 arg18 f2 f3 f4 f5 f6 f7 f8 f13 hc2 := rfl
    rw [ev2] at q3
    have ev3 : body_odd.sl.v199 c i arg2 arg3 arg4 arg5 arg6 arg7 arg8 arg13 arg17 arg18 f2 f3 f4 f5 f6 f7 f8 f13 hc2 = (View.ld (arg13.view.read (Elt F) (acc13 c i arg13 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f13 (k0_t1_loop i).trips)) (kBox (k0_off9 i) (k0_off9_inb i))) := by
      refine (congrArg (fun X => View.ld X (kBox (k0_off9 i) (k0_off9_inb i))) (read_writes_put arg13.view _ (body_odd.sl.H13_3 c i arg2 arg3 arg4 arg5 arg6 arg7 arg8 arg13 arg17 arg18 f2 f3 f4 f5 f6 f7 f8 f13 hc2))).trans (ld_put_all _ _ _ ?_)
      rw [q3, q2, q1]
      exact List.forall_mem_cons.mpr ⟨kBox_miss (k0_off9 i) (k0_off7 i) (k0_off9_inb i) (k0_off7_inb i) (by omega), List.forall_mem_cons.mpr ⟨kBox_miss (k0_off9 i) (k0_off5 i 1#32) (k0_off9_inb i) (k0_off5_inb i hc2 0) (by omega), List.forall_mem_cons.mpr ⟨kBox_miss (k0_off9 i) (k0_off5 i 2#32) (k0_off9_inb i) (k0_off5_inb i hc2 1) (by omega), fun _ hp => absurd hp List.not_mem_nil⟩⟩⟩
    refine (read_writes_put _ _ _).trans (congrArg (put (arg13.view.read (Elt F) (acc13 c i arg13 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f13 (k0_t1_loop i).trips))) ?_)
    refine (show _ = (⟨kBox (k0_off9 i) (k0_off9_inb i), (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))).dkDiag1 (k0_off9 i) (k0_off9_inb i) (k0_off10 i) (k0_off10_inb i) (body_odd.sl.v199 c i arg2 arg3 arg4 arg5 arg6 arg7 arg8 arg13 arg17 arg18 f2 f3 f4 f5 f6 f7 f8 f13 hc2)⟩ : View.Piece (Elt F) S1x8192x256 .f32) :: body_odd.sl.H13_3 c i arg2 arg3 arg4 arg5 arg6 arg7 arg8 arg13 arg17 arg18 f2 f3 f4 f5 f6 f7 f8 f13 hc2 from rfl).trans ?_
    rw [ev3, q3, q2, q1]
    rfl

  isplitl [H14]
  · iapply (owns_of c arg14 _ ?h14)
    pick_goal 2
    · iexact H14
    rw [dvPoint_odd _ _ hc2, hE14, ← hI]
    have hge : 1 ≤ (i 1).val := by omega
    have x0 : (k0_off6 i 2#32) 1 = 1024 * (i 1).val - 1024 := congrFun (off6_eq i hc2 1) 1
    have x1 : (k0_off6 i 1#32) 1 = 1024 * (i 1).val - 512 := congrFun (off6_eq i hc2 0) 1
    have x2 : (k0_off8 i) 1 = 1024 * (i 1).val := congrFun (off8_eq i) 1
    have x3 : (k0_off10 i) 1 = 1024 * (i 1).val + 512 := congrFun (off10_eq i) 1
    have q1 : body_odd.sl.H14_1 c i arg2 arg3 arg4 arg5 arg6 arg7 arg8 arg14 arg17 arg18 f2 f3 f4 f5 f6 f7 f8 f14 hc2 = [(⟨vBox (k0_off6 i 2#32) (k0_off6_inb i hc2 1), (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))).dvFull (k0_off5 i 2#32) (k0_off5_inb i hc2 1) (View.ld (arg14.view.read (Elt F) (acc14 c i arg14 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f14 (k0_t1_loop i).trips)) (vBox (k0_off6 i 2#32) (k0_off6_inb i hc2 1)))⟩ : View.Piece (Elt F) S1x8192x128 .f32)] := rfl
    have ev1 : body_odd.sl.v369 c i arg2 arg3 arg4 arg5 arg6 arg7 arg8 arg14 arg17 arg18 f2 f3 f4 f5 f6 f7 f8 f14 hc2 = (View.ld (arg14.view.read (Elt F) (acc14 c i arg14 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f14 (k0_t1_loop i).trips)) (vBox (k0_off6 i 1#32) (k0_off6_inb i hc2 0))) := by
      refine (congrArg (fun X => View.ld X (vBox (k0_off6 i 1#32) (k0_off6_inb i hc2 0))) (read_writes_put arg14.view _ (body_odd.sl.H14_1 c i arg2 arg3 arg4 arg5 arg6 arg7 arg8 arg14 arg17 arg18 f2 f3 f4 f5 f6 f7 f8 f14 hc2))).trans (ld_put_all _ _ _ ?_)
      rw [q1]
      exact List.forall_mem_cons.mpr ⟨vBox_miss (k0_off6 i 1#32) (k0_off6 i 2#32) (k0_off6_inb i hc2 0) (k0_off6_inb i hc2 1) (by omega), fun _ hp => absurd hp List.not_mem_nil⟩
    have q2 : body_odd.sl.H14_2 c i arg2 arg3 arg4 arg5 arg6 arg7 arg8 arg14 arg17 arg18 f2 f3 f4 f5 f6 f7 f8 f14 hc2 = (⟨vBox (k0_off6 i 1#32) (k0_off6_inb i hc2 0), (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))).dvFull (k0_off5 i 1#32) (k0_off5_inb i hc2 0) (body_odd.sl.v369 c i arg2 arg3 arg4 arg5 arg6 arg7 arg8 arg14 arg17 arg18 f2 f3 f4 f5 f6 f7 f8 f14 hc2)⟩ : View.Piece (Elt F) S1x8192x128 .f32) :: body_odd.sl.H14_1 c i arg2 arg3 arg4 arg5 arg6 arg7 arg8 arg14 arg17 arg18 f2 f3 f4 f5 f6 f7 f8 f14 hc2 := rfl
    rw [ev1] at q2
    have ev2 : body_odd.sl.v136 c i arg2 arg3 arg4 arg5 arg6 arg7 arg8 arg14 arg17 arg18 f2 f3 f4 f5 f6 f7 f8 f14 hc2 = (View.ld (arg14.view.read (Elt F) (acc14 c i arg14 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f14 (k0_t1_loop i).trips)) (vBox (k0_off8 i) (k0_off8_inb i))) := by
      refine (congrArg (fun X => View.ld X (vBox (k0_off8 i) (k0_off8_inb i))) (read_writes_put arg14.view _ (body_odd.sl.H14_2 c i arg2 arg3 arg4 arg5 arg6 arg7 arg8 arg14 arg17 arg18 f2 f3 f4 f5 f6 f7 f8 f14 hc2))).trans (ld_put_all _ _ _ ?_)
      rw [q2, q1]
      exact List.forall_mem_cons.mpr ⟨vBox_miss (k0_off8 i) (k0_off6 i 1#32) (k0_off8_inb i) (k0_off6_inb i hc2 0) (by omega), List.forall_mem_cons.mpr ⟨vBox_miss (k0_off8 i) (k0_off6 i 2#32) (k0_off8_inb i) (k0_off6_inb i hc2 1) (by omega), fun _ hp => absurd hp List.not_mem_nil⟩⟩
    have q3 : body_odd.sl.H14_3 c i arg2 arg3 arg4 arg5 arg6 arg7 arg8 arg14 arg17 arg18 f2 f3 f4 f5 f6 f7 f8 f14 hc2 = (⟨vBox (k0_off8 i) (k0_off8_inb i), (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))).dvDiag0 (k0_off7 i) (k0_off7_inb i) (body_odd.sl.v136 c i arg2 arg3 arg4 arg5 arg6 arg7 arg8 arg14 arg17 arg18 f2 f3 f4 f5 f6 f7 f8 f14 hc2)⟩ : View.Piece (Elt F) S1x8192x128 .f32) :: body_odd.sl.H14_2 c i arg2 arg3 arg4 arg5 arg6 arg7 arg8 arg14 arg17 arg18 f2 f3 f4 f5 f6 f7 f8 f14 hc2 := rfl
    rw [ev2] at q3
    have ev3 : body_odd.sl.v191 c i arg2 arg3 arg4 arg5 arg6 arg7 arg8 arg14 arg17 arg18 f2 f3 f4 f5 f6 f7 f8 f14 hc2 = (View.ld (arg14.view.read (Elt F) (acc14 c i arg14 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f14 (k0_t1_loop i).trips)) (vBox (k0_off10 i) (k0_off10_inb i))) := by
      refine (congrArg (fun X => View.ld X (vBox (k0_off10 i) (k0_off10_inb i))) (read_writes_put arg14.view _ (body_odd.sl.H14_3 c i arg2 arg3 arg4 arg5 arg6 arg7 arg8 arg14 arg17 arg18 f2 f3 f4 f5 f6 f7 f8 f14 hc2))).trans (ld_put_all _ _ _ ?_)
      rw [q3, q2, q1]
      exact List.forall_mem_cons.mpr ⟨vBox_miss (k0_off10 i) (k0_off8 i) (k0_off10_inb i) (k0_off8_inb i) (by omega), List.forall_mem_cons.mpr ⟨vBox_miss (k0_off10 i) (k0_off6 i 1#32) (k0_off10_inb i) (k0_off6_inb i hc2 0) (by omega), List.forall_mem_cons.mpr ⟨vBox_miss (k0_off10 i) (k0_off6 i 2#32) (k0_off10_inb i) (k0_off6_inb i hc2 1) (by omega), fun _ hp => absurd hp List.not_mem_nil⟩⟩⟩
    refine (read_writes_put _ _ _).trans (congrArg (put (arg14.view.read (Elt F) (acc14 c i arg14 (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))) f14 (k0_t1_loop i).trips))) ?_)
    refine (show _ = (⟨vBox (k0_off10 i) (k0_off10_inb i), (insOf c arg2 arg3 arg4 arg8 arg17 arg18 f2 f3 f4 f8 (arg17.view.writes (Elt F) arg17.view.junk (body_odd.sl.H17_1 c arg5 arg6 arg7 f5 f6 f7)) (arg18.view.writes (Elt F) arg18.view.junk (body_odd.sl.H18_1 c arg5 arg6 f5 f6))).dvDiag1 (k0_off9 i) (k0_off9_inb i) (body_odd.sl.v191 c i arg2 arg3 arg4 arg5 arg6 arg7 arg8 arg14 arg17 arg18 f2 f3 f4 f5 f6 f7 f8 f14 hc2)⟩ : View.Piece (Elt F) S1x8192x128 .f32) :: body_odd.sl.H14_3 c i arg2 arg3 arg4 arg5 arg6 arg7 arg8 arg14 arg17 arg18 f2 f3 f4 f5 f6 f7 f8 f14 hc2 from rfl).trans ?_
    rw [ev3, q3, q2, q1]
    rfl

  isplitl [H15]
  · iapply (owns_of c arg15 _ ?h15)
    pick_goal 2
    · iexact H15
    exact (View.read_writes_full _ _ _ _ _).trans (congr (congr (congrArg k0_pay162 (View.readAt_full _ _ _)) (View.readAt_full _ _ _)) (View.readAt_full _ _ _))
  isplitl [H16]
  · iexists _; iexact H16
  isplitl [H17]
  · iexists _; iexact H17
  iexists _; iexact H18

end Cert.KernelIdeal.Body

end

end
-- ==== Proof.BodyZero.lean ====
module

public import proofs.«01_k».proof.Proof.Point

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S1x8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x128 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1x1024x256 .bf16) (harg12 : arg12.IsWhole)
  (arg13 : Memref sig .tc .vmem S1x8192x256 .f32) (harg13 : arg13.IsWhole)
  (arg14 : Memref sig .tc .vmem S1x8192x128 .f32) (harg14 : arg14.IsWhole)
  (arg15 : Memref sig .tc .vmem S1024x128 .bf16) (harg15 : arg15.IsWhole)
  (arg16 : Memref sig .tc .vmem S1024x256 .f32) (harg16 : arg16.IsWhole)
  (arg17 : Memref sig .tc .vmem S1024x128 .f32) (harg17 : arg17.IsWhole)
  (arg18 : Memref sig .tc .vmem S1024x128 .bf16) (harg18 : arg18.IsWhole)

variable (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ)))

set_option maxHeartbeats 4000000 in
theorem body_zero (hc1 : Scalar.cmpi .ne (Scalar.extui (Scalar.cmpi .eq (BitVec.ofNat 32 (i 1).val) 0#32)) 0#32 = 1#1) (hc2 : ¬ k0_cond2 i = 1#1) :
    iprop(has c arg2 f2 ∗ has c arg3 f3 ∗ has c arg4 f4 ∗ has c arg5 f5 ∗ has c arg6 f6 ∗ has c arg7 f7 ∗ has c arg8 f8 ∗ has c arg9 f9 ∗ has c arg10 f10 ∗ has c arg11 f11 ∗ has c arg12 f12 ∗ has c arg13 f13 ∗ has c arg14 f14 ∗ has c arg15 f15 ∗ has c arg16 f16 ∗ has c arg17 f17 ∗ has c arg18 f18)
    ⊢ wp frame (wpE (defs₀ (F := F)) Variants.none (c : Thread nD τ) none) Set.univ
        (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(has c arg2 f2 ∗ has c arg3 f3 ∗ has c arg4 f4 ∗ has c arg5 f5 ∗ has c arg6 f6 ∗ has c arg7 f7 ∗ has c arg8 f8 ∗ has c arg9 f9 ∗ has c arg10 f10 ∗ has c arg11 f11
          ∗ ownsTc c arg12 fullShare (dqOut (ptOf c arg2 arg3 arg4 arg5 arg6 arg7 arg8 arg9 arg10 arg11 f2 f3 f4 f5 f6 f7 f8 f9 f10 f11) i)
          ∗ ownsTc c arg13 fullShare (dkPoint (ptOf c arg2 arg3 arg4 arg5 arg6 arg7 arg8 arg9 arg10 arg11 f2 f3 f4 f5 f6 f7 f8 f9 f10 f11).ins i k0_pay157)
          ∗ ownsTc c arg14 fullShare (dvPoint (ptOf c arg2 arg3 arg4 arg5 arg6 arg7 arg8 arg9 arg10 arg11 f2 f3 f4 f5 f6 f7 f8 f9 f10 f11).ins i k0_pay158)
          ∗ ownsTc c arg15 fullShare (dmzOut (ptOf c arg2 arg3 arg4 arg5 arg6 arg7 arg8 arg9 arg10 arg11 f2 f3 f4 f5 f6 f7 f8 f9 f10 f11))
          ∗ (∃ f, has c arg16 f) ∗ (∃ f, has c arg17 f) ∗ (∃ f, has c arg18 f))) := by
  iintro ⟨H2, H3, H4, H5, H6, H7, H8, H9, H10, H11, H12, H13, H14, H15, H16, H17, H18⟩
  rw [cc0_flash_bwd_eq_skeleton]
  unfold cc0_flash_bwd_skel
  rw [k0_part23_eq_skeleton, k0_part24_eq_skeleton, k0_part25_eq_skeleton, k0_part26_eq_skeleton, k0_part27_eq_skeleton, k0_part28_eq_skeleton]
  unfold k0_part25_skel
  rw [k0_part19_eq_skeleton, k0_part20_eq_skeleton, k0_part21_eq_skeleton, k0_part22_eq_skeleton]
  sl_exec (disch := assumption)
  sl_step
  have hI : (insOf c arg2 arg3 arg4 arg8 arg17 arg18 f2 f3 f4 f8 (arg17.view.writes (Elt F) arg17.view.junk (body_zero.sl.H17_1 c arg5 arg6 arg7 f5 f6 f7)) (arg18.view.writes (Elt F) arg18.view.junk (body_zero.sl.H18_1 c arg5 arg6 f5 f6))) = (ptOf c arg2 arg3 arg4 arg5 arg6 arg7 arg8 arg9 arg10 arg11 f2 f3 f4 f5 f6 f7 f8 f9 f10 f11).ins := by
    unfold insOf Pt.ins ptOf
    congr 1
    · exact (View.read_writes_full _ _ _ _ _).trans (congr (congr (congrArg k0_pay163 (View.readAt_full _ _ _)) (View.readAt_full _ _ _)) (View.readAt_full _ _ _))
    · exact (View.read_writes_full _ _ _ _ _).trans (congr (congrArg k0_pay164 (View.readAt_full _ _ _)) (View.readAt_full _ _ _))
  have hX : arg16.view.read (Elt F) (acc16 c i arg16 (insOf c arg2 arg3 arg4 arg8 arg17 arg18 f2 f3 f4 f8 (arg17.view.writes (Elt F) arg17.view.junk (body_zero.sl.H17_1 c arg5 arg6 arg7 f5 f6 f7)) (arg18.view.writes (Elt F) arg18.view.junk (body_zero.sl.H18_1 c arg5 arg6 f5 f6))) (arg16.view.writes (Elt F) arg16.view.junk [⟨Rect.unit ![0, 0] S1024x256.size inb_S1024x256_S1024x256_0_0, k0_pay166 k0_pay165⟩]) (k0_t1_loop i).trips) = dqSweep (ptOf c arg2 arg3 arg4 arg5 arg6 arg7 arg8 arg9 arg10 arg11 f2 f3 f4 f5 f6 f7 f8 f9 f10 f11).ins i (k0_pay166 k0_pay165) (k0_t1_loop i).trips := by
    rw [read_acc16, hI]
    congr 1
    exact View.read_writes_full _ _ _ _ _
  have hE13 : dkSweep (ptOf c arg2 arg3 arg4 arg5 arg6 arg7 arg8 arg9 arg10 arg11 f2 f3 f4 f5 f6 f7 f8 f9 f10 f11).ins i k0_pay157 (k0_t1_loop i).trips = arg13.view.read (Elt F) (acc13 c i arg13 (insOf c arg2 arg3 arg4 arg8 arg17 arg18 f2 f3 f4 f8 (arg17.view.writes (Elt F) arg17.view.junk (body_zero.sl.H17_1 c arg5 arg6 arg7 f5 f6 f7)) (arg18.view.writes (Elt F) arg18.view.junk (body_zero.sl.H18_1 c arg5 arg6 f5 f6))) (arg13.view.writes (Elt F) arg13.view.junk [⟨Rect.unit ![0, 0, 0] S1x8192x256.size inb_S1x8192x256_S1x8192x256_0_0_0, k0_pay157⟩]) (k0_t1_loop i).trips) := by
    rw [read_acc13, hI]; congr 1; exact (View.read_writes_full (Val := Elt F) arg13.view arg13.view.junk inb_S1x8192x256_S1x8192x256_0_0_0 k0_pay157 []).symm
  have hE14 : dvSweep (ptOf c arg2 arg3 arg4 arg5 arg6 arg7 arg8 arg9 arg10 arg11 f2 f3 f4 f5 f6 f7 f8 f9 f10 f11).ins i k0_pay158 (k0_t1_loop i).trips = arg14.view.read (Elt F) (acc14 c i arg14 (insOf c arg2 arg3 arg4 arg8 arg17 arg18 f2 f3 f4 f8 (arg17.view.writes (Elt F) arg17.view.junk (body_zero.sl.H17_1 c arg5 arg6 arg7 f5 f6 f7)) (arg18.view.writes (Elt F) arg18.view.junk (body_zero.sl.H18_1 c arg5 arg6 f5 f6))) (arg14.view.writes (Elt F) arg14.view.junk [⟨Rect.unit ![0, 0, 0] S1x8192x128.size inb_S1x8192x128_S1x8192x128_0_0_0, k0_pay158⟩]) (k0_t1_loop i).trips) := by
    rw [read_acc14, hI]; congr 1; exact (View.read_writes_full (Val := Elt F) arg14.view arg14.view.junk inb_S1x8192x128_S1x8192x128_0_0_0 k0_pay158 []).symm
  have e2 : body_zero.sl.H16_2 c i arg2 arg3 arg4 arg5 arg6 arg7 arg8 arg16 arg17 arg18 f2 f3 f4 f5 f6 f7 f8 = even2 (insOf c arg2 arg3 arg4 arg8 arg17 arg18 f2 f3 f4 f8 (arg17.view.writes (Elt F) arg17.view.junk (body_zero.sl.H17_1 c arg5 arg6 arg7 f5 f6 f7)) (arg18.view.writes (Elt F) arg18.view.junk (body_zero.sl.H18_1 c arg5 arg6 f5 f6))) i (arg16.view.read (Elt F) (acc16 c i arg16 (insOf c arg2 arg3 arg4 arg8 arg17 arg18 f2 f3 f4 f8 (arg17.view.writes (Elt F) arg17.view.junk (body_zero.sl.H17_1 c arg5 arg6 arg7 f5 f6 f7)) (arg18.view.writes (Elt F) arg18.view.junk (body_zero.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := rfl
  have e3 : body_zero.sl.H16_3 c i arg2 arg3 arg4 arg5 arg6 arg7 arg8 arg16 arg17 arg18 f2 f3 f4 f5 f6 f7 f8 = even3 (insOf c arg2 arg3 arg4 arg8 arg17 arg18 f2 f3 f4 f8 (arg17.view.writes (Elt F) arg17.view.junk (body_zero.sl.H17_1 c arg5 arg6 arg7 f5 f6 f7)) (arg18.view.writes (Elt F) arg18.view.junk (body_zero.sl.H18_1 c arg5 arg6 f5 f6))) i arg16.view (arg16.view.read (Elt F) (acc16 c i arg16 (insOf c arg2 arg3 arg4 arg8 arg17 arg18 f2 f3 f4 f8 (arg17.view.writes (Elt F) arg17.view.junk (body_zero.sl.H17_1 c arg5 arg6 arg7 f5 f6 f7)) (arg18.view.writes (Elt F) arg18.view.junk (body_zero.sl.H18_1 c arg5 arg6 f5 f6))) (arg16.view.writes (Elt F) arg16.view.junk [⟨Rect.unit ![0, 0] S1024x256.size inb_S1024x256_S1024x256_0_0, k0_pay166 k0_pay165⟩]) (k0_t1_loop i).trips)) := by
    unfold even3; rw [← e2]; rfl
  have hdq : body_zero.sl.v206 c i arg2 arg3 arg4 arg5 arg6 arg7 arg8 arg16 arg17 arg18 f2 f3 f4 f5 f6 f7 f8 = dqPoint (ptOf c arg2 arg3 arg4 arg5 arg6 arg7 arg8 arg9 arg10 arg11 f2 f3 f4 f5 f6 f7 f8 f9 f10 f11).ins i := by
    rw [dqPoint_even _ _ hc2, ← hX, ← hI, ← readCov_even3 _ _ _ hc2, ← e3]
    rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (owns_of c arg12 _ (read_dqOut (ptOf c arg2 arg3 arg4 arg5 arg6 arg7 arg8 arg9 arg10 arg11 f2 f3 f4 f5 f6 f7 f8 f9 f10 f11) i arg12 f12 (body_zero.sl.v206 c i arg2 arg3 arg4 arg5 arg6 arg7 arg8 arg16 arg17 arg18 f2 f3 f4 f5 f6 f7 f8) hdq _ _ _ (View.readAt_full arg9.view f9 inb_S1024x128_S1024x128_0_0) (View.readAt_full arg10.view f10 inb_S1024x128_S1024x128_0_0) (View.readAt_full arg11.view f11 inb_S1024x128_S1024x128_0_0)))
    iexact H12
  isplitl [H13]
  · iapply (owns_of c arg13 _ ?h13)
    pick_goal 2
    · iexact H13
    rw [dkPoint_even _ _ hc2, hE13, ← hI]
    exact read_writes_put _ _ _
  isplitl [H14]
  · iapply (owns_of c arg14 _ ?h14)
    pick_goal 2
    · iexact H14
    rw [dvPoint_even _ _ hc2, hE14, ← hI]
    exact read_writes_put _ _ _
  isplitl [H15]
  · iapply (owns_of c arg15 _ ?h15)
    pick_goal 2
    · iexact H15
    exact (View.read_writes_full _ _ _ _ _).trans (congr (congr (congrArg k0_pay162 (View.readAt_full _ _ _)) (View.readAt_full _ _ _)) (View.readAt_full _ _ _))
  isplitl [H16]
  · iexists _; iexact H16
  isplitl [H17]
  · iexists _; iexact H17
  iexists _; iexact H18

end Cert.KernelIdeal.Body

end

end
-- ==== Proof.BodyAt.lean ====
module

public import proofs.«01_k».proof.Proof.BodyEven
public import proofs.«01_k».proof.Proof.BodyOdd
public import proofs.«01_k».proof.Proof.BodyZero

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S1x8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x128 .f32) (harg7 : arg7.IsWhole)
  (arg8 : Memref sig .tc .vmem S1x1024x128 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1x1024x256 .bf16) (harg12 : arg12.IsWhole)
  (arg13 : Memref sig .tc .vmem S1x8192x256 .f32) (harg13 : arg13.IsWhole)
  (arg14 : Memref sig .tc .vmem S1x8192x128 .f32) (harg14 : arg14.IsWhole)
  (arg15 : Memref sig .tc .vmem S1024x128 .bf16) (harg15 : arg15.IsWhole)
  (arg16 : Memref sig .tc .vmem S1024x256 .f32) (harg16 : arg16.IsWhole)
  (arg17 : Memref sig .tc .vmem S1024x128 .f32) (harg17 : arg17.IsWhole)
  (arg18 : Memref sig .tc .vmem S1024x128 .bf16) (harg18 : arg18.IsWhole)

/-- What the key gradients hold before a point adds to them: zero at the first point of a head. -/
def dkBase (i : grid0.Coords) (X : Vec F S1x8192x256 .f32) : Vec F S1x8192x256 .f32 := if (i 1).val = 0 then k0_pay157 else X
/-- What the value gradients hold before a point adds to them: zero at the first point of a head. -/
def dvBase (i : grid0.Coords) (X : Vec F S1x8192x128 .f32) : Vec F S1x8192x128 .f32 := if (i 1).val = 0 then k0_pay158 else X

/-- The body at any point: the three cases (the first point of a head, an even one, an odd one) as one triple. -/
theorem body_any (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) :
    iprop(has c arg2 f2 ∗ has c arg3 f3 ∗ has c arg4 f4 ∗ has c arg5 f5 ∗ has c arg6 f6 ∗ has c arg7 f7 ∗ has c arg8 f8 ∗ has c arg9 f9 ∗ has c arg10 f10 ∗ has c arg11 f11 ∗ has c arg12 f12 ∗ has c arg13 f13 ∗ has c arg14 f14 ∗ has c arg15 f15 ∗ has c arg16 f16 ∗ has c arg17 f17 ∗ has c arg18 f18)
    ⊢ wp frame (wpE (defs₀ (F := F)) Variants.none (c : Thread nD τ) none) Set.univ
        (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(has c arg2 f2 ∗ has c arg3 f3 ∗ has c arg4 f4 ∗ has c arg5 f5 ∗ has c arg6 f6 ∗ has c arg7 f7 ∗ has c arg8 f8 ∗ has c arg9 f9 ∗ has c arg10 f10 ∗ has c arg11 f11
          ∗ ownsTc c arg12 fullShare (dqOut (ptOf c arg2 arg3 arg4 arg5 arg6 arg7 arg8 arg9 arg10 arg11 f2 f3 f4 f5 f6 f7 f8 f9 f10 f11) i)
          ∗ ownsTc c arg13 fullShare (dkPoint (ptOf c arg2 arg3 arg4 arg5 arg6 arg7 arg8 arg9 arg10 arg11 f2 f3 f4 f5 f6 f7 f8 f9 f10 f11).ins i (dkBase i (arg13.view.read (Elt F) f13)))
          ∗ ownsTc c arg14 fullShare (dvPoint (ptOf c arg2 arg3 arg4 arg5 arg6 arg7 arg8 arg9 arg10 arg11 f2 f3 f4 f5 f6 f7 f8 f9 f10 f11).ins i (dvBase i (arg14.view.read (Elt F) f14)))
          ∗ ownsTc c arg15 fullShare (dmzOut (ptOf c arg2 arg3 arg4 arg5 arg6 arg7 arg8 arg9 arg10 arg11 f2 f3 f4 f5 f6 f7 f8 f9 f10 f11))
          ∗ (∃ f, has c arg16 f) ∗ (∃ f, has c arg17 f) ∗ (∃ f, has c arg18 f))) := by
  by_cases h0 : (i 1).val = 0
  · have e13 : ∀ X : Vec F S1x8192x256 .f32, dkBase i X = k0_pay157 := fun X => if_pos h0
    have e14 : ∀ X : Vec F S1x8192x128 .f32, dvBase i X = k0_pay158 := fun X => if_pos h0
    rw [e13, e14]
    exact body_zero c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f2 f3 f4 f5 f6 f7 f8 f9 f10 f11 f12 f13 f14 f15 f16 f17 f18 ((cond1_iff i).mpr h0) (fun h => by have := (cond2_iff i).mp h; omega)
  · have e13 : ∀ X : Vec F S1x8192x256 .f32, dkBase i X = X := fun X => if_neg h0
    have e14 : ∀ X : Vec F S1x8192x128 .f32, dvBase i X = X := fun X => if_neg h0
    rw [e13, e14]
    by_cases h1 : k0_cond2 i = 1#1
    · exact body_odd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f2 f3 f4 f5 f6 f7 f8 f9 f10 f11 f12 f13 f14 f15 f16 f17 f18 (fun h => h0 ((cond1_iff i).mp h)) h1
    · exact body_even c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f2 f3 f4 f5 f6 f7 f8 f9 f10 f11 f12 f13 f14 f15 f16 f17 f18 (fun h => h0 ((cond1_iff i).mp h)) h1

omit [FloatOps F] [Named F] in
theorem unread_of {s : Shape} {e : EltTy} (a : Memref sig .tc .vmem s e) (h : a.IsWhole) (X : s.Idx → Elt F e) :
    ownsTc c a fullShare X ⊢ (has c a (h.unread X) : sProp 𝕄) := by
  unfold ownsTc owns
  iintro ⟨%f, %hf, H⟩
  obtain rfl := h.eq_unread hf
  iexact H

/-- The body at any point, on buffers known by what they read, to any continuation. -/
theorem body_at (P : Pt F) (d12 : Vec F S1x1024x256 .bf16) (X13 : Vec F S1x8192x256 .f32) (X14 : Vec F S1x8192x128 .f32) (d15 : Vec F S1024x128 .bf16) (K : PUnit → sProp 𝕄) :
    iprop(ownsTc c arg2 fullShare P.q ∗ ownsTc c arg3 fullShare P.k ∗ ownsTc c arg4 fullShare P.v ∗ ownsTc c arg5 fullShare P.y ∗ ownsTc c arg6 fullShare P.z ∗ ownsTc c arg7 fullShare P.o ∗ ownsTc c arg8 fullShare P.l ∗ ownsTc c arg9 fullShare P.c ∗ ownsTc c arg10 fullShare P.sa ∗ ownsTc c arg11 fullShare P.sb
      ∗ ownsTc c arg12 fullShare d12 ∗ ownsTc c arg13 fullShare X13 ∗ ownsTc c arg14 fullShare X14 ∗ ownsTc c arg15 fullShare d15
      ∗ (∃ f, has c arg16 f) ∗ (∃ f, has c arg17 f) ∗ (∃ f, has c arg18 f)
      ∗ (iprop(ownsTc c arg2 fullShare P.q ∗ ownsTc c arg3 fullShare P.k ∗ ownsTc c arg4 fullShare P.v ∗ ownsTc c arg5 fullShare P.y ∗ ownsTc c arg6 fullShare P.z ∗ ownsTc c arg7 fullShare P.o ∗ ownsTc c arg8 fullShare P.l ∗ ownsTc c arg9 fullShare P.c ∗ ownsTc c arg10 fullShare P.sa ∗ ownsTc c arg11 fullShare P.sb
          ∗ ownsTc c arg12 fullShare (dqOut P i)
          ∗ ownsTc c arg13 fullShare (dkPoint P.ins i (dkBase i X13))
          ∗ ownsTc c arg14 fullShare (dvPoint P.ins i (dvBase i X14))
          ∗ ownsTc c arg15 fullShare (dmzOut P)
          ∗ (∃ f, has c arg16 f) ∗ (∃ f, has c arg17 f) ∗ (∃ f, has c arg18 f)) -∗ K ⟨⟩))
    ⊢ wp frame (wpE (defs₀ (F := F)) Variants.none (c : Thread nD τ) none) Set.univ
        (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  refine BIBase.Entails.trans ?_ (wp_wand_r _ _ _ (Q := fun _ => iprop(ownsTc c arg2 fullShare P.q ∗ ownsTc c arg3 fullShare P.k ∗ ownsTc c arg4 fullShare P.v ∗ ownsTc c arg5 fullShare P.y ∗ ownsTc c arg6 fullShare P.z ∗ ownsTc c arg7 fullShare P.o ∗ ownsTc c arg8 fullShare P.l ∗ ownsTc c arg9 fullShare P.c ∗ ownsTc c arg10 fullShare P.sa ∗ ownsTc c arg11 fullShare P.sb
          ∗ ownsTc c arg12 fullShare (dqOut P i)
          ∗ ownsTc c arg13 fullShare (dkPoint P.ins i (dkBase i X13))
          ∗ ownsTc c arg14 fullShare (dvPoint P.ins i (dvBase i X14))
          ∗ ownsTc c arg15 fullShare (dmzOut P)
          ∗ (∃ f, has c arg16 f) ∗ (∃ f, has c arg17 f) ∗ (∃ f, has c arg18 f))))
  iintro ⟨H2, H3, H4, H5, H6, H7, H8, H9, H10, H11, H12, H13, H14, H15, ⟨%f16, H16⟩, ⟨%f17, H17⟩, ⟨%f18, H18⟩, HK⟩
  isplitr [HK]
  · have hb := body_any c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg2.unread P.q) (harg3.unread P.k) (harg4.unread P.v) (harg5.unread P.y) (harg6.unread P.z) (harg7.unread P.o) (harg8.unread P.l) (harg9.unread P.c) (harg10.unread P.sa) (harg11.unread P.sb) (harg12.unread d12) (harg13.unread X13) (harg14.unread X14) (harg15.unread d15) f16 f17 f18
    have eP : (ptOf c arg2 arg3 arg4 arg5 arg6 arg7 arg8 arg9 arg10 arg11 (harg2.unread P.q) (harg3.unread P.k) (harg4.unread P.v) (harg5.unread P.y) (harg6.unread P.z) (harg7.unread P.o) (harg8.unread P.l) (harg9.unread P.c) (harg10.unread P.sa) (harg11.unread P.sb)) = P := by
      unfold ptOf
      rw [harg2.read_unread, harg3.read_unread, harg4.read_unread, harg5.read_unread, harg6.read_unread, harg7.read_unread, harg8.read_unread, harg9.read_unread, harg10.read_unread, harg11.read_unread]
    rw [eP, harg13.read_unread, harg14.read_unread] at hb
    have hb' := hb.trans (wp_mono frame _ Set.univ (Q' := fun _ => iprop(ownsTc c arg2 fullShare P.q ∗ ownsTc c arg3 fullShare P.k ∗ ownsTc c arg4 fullShare P.v ∗ ownsTc c arg5 fullShare P.y ∗ ownsTc c arg6 fullShare P.z ∗ ownsTc c arg7 fullShare P.o ∗ ownsTc c arg8 fullShare P.l ∗ ownsTc c arg9 fullShare P.c ∗ ownsTc c arg10 fullShare P.sa ∗ ownsTc c arg11 fullShare P.sb
          ∗ ownsTc c arg12 fullShare (dqOut P i)
          ∗ ownsTc c arg13 fullShare (dkPoint P.ins i (dkBase i X13))
          ∗ ownsTc c arg14 fullShare (dvPoint P.ins i (dvBase i X14))
          ∗ ownsTc c arg15 fullShare (dmzOut P)
          ∗ (∃ f, has c arg16 f) ∗ (∃ f, has c arg17 f) ∗ (∃ f, has c arg18 f))) (fun _ => by
      iintro ⟨H2, H3, H4, H5, H6, H7, H8, H9, H10, H11, HR⟩
      isplitl [H2]
      · iapply (owns_of c arg2 _ (harg2.read_unread P.q)); iexact H2
      isplitl [H3]
      · iapply (owns_of c arg3 _ (harg3.read_unread P.k)); iexact H3
      isplitl [H4]
      · iapply (owns_of c arg4 _ (harg4.read_unread P.v)); iexact H4
      isplitl [H5]
      · iapply (owns_of c arg5 _ (harg5.read_unread P.y)); iexact H5
      isplitl [H6]
      · iapply (owns_of c arg6 _ (harg6.read_unread P.z)); iexact H6
      isplitl [H7]
      · iapply (owns_of c arg7 _ (harg7.read_unread P.o)); iexact H7
      isplitl [H8]
      · iapply (owns_of c arg8 _ (harg8.read_unread P.l)); iexact H8
      isplitl [H9]
      · iapply (owns_of c arg9 _ (harg9.read_unread P.c)); iexact H9
      isplitl [H10]
      · iapply (owns_of c arg10 _ (harg10.read_unread P.sa)); iexact H10
      isplitl [H11]
      · iapply (owns_of c arg11 _ (harg11.read_unread P.sb)); iexact H11
      iexact HR))
    iapply hb'
    isplitl [H2]
    · iapply (unread_of c arg2 harg2 _); iexact H2
    isplitl [H3]
    · iapply (unread_of c arg3 harg3 _); iexact H3
    isplitl [H4]
    · iapply (unread_of c arg4 harg4 _); iexact H4
    isplitl [H5]
    · iapply (unread_of c arg5 harg5 _); iexact H5
    isplitl [H6]
    · iapply (unread_of c arg6 harg6 _); iexact H6
    isplitl [H7]
    · iapply (unread_of c arg7 harg7 _); iexact H7
    isplitl [H8]
    · iapply (unread_of c arg8 harg8 _); iexact H8
    isplitl [H9]
    · iapply (unread_of c arg9 harg9 _); iexact H9
    isplitl [H10]
    · iapply (unread_of c arg10 harg10 _); iexact H10
    isplitl [H11]
    · iapply (unread_of c arg11 harg11 _); iexact H11
    isplitl [H12]
    · iapply (unread_of c arg12 harg12 _); iexact H12
    isplitl [H13]
    · iapply (unread_of c arg13 harg13 _); iexact H13
    isplitl [H14]
    · iapply (unread_of c arg14 harg14 _); iexact H14
    isplitl [H15]
    · iapply (unread_of c arg15 harg15 _); iexact H15
    isplitl [H16]; · iexact H16
    isplitl [H17]; · iexact H17
    iexact H18
  · iintro %a H
    cases a
    iapply HK
    iexact H

end Cert.KernelIdeal.Body

end

end
-- ==== Proof.Run.lean ====
module

public import proofs.«01_k».proof.Proof.BodyAt
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks grid point `t` reads. -/
def ptAt (c : Dev nD) (t : Fin cfg0.N) : Pt F :=
  ⟨iblk m c 0 t, iblk m c 1 t, iblk m c 2 t, iblk m c 3 t, iblk m c 4 t, iblk m c 5 t, iblk m c 6 t, iblk m c 7 t, iblk m c 8 t, iblk m c 9 t⟩

/-- The key gradients' block after point `n`. -/
def dkAfter (c : Dev nD) : (n : ℕ) → n < cfg0.N → Vec F S1x8192x256 .f32
  | 0, h => dkPoint (ptAt m c ⟨0, h⟩).ins (grid0.coords ⟨0, h⟩) (dkBase (grid0.coords ⟨0, h⟩) k0_pay157)
  | n + 1, h => dkPoint (ptAt m c ⟨n + 1, h⟩).ins (grid0.coords ⟨n + 1, h⟩) (dkBase (grid0.coords ⟨n + 1, h⟩) (dkAfter c n (by omega)))
/-- The value gradients' block after point `n`. -/
def dvAfter (c : Dev nD) : (n : ℕ) → n < cfg0.N → Vec F S1x8192x128 .f32
  | 0, h => dvPoint (ptAt m c ⟨0, h⟩).ins (grid0.coords ⟨0, h⟩) (dvBase (grid0.coords ⟨0, h⟩) k0_pay158)
  | n + 1, h => dvPoint (ptAt m c ⟨n + 1, h⟩).ins (grid0.coords ⟨n + 1, h⟩) (dvBase (grid0.coords ⟨n + 1, h⟩) (dvAfter c n (by omega)))

/-- The grid's inner coordinate. -/
theorem coords_1 : ∀ t : Fin cfg0.N, (grid0.coords t 1).val = t.val % 8 := by decide +kernel
/-- The grid's outer coordinate: the head. -/
theorem coords_0 : ∀ t : Fin cfg0.N, (grid0.coords t 0).val = t.val / 8 := by decide +kernel

/-- The arrays as the region finds them; after the body each input's buffer at its block, the outputs' at what the
    point leaves; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dqOut (ptAt m c t) (grid0.coords t)
    | ⟨11, _⟩ => dkAfter m c t.val t.isLt
    | ⟨12, _⟩ => dvAfter m c t.val t.isLt
    | ⟨13, _⟩ => dmzOut (ptAt m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = dqOut (ptAt m c t) (grid0.coords t) := by dsimp only [dats]
theorem after0_11 (c : Dev nD) (t : Fin cfg0.N) : (dats m 0 c).after 11 t = dkAfter m c t.val t.isLt := by dsimp only [dats]
theorem after0_12 (c : Dev nD) (t : Fin cfg0.N) : (dats m 0 c).after 12 t = dvAfter m c t.val t.isLt := by dsimp only [dats]
theorem after0_13 (c : Dev nD) (t : Fin cfg0.N) : (dats m 0 c).after 13 t = dmzOut (ptAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the buffer of window 11 holds before a point: at a head's first point anything, else what the point before left; zeroed or kept, the point's result is `dkAfter`. -/
theorem dk_point (c : Dev nD) (t : Fin cfg0.N) (d) :
    dkPoint (ptAt m c t).ins (grid0.coords t) (dkBase (grid0.coords t) ((dats m 0 c).before 11 t d)) = dkAfter m c t.val t.isLt := by
  have hc := coords_1 t
  obtain ⟨n, hn⟩ := t
  by_cases h8 : n % 8 = 0
  · have e : ∀ X, dkBase (F := F) (grid0.coords ⟨n, hn⟩) X = k0_pay157 := fun X => if_pos (hc.trans h8)
    rw [e]
    cases n with
    | zero => show _ = dkPoint _ _ _; rw [e]
    | succ n => show _ = dkPoint _ _ _; rw [e]
  · cases n with
    | zero => exact absurd rfl h8
    | succ n =>
      have hfl : (cfg0.win 11).flush ⟨n, Nat.lt_of_succ_lt hn⟩ = false := by
        rw [Bool.eq_false_iff]
        intro h
        have h' : n % 8 = 7 := (flush0_11 _).mp h
        omega
      rw [(dats m 0 c).before_out_kept 11 rfl ⟨n + 1, hn⟩ (Nat.succ_ne_zero n) hfl (fun _ => rfl) (fun _ _ => rfl) d]
      rfl

/-- What the buffer of window 12 holds before a point: at a head's first point anything, else what the point before left; zeroed or kept, the point's result is `dvAfter`. -/
theorem dv_point (c : Dev nD) (t : Fin cfg0.N) (d) :
    dvPoint (ptAt m c t).ins (grid0.coords t) (dvBase (grid0.coords t) ((dats m 0 c).before 12 t d)) = dvAfter m c t.val t.isLt := by
  have hc := coords_1 t
  obtain ⟨n, hn⟩ := t
  by_cases h8 : n % 8 = 0
  · have e : ∀ X, dvBase (F := F) (grid0.coords ⟨n, hn⟩) X = k0_pay158 := fun X => if_pos (hc.trans h8)
    rw [e]
    cases n with
    | zero => show _ = dvPoint _ _ _; rw [e]
    | succ n => show _ = dvPoint _ _ _; rw [e]
  · cases n with
    | zero => exact absurd rfl h8
    | succ n =>
      have hfl : (cfg0.win 12).flush ⟨n, Nat.lt_of_succ_lt hn⟩ = false := by
        rw [Bool.eq_false_iff]
        intro h
        have h' : n % 8 = 7 := (flush0_12 _).mp h
        omega
      rw [(dats m 0 c).before_out_kept 12 rfl ⟨n + 1, hn⟩ (Nat.succ_ne_zero n) hfl (fun _ => rfl) (fun _ _ => rfl) d]
      rfl

theorem ptAt_q (c : Dev nD) (t : Fin cfg0.N) : (ptAt m c t).q = iblk m c 0 t := by dsimp only [ptAt]
theorem ptAt_k (c : Dev nD) (t : Fin cfg0.N) : (ptAt m c t).k = iblk m c 1 t := by dsimp only [ptAt]
theorem ptAt_v (c : Dev nD) (t : Fin cfg0.N) : (ptAt m c t).v = iblk m c 2 t := by dsimp only [ptAt]
theorem ptAt_y (c : Dev nD) (t : Fin cfg0.N) : (ptAt m c t).y = iblk m c 3 t := by dsimp only [ptAt]
theorem ptAt_z (c : Dev nD) (t : Fin cfg0.N) : (ptAt m c t).z = iblk m c 4 t := by dsimp only [ptAt]
theorem ptAt_o (c : Dev nD) (t : Fin cfg0.N) : (ptAt m c t).o = iblk m c 5 t := by dsimp only [ptAt]
theorem ptAt_l (c : Dev nD) (t : Fin cfg0.N) : (ptAt m c t).l = iblk m c 6 t := by dsimp only [ptAt]
theorem ptAt_c (c : Dev nD) (t : Fin cfg0.N) : (ptAt m c t).c = iblk m c 7 t := by dsimp only [ptAt]
theorem ptAt_sa (c : Dev nD) (t : Fin cfg0.N) : (ptAt m c t).sa = iblk m c 8 t := by dsimp only [ptAt]
theorem ptAt_sb (c : Dev nD) (t : Fin cfg0.N) : (ptAt m c t).sb = iblk m c 9 t := by dsimp only [ptAt]

theorem scratch0_has (c : Dev nD) : (iprop(∃ f : Buf (Elt F) ((c : Thread nD τ).loc cc0_scratch0), ((c : Thread nD τ).loc cc0_scratch0) ↦{fullShare} f) : sProp 𝕄)
    = iprop(∃ f, has c (Memref.whole cc0_scratch0 : Memref sig .tc .vmem S1024x256 .f32) f) := by
  unfold has
  rw [show (Memref.whole cc0_scratch0 : Memref sig .tc .vmem S1024x256 .f32).view.set = Finset.univ from View.set_whole _]

theorem scratch1_has (c : Dev nD) : (iprop(∃ f : Buf (Elt F) ((c : Thread nD τ).loc cc0_scratch1), ((c : Thread nD τ).loc cc0_scratch1) ↦{fullShare} f) : sProp 𝕄)
    = iprop(∃ f, has c (Memref.whole cc0_scratch1 : Memref sig .tc .vmem S1024x128 .f32) f) := by
  unfold has
  rw [show (Memref.whole cc0_scratch1 : Memref sig .tc .vmem S1024x128 .f32).view.set = Finset.univ from View.set_whole _]

theorem scratch2_has (c : Dev nD) : (iprop(∃ f : Buf (Elt F) ((c : Thread nD τ).loc cc0_scratch2), ((c : Thread nD τ).loc cc0_scratch2) ↦{fullShare} f) : sProp 𝕄)
    = iprop(∃ f, has c (Memref.whole cc0_scratch2 : Memref sig .tc .vmem S1024x128 .bf16) f) := by
  unfold has
  rw [show (Memref.whole cc0_scratch2 : Memref sig .tc .vmem S1024x128 .bf16).view.set = Finset.univ from View.set_whole _]

theorem defs₀_row (t : Fin cfg0.N) : defs₀ (F := F) .tc cfg0.body (cfg0.bodyArgs t (cfg0.slots t)) = bodyAt0 t := by
  unfold defs₀
  rw [Defs.onTc_tc]

set_option maxHeartbeats 2000000 in
theorem body_obligation (c : Dev nD) : BodyObligation (dats (F := F) m 0 c) (defs₀ (F := F)) Variants.none () Set.univ := fun t => by
  rw [bigSep_W0, bigSep_W0]
  rw [defs₀_row]
  simp only [before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, after0_10, after0_11, after0_12, after0_13]
  unfold Pipeline.ΦA
  rw [scopedRest0_eq, scratch0_has, scratch1_has, scratch2_has]
  iintro ⟨⟨⟨G0, G1, G2⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_at c (grid0.coords t) _ _ _ _ _ _ _ _ _ _ _ _ _ _ _ _ _ _ _ _ _ _ _ _ _ _ _ _ _ _ _ _ _ _ (ptAt m c t) ((dats m 0 c).before 10 t d10) ((dats m 0 c).before 11 t d11) ((dats m 0 c).before 12 t d12) ((dats m 0 c).before 13 t d13) _)
  rw [dk_point, dv_point, ptAt_q, ptAt_k, ptAt_v, ptAt_y, ptAt_z, ptAt_o, ptAt_l, ptAt_c, ptAt_sa, ptAt_sb]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [G0]; · iexact G0
  isplitl [G1]; · iexact G1
  isplitl [G2]; · iexact G2
  iintro ⟨H0, H1, H2, H3, H4, H5, H6, H7, H8, H9, H10, H11, H12, H13, G0, G1, G2⟩
  isplitl [HΦ G0 G1 G2]
  · isplitr [HΦ]
    · isplitl [G0]; · iexact G0
      isplitl [G1]; · iexact G1
      iexact G2
    · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option backward.isDefEq.respectTransparency.types false in
/-- From any memory, for any values: the launch terminates, and every array of the pipeline is what the proof data says. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.KernelIdeal.Body

end

end
-- ==== Proof.Frames.lean ====
/- The frames of the three programs and the ledger of the named constant. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.K.Run

@[expose] public section

set_option maxRecDepth 16384

noncomputable section

namespace Cert.Proof

open Idealize.ShloMosaic Idealize.ShloMosaic.TcCoe Idealize.ShloMosaic.Tactic
open Idealize.SL Idealize.SL.RA Idealize.SL.BI Idealize.SL.Sem

/-- The kernel's run over the reals, read at its arguments. -/
theorem frame_ideal : Cert.quiescent_KernelIdeal := fun m ρ _ =>
  θ_run_with_sems (Cert.KernelIdeal.Gen.frame_of m ρ (Cert.KernelIdeal.Body.dats m) fun _ _ => rfl) (Cert.KernelIdeal.Body.run_main (F := Ideal) m ρ)

/-- The printed kernel's run at the machine's floats, read at its arguments. -/
theorem frame_kernel : Cert.quiescent_Kernel := fun m ρ _ =>
  θ_run_with_sems (Cert.Kernel.Gen.frame_of m ρ (Cert.Kernel.Body.dats m) fun _ _ => rfl) (Cert.Kernel.Body.run_main (F := Bits) m ρ)

/-- The reference's run, read at its arguments. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "att_scale" .f32 0x3D93CD3A#32 (((Real.sqrt 192)⁻¹ : ℝ) : EReal) rfl

end Cert.Proof

end
-- ==== Proof.Pay.lean ====
/- What each stored vector of the kernel's body is over the reals, at one index. -/
module

public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Pointwise Idealize.SL.Sem

/-- Two to the power of an extended real. -/
abbrev pow2 (x : EReal) : EReal := FloatOps.exp2 (F := Ideal) (φ := .f32) x

theorem lanes {b : Fin 512} (x : EReal) : (if h : (b : ℕ) < 128 then x else if h : (b : ℕ) - 128 < 128 then x else if h : (b : ℕ) - 128 - 128 < 128 then x else x) = x := by
  split_ifs <;> rfl

theorem pow2_bot : pow2 ⊥ = 0 := by
  rfl

theorem cmpi_sge (a b : Fin 512) : IntOp.cmpi CmpIPredicate.sge (BitVec.ofNat 32 a.val) (BitVec.ofNat 32 b.val) = BitVec.ofBool (decide (b.val ≤ a.val)) := by
  have ha := a.isLt
  have hb := b.isLt
  have h1 : (BitVec.ofNat 32 a.val).toInt = a.val := by rw [BitVec.toInt_eq_toNat_of_lt] <;> simp <;> omega
  have h2 : (BitVec.ofNat 32 b.val).toInt = b.val := by rw [BitVec.toInt_eq_toNat_of_lt] <;> simp <;> omega
  show BitVec.ofBool (decide ((BitVec.ofNat 32 b.val).toInt ≤ (BitVec.ofNat 32 a.val).toInt)) = _
  rw [h1, h2]; simp

variable (k q : Vec Ideal S1x512x256 .bf16) (v : Vec Ideal S1x512x128 .bf16) (g : Vec Ideal S512x128 .bf16)
  (l : Vec Ideal S1x512x128 .f32) (d : Vec Ideal S512x128 .f32)

theorem pay6_at (hl : ∀ (a : Fin 512) (c : Fin 128), l (ix3 0 a c) = l (ix3 0 a 0)) (a b : Fin 512) :
    k0_pay6 (F := Ideal) k q l (ix2 a b) = pow2 (∑ x, q (ix3 0 a x) * k (ix3 0 b x) - l (ix3 0 a 0)) := by
  generalize hL : (fun a => l (ix3 0 a 0)) = L at hl
  have hl' : ∀ (a : Fin 512) (c : Fin 128), l (ix3 0 a c) = L a := fun a c => (hl a c).trans (congrFun hL a)
  pointwise [k0_pay6, k0_pay3, k0_pay5, hl', lanes]

theorem pay7_at (hd : ∀ (a : Fin 512) (c : Fin 128), d (ix2 a c) = d (ix2 a 0)) (a b : Fin 512) :
    k0_pay7 (F := Ideal) k v q g l d (ix2 a b) = k0_pay6 (F := Ideal) k q l (ix2 a b) * (∑ x, g (ix2 a x) * v (ix3 0 b x) - d (ix2 a 0)) := by
  generalize hL : (fun a => d (ix2 a 0)) = L at hd
  have hd' : ∀ (a : Fin 512) (c : Fin 128), d (ix2 a c) = L a := fun a c => (hd a c).trans (congrFun hL a)
  pointwise [k0_pay7, k0_pay4, hd', lanes]

theorem pay172_at (hl : ∀ (a : Fin 512) (c : Fin 128), l (ix3 0 a c) = l (ix3 0 a 0)) (a b : Fin 512) :
    k0_pay172 (F := Ideal) k q l (ix2 a b) = if b.val ≤ a.val then pow2 (∑ x, q (ix3 0 a x) * k (ix3 0 b x) - l (ix3 0 a 0)) else 0 := by
  generalize hL : (fun a => l (ix3 0 a 0)) = L at hl
  have hl' : ∀ (a : Fin 512) (c : Fin 128), l (ix3 0 a c) = L a := fun a c => (hl a c).trans (congrFun hL a)
  have hb : Ideal.ofBits FTy.f32 4286578688#32 = ⊥ := by simp [Ideal.ofBits, Ideal.ieee]
  pointwise [k0_pay172, k0_pay169, k0_pay171, hl', lanes, cmpi_sge, hb]
  by_cases h : b.val ≤ a.val
  · simp [h, Scalar.select]
  · simp only [h, decide_false, BitVec.ofBool_false, if_false, Scalar.select]
    exact (congrArg pow2 (EReal.bot_add (-(L a)))).trans pow2_bot

theorem pay173_at (hd : ∀ (a : Fin 512) (c : Fin 128), d (ix2 a c) = d (ix2 a 0)) (a b : Fin 512) :
    k0_pay173 (F := Ideal) k v q g l d (ix2 a b) = k0_pay172 (F := Ideal) k q l (ix2 a b) * (∑ x, g (ix2 a x) * v (ix3 0 b x) - d (ix2 a 0)) := by
  generalize hL : (fun a => d (ix2 a 0)) = L at hd
  have hd' : ∀ (a : Fin 512) (c : Fin 128), d (ix2 a c) = L a := fun a c => (hd a c).trans (congrFun hL a)
  pointwise [k0_pay173, k0_pay170, hd', lanes]

theorem pay8_at (b : Fin 512) (c : Fin 128) : k0_pay8 (F := Ideal) k q g l (ix2 b c) = ∑ a, k0_pay6 (F := Ideal) k q l (ix2 a b) * g (ix2 a c) := by
  pointwise [k0_pay8]
theorem pay174_at (b : Fin 512) (c : Fin 128) : k0_pay174 (F := Ideal) k q g l (ix2 b c) = ∑ a, k0_pay172 (F := Ideal) k q l (ix2 a b) * g (ix2 a c) := by
  pointwise [k0_pay174]
theorem pay9_at (b : Fin 512) (c : Fin 256) : k0_pay9 (F := Ideal) k v q g l d (ix2 b c) = ∑ a, k0_pay7 (F := Ideal) k v q g l d (ix2 a b) * q (ix3 0 a c) := by
  pointwise [k0_pay9, k0_pay5]
theorem pay175_at (b : Fin 512) (c : Fin 256) : k0_pay175 (F := Ideal) k v q g l d (ix2 b c) = ∑ a, k0_pay173 (F := Ideal) k v q g l d (ix2 a b) * q (ix3 0 a c) := by
  pointwise [k0_pay175, k0_pay171]
theorem pay10_at (x : Vec Ideal S512x256 .f32) (a : Fin 512) (c : Fin 256) :
    k0_pay11 (k0_pay10 (F := Ideal) k v q g l d x) (ix2 a c) = x (ix2 a c) + ∑ b, k0_pay7 (F := Ideal) k v q g l d (ix2 a b) * k (ix3 0 b c) := by
  pointwise [k0_pay11, k0_pay10, k0_pay3]
theorem pay176_at (x : Vec Ideal S512x256 .f32) (a : Fin 512) (c : Fin 256) :
    k0_pay177 (k0_pay176 (F := Ideal) k v q g l d x) (ix2 a c) = x (ix2 a c) + ∑ b, k0_pay173 (F := Ideal) k v q g l d (ix2 a b) * k (ix3 0 b c) := by
  pointwise [k0_pay177, k0_pay176, k0_pay169]
theorem pay167_at (x : Vec Ideal S512x128 .f32) (y : Vec Ideal S1x512x128 .f32) (a : Fin 512) (c : Fin 128) :
    k0_pay167 (F := Ideal) x y (ix3 0 a c) = y (ix3 0 a c) + x (ix2 a c) := by
  pointwise [k0_pay167]
theorem pay168_at (x : Vec Ideal S512x256 .f32) (y : Vec Ideal S1x512x256 .f32) (a : Fin 512) (c : Fin 256) :
    k0_pay168 (F := Ideal) x y (ix3 0 a c) = y (ix3 0 a c) + x (ix2 a c) := by
  pointwise [k0_pay168]
theorem pay157_at (a : Fin 8192) (c : Fin 256) : k0_pay157 (F := Ideal) (ix3 0 a c) = 0 := by
  pointwise [k0_pay157]
theorem pay158_at (a : Fin 8192) (c : Fin 128) : k0_pay158 (F := Ideal) (ix3 0 a c) = 0 := by
  pointwise [k0_pay158]
theorem pay166_at (a : Fin 1024) (c : Fin 256) : k0_pay166 (k0_pay165 (F := Ideal)) (ix2 a c) = 0 := by
  pointwise [k0_pay166, k0_pay165]

/-- The scale's named constant. -/
abbrev scaleC : EReal := Named.named (F := Ideal) κ "att_scale" (φ := .f32) 1033096506#32

theorem pay2_at (w : Vec Ideal S1024x256 .f32) (c sa sb : Vec Ideal S1024x128 .f32) (a : Fin 1024) (b : Fin 128) :
    k0_pay2 (F := Ideal) (k0_pay194 w) c sa sb (ix3 0 a b)
      = w (ix2 a ⟨128 + b, by omega⟩) * scaleC * c (ix2 a b)
        + w (ix2 a ⟨128 + (b + 128 - 96) % 128, by omega⟩) * scaleC * sa (ix2 a ⟨(b + 128 - 96) % 128, by omega⟩)
        + w (ix2 a ⟨128 + (b + 128 - 32) % 128, by omega⟩) * scaleC * sb (ix2 a ⟨(b + 128 - 32) % 128, by omega⟩) := by
  pointwise [k0_pay2, k0_pay194]
theorem pay1_at (w : Vec Ideal S1024x256 .f32) (a : Fin 1024) (b : Fin 128) :
    k0_pay1 (F := Ideal) (k0_pay195 w) (ix3 0 a b) = w (ix2 a ⟨b, by omega⟩) * scaleC := by
  pointwise [k0_pay1, k0_pay194, k0_pay195]
theorem pay162_at (z y o : Vec Ideal S1024x128 .f32) (a : Fin 1024) (b : Fin 128) :
    k0_pay162 (F := Ideal) z y o (ix2 a b)
      = y (ix2 a b) * o (ix2 a b) * (Ideal.logistic (z (ix2 a b)) * (1 + z (ix2 a b) * (1 - Ideal.logistic (z (ix2 a b))))) := by
  pointwise [k0_pay162, k0_pay159, k0_pay160, k0_pay161]
theorem pay163_at (z y o : Vec Ideal S1024x128 .f32) (a : Fin 1024) (b : Fin 128) :
    k0_pay163 (F := Ideal) z y o (ix2 a b) = ∑ x, y (ix2 a x) * (z (ix2 a x) * Ideal.logistic (z (ix2 a x))) * o (ix2 a x) := by
  pointwise [k0_pay163, k0_pay159, k0_pay160, k0_pay161]
theorem pay164_at (z y : Vec Ideal S1024x128 .f32) (a : Fin 1024) (b : Fin 128) :
    k0_pay164 (F := Ideal) z y (ix2 a b) = y (ix2 a b) * (z (ix2 a b) * Ideal.logistic (z (ix2 a b))) := by
  pointwise [k0_pay164, k0_pay159, k0_pay160, k0_pay161]

end Cert.KernelIdeal.Val

end
-- ==== Proof.PointVal.lean ====
/- What one grid point adds to the key and value gradients and leaves of the query gradients, over the reals: sums
   over the point's queries, or over the keys, of the masked weights. -/
module

public import proofs.«01_k».proof.Proof.Pay
public import proofs.«01_k».proof.Proof.Point

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Pointwise Idealize.SL.Sem

variable (I : Ins Ideal) (i : grid0.Coords)

/-- The weight of key `r` for the point's query `a`, unmasked. -/
def pr (a : Fin 1024) (r : Fin 8192) : EReal := pow2 (∑ x, I.q (ix3 0 a x) * I.k (ix3 0 r x) - I.l (ix3 0 a 0))
/-- The weight, zero above the diagonal. -/
def pm (a : Fin 1024) (r : Fin 8192) : EReal := if r.val ≤ 1024 * (i 1).val + a.val then pr I a r else 0
/-- The weight times the output gradient's product with the values less the delta. -/
def ds (a : Fin 1024) (r : Fin 8192) : EReal := pm I i a r * (∑ x, I.g (ix2 a x) * I.v (ix3 0 r x) - I.d (ix2 a 0))

/-- The point's addend to the key gradients; to the value gradients. -/
def dkAdd (r : Fin 8192) (c : Fin 256) : EReal := ∑ a, ds I i a r * I.q (ix3 0 a c)
def dvAdd (r : Fin 8192) (c : Fin 128) : EReal := ∑ a, pm I i a r * I.g (ix2 a c)
/-- The summand of the query gradients at key `r`, on all numbers. -/
def dqTerm (a : Fin 1024) (c : Fin 256) (r : ℕ) : EReal := if h : r < 8192 then ds I i a ⟨r, h⟩ * I.k (ix3 0 ⟨r, h⟩ c) else 0

/-- The row statistics are the same on every lane. -/
structure Lanes : Prop where
  l : ∀ (a : Fin 1024) (c : Fin 128), I.l (ix3 0 a c) = I.l (ix3 0 a 0)
  d : ∀ (a : Fin 1024) (c : Fin 128), I.d (ix2 a c) = I.d (ix2 a 0)

def e0 (a : Fin 512) : Fin 1024 := ⟨a.val, by omega⟩
def e1 (a : Fin 512) : Fin 1024 := ⟨512 + a.val, by omega⟩

theorem sum_halves (f : Fin 1024 → EReal) : ∑ a, f a = ∑ a, f (e0 a) + ∑ a, f (e1 a) :=
  Fin.sum_univ_add (a := 512) (b := 512) f

theorem q0_at (a : Fin 512) (x : Fin 256) : I.q0 (ix3 0 a x) = I.q (ix3 0 (e0 a) x) := by
  pointwise [Ins.q0]; rfl
theorem q1_at (a : Fin 512) (x : Fin 256) : I.q1 (ix3 0 a x) = I.q (ix3 0 (e1 a) x) := by
  pointwise [Ins.q1]; rfl
theorem l0_at (a : Fin 512) (x : Fin 128) : I.l0 (ix3 0 a x) = I.l (ix3 0 (e0 a) x) := by
  pointwise [Ins.l0]; rfl
theorem l1_at (a : Fin 512) (x : Fin 128) : I.l1 (ix3 0 a x) = I.l (ix3 0 (e1 a) x) := by
  pointwise [Ins.l1]; rfl
theorem d0_at (a : Fin 512) (x : Fin 128) : I.d0 (ix2 a x) = I.d (ix2 (e0 a) x) := by
  pointwise [Ins.d0]; rfl
theorem d1_at (a : Fin 512) (x : Fin 128) : I.d1 (ix2 a x) = I.d (ix2 (e1 a) x) := by
  pointwise [Ins.d1]; rfl
theorem g0_at (a : Fin 512) (x : Fin 128) : I.g0 (ix2 a x) = I.g (ix2 (e0 a) x) := by
  pointwise [Ins.g0]; rfl
theorem g1_at (a : Fin 512) (x : Fin 128) : I.g1 (ix2 a x) = I.g (ix2 (e1 a) x) := by
  pointwise [Ins.g1]; rfl

/-- Row `b` of the block from row `n`. -/
def row (n : ℕ) (hn : n + 512 ≤ 8192) (b : Fin 512) : Fin 8192 := ⟨n + b.val, by omega⟩

section Block
variable (n : ℕ) (hn : n + 512 ≤ 8192) (o1 o2 : Fin 3 → ℕ) (h1 : ∀ a, o1 a + S1x512x256.size a ≤ S1x8192x256.size a)
  (h2 : ∀ a, o2 a + S1x512x128.size a ≤ S1x8192x128.size a) (e1' : o1 = ![0, n, 0]) (e2' : o2 = ![0, n, 0])

include e1' in
theorem ldk_at {e : EltTy} (X : Vec Ideal S1x8192x256 e) (b : Fin 512) (x : Fin 256) : View.ld X (kBox o1 h1) (ix3 0 b x) = X (ix3 0 (row n hn b) x) := by
  subst e1'
  pointwise []; rfl
include e2' in
theorem ldv_at {e : EltTy} (X : Vec Ideal S1x8192x128 e) (b : Fin 512) (x : Fin 128) : View.ld X (vBox o2 h2) (ix3 0 b x) = X (ix3 0 (row n hn b) x) := by
  subst e2'
  pointwise []; rfl
include e1' in
theorem kb_at (b : Fin 512) (x : Fin 256) : I.kb o1 h1 (ix3 0 b x) = I.k (ix3 0 (row n hn b) x) := ldk_at n hn o1 h1 e1' I.k b x
include e2' in
theorem vb_at (b : Fin 512) (x : Fin 128) : I.vb o2 h2 (ix3 0 b x) = I.v (ix3 0 (row n hn b) x) := ldv_at n hn o2 h2 e2' I.v b x

variable (HL : Lanes I)

include HL e1' in
theorem p6_0 (a b : Fin 512) : k0_pay6 (F := Ideal) (I.kb o1 h1) I.q0 I.l0 (ix2 a b) = pr I (e0 a) (row n hn b) := by
  rw [pay6_at _ _ _ (fun a c => by rw [l0_at, l0_at, HL.l])]
  simp only [q0_at, l0_at, kb_at I n hn o1 h1 e1']; rfl
include HL e1' in
theorem p6_1 (a b : Fin 512) : k0_pay6 (F := Ideal) (I.kb o1 h1) I.q1 I.l1 (ix2 a b) = pr I (e1 a) (row n hn b) := by
  rw [pay6_at _ _ _ (fun a c => by rw [l1_at, l1_at, HL.l])]
  simp only [q1_at, l1_at, kb_at I n hn o1 h1 e1']; rfl
include HL e1' in
theorem p172_0 (a b : Fin 512) : k0_pay172 (F := Ideal) (I.kb o1 h1) I.q0 I.l0 (ix2 a b) = if b.val ≤ a.val then pr I (e0 a) (row n hn b) else 0 := by
  rw [pay172_at _ _ _ (fun a c => by rw [l0_at, l0_at, HL.l])]
  simp only [q0_at, l0_at, kb_at I n hn o1 h1 e1']; rfl
include HL e1' in
theorem p172_1 (a b : Fin 512) : k0_pay172 (F := Ideal) (I.kb o1 h1) I.q1 I.l1 (ix2 a b) = if b.val ≤ a.val then pr I (e1 a) (row n hn b) else 0 := by
  rw [pay172_at _ _ _ (fun a c => by rw [l1_at, l1_at, HL.l])]
  simp only [q1_at, l1_at, kb_at I n hn o1 h1 e1']; rfl

/-! Blocks below the diagonal. -/
section Full
variable (hf : n + 512 ≤ 1024 * (i 1).val)

include hf in
theorem pm_full (a : Fin 1024) (b : Fin 512) : pm I i a (row n hn b) = pr I a (row n hn b) := if_pos (by show n + b.val ≤ _; omega)

include hf HL e1' e2' in
theorem p7_0 (a b : Fin 512) : k0_pay7 (F := Ideal) (I.kb o1 h1) (I.vb o2 h2) I.q0 I.g0 I.l0 I.d0 (ix2 a b) = ds I i (e0 a) (row n hn b) := by
  rw [pay7_at _ _ _ _ _ _ (fun a c => by rw [d0_at, d0_at, HL.d]), p6_0 I n hn o1 h1 e1' HL, ds, pm_full I i n hn hf]
  simp only [g0_at, d0_at, vb_at I n hn o2 h2 e2']
include hf HL e1' e2' in
theorem p7_1 (a b : Fin 512) : k0_pay7 (F := Ideal) (I.kb o1 h1) (I.vb o2 h2) I.q1 I.g1 I.l1 I.d1 (ix2 a b) = ds I i (e1 a) (row n hn b) := by
  rw [pay7_at _ _ _ _ _ _ (fun a c => by rw [d1_at, d1_at, HL.d]), p6_1 I n hn o1 h1 e1' HL, ds, pm_full I i n hn hf]
  simp only [g1_at, d1_at, vb_at I n hn o2 h2 e2']

include hf HL e1' e2' in
theorem dkFull_at (X : Vec Ideal S1x8192x256 .f32) (b : Fin 512) (c : Fin 256) :
    I.dkFull o1 h1 o2 h2 (View.ld X (kBox o1 h1)) (ix3 0 b c) = X (ix3 0 (row n hn b) c) + dkAdd I i (row n hn b) c := by
  rw [Ins.dkFull, pay168_at, ldk_at n hn o1 h1 e1', dkAdd, sum_halves]
  refine congrArg (X (ix3 0 (row n hn b) c) + ·) ?_
  show _ + _ = _
  rw [pay9_at, pay9_at]
  simp only [p7_0 I i n hn o1 o2 h1 h2 e1' e2' HL hf, p7_1 I i n hn o1 o2 h1 h2 e1' e2' HL hf, q0_at, q1_at]
include hf HL e1' e2' in
theorem dvFull_at (X : Vec Ideal S1x8192x128 .f32) (b : Fin 512) (c : Fin 128) :
    I.dvFull o1 h1 (View.ld X (vBox o2 h2)) (ix3 0 b c) = X (ix3 0 (row n hn b) c) + dvAdd I i (row n hn b) c := by
  rw [Ins.dvFull, pay167_at, ldv_at n hn o2 h2 e2', dvAdd, sum_halves]
  refine congrArg (X (ix3 0 (row n hn b) c) + ·) ?_
  show _ + _ = _
  rw [pay8_at, pay8_at]
  simp only [p6_0 I n hn o1 h1 e1' HL, p6_1 I n hn o1 h1 e1' HL, g0_at, g1_at, pm_full I i n hn hf]
end Full

theorem dqTerm_row (a : Fin 1024) (c : Fin 256) (b : Fin 512) : dqTerm I i a c (n + b.val) = ds I i a (row n hn b) * I.k (ix3 0 (row n hn b) c) :=
  dif_pos (by omega)

include hn in
theorem dq_step (a : Fin 1024) (c : Fin 256) : ∑ r ∈ Finset.range (n + 512), dqTerm I i a c r
    = ∑ r ∈ Finset.range n, dqTerm I i a c r + ∑ b : Fin 512, ds I i a (row n hn b) * I.k (ix3 0 (row n hn b) c) := by
  rw [Finset.sum_range_add, ← Fin.sum_univ_eq_sum_range (fun r => dqTerm I i a c (n + r)) 512]
  simp only [dqTerm_row I i n hn]

include hn HL e1' e2' in
theorem dq0_at (hf : n + 512 ≤ 1024 * (i 1).val) (x : Vec Ideal S512x256 .f32) (a : Fin 512) (c : Fin 256)
    (hx : x (ix2 a c) = ∑ r ∈ Finset.range n, dqTerm I i (e0 a) c r) :
    I.dq0 o1 h1 o2 h2 x (ix2 a c) = ∑ r ∈ Finset.range (n + 512), dqTerm I i (e0 a) c r := by
  rw [dq_step I i n hn, Ins.dq0, pay10_at, hx]
  simp only [p7_0 I i n hn o1 o2 h1 h2 e1' e2' HL hf, kb_at I n hn o1 h1 e1']
/-! The two blocks on the diagonal. -/
include hn HL e1' e2' in
theorem dq1_at (hf : n + 512 ≤ 1024 * (i 1).val + 512) (x : Vec Ideal S512x256 .f32) (a : Fin 512) (c : Fin 256)
    (hx : x (ix2 a c) = ∑ r ∈ Finset.range n, dqTerm I i (e1 a) c r) :
    I.dq1 o1 h1 o2 h2 x (ix2 a c) = ∑ r ∈ Finset.range (n + 512), dqTerm I i (e1 a) c r := by
  rw [dq_step I i n hn, Ins.dq1, pay10_at, hx]
  refine congrArg _ (Finset.sum_congr rfl fun b _ => ?_)
  have hp : pm I i (e1 a) (row n hn b) = pr I (e1 a) (row n hn b) := if_pos (by show n + b.val ≤ _ + (512 + a.val); omega)
  rw [pay7_at _ _ _ _ _ _ (fun a c => by rw [d1_at, d1_at, HL.d]), p6_1 I n hn o1 h1 e1' HL, ds, hp]
  simp only [g1_at, d1_at, vb_at I n hn o2 h2 e2', kb_at I n hn o1 h1 e1']

section Diag0
variable (hd : n = 1024 * (i 1).val)

include hd in
theorem pm_diag00 (a b : Fin 512) : pm I i (e0 a) (row n hn b) = if b.val ≤ a.val then pr I (e0 a) (row n hn b) else 0 := by
  unfold pm
  refine if_congr ?_ rfl rfl
  show n + b.val ≤ _ + a.val ↔ _
  omega
include hd in
theorem pm_diag01 (a b : Fin 512) : pm I i (e1 a) (row n hn b) = pr I (e1 a) (row n hn b) :=
  if_pos (by show n + b.val ≤ _ + (512 + a.val); omega)

include hd HL e1' e2' in
theorem p173_0 (a b : Fin 512) : k0_pay173 (F := Ideal) (I.kb o1 h1) (I.vb o2 h2) I.q0 I.g0 I.l0 I.d0 (ix2 a b) = ds I i (e0 a) (row n hn b) := by
  rw [pay173_at _ _ _ _ _ _ (fun a c => by rw [d0_at, d0_at, HL.d]), p172_0 I n hn o1 h1 e1' HL, ds, pm_diag00 I i n hn hd]
  simp only [g0_at, d0_at, vb_at I n hn o2 h2 e2']
include hd HL e1' e2' in
theorem p7_d1 (a b : Fin 512) : k0_pay7 (F := Ideal) (I.kb o1 h1) (I.vb o2 h2) I.q1 I.g1 I.l1 I.d1 (ix2 a b) = ds I i (e1 a) (row n hn b) := by
  rw [pay7_at _ _ _ _ _ _ (fun a c => by rw [d1_at, d1_at, HL.d]), p6_1 I n hn o1 h1 e1' HL, ds, pm_diag01 I i n hn hd]
  simp only [g1_at, d1_at, vb_at I n hn o2 h2 e2']

include hd HL e1' e2' in
theorem dkDiag0_at (X : Vec Ideal S1x8192x256 .f32) (b : Fin 512) (c : Fin 256) :
    I.dkDiag0 o1 h1 o2 h2 (View.ld X (kBox o1 h1)) (ix3 0 b c) = X (ix3 0 (row n hn b) c) + dkAdd I i (row n hn b) c := by
  rw [Ins.dkDiag0, pay168_at, ldk_at n hn o1 h1 e1', dkAdd, sum_halves]
  refine congrArg (X (ix3 0 (row n hn b) c) + ·) ?_
  show _ + _ = _
  rw [pay9_at, pay175_at]
  simp only [p173_0 I i n hn o1 o2 h1 h2 e1' e2' HL hd, p7_d1 I i n hn o1 o2 h1 h2 e1' e2' HL hd, q0_at, q1_at]
include hd HL e1' e2' in
theorem dvDiag0_at (X : Vec Ideal S1x8192x128 .f32) (b : Fin 512) (c : Fin 128) :
    I.dvDiag0 o1 h1 (View.ld X (vBox o2 h2)) (ix3 0 b c) = X (ix3 0 (row n hn b) c) + dvAdd I i (row n hn b) c := by
  rw [Ins.dvDiag0, pay167_at, ldv_at n hn o2 h2 e2', dvAdd, sum_halves]
  refine congrArg (X (ix3 0 (row n hn b) c) + ·) ?_
  show _ + _ = _
  rw [pay8_at, pay174_at]
  simp only [p172_0 I n hn o1 h1 e1' HL, p6_1 I n hn o1 h1 e1' HL, g0_at, g1_at, pm_diag00 I i n hn hd, pm_diag01 I i n hn hd]
include hn hd HL e1' e2' in
theorem dq0Diag_at (x : Vec Ideal S512x256 .f32) (a : Fin 512) (c : Fin 256)
    (hx : x (ix2 a c) = ∑ r ∈ Finset.range n, dqTerm I i (e0 a) c r) :
    I.dq0Diag o1 h1 o2 h2 x (ix2 a c) = ∑ r ∈ Finset.range (n + 512), dqTerm I i (e0 a) c r := by
  rw [dq_step I i n hn, Ins.dq0Diag, pay176_at, hx]
  simp only [p173_0 I i n hn o1 o2 h1 h2 e1' e2' HL hd, kb_at I n hn o1 h1 e1']
end Diag0

section Diag1
variable (hd : n = 1024 * (i 1).val + 512)

include hd in
theorem pm_diag10 (a b : Fin 512) : pm I i (e0 a) (row n hn b) = 0 :=
  if_neg (by show ¬ n + b.val ≤ _ + a.val; omega)
include hd in
theorem pm_diag11 (a b : Fin 512) : pm I i (e1 a) (row n hn b) = if b.val ≤ a.val then pr I (e1 a) (row n hn b) else 0 := by
  unfold pm
  refine if_congr ?_ rfl rfl
  show n + b.val ≤ _ + (512 + a.val) ↔ _
  omega

include hd HL e1' e2' in
theorem p173_1 (a b : Fin 512) : k0_pay173 (F := Ideal) (I.kb o1 h1) (I.vb o2 h2) I.q1 I.g1 I.l1 I.d1 (ix2 a b) = ds I i (e1 a) (row n hn b) := by
  rw [pay173_at _ _ _ _ _ _ (fun a c => by rw [d1_at, d1_at, HL.d]), p172_1 I n hn o1 h1 e1' HL, ds, pm_diag11 I i n hn hd]
  simp only [g1_at, d1_at, vb_at I n hn o2 h2 e2']

include hd HL e1' e2' in
theorem dkDiag1_at (X : Vec Ideal S1x8192x256 .f32) (b : Fin 512) (c : Fin 256) :
    I.dkDiag1 o1 h1 o2 h2 (View.ld X (kBox o1 h1)) (ix3 0 b c) = X (ix3 0 (row n hn b) c) + dkAdd I i (row n hn b) c := by
  rw [Ins.dkDiag1, pay168_at, ldk_at n hn o1 h1 e1', dkAdd, sum_halves]
  refine congrArg (X (ix3 0 (row n hn b) c) + ·) ?_
  rw [pay175_at]
  simp only [p173_1 I i n hn o1 o2 h1 h2 e1' e2' HL hd, q1_at, ds, pm_diag10 I i n hn hd, zero_mul, Finset.sum_const_zero, zero_add]
include hd HL e1' e2' in
theorem dvDiag1_at (X : Vec Ideal S1x8192x128 .f32) (b : Fin 512) (c : Fin 128) :
    I.dvDiag1 o1 h1 (View.ld X (vBox o2 h2)) (ix3 0 b c) = X (ix3 0 (row n hn b) c) + dvAdd I i (row n hn b) c := by
  rw [Ins.dvDiag1, pay167_at, ldv_at n hn o2 h2 e2', dvAdd, sum_halves]
  refine congrArg (X (ix3 0 (row n hn b) c) + ·) ?_
  rw [pay174_at]
  simp only [p172_1 I n hn o1 h1 e1' HL, g1_at, pm_diag10 I i n hn hd, pm_diag11 I i n hn hd, zero_mul, Finset.sum_const_zero, zero_add]
include hn hd HL e1' e2' in
theorem dq1Diag_at (x : Vec Ideal S512x256 .f32) (a : Fin 512) (c : Fin 256)
    (hx : x (ix2 a c) = ∑ r ∈ Finset.range n, dqTerm I i (e1 a) c r) :
    I.dq1Diag o1 h1 o2 h2 x (ix2 a c) = ∑ r ∈ Finset.range (n + 512), dqTerm I i (e1 a) c r := by
  rw [dq_step I i n hn, Ins.dq1Diag, pay176_at, hx]
  simp only [p173_1 I i n hn o1 o2 h1 h2 e1' e2' HL hd, kb_at I n hn o1 h1 e1']
end Diag1

end Block

end Cert.KernelIdeal.Val

end
-- ==== Proof.PointSum.lean ====
/- One grid point's whole effect, over the reals: the key and value gradients gain the point's addend everywhere (it is
   zero above the diagonal), and the query gradients are the sums over all keys. -/
module

public import proofs.«01_k».proof.Proof.PointVal

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Pointwise Idealize.SL.Sem

variable (I : Ins Ideal) (i : grid0.Coords)

theorem i1_lt : (i 1).val < 8 := (i 1).isLt

theorem off1_0 (t : Fin (k0_t1_loop i).trips) : k0_off1 i t 0#32 = ![0, 2048 * t.val + 512 * 0, 0] := off1_eq i t 0
theorem off1_1 (t : Fin (k0_t1_loop i).trips) : k0_off1 i t 1#32 = ![0, 2048 * t.val + 512 * 1, 0] := off1_eq i t 1
theorem off1_2 (t : Fin (k0_t1_loop i).trips) : k0_off1 i t 2#32 = ![0, 2048 * t.val + 512 * 2, 0] := off1_eq i t 2
theorem off1_3 (t : Fin (k0_t1_loop i).trips) : k0_off1 i t 3#32 = ![0, 2048 * t.val + 512 * 3, 0] := off1_eq i t 3
theorem off2_0 (t : Fin (k0_t1_loop i).trips) : k0_off2 i t 0#32 = ![0, 2048 * t.val + 512 * 0, 0] := off2_eq i t 0
theorem off2_1 (t : Fin (k0_t1_loop i).trips) : k0_off2 i t 1#32 = ![0, 2048 * t.val + 512 * 1, 0] := off2_eq i t 1
theorem off2_2 (t : Fin (k0_t1_loop i).trips) : k0_off2 i t 2#32 = ![0, 2048 * t.val + 512 * 2, 0] := off2_eq i t 2
theorem off2_3 (t : Fin (k0_t1_loop i).trips) : k0_off2 i t 3#32 = ![0, 2048 * t.val + 512 * 3, 0] := off2_eq i t 3
theorem off5_0 (h : k0_cond2 i = 1#1) : k0_off5 i 1#32 = ![0, 1024 * (i 1).val - 512 * (1 + 0), 0] := off5_eq i h 0
theorem off5_1 (h : k0_cond2 i = 1#1) : k0_off5 i 2#32 = ![0, 1024 * (i 1).val - 512 * (1 + 1), 0] := off5_eq i h 1
theorem off6_0 (h : k0_cond2 i = 1#1) : k0_off6 i 1#32 = ![0, 1024 * (i 1).val - 512 * (1 + 0), 0] := off6_eq i h 0
theorem off6_1 (h : k0_cond2 i = 1#1) : k0_off6 i 2#32 = ![0, 1024 * (i 1).val - 512 * (1 + 1), 0] := off6_eq i h 1

/-- An array after a store of a block, at a point. -/
theorem kput {e : EltTy} (X : Vec Ideal S1x8192x256 e) (L : List (View.Piece (Elt Ideal) S1x8192x256 e)) (n : ℕ) (hn : n + 512 ≤ 8192) (o : Fin 3 → ℕ)
    (h : ∀ a, o a + S1x512x256.size a ≤ S1x8192x256.size a) (ho : o = ![0, n, 0]) (w : Vec Ideal S1x512x256 e) (Y : Fin 8192 → Fin 256 → Elt Ideal e)
    (hw : ∀ b c, w (ix3 0 b c) = Y (row n hn b) c) (r : Fin 8192) (c : Fin 256) :
    put X (⟨kBox o h, w⟩ :: L) (ix3 0 r c) = if n ≤ r.val ∧ r.val < n + 512 then Y r c else put X L (ix3 0 r c) := by
  subst ho
  by_cases hr : n ≤ r.val ∧ r.val < n + 512
  · rw [if_pos hr]
    have hb : row n hn ⟨r.val - n, by omega⟩ = r := Fin.ext (show n + (r.val - n) = r.val by omega)
    have he : (kBox ![0, n, 0] h).emb (ix3 0 ⟨r.val - n, by omega⟩ c) = ix3 0 r c := by
      funext a; apply Fin.ext
      match a with
      | ⟨0, _⟩ => rfl
      | ⟨1, _⟩ => exact (show n + 1 * (r.val - n) = r.val by omega)
      | ⟨2, _⟩ => exact (show 0 + 1 * c.val = c.val by omega)
    have hc := Rect.overlay_emb (kBox ![0, n, 0] h) (put X L) w (ix3 0 ⟨r.val - n, by omega⟩ c)
    rw [he] at hc
    refine hc.trans ((hw _ _).trans ?_)
    rw [hb]
  · rw [if_neg hr]
    refine Rect.overlay_of_not_mem _ _ _ fun hm => hr ?_
    have hm' : (ix3 0 r c : S1x8192x256.Idx) ∈ (kBox ![0, n, 0] h).set := hm
    exact Rect.mem_set_unit.mp hm' 1

theorem dkAdd_zero (r : Fin 8192) (c : Fin 256) (h : 1024 * (i 1).val + 1024 ≤ r.val) : dkAdd I i r c = 0 := by
  refine Finset.sum_eq_zero fun a _ => ?_
  have hp : pm I i a r = 0 := if_neg (by have := a.isLt; omega)
  rw [ds, hp, zero_mul, zero_mul]

variable (HL : Lanes I)

include HL in
theorem dkSweep_at (X : Vec Ideal S1x8192x256 .f32) (r : Fin 8192) (c : Fin 256) : ∀ n, n ≤ (k0_t1_loop i).trips →
    dkSweep I i X n (ix3 0 r c) = if r.val < 2048 * n then X (ix3 0 r c) + dkAdd I i r c else X (ix3 0 r c)
  | 0, _ => rfl
  | n + 1, hn => by
    have ih := dkSweep_at X r c n (by omega)
    have hi := i1_lt i
    have ht := trips_eq i
    have h : n < (k0_t1_loop i).trips := by omega
    have hb : 2048 * n + 2048 ≤ 1024 * (i 1).val := by omega
    rw [dkSweep, dif_pos h, dkPieces]
    rw [kput _ _ (2048 * n + 512 * 3) (by omega) _ _ (off1_3 i ⟨n, h⟩) _ (fun r c => dkSweep I i X n (ix3 0 r c) + dkAdd I i r c)
        (dkFull_at I i _ (by omega) _ _ _ _ (off1_3 i ⟨n, h⟩) (off2_3 i ⟨n, h⟩) HL (by omega) _),
      kput _ _ (2048 * n + 512 * 2) (by omega) _ _ (off1_2 i ⟨n, h⟩) _ (fun r c => dkSweep I i X n (ix3 0 r c) + dkAdd I i r c)
        (dkFull_at I i _ (by omega) _ _ _ _ (off1_2 i ⟨n, h⟩) (off2_2 i ⟨n, h⟩) HL (by omega) _),
      kput _ _ (2048 * n + 512 * 1) (by omega) _ _ (off1_1 i ⟨n, h⟩) _ (fun r c => dkSweep I i X n (ix3 0 r c) + dkAdd I i r c)
        (dkFull_at I i _ (by omega) _ _ _ _ (off1_1 i ⟨n, h⟩) (off2_1 i ⟨n, h⟩) HL (by omega) _),
      kput _ _ (2048 * n + 512 * 0) (by omega) _ _ (off1_0 i ⟨n, h⟩) _ (fun r c => dkSweep I i X n (ix3 0 r c) + dkAdd I i r c)
        (dkFull_at I i _ (by omega) _ _ _ _ (off1_0 i ⟨n, h⟩) (off2_0 i ⟨n, h⟩) HL (by omega) _), put, ih]
    split_ifs <;> first | rfl | (exfalso; omega)

include HL in
/-- One point adds its addend to the key gradients. -/
theorem dkPoint_at (X : Vec Ideal S1x8192x256 .f32) (r : Fin 8192) (c : Fin 256) : dkPoint I i X (ix3 0 r c) = X (ix3 0 r c) + dkAdd I i r c := by
  have hi := i1_lt i
  have ht := trips_eq i
  have hE := dkSweep_at I i HL X r c _ le_rfl
  have hz := dkAdd_zero I i r c
  have fin : ∀ P : EReal, P = (if 1024 * (i 1).val + 1024 ≤ r.val then X (ix3 0 r c) else X (ix3 0 r c) + dkAdd I i r c) → P = X (ix3 0 r c) + dkAdd I i r c := fun P hP => by
    rw [hP]; split_ifs with h
    · rw [hz h, add_zero]
    · rfl
  refine fin _ ?_
  clear fin hz
  by_cases h2 : k0_cond2 i = 1#1
  · have ho := (cond2_iff i).mp h2
    rw [dkPoint_odd I i h2, dkDiag, dkOdd]
    generalize hS : dkSweep I i X (k0_t1_loop i).trips = E at hE ⊢
    show put E (_ :: _ :: _ :: _ :: []) (ix3 0 r c) = _
    rw [kput _ _ (1024 * (i 1).val + 512) (by omega) _ _ (off9_eq i) _ (fun r c => E (ix3 0 r c) + dkAdd I i r c)
        (dkDiag1_at I i _ (by omega) _ _ _ _ (off9_eq i) (off10_eq i) HL rfl _),
      kput _ _ (1024 * (i 1).val) (by omega) _ _ (off7_eq i) _ (fun r c => E (ix3 0 r c) + dkAdd I i r c)
        (dkDiag0_at I i _ (by omega) _ _ _ _ (off7_eq i) (off8_eq i) HL rfl _),
      kput _ _ (1024 * (i 1).val - 512 * (1 + 0)) (by omega) _ _ (off5_0 i h2) _ (fun r c => E (ix3 0 r c) + dkAdd I i r c)
        (dkFull_at I i _ (by omega) _ _ _ _ (off5_0 i h2) (off6_0 i h2) HL (by omega) _),
      kput _ _ (1024 * (i 1).val - 512 * (1 + 1)) (by omega) _ _ (off5_1 i h2) _ (fun r c => E (ix3 0 r c) + dkAdd I i r c)
        (dkFull_at I i _ (by omega) _ _ _ _ (off5_1 i h2) (off6_1 i h2) HL (by omega) _), put, hE]
    split_ifs <;> first | rfl | (exfalso; omega)
  · have ho : (i 1).val % 2 = 0 := by have := mt (cond2_iff i).mpr h2; omega
    rw [dkPoint_even I i h2, dkDiag]
    generalize hS : dkSweep I i X (k0_t1_loop i).trips = E at hE ⊢
    rw [kput _ _ (1024 * (i 1).val + 512) (by omega) _ _ (off9_eq i) _ (fun r c => E (ix3 0 r c) + dkAdd I i r c)
        (dkDiag1_at I i _ (by omega) _ _ _ _ (off9_eq i) (off10_eq i) HL rfl _),
      kput _ _ (1024 * (i 1).val) (by omega) _ _ (off7_eq i) _ (fun r c => E (ix3 0 r c) + dkAdd I i r c)
        (dkDiag0_at I i _ (by omega) _ _ _ _ (off7_eq i) (off8_eq i) HL rfl _), put, hE]
    split_ifs <;> first | rfl | (exfalso; omega)

/-- An array after a store of a block, at a point. -/
theorem vput {e : EltTy} (X : Vec Ideal S1x8192x128 e) (L : List (View.Piece (Elt Ideal) S1x8192x128 e)) (n : ℕ) (hn : n + 512 ≤ 8192) (o : Fin 3 → ℕ)
    (h : ∀ a, o a + S1x512x128.size a ≤ S1x8192x128.size a) (ho : o = ![0, n, 0]) (w : Vec Ideal S1x512x128 e) (Y : Fin 8192 → Fin 128 → Elt Ideal e)
    (hw : ∀ b c, w (ix3 0 b c) = Y (row n hn b) c) (r : Fin 8192) (c : Fin 128) :
    put X (⟨vBox o h, w⟩ :: L) (ix3 0 r c) = if n ≤ r.val ∧ r.val < n + 512 then Y r c else put X L (ix3 0 r c) := by
  subst ho
  by_cases hr : n ≤ r.val ∧ r.val < n + 512
  · rw [if_pos hr]
    have hb : row n hn ⟨r.val - n, by omega⟩ = r := Fin.ext (show n + (r.val - n) = r.val by omega)
    have he : (vBox ![0, n, 0] h).emb (ix3 0 ⟨r.val - n, by omega⟩ c) = ix3 0 r c := by
      funext a; apply Fin.ext
      match a with
      | ⟨0, _⟩ => rfl
      | ⟨1, _⟩ => exact (show n + 1 * (r.val - n) = r.val by omega)
      | ⟨2, _⟩ => exact (show 0 + 1 * c.val = c.val by omega)
    have hc := Rect.overlay_emb (vBox ![0, n, 0] h) (put X L) w (ix3 0 ⟨r.val - n, by omega⟩ c)
    rw [he] at hc
    refine hc.trans ((hw _ _).trans ?_)
    rw [hb]
  · rw [if_neg hr]
    refine Rect.overlay_of_not_mem _ _ _ fun hm => hr ?_
    have hm' : (ix3 0 r c : S1x8192x128.Idx) ∈ (vBox ![0, n, 0] h).set := hm
    exact Rect.mem_set_unit.mp hm' 1

theorem dvAdd_zero (r : Fin 8192) (c : Fin 128) (h : 1024 * (i 1).val + 1024 ≤ r.val) : dvAdd I i r c = 0 := by
  refine Finset.sum_eq_zero fun a _ => ?_
  have hp : pm I i a r = 0 := if_neg (by have := a.isLt; omega)
  rw [hp, zero_mul]

include HL in
theorem dvSweep_at (X : Vec Ideal S1x8192x128 .f32) (r : Fin 8192) (c : Fin 128) : ∀ n, n ≤ (k0_t1_loop i).trips →
    dvSweep I i X n (ix3 0 r c) = if r.val < 2048 * n then X (ix3 0 r c) + dvAdd I i r c else X (ix3 0 r c)
  | 0, _ => rfl
  | n + 1, hn => by
    have ih := dvSweep_at X r c n (by omega)
    have hi := i1_lt i
    have ht := trips_eq i
    have h : n < (k0_t1_loop i).trips := by omega
    have hb : 2048 * n + 2048 ≤ 1024 * (i 1).val := by omega
    rw [dvSweep, dif_pos h, dvPieces]
    rw [vput _ _ (2048 * n + 512 * 3) (by omega) _ _ (off2_3 i ⟨n, h⟩) _ (fun r c => dvSweep I i X n (ix3 0 r c) + dvAdd I i r c)
        (dvFull_at I i _ (by omega) _ _ _ _ (off1_3 i ⟨n, h⟩) (off2_3 i ⟨n, h⟩) HL (by omega) _),
      vput _ _ (2048 * n + 512 * 2) (by omega) _ _ (off2_2 i ⟨n, h⟩) _ (fun r c => dvSweep I i X n (ix3 0 r c) + dvAdd I i r c)
        (dvFull_at I i _ (by omega) _ _ _ _ (off1_2 i ⟨n, h⟩) (off2_2 i ⟨n, h⟩) HL (by omega) _),
      vput _ _ (2048 * n + 512 * 1) (by omega) _ _ (off2_1 i ⟨n, h⟩) _ (fun r c => dvSweep I i X n (ix3 0 r c) + dvAdd I i r c)
        (dvFull_at I i _ (by omega) _ _ _ _ (off1_1 i ⟨n, h⟩) (off2_1 i ⟨n, h⟩) HL (by omega) _),
      vput _ _ (2048 * n + 512 * 0) (by omega) _ _ (off2_0 i ⟨n, h⟩) _ (fun r c => dvSweep I i X n (ix3 0 r c) + dvAdd I i r c)
        (dvFull_at I i _ (by omega) _ _ _ _ (off1_0 i ⟨n, h⟩) (off2_0 i ⟨n, h⟩) HL (by omega) _), put, ih]
    split_ifs <;> first | rfl | (exfalso; omega)

include HL in
/-- One point adds its addend to the value gradients. -/
theorem dvPoint_at (X : Vec Ideal S1x8192x128 .f32) (r : Fin 8192) (c : Fin 128) : dvPoint I i X (ix3 0 r c) = X (ix3 0 r c) + dvAdd I i r c := by
  have hi := i1_lt i
  have ht := trips_eq i
  have hE := dvSweep_at I i HL X r c _ le_rfl
  have hz := dvAdd_zero I i r c
  have fin : ∀ P : EReal, P = (if 1024 * (i 1).val + 1024 ≤ r.val then X (ix3 0 r c) else X (ix3 0 r c) + dvAdd I i r c) → P = X (ix3 0 r c) + dvAdd I i r c := fun P hP => by
    rw [hP]; split_ifs with h
    · rw [hz h, add_zero]
    · rfl
  refine fin _ ?_
  clear fin hz
  by_cases h2 : k0_cond2 i = 1#1
  · have ho := (cond2_iff i).mp h2
    rw [dvPoint_odd I i h2, dvDiag, dvOdd]
    generalize hS : dvSweep I i X (k0_t1_loop i).trips = E at hE ⊢
    show put E (_ :: _ :: _ :: _ :: []) (ix3 0 r c) = _
    rw [vput _ _ (1024 * (i 1).val + 512) (by omega) _ _ (off10_eq i) _ (fun r c => E (ix3 0 r c) + dvAdd I i r c)
        (dvDiag1_at I i _ (by omega) _ _ _ _ (off9_eq i) (off10_eq i) HL rfl _),
      vput _ _ (1024 * (i 1).val) (by omega) _ _ (off8_eq i) _ (fun r c => E (ix3 0 r c) + dvAdd I i r c)
        (dvDiag0_at I i _ (by omega) _ _ _ _ (off7_eq i) (off8_eq i) HL rfl _),
      vput _ _ (1024 * (i 1).val - 512 * (1 + 0)) (by omega) _ _ (off6_0 i h2) _ (fun r c => E (ix3 0 r c) + dvAdd I i r c)
        (dvFull_at I i _ (by omega) _ _ _ _ (off5_0 i h2) (off6_0 i h2) HL (by omega) _),
      vput _ _ (1024 * (i 1).val - 512 * (1 + 1)) (by omega) _ _ (off6_1 i h2) _ (fun r c => E (ix3 0 r c) + dvAdd I i r c)
        (dvFull_at I i _ (by omega) _ _ _ _ (off5_1 i h2) (off6_1 i h2) HL (by omega) _), put, hE]
    split_ifs <;> first | rfl | (exfalso; omega)
  · have ho : (i 1).val % 2 = 0 := by have := mt (cond2_iff i).mpr h2; omega
    rw [dvPoint_even I i h2, dvDiag]
    generalize hS : dvSweep I i X (k0_t1_loop i).trips = E at hE ⊢
    rw [vput _ _ (1024 * (i 1).val + 512) (by omega) _ _ (off10_eq i) _ (fun r c => E (ix3 0 r c) + dvAdd I i r c)
        (dvDiag1_at I i _ (by omega) _ _ _ _ (off9_eq i) (off10_eq i) HL rfl _),
      vput _ _ (1024 * (i 1).val) (by omega) _ _ (off8_eq i) _ (fun r c => E (ix3 0 r c) + dvAdd I i r c)
        (dvDiag0_at I i _ (by omega) _ _ _ _ (off7_eq i) (off8_eq i) HL rfl _), put, hE]
    split_ifs <;> first | rfl | (exfalso; omega)

theorem not0_half1 (a : Fin 512) (c : Fin 256) : (ix2 (e0 a) c : S1024x256.Idx) ∉ half1.set := fun h => by
  have h1 : 512 ≤ a.val := (Rect.mem_set_unit.mp h 0).1
  omega
theorem not1_half0 (a : Fin 512) (c : Fin 256) : (ix2 (e1 a) c : S1024x256.Idx) ∉ half0.set := fun h => by
  have h1 : 512 + a.val < 0 + 512 := (Rect.mem_set_unit.mp h 0).2
  omega
theorem emb_half0 (a : Fin 512) (c : Fin 256) : half0.emb (ix2 a c) = ix2 (e0 a) c := by
  funext b; apply Fin.ext
  match b with
  | ⟨0, _⟩ => exact (show 0 + 1 * a.val = a.val by omega)
  | ⟨1, _⟩ => exact (show 0 + 1 * c.val = c.val by omega)
theorem emb_half1 (a : Fin 512) (c : Fin 256) : half1.emb (ix2 a c) = ix2 (e1 a) c := by
  funext b; apply Fin.ext
  match b with
  | ⟨0, _⟩ => exact (show 512 + 1 * a.val = 512 + a.val by omega)
  | ⟨1, _⟩ => exact (show 0 + 1 * c.val = c.val by omega)
theorem put0 (X : Vec Ideal S1024x256 .f32) (w : Vec Ideal S512x256 .f32) (L : List (View.Piece (Elt Ideal) S1024x256 .f32)) (a : Fin 512) (c : Fin 256) :
    put X (⟨half0, w⟩ :: L) (ix2 (e0 a) c) = w (ix2 a c) := by
  have h := Rect.overlay_emb half0 (put X L) w (ix2 a c)
  rw [emb_half0] at h; exact h
theorem put1 (X : Vec Ideal S1024x256 .f32) (w : Vec Ideal S512x256 .f32) (L : List (View.Piece (Elt Ideal) S1024x256 .f32)) (a : Fin 512) (c : Fin 256) :
    put X (⟨half1, w⟩ :: L) (ix2 (e1 a) c) = w (ix2 a c) := by
  have h := Rect.overlay_emb half1 (put X L) w (ix2 a c)
  rw [emb_half1] at h; exact h
theorem put0' (X : Vec Ideal S1024x256 .f32) (w : Vec Ideal S512x256 .f32) (L : List (View.Piece (Elt Ideal) S1024x256 .f32)) (a : Fin 512) (c : Fin 256) :
    put X (⟨half1, w⟩ :: L) (ix2 (e0 a) c) = put X L (ix2 (e0 a) c) :=
  Rect.overlay_of_not_mem _ _ _ (not0_half1 a c)
theorem ld_half0 (X : Vec Ideal S1024x256 .f32) (a : Fin 512) (c : Fin 256) : View.ld X half0 (ix2 a c) = X (ix2 (e0 a) c) :=
  congrArg X (emb_half0 a c)
theorem ld_half1 (X : Vec Ideal S1024x256 .f32) (a : Fin 512) (c : Fin 256) : View.ld X half1 (ix2 a c) = X (ix2 (e1 a) c) :=
  congrArg X (emb_half1 a c)

include HL in
theorem dqSweep_at (a : Fin 512) (c : Fin 256) : ∀ n, n ≤ (k0_t1_loop i).trips →
    dqSweep I i (k0_pay166 (k0_pay165 (F := Ideal))) n (ix2 (e0 a) c) = ∑ r ∈ Finset.range (2048 * n), dqTerm I i (e0 a) c r
    ∧ dqSweep I i (k0_pay166 (k0_pay165 (F := Ideal))) n (ix2 (e1 a) c) = ∑ r ∈ Finset.range (2048 * n), dqTerm I i (e1 a) c r
  | 0, _ => ⟨pay166_at _ _, pay166_at _ _⟩
  | n + 1, hn => by
    have ih := dqSweep_at a c n (by omega)
    have hi := i1_lt i
    have ht := trips_eq i
    have h : n < (k0_t1_loop i).trips := by omega
    have hb : 2048 * n + 2048 ≤ 1024 * (i 1).val := by omega
    rw [dqSweep, dif_pos h, dqPieces]
    generalize hE : dqSweep I i (k0_pay166 (k0_pay165 (F := Ideal))) n = E at ih ⊢
    rw [put0', put0, put1]
    have f0 : dqAt00 I i ⟨n, h⟩ E (ix2 a c) = _ := dq0_at I i (2048 * n + 512 * 0) (by omega) _ _ _ _ (off1_0 i ⟨n, h⟩) (off2_0 i ⟨n, h⟩) HL (by omega) _ a c ((ld_half0 E a c).trans ih.1)
    have f1 : dqAt01 I i ⟨n, h⟩ E (ix2 a c) = _ := dq0_at I i (2048 * n + 512 * 1) (by omega) _ _ _ _ (off1_1 i ⟨n, h⟩) (off2_1 i ⟨n, h⟩) HL (by omega) _ a c f0
    have f2 : dqAt02 I i ⟨n, h⟩ E (ix2 a c) = _ := dq0_at I i (2048 * n + 512 * 2) (by omega) _ _ _ _ (off1_2 i ⟨n, h⟩) (off2_2 i ⟨n, h⟩) HL (by omega) _ a c f1
    have f3 : dqAt03 I i ⟨n, h⟩ E (ix2 a c) = _ := dq0_at I i (2048 * n + 512 * 3) (by omega) _ _ _ _ (off1_3 i ⟨n, h⟩) (off2_3 i ⟨n, h⟩) HL (by omega) _ a c f2
    have g0 : dqAt10 I i ⟨n, h⟩ E (ix2 a c) = _ := dq1_at I i (2048 * n + 512 * 0) (by omega) _ _ _ _ (off1_0 i ⟨n, h⟩) (off2_0 i ⟨n, h⟩) HL (by omega) _ a c ((ld_half1 E a c).trans ih.2)
    have g1 : dqAt11 I i ⟨n, h⟩ E (ix2 a c) = _ := dq1_at I i (2048 * n + 512 * 1) (by omega) _ _ _ _ (off1_1 i ⟨n, h⟩) (off2_1 i ⟨n, h⟩) HL (by omega) _ a c g0
    have g2 : dqAt12 I i ⟨n, h⟩ E (ix2 a c) = _ := dq1_at I i (2048 * n + 512 * 2) (by omega) _ _ _ _ (off1_2 i ⟨n, h⟩) (off2_2 i ⟨n, h⟩) HL (by omega) _ a c g1
    have g3 : dqAt13 I i ⟨n, h⟩ E (ix2 a c) = _ := dq1_at I i (2048 * n + 512 * 3) (by omega) _ _ _ _ (off1_3 i ⟨n, h⟩) (off2_3 i ⟨n, h⟩) HL (by omega) _ a c g2
    exact ⟨f3, g3⟩

theorem dq_all (a : Fin 1024) (c : Fin 256) (n : ℕ) (hn : n ≤ 8192) (hz : 1024 * (i 1).val + a.val < n) :
    ∑ r ∈ Finset.range n, dqTerm I i a c r = ∑ r : Fin 8192, ds I i a r * I.k (ix3 0 r c) := by
  have h1 : ∑ r : Fin 8192, ds I i a r * I.k (ix3 0 r c) = ∑ r ∈ Finset.range 8192, dqTerm I i a c r := by
    rw [← Fin.sum_univ_eq_sum_range]
    exact Finset.sum_congr rfl fun r _ => by rw [dqTerm, dif_pos r.isLt]
  rw [h1]
  refine Finset.sum_subset (fun x hx => Finset.mem_range.mpr (lt_of_lt_of_le (Finset.mem_range.mp hx) hn)) fun r h8 hr => ?_
  have hr' : n ≤ r := Nat.le_of_not_lt fun h => hr (Finset.mem_range.mpr h)
  unfold dqTerm
  split_ifs with h
  · have hp : pm I i a ⟨r, h⟩ = 0 := if_neg (by show ¬ r ≤ _; omega)
    rw [ds, hp, zero_mul, zero_mul]
  · rfl

theorem canon0 (w1 w0 : Vec Ideal S512x256 .f32) (a : Fin 512) (c : Fin 256) :
    View.canon (Val := Elt Ideal) (e := .f32) [⟨half1, w1⟩, ⟨half0, w0⟩] (ix2 (e0 a) c) = w0 (ix2 a c) := by
  have h := View.canon_cons_emb (Val := Elt Ideal) (e := .f32) half0 w0 [] (ix2 a c)
  rw [emb_half0] at h
  exact (View.canon_cons_of_not_mem (Val := Elt Ideal) (e := .f32) ⟨half1, w1⟩ [⟨half0, w0⟩] (not0_half1 a c)).trans h
theorem canon1 (w1 w0 : Vec Ideal S512x256 .f32) (a : Fin 512) (c : Fin 256) :
    View.canon (Val := Elt Ideal) (e := .f32) [⟨half1, w1⟩, ⟨half0, w0⟩] (ix2 (e1 a) c) = w1 (ix2 a c) := by
  have h := View.canon_cons_emb (Val := Elt Ideal) (e := .f32) half1 w1 [⟨half0, w0⟩] (ix2 a c)
  rw [emb_half1] at h; exact h

include HL in
theorem dqPoint_halves (a : Fin 512) (c : Fin 256) :
    dqPoint I i (ix2 (e0 a) c) = ∑ r : Fin 8192, ds I i (e0 a) r * I.k (ix3 0 r c)
    ∧ dqPoint I i (ix2 (e1 a) c) = ∑ r : Fin 8192, ds I i (e1 a) r * I.k (ix3 0 r c) := by
  have hi := i1_lt i
  have ht := trips_eq i
  have ih := dqSweep_at I i HL a c _ le_rfl
  rw [← dq_all I i (e0 a) c (1024 * (i 1).val + 512) (by omega) (by show _ + a.val < _; omega),
    ← dq_all I i (e1 a) c (1024 * (i 1).val + 512 + 512) (by omega) (by show _ + (512 + a.val) < _; omega)]
  by_cases h2 : k0_cond2 i = 1#1
  · have ho := (cond2_iff i).mp h2
    rw [dqPoint_odd I i h2, canon0, canon1]
    generalize hE : dqSweep I i (k0_pay166 (k0_pay165 (F := Ideal))) (k0_t1_loop i).trips = E at ih ⊢
    have s0 : 2048 * (k0_t1_loop i).trips = 1024 * (i 1).val - 512 * (1 + 1) := by omega
    have s1 : 1024 * (i 1).val - 512 * (1 + 1) + 512 = 1024 * (i 1).val - 512 * (1 + 0) := by omega
    have s2 : 1024 * (i 1).val - 512 * (1 + 0) + 512 = 1024 * (i 1).val := by omega
    rw [s0] at ih
    have f0 := dq0_at I i (1024 * (i 1).val - 512 * (1 + 1)) (by omega) _ _ (k0_off5_inb i h2 1) (k0_off6_inb i h2 1) (off5_1 i h2) (off6_1 i h2) HL (by omega) (View.ld E half0) a c ((ld_half0 E a c).trans ih.1)
    rw [s1] at f0
    have f1 := dq0_at I i (1024 * (i 1).val - 512 * (1 + 0)) (by omega) _ _ (k0_off5_inb i h2 0) (k0_off6_inb i h2 0) (off5_0 i h2) (off6_0 i h2) HL (by omega) _ a c f0
    rw [s2] at f1
    have g0 := dq1_at I i (1024 * (i 1).val - 512 * (1 + 1)) (by omega) _ _ (k0_off5_inb i h2 1) (k0_off6_inb i h2 1) (off5_1 i h2) (off6_1 i h2) HL (by omega) (View.ld E half1) a c ((ld_half1 E a c).trans ih.2)
    rw [s1] at g0
    have g1 := dq1_at I i (1024 * (i 1).val - 512 * (1 + 0)) (by omega) _ _ (k0_off5_inb i h2 0) (k0_off6_inb i h2 0) (off5_0 i h2) (off6_0 i h2) HL (by omega) _ a c g0
    rw [s2] at g1
    have g2 := dq1_at I i (1024 * (i 1).val) (by omega) _ _ (k0_off7_inb i) (k0_off8_inb i) (off7_eq i) (off8_eq i) HL (by omega) _ a c g1
    exact ⟨dq0Diag_at I i _ (by omega) _ _ (k0_off7_inb i) (k0_off8_inb i) (off7_eq i) (off8_eq i) HL rfl _ a c f1,
      dq1Diag_at I i _ (by omega) _ _ (k0_off9_inb i) (k0_off10_inb i) (off9_eq i) (off10_eq i) HL rfl _ a c g2⟩
  · have ho : (i 1).val % 2 = 0 := by have := mt (cond2_iff i).mpr h2; omega
    rw [dqPoint_even I i h2, canon0, canon1]
    generalize hE : dqSweep I i (k0_pay166 (k0_pay165 (F := Ideal))) (k0_t1_loop i).trips = E at ih ⊢
    have s0 : 2048 * (k0_t1_loop i).trips = 1024 * (i 1).val := by omega
    rw [s0] at ih
    have g2 := dq1_at I i (1024 * (i 1).val) (by omega) _ _ (k0_off7_inb i) (k0_off8_inb i) (off7_eq i) (off8_eq i) HL (by omega) (View.ld E half1) a c ((ld_half1 E a c).trans ih.2)
    exact ⟨dq0Diag_at I i _ (by omega) _ _ (k0_off7_inb i) (k0_off8_inb i) (off7_eq i) (off8_eq i) HL rfl _ a c ((ld_half0 E a c).trans ih.1),
      dq1Diag_at I i _ (by omega) _ _ (k0_off9_inb i) (k0_off10_inb i) (off9_eq i) (off10_eq i) HL rfl _ a c g2⟩

include HL in
/-- One point's query gradients, before the scale and the rotation's transpose. -/
theorem dqPoint_at (a : Fin 1024) (c : Fin 256) : dqPoint I i (ix2 a c) = ∑ r : Fin 8192, ds I i a r * I.k (ix3 0 r c) := by
  by_cases h : a.val < 512
  · exact (dqPoint_halves I i HL ⟨a.val, h⟩ c).1
  · have ha : e1 ⟨a.val - 512, by omega⟩ = a := Fin.ext (show 512 + (a.val - 512) = a.val by omega)
    have hq := (dqPoint_halves I i HL ⟨a.val - 512, by omega⟩ c).2
    rw [ha] at hq; exact hq

end Cert.KernelIdeal.Val

end
-- ==== Proof.Arrays.lean ====
/- The kernel's four results over the reals, at one index, from the arrays that the region finds. -/
module

public import proofs.«01_k».proof.Proof.PointSum
public import proofs.«01_k».proof.Proof.Run
public import Idealize.ShloMosaic.Lib.Pipeline.ValueKit

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Pointwise Idealize.SL.Sem
open Idealize.ShloMosaic.Pipeline (Dat)

/-- The arrays that the region reads. -/
structure Arr where
  q : Vec Ideal S8x8192x256 .bf16
  k : Vec Ideal S8x8192x256 .bf16
  v : Vec Ideal S8x8192x128 .bf16
  y : Vec Ideal S8192x1024 .f32
  z : Vec Ideal S8192x1024 .f32
  o : Vec Ideal S8192x1024 .f32
  l : Vec Ideal S8x8192x128 .f32
  c : Vec Ideal S8192x128 .f32
  sa : Vec Ideal S8192x128 .f32
  sb : Vec Ideal S8192x128 .f32

/-- Column `x` of head `h` in an array whose heads lie side by side. -/
def hcol (h : Fin 8) (x : Fin 128) : Fin 1024 := ⟨128 * h.val + x.val, by omega⟩
/-- Query `a` of the point's block `j`. -/
def qr (j : Fin 8) (a : Fin 1024) : Fin 8192 := ⟨1024 * j.val + a.val, by omega⟩

namespace Arr
variable (A : Arr) (h : Fin 8)
def pm (s r : Fin 8192) : EReal := if r.val ≤ s.val then pow2 (∑ x, A.q (ix3 h s x) * A.k (ix3 h r x) - A.l (ix3 h s 0)) else 0
def g (s : Fin 8192) (x : Fin 128) : EReal := A.y (ix2 s (hcol h x)) * (A.z (ix2 s (hcol h x)) * Ideal.logistic (A.z (ix2 s (hcol h x))))
def d (s : Fin 8192) : EReal := ∑ x, A.g h s x * A.o (ix2 s (hcol h x))
def ds (s r : Fin 8192) : EReal := A.pm h s r * (∑ x, A.g h s x * A.v (ix3 h r x) - A.d h s)
def dk (r : Fin 8192) (x : Fin 256) : EReal := ∑ s, A.ds h s r * A.q (ix3 h s x)
def dv (r : Fin 8192) (x : Fin 128) : EReal := ∑ s, A.pm h s r * A.g h s x
def dq (s : Fin 8192) (x : Fin 256) : EReal := ∑ r, A.ds h s r * A.k (ix3 h r x)
end Arr

variable (m : (ℓ : Loc nD τ sig) → Buf (Elt Ideal) ℓ) (c : Dev nD)

def arr : Arr := ⟨V m c main_v55, V m c main_v58, V m c main_v60, V m c main_arg6, V m c main_arg3, V m c main_v39, V m c main_v46,
  V m c main_v63, V m c main_v64, V m c main_v66⟩

theorem idx : ∀ t : Fin cfg0.N, win0_0.index t = ![t.val / 8, t.val % 8, 0] ∧ win0_1.index t = ![t.val / 8, 0, 0] ∧ win0_2.index t = ![t.val / 8, 0, 0]
    ∧ win0_3.index t = ![t.val % 8, t.val / 8] ∧ win0_4.index t = ![t.val % 8, t.val / 8] ∧ win0_5.index t = ![t.val % 8, t.val / 8]
    ∧ win0_6.index t = ![t.val / 8, t.val % 8, 0] ∧ win0_7.index t = ![t.val % 8, 0] ∧ win0_8.index t = ![t.val % 8, 0] ∧ win0_9.index t = ![t.val % 8, 0]
    ∧ win0_10.index t = ![t.val / 8, t.val % 8, 0] ∧ win0_11.index t = ![t.val / 8, 0, 0] ∧ win0_12.index t = ![t.val / 8, 0, 0]
    ∧ win0_13.index t = ![t.val % 8, t.val / 8] :=
  (by decide +kernel : ∀ t : Fin grid0.N, _)

section Pt
variable (h j : Fin 8) (t : Fin cfg0.N) (ht : t.val = 8 * h.val + j.val)

include ht in
theorem blk_q (a : Fin 1024) (x : Fin 256) : iblk m c 0 t (ix3 0 a x) = V m c main_v55 (ix3 h ⟨1024 * j.val + a.val, by omega⟩ x) := by
  blk_ext [iblk, idx t]
include ht in
theorem pt_q (a : Fin 1024) (x : Fin 256) : (ptAt m c t).q (ix3 0 a x) = (arr m c).q (ix3 h (qr j a) x) := by
  rw [ptAt_q]; exact blk_q m c h j t ht a x
include ht in
theorem blk_k (r : Fin 8192) (x : Fin 256) : iblk m c 1 t (ix3 0 r x) = V m c main_v58 (ix3 h r x) := by
  blk_ext [iblk, idx t]
include ht in
theorem pt_k (r : Fin 8192) (x : Fin 256) : (ptAt m c t).k (ix3 0 r x) = (arr m c).k (ix3 h r x) := by
  rw [ptAt_k]; exact blk_k m c h j t ht r x
include ht in
theorem blk_v (r : Fin 8192) (x : Fin 128) : iblk m c 2 t (ix3 0 r x) = V m c main_v60 (ix3 h r x) := by
  blk_ext [iblk, idx t]
include ht in
theorem pt_v (r : Fin 8192) (x : Fin 128) : (ptAt m c t).v (ix3 0 r x) = (arr m c).v (ix3 h r x) := by
  rw [ptAt_v]; exact blk_v m c h j t ht r x
include ht in
theorem pt_y (a : Fin 1024) (x : Fin 128) : (ptAt m c t).y (ix2 a x) = (arr m c).y (ix2 (qr j a) (hcol h x)) := by
  rw [ptAt_y]; unfold arr qr hcol; blk_ext [iblk, idx t]
include ht in
theorem pt_z (a : Fin 1024) (x : Fin 128) : (ptAt m c t).z (ix2 a x) = (arr m c).z (ix2 (qr j a) (hcol h x)) := by
  rw [ptAt_z]; unfold arr qr hcol; blk_ext [iblk, idx t]
include ht in
theorem pt_o (a : Fin 1024) (x : Fin 128) : (ptAt m c t).o (ix2 a x) = (arr m c).o (ix2 (qr j a) (hcol h x)) := by
  rw [ptAt_o]; unfold arr qr hcol; blk_ext [iblk, idx t]
include ht in
theorem pt_l (a : Fin 1024) (x : Fin 128) : (ptAt m c t).l (ix3 0 a x) = (arr m c).l (ix3 h (qr j a) x) := by
  rw [ptAt_l]; unfold arr qr; blk_ext [iblk, idx t]
include ht in
theorem pt_c (a : Fin 1024) (x : Fin 128) : (ptAt m c t).c (ix2 a x) = (arr m c).c (ix2 (qr j a) x) := by
  rw [ptAt_c]; unfold arr qr; blk_ext [iblk, idx t]
include ht in
theorem pt_sa (a : Fin 1024) (x : Fin 128) : (ptAt m c t).sa (ix2 a x) = (arr m c).sa (ix2 (qr j a) x) := by
  rw [ptAt_sa]; unfold arr qr; blk_ext [iblk, idx t]
include ht in
theorem pt_sb (a : Fin 1024) (x : Fin 128) : (ptAt m c t).sb (ix2 a x) = (arr m c).sb (ix2 (qr j a) x) := by
  rw [ptAt_sb]; unfold arr qr; blk_ext [iblk, idx t]

variable (hl : ∀ (h : Fin 8) (s : Fin 8192) (x : Fin 128), (arr m c).l (ix3 h s x) = (arr m c).l (ix3 h s 0))

include ht hl in
theorem pt_lanes : Lanes (ptAt m c t).ins where
  l a x := by
    show (ptAt m c t).l _ = (ptAt m c t).l _
    rw [pt_l m c h j t ht, pt_l m c h j t ht, hl]
  d a x := by
    show k0_pay163 _ _ _ _ = k0_pay163 _ _ _ _
    rw [pay163_at, pay163_at]

theorem coord1 : (grid0.coords t 1).val = t.val % 8 := coords_1 t

theorem ins_q (P : Pt Ideal) : P.ins.q = P.q := rfl
theorem ins_k (P : Pt Ideal) : P.ins.k = P.k := rfl
theorem ins_v (P : Pt Ideal) : P.ins.v = P.v := rfl
theorem ins_l (P : Pt Ideal) : P.ins.l = P.l := rfl
include ht in
theorem pt_pr (a : Fin 1024) (r : Fin 8192) : pr (ptAt m c t).ins a r
    = pow2 (∑ x, (arr m c).q (ix3 h (qr j a) x) * (arr m c).k (ix3 h r x) - (arr m c).l (ix3 h (qr j a) 0)) := by
  unfold pr
  rw [ins_q, ins_k, ins_l, pt_l m c h j t ht]
  refine congrArg (fun u => pow2 (u - _)) (Finset.sum_congr rfl fun x _ => ?_)
  rw [pt_q m c h j t ht, pt_k m c h j t ht]
include ht in
theorem pt_pm (a : Fin 1024) (r : Fin 8192) : pm (ptAt m c t).ins (grid0.coords t) a r = (arr m c).pm h (qr j a) r := by
  unfold pm Arr.pm
  refine if_congr ?_ (pt_pr m c h j t ht a r) rfl
  rw [coord1]
  have e : (qr j a).val = 1024 * j.val + a.val := rfl
  rw [e, ht]; omega
include ht in
theorem pt_g (a : Fin 1024) (x : Fin 128) : (ptAt m c t).ins.g (ix2 a x) = (arr m c).g h (qr j a) x := by
  show k0_pay164 _ _ _ = _
  rw [pay164_at, pt_y m c h j t ht, pt_z m c h j t ht]; rfl
include ht in
theorem pt_d (a : Fin 1024) : (ptAt m c t).ins.d (ix2 a 0) = (arr m c).d h (qr j a) := by
  show k0_pay163 _ _ _ _ = _
  rw [pay163_at]
  simp only [pt_y m c h j t ht, pt_z m c h j t ht, pt_o m c h j t ht]; rfl
include ht in
theorem pt_ds (a : Fin 1024) (r : Fin 8192) : ds (ptAt m c t).ins (grid0.coords t) a r = (arr m c).ds h (qr j a) r := by
  unfold ds Arr.ds
  rw [pt_pm m c h j t ht, pt_d m c h j t ht]
  simp only [pt_g m c h j t ht]
  have e1 : ∀ x, (ptAt m c t).ins.v (ix3 0 r x) = (arr m c).v (ix3 h r x) := pt_v m c h j t ht r
  simp only [e1]

/-- The point's addends over the arrays. -/
def dkPart (r : Fin 8192) (x : Fin 256) : EReal := ∑ a, (arr m c).ds h (qr j a) r * (arr m c).q (ix3 h (qr j a) x)
def dvPart (r : Fin 8192) (x : Fin 128) : EReal := ∑ a, (arr m c).pm h (qr j a) r * (arr m c).g h (qr j a) x
include ht in
theorem pt_dkAdd (r : Fin 8192) (x : Fin 256) : dkAdd (ptAt m c t).ins (grid0.coords t) r x = dkPart m c h j r x := by
  unfold dkAdd dkPart
  simp only [pt_ds m c h j t ht]
  have e1 : ∀ a, (ptAt m c t).ins.q (ix3 0 a x) = (arr m c).q (ix3 h (qr j a) x) := fun a => pt_q m c h j t ht a x
  simp only [e1]
include ht in
theorem pt_dvAdd (r : Fin 8192) (x : Fin 128) : dvAdd (ptAt m c t).ins (grid0.coords t) r x = dvPart m c h j r x := by
  unfold dvAdd dvPart
  simp only [pt_pm m c h j t ht, pt_g m c h j t ht]

end Pt

variable (hl : ∀ (h : Fin 8) (s : Fin 8192) (x : Fin 128), (arr m c).l (ix3 h s x) = (arr m c).l (ix3 h s 0))

theorem dkAfter_first : ∀ (n : ℕ) (hn : n < cfg0.N), n % 8 = 0 →
    dkAfter m c n hn = dkPoint (ptAt m c ⟨n, hn⟩).ins (grid0.coords ⟨n, hn⟩) (k0_pay157 (F := Ideal))
  | 0, hn, h0 => by rw [dkAfter, dkBase, if_pos ((coords_1 _).trans h0)]
  | n + 1, hn, h0 => by rw [dkAfter, dkBase, if_pos ((coords_1 _).trans h0)]
theorem dkAfter_next (n : ℕ) (hn : n + 1 < cfg0.N) (h0 : (n + 1) % 8 ≠ 0) :
    dkAfter m c (n + 1) hn = dkPoint (ptAt m c ⟨n + 1, hn⟩).ins (grid0.coords ⟨n + 1, hn⟩) (dkAfter m c n (by omega)) := by
  rw [dkAfter, dkBase, if_neg fun h => h0 ((coords_1 _).symm.trans h)]
theorem dvAfter_first : ∀ (n : ℕ) (hn : n < cfg0.N), n % 8 = 0 →
    dvAfter m c n hn = dvPoint (ptAt m c ⟨n, hn⟩).ins (grid0.coords ⟨n, hn⟩) (k0_pay158 (F := Ideal))
  | 0, hn, h0 => by rw [dvAfter, dvBase, if_pos ((coords_1 _).trans h0)]
  | n + 1, hn, h0 => by rw [dvAfter, dvBase, if_pos ((coords_1 _).trans h0)]
theorem dvAfter_next (n : ℕ) (hn : n + 1 < cfg0.N) (h0 : (n + 1) % 8 ≠ 0) :
    dvAfter m c (n + 1) hn = dvPoint (ptAt m c ⟨n + 1, hn⟩).ins (grid0.coords ⟨n + 1, hn⟩) (dvAfter m c n (by omega)) := by
  rw [dvAfter, dvBase, if_neg fun h => h0 ((coords_1 _).symm.trans h)]

include hl in
theorem dkAfter_at (h : Fin 8) (r : Fin 8192) (x : Fin 256) : ∀ (j : ℕ) (hj : j < 8) (hn : 8 * h.val + j < cfg0.N),
    dkAfter m c (8 * h.val + j) hn (ix3 0 r x) = ∑ i ∈ Finset.range (j + 1), if hi : i < 8 then dkPart m c h ⟨i, hi⟩ r x else 0
  | 0, hj, hn => by
    rw [dkAfter_first m c _ hn (by omega), dkPoint_at _ _ (pt_lanes m c h ⟨0, hj⟩ _ rfl hl), pay157_at, zero_add, pt_dkAdd m c h ⟨0, hj⟩ _ rfl]
    simp
  | j + 1, hj, hn => by
    have ih := dkAfter_at h r x j (by omega) (by omega)
    rw [Finset.sum_range_succ, ← ih, dif_pos hj]
    show dkAfter m c (8 * h.val + j + 1) hn (ix3 0 r x) = _
    rw [dkAfter_next m c (8 * h.val + j) hn (by omega), dkPoint_at _ _ (pt_lanes m c h ⟨j + 1, hj⟩ _ rfl hl), pt_dkAdd m c h ⟨j + 1, hj⟩ _ rfl]
include hl in
theorem dvAfter_at (h : Fin 8) (r : Fin 8192) (x : Fin 128) : ∀ (j : ℕ) (hj : j < 8) (hn : 8 * h.val + j < cfg0.N),
    dvAfter m c (8 * h.val + j) hn (ix3 0 r x) = ∑ i ∈ Finset.range (j + 1), if hi : i < 8 then dvPart m c h ⟨i, hi⟩ r x else 0
  | 0, hj, hn => by
    rw [dvAfter_first m c _ hn (by omega), dvPoint_at _ _ (pt_lanes m c h ⟨0, hj⟩ _ rfl hl), pay158_at, zero_add, pt_dvAdd m c h ⟨0, hj⟩ _ rfl]
    simp
  | j + 1, hj, hn => by
    have ih := dvAfter_at h r x j (by omega) (by omega)
    rw [Finset.sum_range_succ, ← ih, dif_pos hj]
    show dvAfter m c (8 * h.val + j + 1) hn (ix3 0 r x) = _
    rw [dvAfter_next m c (8 * h.val + j) hn (by omega), dvPoint_at _ _ (pt_lanes m c h ⟨j + 1, hj⟩ _ rfl hl), pt_dvAdd m c h ⟨j + 1, hj⟩ _ rfl]

theorem sum_points (f : Fin 8192 → EReal) : (∑ i ∈ Finset.range 8, if hi : i < 8 then ∑ a : Fin 1024, f (qr ⟨i, hi⟩ a) else 0) = ∑ s, f s := by
  rw [← Fin.sum_univ_eq_sum_range (fun i => if hi : i < 8 then ∑ a : Fin 1024, f (qr ⟨i, hi⟩ a) else 0) 8]
  simp only [Fin.is_lt, dite_true]
  rw [Fin.sum_univ_tiles 8 1024 rfl f]
  exact Finset.sum_congr rfl fun i _ => Finset.sum_congr rfl fun a _ => congrArg f (Fin.ext (by show 1024 * i.val + a.val = i.val * 1024 + a.val; omega))

include hl in
theorem dkArr_at (h : Fin 8) (r : Fin 8192) (x : Fin 256) : (dats m 0 c).arrAt 11 cfg0.N (ix3 h r x) = (arr m c).dk h r x := by
  have hG : (dats m 0 c).arrAt 11 cfg0.N = fun i : S8x8192x256.Idx => (arr m c).dk (i 0) (i 1) (i 2) := by
    refine (dats m 0 c).arrAt_eq_of_covers 11 _ (by decide +kernel) fun t hf y => ?_
    have hf' := (flush0_11 t).mp hf
    blk_simp
    rw [after0_11]
    have hh : ∃ h' : Fin 8, t.val = 8 * h'.val + 7 := ⟨⟨t.val / 8, by have := t.isLt; have : cfg0.N = 64 := N_0; omega⟩, by simp only; omega⟩
    obtain ⟨h', ht⟩ := hh
    idx_vars y
    have e : (win0_11.blk t).view.emb (ix3 y0 y1 y2) = ix3 h' y1 y2 := by blk_ext [idx t]
    have e' : ∀ f : S8x8192x256.Idx, f = ix3 h' y1 y2 → (arr m c).dk (f 0) (f 1) (f 2) = (arr m c).dk h' y1 y2 := fun f hf => by rw [hf]; rfl
    refine Eq.trans ?_ (e' _ e).symm
    have hn : 8 * h'.val + 7 < cfg0.N := ht ▸ t.isLt
    have e3 : dkAfter m c t.val t.isLt = dkAfter m c (8 * h'.val + 7) hn := by congr 1
    have e0 : y0 = 0 := Subsingleton.elim _ _
    subst e0
    rw [e3, dkAfter_at m c hl h' y1 y2 7 (by omega) hn]
    exact sum_points fun s => (arr m c).ds h' s y1 * (arr m c).q (ix3 h' s y2)
  rw [hG]
  rfl

include hl in
theorem dvArr_at (h : Fin 8) (r : Fin 8192) (x : Fin 128) : (dats m 0 c).arrAt 12 cfg0.N (ix3 h r x) = (arr m c).dv h r x := by
  have hG : (dats m 0 c).arrAt 12 cfg0.N = fun i : S8x8192x128.Idx => (arr m c).dv (i 0) (i 1) (i 2) := by
    refine (dats m 0 c).arrAt_eq_of_covers 12 _ (by decide +kernel) fun t hf y => ?_
    have hf' := (flush0_12 t).mp hf
    blk_simp
    rw [after0_12]
    have hh : ∃ h' : Fin 8, t.val = 8 * h'.val + 7 := ⟨⟨t.val / 8, by have := t.isLt; have : cfg0.N = 64 := N_0; omega⟩, by simp only; omega⟩
    obtain ⟨h', ht⟩ := hh
    idx_vars y
    have e : (win0_12.blk t).view.emb (ix3 y0 y1 y2) = ix3 h' y1 y2 := by blk_ext [idx t]
    have e' : ∀ f : S8x8192x128.Idx, f = ix3 h' y1 y2 → (arr m c).dv (f 0) (f 1) (f 2) = (arr m c).dv h' y1 y2 := fun f hf => by rw [hf]; rfl
    refine Eq.trans ?_ (e' _ e).symm
    have hn : 8 * h'.val + 7 < cfg0.N := ht ▸ t.isLt
    have e3 : dvAfter m c t.val t.isLt = dvAfter m c (8 * h'.val + 7) hn := by congr 1
    have e0 : y0 = 0 := Subsingleton.elim _ _
    subst e0
    rw [e3, dvAfter_at m c hl h' y1 y2 7 (by omega) hn]
    exact sum_points fun s => (arr m c).pm h' s y1 * (arr m c).g h' s y2
  rw [hG]
  rfl

theorem dmzArr_at (s : Fin 8192) (e : Fin 1024) : (dats m 0 c).arrAt 13 cfg0.N (ix2 s e) = (arr m c).y (ix2 s e) * (arr m c).o (ix2 s e)
    * (Ideal.logistic ((arr m c).z (ix2 s e)) * (1 + (arr m c).z (ix2 s e) * (1 - Ideal.logistic ((arr m c).z (ix2 s e))))) := by
  have hG : (dats m 0 c).arrAt 13 cfg0.N = fun i : S8192x1024.Idx => (arr m c).y i * (arr m c).o i
    * (Ideal.logistic ((arr m c).z i) * (1 + (arr m c).z i * (1 - Ideal.logistic ((arr m c).z i)))) := by
    refine (dats m 0 c).arrAt_eq_of_covers 13 _ (by decide +kernel) fun t hf y => ?_
    blk_simp
    rw [after0_13]
    have hh : ∃ h' j' : Fin 8, t.val = 8 * h'.val + j'.val :=
      ⟨⟨t.val / 8, by have : t.val < 64 := lt_of_lt_of_eq t.isLt N_0; omega⟩, ⟨t.val % 8, by omega⟩, by simp only; omega⟩
    obtain ⟨h', j', ht⟩ := hh
    idx_vars y
    have e : (win0_13.blk t).view.emb (ix2 y0 y1) = ix2 (qr j' y0) (hcol h' y1) := by unfold qr hcol; blk_ext [idx t]
    have e' : ∀ f : S8192x1024.Idx, f = ix2 (qr j' y0) (hcol h' y1) → k0_pay162 (ptAt m c t).z (ptAt m c t).y (ptAt m c t).o (ix2 y0 y1)
        = (arr m c).y f * (arr m c).o f * (Ideal.logistic ((arr m c).z f) * (1 + (arr m c).z f * (1 - Ideal.logistic ((arr m c).z f)))) := fun f hf => by
      rw [hf, pay162_at, pt_y m c h' j' t ht, pt_z m c h' j' t ht, pt_o m c h' j' t ht]
    exact e' _ e
  rw [hG]

end Cert.KernelIdeal.Val

end
-- ==== Proof.Data.lean ====
/- The attention and its gradients over the real numbers, as plain functions of real arguments: what the kernel's and
   the reference's arrays are both shown to hold. -/
module

public import Mathlib.Analysis.SpecialFunctions.Pow.Real
public import Mathlib.Analysis.SpecialFunctions.Log.Basic
public import Idealize.ShloMosaic.Lib.Pointwise

@[expose] public section

noncomputable section

namespace Cert

/-- The seven arguments at real values. -/
structure Data where
  q : Fin 8192 → Fin 8 → Fin 192 → ℝ
  k : Fin 8192 → Fin 8 → Fin 192 → ℝ
  v : Fin 8192 → Fin 8 → Fin 128 → ℝ
  z : Fin 8192 → Fin 1024 → ℝ
  cs : Fin 8192 → Fin 32 → ℝ
  sn : Fin 8192 → Fin 32 → ℝ
  y : Fin 8192 → Fin 1024 → ℝ

/-- Column `x` of head `h` where heads lie side by side. -/
def hc (h : Fin 8) (x : Fin 128) : Fin 1024 := ⟨128 * h.val + x.val, by omega⟩

namespace Data
variable (D : Data)

/-- The queries after their rotation. -/
def rot (s : Fin 8192) (h : Fin 8) (x : Fin 192) : ℝ :=
  if _ : x.val < 128 then D.q s h x
  else if _ : x.val - 128 < 32 then D.q s h x * D.cs s ⟨x.val - 128, by omega⟩ - D.q s h ⟨x.val + 32, by omega⟩ * D.sn s ⟨x.val - 128, by omega⟩
  else D.q s h x * D.cs s ⟨x.val - 128 - 32, by omega⟩ + D.q s h ⟨x.val - 32, by omega⟩ * D.sn s ⟨x.val - 128 - 32, by omega⟩

/-- The logits. -/
def lg (h : Fin 8) (s r : Fin 8192) : ℝ := (∑ x, D.rot s h x * D.k r h x) / √192
/-- Their exponentials under the causal mask, -/
def ex (h : Fin 8) (s r : Fin 8192) : ℝ := if r.val ≤ s.val then Real.exp (D.lg h s r) else 0
/-- the row sums, -/
def zs (h : Fin 8) (s : Fin 8192) : ℝ := ∑ r, D.ex h s r
/-- and the probabilities. -/
def p (h : Fin 8) (s r : Fin 8192) : ℝ := D.ex h s r / D.zs h s
/-- The attention's output. -/
def out (h : Fin 8) (s : Fin 8192) (x : Fin 128) : ℝ := ∑ r, D.p h s r * D.v r h x
/-- The logistic function. -/
def sg (u : ℝ) : ℝ := 1 / (1 + Real.exp (-u))
/-- The gradient at the attention's output. -/
def g (h : Fin 8) (s : Fin 8192) (x : Fin 128) : ℝ := D.y s (hc h x) * (D.z s (hc h x) * sg (D.z s (hc h x)))
/-- The gradient at the probabilities, -/
def dp (h : Fin 8) (s r : Fin 8192) : ℝ := ∑ x, D.g h s x * D.v r h x
/-- the row's inner product of output and gradient, -/
def dl (h : Fin 8) (s : Fin 8192) : ℝ := ∑ x, D.g h s x * D.out h s x
/-- and the gradient at the logits. -/
def ds (h : Fin 8) (s r : Fin 8192) : ℝ := D.p h s r * (D.dp h s r - D.dl h s)
/-- The values' gradient. -/
def dv (h : Fin 8) (r : Fin 8192) (x : Fin 128) : ℝ := ∑ s, D.p h s r * D.g h s x
/-- The keys' gradient, in base-2 logits. -/
def dk (h : Fin 8) (r : Fin 8192) (x : Fin 192) : ℝ := (∑ s, D.ds h s r * D.rot s h x) / (√192 * Real.log 2)
/-- The gradient of the rotated queries. -/
def dr (h : Fin 8) (s : Fin 8192) (x : Fin 192) : ℝ := (∑ r, D.ds h s r * D.k r h x) / √192
/-- The queries' gradient: the rotation turned back. -/
def dq (h : Fin 8) (s : Fin 8192) (x : Fin 192) : ℝ :=
  if _ : x.val < 128 then D.dr h s x
  else if _ : x.val - 128 < 32 then D.dr h s x * D.cs s ⟨x.val - 128, by omega⟩ + D.dr h s ⟨x.val + 32, by omega⟩ * D.sn s ⟨x.val - 128, by omega⟩
  else D.dr h s x * D.cs s ⟨x.val - 128 - 32, by omega⟩ - D.dr h s ⟨x.val - 32, by omega⟩ * D.sn s ⟨x.val - 128 - 32, by omega⟩
/-- The gate's gradient. -/
def dz (h : Fin 8) (s : Fin 8192) (x : Fin 128) : ℝ :=
  D.y s (hc h x) * D.out h s x * (sg (D.z s (hc h x)) * (1 + D.z s (hc h x) * (1 - sg (D.z s (hc h x)))))

theorem zs_pos (h : Fin 8) (s : Fin 8192) : 0 < D.zs h s := by
  refine Finset.sum_pos' (fun r _ => ?_) ⟨s, Finset.mem_univ _, ?_⟩
  · unfold ex; split
    · exact (Real.exp_pos _).le
    · exact le_rfl
  · unfold ex; rw [if_pos le_rfl]; exact Real.exp_pos _

/-- The row's inner product is the mean of the gradient at the probabilities. -/
theorem dl_eq (h : Fin 8) (s : Fin 8192) : D.dl h s = ∑ r, D.p h s r * D.dp h s r := by
  unfold dl out dp
  simp only [Finset.mul_sum]
  rw [Finset.sum_comm]
  exact Finset.sum_congr rfl fun r _ => Finset.sum_congr rfl fun x _ => by ring

/-- A finite maximum of a row: any real shift of the logits leaves the probabilities. -/
theorem shift (h : Fin 8) (s r : Fin 8192) (M : ℝ) : D.ex h s r * Real.exp (-M) = if r.val ≤ s.val then Real.exp (D.lg h s r - M) else 0 := by
  unfold ex; split
  · rw [← Real.exp_add, sub_eq_add_neg]
  · rw [zero_mul]
theorem shift_sum (h : Fin 8) (s : Fin 8192) (M : ℝ) : ∑ r, D.ex h s r * Real.exp (-M) = D.zs h s * Real.exp (-M) := by
  unfold zs; rw [Finset.sum_mul]
theorem shift_div (h : Fin 8) (s r : Fin 8192) (M : ℝ) : D.ex h s r * Real.exp (-M) / (D.zs h s * Real.exp (-M)) = D.p h s r := by
  unfold p; rw [mul_div_mul_right _ _ (Real.exp_pos _).ne']
theorem shift_log (h : Fin 8) (s : Fin 8192) (M : ℝ) : M + Real.log (D.zs h s * Real.exp (-M)) = Real.log (D.zs h s) := by
  rw [Real.log_mul (D.zs_pos h s).ne' (Real.exp_pos _).ne', Real.log_exp]; ring
/-- The probabilities from base-2 logits and the base-2 row log-sums. -/
theorem p_pow (h : Fin 8) (s r : Fin 8192) (hr : r.val ≤ s.val) : (2 : ℝ) ^ (D.lg h s r / Real.log 2 - Real.log (D.zs h s) / Real.log 2) = D.p h s r := by
  have h2 : Real.log 2 ≠ 0 := (Real.log_pos (by norm_num)).ne'
  rw [Real.rpow_def_of_pos (by norm_num), ← sub_div, mul_div_cancel₀ _ h2, Real.exp_sub, Real.exp_log (D.zs_pos h s)]
  unfold p ex; rw [if_pos hr]

end Data

end Cert

end
-- ==== Proof.Ereal.lean ====
/- Extended reals that are reals: sums, quotients, the host's unary operations and constants, the maximum of a row. -/
module

public import proofs.«01_k».proof.Proof.Data
public import Idealize.ShloMosaic.PureOps.Ideal
public import Mathlib.Data.Finset.Lattice.Fold
public import Mathlib.Data.Finset.Fold

@[expose] public section

noncomputable section

namespace Cert

open Idealize.ShloMosaic

theorem coe_sum {n : ℕ} (f : Fin n → ℝ) : ∑ i, ((f i : ℝ) : EReal) = ((∑ i, f i : ℝ) : EReal) := by
  classical
  induction (Finset.univ : Finset (Fin n)) using Finset.induction_on with
  | empty => simp
  | insert a s ha ih => rw [Finset.sum_insert ha, Finset.sum_insert ha, ih, EReal.coe_add]
theorem div_real (a : ℝ) {b : ℝ} (hb : b ≠ 0) : Ideal.div (a : EReal) (b : EReal) = ((a / b : ℝ) : EReal) := by
  rw [Ideal.div_coe hb, ← EReal.coe_mul, mul_one_div]
theorem log_real {a : ℝ} (ha : 0 < a) : Ideal.log (a : EReal) = ((Real.log a : ℝ) : EReal) := by
  rw [Ideal.log_coe, if_neg (not_le.mpr ha)]
theorem sqrt_real {a : ℝ} (ha : 0 ≤ a) : Ideal.sqrt (a : EReal) = ((√a : ℝ) : EReal) := by
  rw [Ideal.sqrt_coe, if_neg (not_lt.mpr ha)]
theorem exp_bot : Ideal.exp ⊥ = ((0 : ℝ) : EReal) := rfl
theorem exp2_real (a : ℝ) : Ideal.exp2 (a : EReal) = (((2 : ℝ) ^ a : ℝ) : EReal) := rfl
theorem logistic_real (a : ℝ) : Ideal.logistic (a : EReal) = ((Data.sg a : ℝ) : EReal) := by
  rw [Ideal.logistic_coe, Data.sg, one_div]

theorem word_192 : Ideal.ofBits FTy.f32 1128267776#32 = ((192 : ℝ) : EReal) := by
  simp [Ideal.ofBits, Ideal.ieee]
  rw [← EReal.coe_mul]; norm_num
theorem word_2 : Ideal.ofBits FTy.f32 1073741824#32 = ((2 : ℝ) : EReal) := by
  simp [Ideal.ofBits, Ideal.ieee]
  rw [← EReal.coe_mul]; norm_num
theorem word_bot : Ideal.ofBits FTy.f32 4286578688#32 = (⊥ : EReal) := by
  simp [Ideal.ofBits, Ideal.ieee]
theorem word_0 : Ideal.ofBits FTy.f32 0#32 = ((0 : ℝ) : EReal) := by
  simp [Ideal.ofBits, Ideal.ieee]
theorem word_1 : Ideal.ofBits FTy.f32 1065353216#32 = ((1 : ℝ) : EReal) := by
  simp [Ideal.ofBits, Ideal.ieee]
  rw [← EReal.coe_mul]; norm_num

theorem sqrt192_pos : 0 < √(192 : ℝ) := Real.sqrt_pos.mpr (by norm_num)
theorem log2_pos : 0 < Real.log 2 := Real.log_pos (by norm_num)

/-- The maximum of a row of reals and −∞ with one real is real. -/
theorem fold_real {n : ℕ} (f : Fin n → EReal) (a : Fin n) (hf : ∀ x, f x < ⊤) (ha : ⊥ < f a) : ∃ M : ℝ, Finset.fold max ⊥ f Finset.univ = (M : EReal) := by
  have h1 : Finset.fold max ⊥ f Finset.univ < ⊤ := (Finset.fold_max_lt _).mpr ⟨bot_lt_top, fun x _ => hf x⟩
  have h2 : ⊥ < Finset.fold max ⊥ f Finset.univ := lt_of_lt_of_le ha ((Finset.le_fold_max _).mpr (Or.inr ⟨a, Finset.mem_univ _, le_rfl⟩))
  exact ⟨_, (EReal.coe_toReal h1.ne h2.ne').symm⟩

end Cert

end
-- ==== Proof.Host.lean ====
/- The arrays the host prepares for the kernel, over the reals: for real arguments each element is a real number. -/
module

public import proofs.«01_k».proof.Proof.Arrays
public import proofs.«01_k».proof.Proof.Ereal
public import Idealize.ShloMosaic.Lib.Claim
public import Idealize.ShloMosaic.Lib.StableHlo.ReadAt

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Pointwise Idealize.SL.Sem

variable (m : (ℓ : Loc nD τ sig) → Buf (Elt Ideal) ℓ) (c : Dev nD)

/-- The device's seven arguments are the real data. -/
structure Holds (D : Data) : Prop where
  q : ∀ s h x, m (c, Proc.devRef .tc main_arg0) (ix3 s h x) = ((D.q s h x : ℝ) : EReal)
  k : ∀ s h x, m (c, Proc.devRef .tc main_arg1) (ix3 s h x) = ((D.k s h x : ℝ) : EReal)
  v : ∀ s h x, m (c, Proc.devRef .tc main_arg2) (ix3 s h x) = ((D.v s h x : ℝ) : EReal)
  z : ∀ s x, m (c, Proc.devRef .tc main_arg3) (ix2 s x) = ((D.z s x : ℝ) : EReal)
  cs : ∀ s x, m (c, Proc.devRef .tc main_arg4) (ix2 s x) = ((D.cs s x : ℝ) : EReal)
  sn : ∀ s x, m (c, Proc.devRef .tc main_arg5) (ix2 s x) = ((D.sn s x : ℝ) : EReal)
  y : ∀ s x, m (c, Proc.devRef .tc main_arg6) (ix2 s x) = ((D.y s x : ℝ) : EReal)

/-! The host's steps, each from the arrays before it. -/

/-- The host's operations past the logits. -/
abbrev rest : List (HloOp τ sig (Elt Ideal)) := [hostOps0_1, hostOps0_2, hostOps0_3, hostOps0_4, hostOps0_5, hostOps0_6].flatten
/-- What they leave from given contents. -/
abbrev after2 (σ : Valuation τ sig (Elt Ideal)) (b : Ref sig .tc) : Buf (Elt Ideal) ((c : Thread nD τ).loc b) := StableHlo.after rest σ b
/-- The contents with the logits computed. -/
abbrev first : Valuation τ sig (Elt Ideal) := StableHlo.after hostOps0 (fun b => m (c, b))
theorem V_cut (b : Ref sig .tc) : V m c b = after2 c (first m c) b := by
  unfold V after2 first rest
  rw [List.flatten_cons, StableHlo.after_append]

theorem step28 (σ : Valuation τ sig (Elt Ideal)) : @Eq (FVec Ideal S8x8192 .f32) (after2 c σ main_v28) (Host.reduce FloatOps.maximumf (after2 c σ main_v27 : FVec Ideal S8x8192x8192 .f32)
    (constant S_ .f32 4286578688#32) reducesTo_S8x8192x8192_S8x8192_d2 h_S_) := by
  unfold after2 rest; after_reads_simp
theorem step32 (σ : Valuation τ sig (Elt Ideal)) : @Eq (FVec Ideal S8x8192x8192 .f32) (after2 c σ main_v32) (Host.exp (subf (after2 c σ main_v27 : FVec Ideal S8x8192x8192 .f32)
    (broadcastInDim S8x8192x8192 ![0, 1, 2] bcast_S8x8192x1_S8x8192x8192_0_1_2 (broadcastInDim S8x8192x1 ![0, 1] bcast_S8x8192_S8x8192x1_0_1 (after2 c σ main_v28 : FVec Ideal S8x8192 .f32))))) := by
  unfold after2 rest; after_reads_simp
theorem step33 (σ : Valuation τ sig (Elt Ideal)) : @Eq (FVec Ideal S8x8192 .f32) (after2 c σ main_v33) (Host.reduceAdd (after2 c σ main_v32 : FVec Ideal S8x8192x8192 .f32)
    (constant S_ .f32 0x00000000#32) reducesTo_S8x8192x8192_S8x8192_d2 h_S_) := by
  unfold after2 rest; after_reads_simp
theorem step36 (σ : Valuation τ sig (Elt Ideal)) : @Eq (FVec Ideal S8x8192x8192 .f32) (after2 c σ main_v36) (Host.divf (after2 c σ main_v32 : FVec Ideal S8x8192x8192 .f32)
    (broadcastInDim S8x8192x8192 ![0, 1, 2] bcast_S8x8192x1_S8x8192x8192_0_1_2 (broadcastInDim S8x8192x1 ![0, 1] bcast_S8x8192_S8x8192x1_0_1 (after2 c σ main_v33 : FVec Ideal S8x8192 .f32)))) := by
  unfold after2 rest; after_reads_simp
theorem step38 (σ : Valuation τ sig (Elt Ideal)) : @Eq (FVec Ideal S8192x8x128 .f32) (after2 c σ main_v38) (transpose S8192x8x128 [2, 0, 1]
    (Host.dotGeneral dot_S8192x8x128_S8x8192x8192_S8x128x8192_0_2_2_1_1_0 (φ₁ := .f32) (φ₂ := .f32) none (after2 c σ main_arg2) (after2 c σ main_v36)) transposes_S8x128x8192_S8192x8x128_2_0_1) := by
  unfold after2 rest; after_reads_simp
  all_goals rfl
theorem step39 (σ : Valuation τ sig (Elt Ideal)) : @Eq (FVec Ideal S8192x1024 .f32) (after2 c σ main_v39) (shapeCast S8192x1024 (after2 c σ main_v38 : FVec Ideal S8192x8x128 .f32) shapeCasts_S8192x8x128_S8192x1024) := by
  unfold after2 rest; after_reads_simp
  all_goals rfl
theorem step46 (σ : Valuation τ sig (Elt Ideal)) : @Eq (FVec Ideal S8x8192x128 .f32) (after2 c σ main_v46) (broadcastInDim S8x8192x128 ![0, 1, 2] bcast_S8x8192x1_S8x8192x128_0_1_2
    (Host.divf (addf (broadcastInDim S8x8192x1 ![0, 1] bcast_S8x8192_S8x8192x1_0_1 (after2 c σ main_v28 : FVec Ideal S8x8192 .f32))
      (Host.log (broadcastInDim S8x8192x1 ![0, 1] bcast_S8x8192_S8x8192x1_0_1 (after2 c σ main_v33 : FVec Ideal S8x8192 .f32))))
      (broadcastInDim S8x8192x1 ![] bcast_S_S8x8192x1 (id (Host.log (constant S_ .f32 0x40000000#32)))))) := by
  unfold after2 rest; after_reads_simp

/-! The same at an index, over arbitrary arrays. -/

theorem at16 (X Y : FVec Ideal S8192x8x192 .f32) (h : Fin 8) (s r : Fin 8192) :
    Host.dotGeneral dot_S8192x8x192_S8192x8x192_S8x8192x8192_2_2_0_0_1_1 none X Y (ix3 h s r) = ∑ x, X (ix3 s h x) * Y (ix3 r h x) := by
  pointwise []
theorem at28 (X : FVec Ideal S8x8192x8192 .f32) (h : Fin 8) (s : Fin 8192) : Host.reduce FloatOps.maximumf X (constant S_ .f32 4286578688#32)
    reducesTo_S8x8192x8192_S8x8192_d2 h_S_ (ix2 h s) = Finset.fold max (Ideal.ofBits FTy.f32 4286578688#32) (fun x => X (ix3 h s x)) Finset.univ := by
  pointwise []
theorem at32 (X : FVec Ideal S8x8192x8192 .f32) (Y : FVec Ideal S8x8192 .f32) (h : Fin 8) (s r : Fin 8192) : Host.exp (subf X
    (broadcastInDim S8x8192x8192 ![0, 1, 2] bcast_S8x8192x1_S8x8192x8192_0_1_2 (broadcastInDim S8x8192x1 ![0, 1] bcast_S8x8192_S8x8192x1_0_1 Y))) (ix3 h s r)
    = Ideal.exp (X (ix3 h s r) - Y (ix2 h s)) := by
  pointwise []
theorem at33 (X : FVec Ideal S8x8192x8192 .f32) (h : Fin 8) (s : Fin 8192) : Host.reduceAdd X (constant S_ .f32 0x00000000#32)
    reducesTo_S8x8192x8192_S8x8192_d2 h_S_ (ix2 h s) = ∑ r, X (ix3 h s r) := by
  pointwise []
theorem at36 (X : FVec Ideal S8x8192x8192 .f32) (Y : FVec Ideal S8x8192 .f32) (h : Fin 8) (s r : Fin 8192) : Host.divf X
    (broadcastInDim S8x8192x8192 ![0, 1, 2] bcast_S8x8192x1_S8x8192x8192_0_1_2 (broadcastInDim S8x8192x1 ![0, 1] bcast_S8x8192_S8x8192x1_0_1 Y)) (ix3 h s r)
    = Ideal.div (X (ix3 h s r)) (Y (ix2 h s)) := by
  pointwise []
theorem at38 (X : FVec Ideal S8192x8x128 .f32) (Y : FVec Ideal S8x8192x8192 .f32) (s : Fin 8192) (h : Fin 8) (x : Fin 128) : transpose S8192x8x128 [2, 0, 1]
    (Host.dotGeneral dot_S8192x8x128_S8x8192x8192_S8x128x8192_0_2_2_1_1_0 none X Y) transposes_S8x128x8192_S8192x8x128_2_0_1 (ix3 s h x)
    = ∑ r, X (ix3 r h x) * Y (ix3 h s r) := by
  pointwise []
theorem at39 (X : FVec Ideal S8192x8x128 .f32) (s : Fin 8192) (h : Fin 8) (x : Fin 128) : shapeCast S8192x1024 X shapeCasts_S8192x8x128_S8192x1024 (ix2 s (hc h x)) = X (ix3 s h x) := by
  unfold hc
  pointwise []
  all_goals (congr 1; first | done | blk_ext [])
theorem at46 (X Y : FVec Ideal S8x8192 .f32) (h : Fin 8) (s : Fin 8192) (x : Fin 128) : broadcastInDim S8x8192x128 ![0, 1, 2] bcast_S8x8192x1_S8x8192x128_0_1_2
    (Host.divf (addf (broadcastInDim S8x8192x1 ![0, 1] bcast_S8x8192_S8x8192x1_0_1 X) (Host.log (broadcastInDim S8x8192x1 ![0, 1] bcast_S8x8192_S8x8192x1_0_1 Y)))
      (broadcastInDim S8x8192x1 ![] bcast_S_S8x8192x1 (id (Host.log (constant S_ .f32 0x40000000#32))))) (ix3 h s x)
    = Ideal.div (X (ix2 h s) + Ideal.log (Y (ix2 h s))) (Ideal.log (Ideal.ofBits FTy.f32 1073741824#32)) := by
  simp only [id]
  pointwise []

/-! The causal mask's comparison. -/

theorem mask_sge (a b : Fin 8192) : IntOp.cmpi CmpIPredicate.sge (BitVec.ofNat 32 a.val) (BitVec.ofNat 32 b.val) = BitVec.ofBool (decide (b.val ≤ a.val)) := by
  have h1 : (BitVec.ofNat 32 a.val).toInt = a.val := by rw [BitVec.toInt_eq_toNat_of_lt] <;> simp <;> omega
  have h2 : (BitVec.ofNat 32 b.val).toInt = b.val := by rw [BitVec.toInt_eq_toNat_of_lt] <;> simp <;> omega
  show BitVec.ofBool (decide ((BitVec.ofNat 32 b.val).toInt ≤ (BitVec.ofNat 32 a.val).toInt)) = _
  rw [h1, h2]; simp
theorem mask_select (a b : Fin 8192) (X Y : EReal) : Scalar.select (IntOp.cmpi CmpIPredicate.sge (BitVec.ofNat 32 a.val) (BitVec.ofNat 32 b.val)) X Y = if b.val ≤ a.val then X else Y := by
  rw [mask_sge]
  by_cases h : b.val ≤ a.val
  · rw [if_pos h, decide_eq_true h]; rfl
  · rw [if_neg h, decide_eq_false h]; rfl

/-! The arrays of the forward pass, as functions to the extended reals. -/

def a27 : S8x8192x8192.Idx → EReal := V m c main_v27
theorem a27_eq : a27 m c = after2 c (first m c) main_v27 := V_cut m c main_v27
def a28 : S8x8192.Idx → EReal := V m c main_v28
theorem a28_eq : a28 m c = after2 c (first m c) main_v28 := V_cut m c main_v28
def a32 : S8x8192x8192.Idx → EReal := V m c main_v32
theorem a32_eq : a32 m c = after2 c (first m c) main_v32 := V_cut m c main_v32
def a33 : S8x8192.Idx → EReal := V m c main_v33
theorem a33_eq : a33 m c = after2 c (first m c) main_v33 := V_cut m c main_v33
def a36 : S8x8192x8192.Idx → EReal := V m c main_v36
theorem a36_eq : a36 m c = after2 c (first m c) main_v36 := V_cut m c main_v36
def a39 : S8192x1024.Idx → EReal := V m c main_v39
theorem a39_eq : a39 m c = after2 c (first m c) main_v39 := V_cut m c main_v39
def a46 : S8x8192x128.Idx → EReal := V m c main_v46
theorem a46_eq : a46 m c = after2 c (first m c) main_v46 := V_cut m c main_v46
def ar2 : S8192x8x128.Idx → EReal := V m c main_arg2
theorem ar2_eq : ar2 m c = after2 c (first m c) main_arg2 := V_cut m c main_arg2

/-! At real arguments. -/

variable (D : Data) (H : Holds m c D)
include H

omit H in
theorem rotE (a0 : S8192x8x192.Idx → EReal) (a4 a5 : S8192x32.Idx → EReal) (h0 : ∀ s h x, a0 (ix3 s h x) = ((D.q s h x : ℝ) : EReal))
    (h4 : ∀ s x, a4 (ix2 s x) = ((D.cs s x : ℝ) : EReal)) (h5 : ∀ s x, a5 (ix2 s x) = ((D.sn s x : ℝ) : EReal)) (s : Fin 8192) (h : Fin 8) (x : Fin 192) : (if h1 : x.val < 128 then a0 (ix3 s h ⟨x.val, by omega⟩)
    else if h2 : x.val - 128 < 32 then a0 (ix3 s h ⟨128 + (x.val - 128), by omega⟩) * a4 (ix2 s ⟨x.val - 128, h2⟩)
        - a0 (ix3 s h ⟨160 + (x.val - 128), by omega⟩) * a5 (ix2 s ⟨x.val - 128, h2⟩)
      else a0 (ix3 s h ⟨160 + (x.val - 128 - 32), by omega⟩) * a4 (ix2 s ⟨x.val - 128 - 32, by omega⟩)
        + a0 (ix3 s h ⟨128 + (x.val - 128 - 32), by omega⟩) * a5 (ix2 s ⟨x.val - 128 - 32, by omega⟩) : EReal)
    = ((D.rot s h x : ℝ) : EReal) := by
  simp only [h0, h4, h5, ← EReal.coe_mul, ← EReal.coe_sub, ← EReal.coe_add]
  unfold Data.rot
  by_cases h1 : x.val < 128
  · simp only [dif_pos h1]
  · by_cases h2 : x.val - 128 < 32
    · have e1 : (⟨128 + (x.val - 128), by omega⟩ : Fin 192) = x := Fin.ext (by show 128 + (x.val - 128) = x.val; omega)
      have e2 : (⟨160 + (x.val - 128), by omega⟩ : Fin 192) = ⟨x.val + 32, by omega⟩ := Fin.ext (by show 160 + (x.val - 128) = x.val + 32; omega)
      simp only [dif_neg h1, dif_pos h2, e1, e2]
    · have e1 : (⟨160 + (x.val - 128 - 32), by omega⟩ : Fin 192) = x := Fin.ext (by show 160 + (x.val - 128 - 32) = x.val; omega)
      have e2 : (⟨128 + (x.val - 128 - 32), by omega⟩ : Fin 192) = ⟨x.val - 32, by omega⟩ := Fin.ext (by show 128 + (x.val - 128 - 32) = x.val - 32; omega)
      simp only [dif_neg h1, dif_neg h2, e1, e2]
theorem host20 (h : Fin 8) (s r : Fin 8192) : first m c main_v20 (ix3 h s r) = ((D.lg h s r : ℝ) : EReal) := by
  unfold first
  after_reads_at
  after_reads_at
  have e : ∀ x : Fin 192, _ = ((D.rot s h x : ℝ) : EReal) := rotE D _ _ _ H.q H.cs H.sn s h
  refine (congrArg₂ Ideal.div (Finset.sum_congr rfl fun x _ => congrArg (· * _) (e x)) rfl).trans ?_
  have e2 : id (Host.sqrt (constant (F := Ideal) S_ FTy.f32 1128267776#32)) ix0 = ((√192 : ℝ) : EReal) := by
    show Ideal.sqrt (Ideal.ofBits FTy.f32 1128267776#32) = _
    rw [word_192, sqrt_real (by norm_num)]
  refine (congrArg (Ideal.div _) e2).trans ?_
  have e3 : ∀ x : Fin 192, (((D.rot s h x : ℝ) : EReal) * m (c, Proc.devRef .tc main_arg1) (ix3 r h x) : EReal) = ((D.rot s h x * D.k r h x : ℝ) : EReal) := fun x => by
    rw [H.k, EReal.coe_mul]
  refine (congrArg (Ideal.div · _) (Finset.sum_congr rfl fun x _ => e3 x)).trans ?_
  rw [coe_sum, div_real _ sqrt192_pos.ne']
  rfl
omit H in
theorem mask26 (s r : Fin 8192) : first m c main_v26 (ix2 s r) = IntOp.cmpi CmpIPredicate.sge (BitVec.ofNat 32 s.val) (BitVec.ofNat 32 r.val) := by
  unfold first
  after_reads_at
omit H in
theorem bot0 : first m c main_cst_0 ix0 = (⊥ : EReal) := by
  unfold first
  after_reads_at
  exact word_bot
omit H in
theorem at27 (σ : Valuation τ sig (Elt Ideal)) (h : Fin 8) (s r : Fin 8192) :
    after2 c σ main_v27 (ix3 h s r) = Scalar.select (σ main_v26 (ix2 s r)) (σ main_v20 (ix3 h s r)) (σ main_cst_0 ix0) := by
  unfold after2 rest
  after_reads_at
  all_goals rfl
theorem arg2_at (s : Fin 8192) (h : Fin 8) (x : Fin 128) : V m c main_arg2 (ix3 s h x) = ((D.v s h x : ℝ) : EReal) := by
  rw [V_main_arg2]; exact H.v s h x
theorem host27 (h : Fin 8) (s r : Fin 8192) : a27 m c (ix3 h s r) = if r.val ≤ s.val then ((D.lg h s r : ℝ) : EReal) else ⊥ := by
  show V m c main_v27 _ = _
  rw [V_cut, at27, mask26, mask_select, host20 m c D H, bot0]
theorem host28 (h : Fin 8) (s : Fin 8192) : ∃ M : ℝ, a28 m c (ix2 h s) = (M : EReal) := by
  have e : a28 m c (ix2 h s) = Finset.fold max ⊥ (fun x => (a27 m c (ix3 h s x) : EReal)) Finset.univ := by
    rw [a28_eq, a27_eq]
    refine (congrFun (step28 c (first m c)) _).trans ((at28 _ h s).trans ?_)
    rw [word_bot]
  rw [e]
  refine fold_real _ s (fun x => ?_) ?_
  · show a27 m c (ix3 h s x) < ⊤
    rw [host27 m c D H]; split
    · exact EReal.coe_lt_top _
    · exact bot_lt_top
  · show ⊥ < a27 m c (ix3 h s s)
    rw [host27 m c D H, if_pos le_rfl]; exact EReal.bot_lt_coe _
theorem host32 (h : Fin 8) (s r : Fin 8192) (M : ℝ) (hM : a28 m c (ix2 h s) = (M : EReal)) :
    a32 m c (ix3 h s r) = ((D.ex h s r * Real.exp (-M) : ℝ) : EReal) := by
  have e : a32 m c (ix3 h s r) = Ideal.exp (a27 m c (ix3 h s r) - a28 m c (ix2 h s)) := by
    rw [a32_eq, a27_eq, a28_eq]
    exact (congrFun (step32 c (first m c)) _).trans (at32 _ _ h s r)
  rw [e, host27 m c D H, hM, D.shift]
  split
  · rw [← EReal.coe_sub, Ideal.exp_coe]
  · rw [EReal.bot_sub, exp_bot]
theorem host33 (h : Fin 8) (s : Fin 8192) (M : ℝ) (hM : a28 m c (ix2 h s) = (M : EReal)) :
    a33 m c (ix2 h s) = ((D.zs h s * Real.exp (-M) : ℝ) : EReal) := by
  have e : a33 m c (ix2 h s) = ∑ r, (a32 m c (ix3 h s r) : EReal) := by
    rw [a33_eq, a32_eq]
    exact (congrFun (step33 c (first m c)) _).trans (at33 _ h s)
  rw [e, ← D.shift_sum, ← coe_sum]
  exact Finset.sum_congr rfl fun r _ => host32 m c D H h s r M hM
theorem host36 (h : Fin 8) (s r : Fin 8192) : a36 m c (ix3 h s r) = ((D.p h s r : ℝ) : EReal) := by
  obtain ⟨M, hM⟩ := host28 m c D H h s
  have e : a36 m c (ix3 h s r) = Ideal.div (a32 m c (ix3 h s r)) (a33 m c (ix2 h s)) := by
    rw [a36_eq, a32_eq, a33_eq]
    exact (congrFun (step36 c (first m c)) _).trans (at36 _ _ h s r)
  rw [e, host32 m c D H h s r M hM, host33 m c D H h s M hM, div_real _ (mul_pos (D.zs_pos h s) (Real.exp_pos _)).ne', D.shift_div]
/-- The attention's output. -/
theorem host39 (s : Fin 8192) (h : Fin 8) (x : Fin 128) : a39 m c (ix2 s (hc h x)) = ((D.out h s x : ℝ) : EReal) := by
  have e : a39 m c (ix2 s (hc h x)) = ∑ r, ((ar2 m c (ix3 r h x) : EReal) * a36 m c (ix3 h s r) : EReal) := by
    rw [a39_eq, ar2_eq, a36_eq]
    refine (congrFun (step39 c (first m c)) _).trans ((at39 _ s h x).trans ?_)
    exact (congrFun (step38 c (first m c)) _).trans (at38 _ _ s h x)
  rw [e, Data.out, ← coe_sum]
  refine Finset.sum_congr rfl fun r _ => ?_
  have e1 : ar2 m c (ix3 r h x) = ((D.v r h x : ℝ) : EReal) := arg2_at m c D H r h x
  rw [host36 m c D H, e1, mul_comm, EReal.coe_mul]
/-- The base-2 row log-sums, the same in every lane. -/
theorem host46 (h : Fin 8) (s : Fin 8192) (x : Fin 128) : a46 m c (ix3 h s x) = ((Real.log (D.zs h s) / Real.log 2 : ℝ) : EReal) := by
  obtain ⟨M, hM⟩ := host28 m c D H h s
  have e : a46 m c (ix3 h s x) = Ideal.div (a28 m c (ix2 h s) + Ideal.log (a33 m c (ix2 h s))) (Ideal.log (Ideal.ofBits FTy.f32 1073741824#32)) := by
    rw [a46_eq, a28_eq, a33_eq]
    exact (congrFun (step46 c (first m c)) _).trans (at46 _ _ h s x)
  rw [e, host33 m c D H h s M hM, hM, word_2, log_real (mul_pos (D.zs_pos h s) (Real.exp_pos _)), log_real (by norm_num), ← EReal.coe_add,
    div_real _ log2_pos.ne', D.shift_log]

/-! The other operands. -/

theorem host15 (s : Fin 8192) (h : Fin 8) (x : Fin 192) : first m c main_v15 (ix3 s h x) = ((D.rot s h x : ℝ) : EReal) := by
  unfold first
  after_reads_at
  after_reads_at
  exact rotE D (m (c, Proc.devRef .tc main_arg0)) (m (c, Proc.devRef .tc main_arg4)) (m (c, Proc.devRef .tc main_arg5)) H.q H.cs H.sn s h x
omit H in
theorem zero_int : FloatOps.sitofp (F := Ideal) FTy.f32 (0#32 : BitVec 32) = ((0 : ℝ) : EReal) := by
  show (((0#32 : BitVec 32).toInt : ℝ) : EReal) = _
  simp
omit H in
theorem scale_eq : id (mulf (Host.sqrt (constant (F := Ideal) S_ FTy.f32 1128267776#32)) (Host.log (constant S_ FTy.f32 1073741824#32))) ix0 = ((√192 * Real.log 2 : ℝ) : EReal) := by
  show Ideal.sqrt (Ideal.ofBits FTy.f32 1128267776#32) * Ideal.log (Ideal.ofBits FTy.f32 1073741824#32) = _
  rw [word_192, sqrt_real (by norm_num), word_2, log_real (by norm_num), EReal.coe_mul]
omit H in
theorem at55 (σ : Valuation τ sig (Elt Ideal)) (h : Fin 8) (s : Fin 8192) (x : Fin 256) :
    after2 c σ main_v55 (ix3 h s x) = Ideal.div (if hx : x.val < 192 then σ main_v15 (ix3 s h ⟨x.val, hx⟩) else FloatOps.sitofp (F := Ideal) FTy.f32 (0#32 : BitVec 32))
      (id (mulf (Host.sqrt (constant (F := Ideal) S_ FTy.f32 1128267776#32)) (Host.log (constant S_ FTy.f32 1073741824#32))) ix0) := by
  unfold after2 rest
  after_reads_at
  all_goals rfl
theorem host55 (h : Fin 8) (s : Fin 8192) (x : Fin 256) : V m c main_v55 (ix3 h s x)
    = (((if hx : x.val < 192 then D.rot s h ⟨x.val, hx⟩ / (√192 * Real.log 2) else 0 : ℝ)) : EReal) := by
  have hn : √192 * Real.log 2 ≠ 0 := (mul_pos sqrt192_pos log2_pos).ne'
  rw [V_cut, at55, scale_eq, zero_int]
  by_cases hx : x.val < 192
  · rw [dif_pos hx, dif_pos hx, host15 m c D H, div_real _ hn]
  · rw [dif_neg hx, dif_neg hx, div_real _ hn, zero_div]
theorem host58 (h : Fin 8) (s : Fin 8192) (x : Fin 256) : V m c main_v58 (ix3 h s x)
    = (((if hx : x.val < 192 then D.k s h ⟨x.val, hx⟩ else 0 : ℝ)) : EReal) := by
  unfold V
  after_reads_at
  by_cases hx : x.val < 192
  · rw [dif_pos hx, dif_pos hx]; exact H.k s h ⟨x.val, hx⟩
  · rw [dif_neg hx, dif_neg hx]
    show (((0#32 : BitVec 32).toInt : ℝ) : EReal) = _
    simp
theorem host60 (h : Fin 8) (s : Fin 8192) (x : Fin 128) : V m c main_v60 (ix3 h s x) = ((D.v s h x : ℝ) : EReal) := by
  unfold V
  after_reads_at
  exact H.v s h x
theorem host63 (s : Fin 8192) (x : Fin 128) : V m c main_v63 (ix2 s x) = (((if h : x.val < 32 then D.cs s ⟨x.val, h⟩ else if h : x.val - 32 < 32 then D.cs s ⟨x.val - 32, h⟩ else 0 : ℝ)) : EReal) := by
  unfold V
  after_reads_at
  after_reads_at
  by_cases h1 : x.val < 32
  · rw [dif_pos h1, dif_pos h1]; exact H.cs s _
  · by_cases h2 : x.val - 32 < 32
    · rw [dif_neg h1, dif_neg h1, dif_pos h2, dif_pos h2]; exact H.cs s _
    · rw [dif_neg h1, dif_neg h1, dif_neg h2, dif_neg h2]; rfl
theorem host64 (s : Fin 8192) (x : Fin 128) : V m c main_v64 (ix2 s x) = (((if h : x.val < 32 then 0 else if h : x.val - 32 < 32 then D.sn s ⟨x.val - 32, h⟩ else 0 : ℝ)) : EReal) := by
  unfold V
  after_reads_at
  after_reads_at
  by_cases h1 : x.val < 32
  · rw [dif_pos h1, dif_pos h1]; rfl
  · by_cases h2 : x.val - 32 < 32
    · rw [dif_neg h1, dif_neg h1, dif_pos h2, dif_pos h2]; exact H.sn s _
    · rw [dif_neg h1, dif_neg h1, dif_neg h2, dif_neg h2]; rfl
theorem host66 (s : Fin 8192) (x : Fin 128) : V m c main_v66 (ix2 s x) = (((if h : x.val < 32 then -D.sn s ⟨x.val, h⟩ else 0 : ℝ)) : EReal) := by
  unfold V
  after_reads_at
  after_reads_at
  by_cases h1 : x.val < 32
  · rw [dif_pos h1, dif_pos h1]
    exact (congrArg (fun u : EReal => -u) (H.sn s ⟨x.val, h1⟩)).trans (EReal.coe_neg _).symm
  · rw [dif_neg h1, dif_neg h1]
    split <;> rfl

end Cert.KernelIdeal.Val

end
-- ==== Proof.Pre.lean ====
/- The precondition gives real arguments: an element whose absolute value is below infinity is a real number. -/
module

public import proofs.«01_k».proof.Defs
public import proofs.«01_k».proof.Proof.Gen.KernelIdeal
public import proofs.«01_k».proof.Proof.Host

@[expose] public section

set_option maxRecDepth 16384

noncomputable section

namespace Cert.Finite

open Idealize.ShloMosaic Idealize.ShloMosaic.TcCoe Idealize.ShloMosaic.Pointwise Cert.Pre_finite_args

/-- The shapes the precondition's comparisons broadcast to. -/
theorem facts : Cert.Pre_finite_args.Facts := ⟨by decide, by decide, by decide, by decide⟩

theorem word_top : Ideal.ofBits FTy.f32 2139095040#32 = (⊤ : EReal) := by
  simp [Ideal.ofBits, Ideal.ieee]
/-- What one element's comparison says. -/
theorem real_of_lt (a : EReal) (h : BitVec.ofBool (decide (max a (-a) < Ideal.ofBits FTy.f32 2139095040#32)) = 1#1) : a = ((a.toReal : ℝ) : EReal) := by
  rw [word_top] at h
  have h1 : max a (-a) < ⊤ := by
    by_contra hn
    rw [decide_eq_false hn] at h
    exact absurd h (by decide)
  have h2 := max_lt_iff.mp h1
  refine (EReal.coe_toReal h2.1.ne fun hb => ?_).symm
  rw [hb] at h2
  exact absurd h2.2 (by simp)
theorem real_at {s : Shape} (hb : S_.BroadcastsInDim s (![] : Fin 0 → Fin s.rank)) (X : FVec Ideal s .f32)
    (h : cmpf .olt (Host.absf X) (broadcastInDim s ![] hb (constant S_ .f32 0x7F800000#32)) = fun _ => 1#1) (i : s.Idx) :
    X i = (((X i : EReal).toReal : ℝ) : EReal) := real_of_lt _ (congrFun h i)

open Cert.KernelIdeal in
/-- The arguments' real values. -/
def data (m : (ℓ : Loc nD τ sig) → Buf (Elt Ideal) ℓ) (c : Dev nD) : Data where
  q s h x := EReal.toReal (m (c, Proc.devRef .tc main_arg0) (ix3 s h x))
  k s h x := EReal.toReal (m (c, Proc.devRef .tc main_arg1) (ix3 s h x))
  v s h x := EReal.toReal (m (c, Proc.devRef .tc main_arg2) (ix3 s h x))
  z s x := EReal.toReal (m (c, Proc.devRef .tc main_arg3) (ix2 s x))
  cs s x := EReal.toReal (m (c, Proc.devRef .tc main_arg4) (ix2 s x))
  sn s x := EReal.toReal (m (c, Proc.devRef .tc main_arg5) (ix2 s x))
  y s x := EReal.toReal (m (c, Proc.devRef .tc main_arg6) (ix2 s x))

open Cert.KernelIdeal in
/-- Under the precondition the arguments are their real values. -/
theorem holds (m : (ℓ : Loc nD τ sig) → Buf (Elt Ideal) ℓ) (h : Cert.Pre_KernelIdeal_finite_args (hPre_finite_args := facts) m) (c : Dev nD) : Val.Holds m c (data m c) where
  q s i x := real_at facts.1 _ (h c).1 (ix3 s i x)
  k s i x := real_at facts.1 _ (h c).2.1 (ix3 s i x)
  v s i x := real_at facts.2 _ (h c).2.2.1 (ix3 s i x)
  z s x := real_at facts.3 _ (h c).2.2.2.1 (ix2 s x)
  cs s x := real_at facts.4 _ (h c).2.2.2.2.1 (ix2 s x)
  sn s x := real_at facts.4 _ (h c).2.2.2.2.2.1 (ix2 s x)
  y s x := real_at facts.3 _ (h c).2.2.2.2.2.2 (ix2 s x)

end Cert.Finite

end
-- ==== Proof.ArrayDq.lean ====
/- The kernel's query gradients over the reals, at one index: their plain columns and the rotated ones. -/
module

public import proofs.«01_k».proof.Proof.Arrays

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Pointwise Idealize.SL.Sem
open Idealize.ShloMosaic.Pipeline (Dat)

/-- Column `b` of the upper half of the padded columns. -/
def up (b : Fin 128) : Fin 256 := ⟨128 + b.val, by omega⟩
/-- Column `b` of the lower half. -/
def lo (b : Fin 128) : Fin 256 := ⟨b.val, by omega⟩
/-- Lane `b` turned by `n`. -/
def turn (n : ℕ) (b : Fin 128) : Fin 128 := ⟨(b.val + 128 - n) % 128, by omega⟩

namespace Arr
variable (A : Arr) (h : Fin 8) (s : Fin 8192)
def dqLo (b : Fin 128) : EReal := A.dq h s (lo b) * scaleC
def dqUp (b : Fin 128) : EReal := A.dq h s (up b) * scaleC * A.c (ix2 s b)
  + A.dq h s (up (turn 96 b)) * scaleC * A.sa (ix2 s (turn 96 b)) + A.dq h s (up (turn 32 b)) * scaleC * A.sb (ix2 s (turn 32 b))
def dqo (x : Fin 256) : EReal := if hx : x.val < 128 then A.dqLo h s ⟨x.val, hx⟩ else A.dqUp h s ⟨x.val - 128, by omega⟩
end Arr

abbrev upBox := Rect.unit (s := S1x1024x256) ![0, 0, 128] S1x1024x128.size inb_S1x1024x256_S1x1024x128_0_0_128
abbrev loBox := Rect.unit (s := S1x1024x256) ![0, 0, 0] S1x1024x128.size inb_S1x1024x256_S1x1024x128_0_0_0

theorem upBox_emb (a : Fin 1024) (b : Fin 128) : upBox.emb (ix3 0 a b) = (ix3 0 a (up b) : S1x1024x256.Idx) := by
  unfold up; blk_ext []
theorem loBox_emb (a : Fin 1024) (b : Fin 128) : loBox.emb (ix3 0 a b) = (ix3 0 a (lo b) : S1x1024x256.Idx) := by
  unfold lo; blk_ext []
theorem lo_notin (a : Fin 1024) (b : Fin 128) : (ix3 0 a (lo b) : S1x1024x256.Idx) ∉ upBox.set := fun hm => by
  have h := Rect.mem_set_unit.mp hm 2
  have : (128 : ℕ) ≤ b.val := h.1
  omega

theorem dqOut_up (P : Pt Ideal) (i : grid0.Coords) (a : Fin 1024) (b : Fin 128) : dqOut P i (ix3 0 a (up b)) = k0_pay2 (k0_pay194 (dqPoint P.ins i)) P.c P.sa P.sb (ix3 0 a b) := by
  rw [← upBox_emb]
  exact View.canon_cons_emb (Val := Elt Ideal) (e := .bf16) upBox (k0_pay2 (k0_pay194 (dqPoint P.ins i)) P.c P.sa P.sb) _ (ix3 0 a b)
theorem dqOut_lo (P : Pt Ideal) (i : grid0.Coords) (a : Fin 1024) (b : Fin 128) : dqOut P i (ix3 0 a (lo b)) = k0_pay1 (k0_pay195 (dqPoint P.ins i)) (ix3 0 a b) := by
  have h := View.canon_cons_emb (Val := Elt Ideal) (e := .bf16) loBox (k0_pay1 (k0_pay195 (dqPoint P.ins i))) [] (ix3 0 a b)
  rw [loBox_emb] at h
  exact (View.canon_cons_of_not_mem (Val := Elt Ideal) (e := .bf16) ⟨upBox, k0_pay2 (k0_pay194 (dqPoint P.ins i)) P.c P.sa P.sb⟩
    [⟨loBox, k0_pay1 (k0_pay195 (dqPoint P.ins i))⟩] (lo_notin a b)).trans h

variable (m : (ℓ : Loc nD τ sig) → Buf (Elt Ideal) ℓ) (c : Dev nD)
variable (hl : ∀ (h : Fin 8) (s : Fin 8192) (x : Fin 128), (arr m c).l (ix3 h s x) = (arr m c).l (ix3 h s 0))

section
variable (h j : Fin 8) (t : Fin cfg0.N) (ht : t.val = 8 * h.val + j.val)
include ht hl in
theorem pt_dq (a : Fin 1024) (x : Fin 256) : dqPoint (ptAt m c t).ins (grid0.coords t) (ix2 a x) = (arr m c).dq h (qr j a) x := by
  rw [dqPoint_at _ _ (pt_lanes m c h j t ht hl)]
  unfold Arr.dq
  refine Finset.sum_congr rfl fun r _ => ?_
  rw [pt_ds m c h j t ht, ins_k, pt_k m c h j t ht]
include ht hl in
theorem pt_dqLo (a : Fin 1024) (b : Fin 128) : dqOut (ptAt m c t) (grid0.coords t) (ix3 0 a (lo b)) = (arr m c).dqLo h (qr j a) b := by
  rw [dqOut_lo, pay1_at]
  show dqPoint _ _ (ix2 a (lo b)) * _ = _
  rw [pt_dq m c hl h j t ht]; rfl
include ht hl in
theorem pt_dqUp (a : Fin 1024) (b : Fin 128) : dqOut (ptAt m c t) (grid0.coords t) (ix3 0 a (up b)) = (arr m c).dqUp h (qr j a) b := by
  rw [dqOut_up, pay2_at]
  show dqPoint _ _ (ix2 a (up b)) * _ * _ + dqPoint _ _ (ix2 a (up (turn 96 b))) * _ * (ptAt m c t).sa (ix2 a (turn 96 b))
    + dqPoint _ _ (ix2 a (up (turn 32 b))) * _ * (ptAt m c t).sb (ix2 a (turn 32 b)) = _
  rw [pt_dq m c hl h j t ht, pt_dq m c hl h j t ht, pt_dq m c hl h j t ht, pt_c m c h j t ht, pt_sa m c h j t ht, pt_sb m c h j t ht]; rfl
include ht hl in
theorem pt_dqo (a : Fin 1024) (x : Fin 256) : dqOut (ptAt m c t) (grid0.coords t) (ix3 0 a x) = (arr m c).dqo h (qr j a) x := by
  unfold Arr.dqo
  by_cases hx : x.val < 128
  · rw [dif_pos hx, ← pt_dqLo m c hl h j t ht]; rfl
  · have e : x = up ⟨x.val - 128, by omega⟩ := Fin.ext (by show x.val = 128 + (x.val - 128); omega)
    rw [dif_neg hx, ← pt_dqUp m c hl h j t ht, ← e]
end

include hl in
theorem dqArr_at (h : Fin 8) (s : Fin 8192) (x : Fin 256) : (dats m 0 c).arrAt 10 cfg0.N (ix3 h s x) = (arr m c).dqo h s x := by
  have hG : (dats m 0 c).arrAt 10 cfg0.N = fun i : S8x8192x256.Idx => (arr m c).dqo (i 0) (i 1) (i 2) := by
    refine (dats m 0 c).arrAt_eq_of_covers 10 _ (by decide +kernel) fun t hf y => ?_
    blk_simp
    rw [after0_10]
    have hh : ∃ h' j' : Fin 8, t.val = 8 * h'.val + j'.val :=
      ⟨⟨t.val / 8, by have : t.val < 64 := lt_of_lt_of_eq t.isLt N_0; omega⟩, ⟨t.val % 8, by omega⟩, by simp only; omega⟩
    obtain ⟨h', j', ht⟩ := hh
    idx_vars y
    have e : (win0_10.blk t).view.emb (ix3 y0 y1 y2) = ix3 h' (qr j' y1) y2 := by unfold qr; blk_ext [idx t]
    have e' : ∀ f : S8x8192x256.Idx, f = ix3 h' (qr j' y1) y2 → (arr m c).dqo (f 0) (f 1) (f 2) = (arr m c).dqo h' (qr j' y1) y2 := fun f hf => by rw [hf]; rfl
    refine Eq.trans ?_ (e' _ e).symm
    have e0 : y0 = 0 := Subsingleton.elim _ _
    subst e0
    exact pt_dqo m c hl h' j' t ht y1 y2
  rw [hG]
  rfl

end Cert.KernelIdeal.Val

end
-- ==== Proof.KernelReal.lean ====
/- The kernel's four results at real arguments: the gradients of `Data`, the padding columns zero. -/
module

public import proofs.«01_k».proof.Proof.ArrayDq
public import proofs.«01_k».proof.Proof.Host

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Pointwise Idealize.SL.Sem

/-- Padding columns that are zero add nothing. -/
theorem sum_pad (f : Fin 192 → ℝ) : (∑ x : Fin 256, if hx : x.val < 192 then f ⟨x.val, hx⟩ else 0) = ∑ x, f x := by
  refine (Fin.sum_univ_add (a := 192) (b := 64) fun x : Fin (192 + 64) => if hx : x.val < 192 then f ⟨x.val, hx⟩ else 0).trans ?_
  have e1 : ∀ i : Fin 64, (if hx : (Fin.natAdd 192 i).val < 192 then f ⟨(Fin.natAdd 192 i).val, hx⟩ else 0) = 0 := fun i =>
    dif_neg (by show ¬ 192 + i.val < 192; omega)
  have e2 : ∀ i : Fin 192, (if hx : (Fin.castAdd 64 i).val < 192 then f ⟨(Fin.castAdd 64 i).val, hx⟩ else 0) = f i := fun i =>
    dif_pos (show i.val < 192 from i.isLt)
  rw [Finset.sum_congr rfl fun i _ => e2 i, Finset.sum_congr rfl fun i _ => e1 i, Finset.sum_const_zero, add_zero]

theorem scaleC_eq : scaleC = (((√192)⁻¹ : ℝ) : EReal) := rfl

variable (m : (ℓ : Loc nD τ sig) → Buf (Elt Ideal) ℓ) (c : Dev nD) (D : Data) (H : Holds m c D)
include H

theorem arr_q (h : Fin 8) (s : Fin 8192) (x : Fin 256) : (arr m c).q (ix3 h s x) = (((if hx : x.val < 192 then D.rot s h ⟨x.val, hx⟩ / (√192 * Real.log 2) else 0 : ℝ)) : EReal) :=
  host55 m c D H h s x
theorem arr_k (h : Fin 8) (s : Fin 8192) (x : Fin 256) : (arr m c).k (ix3 h s x) = (((if hx : x.val < 192 then D.k s h ⟨x.val, hx⟩ else 0 : ℝ)) : EReal) :=
  host58 m c D H h s x
theorem arr_v (h : Fin 8) (s : Fin 8192) (x : Fin 128) : (arr m c).v (ix3 h s x) = ((D.v s h x : ℝ) : EReal) := host60 m c D H h s x
theorem arr_y (s : Fin 8192) (e : Fin 1024) : (arr m c).y (ix2 s e) = ((D.y s e : ℝ) : EReal) := by
  show V m c main_arg6 _ = _
  rw [V_main_arg6]; exact H.y s e
theorem arr_z (s : Fin 8192) (e : Fin 1024) : (arr m c).z (ix2 s e) = ((D.z s e : ℝ) : EReal) := by
  show V m c main_arg3 _ = _
  rw [V_main_arg3]; exact H.z s e
theorem arr_o (s : Fin 8192) (h : Fin 8) (x : Fin 128) : (arr m c).o (ix2 s (hc h x)) = ((D.out h s x : ℝ) : EReal) := host39 m c D H s h x
theorem arr_l (h : Fin 8) (s : Fin 8192) (x : Fin 128) : (arr m c).l (ix3 h s x) = ((Real.log (D.zs h s) / Real.log 2 : ℝ) : EReal) := host46 m c D H h s x
theorem arr_lanes (h : Fin 8) (s : Fin 8192) (x : Fin 128) : (arr m c).l (ix3 h s x) = (arr m c).l (ix3 h s 0) := by
  rw [arr_l m c D H, arr_l m c D H]

theorem logits (h : Fin 8) (s r : Fin 8192) : (∑ x, (arr m c).q (ix3 h s x) * (arr m c).k (ix3 h r x) : EReal) = ((D.lg h s r / Real.log 2 : ℝ) : EReal) := by
  have e : ∀ x : Fin 256, ((arr m c).q (ix3 h s x) * (arr m c).k (ix3 h r x) : EReal)
      = (((if hx : x.val < 192 then (fun x => D.rot s h x / (√192 * Real.log 2) * D.k r h x) ⟨x.val, hx⟩ else 0 : ℝ)) : EReal) := fun x => by
    rw [arr_q m c D H, arr_k m c D H, ← EReal.coe_mul]
    by_cases hx : x.val < 192
    · rw [dif_pos hx, dif_pos hx, dif_pos hx]
    · rw [dif_neg hx, dif_neg hx, dif_neg hx, zero_mul]
  rw [Finset.sum_congr rfl fun x _ => e x, coe_sum]
  refine (congrArg ((↑) : ℝ → EReal) (sum_pad fun x => D.rot s h x / (√192 * Real.log 2) * D.k r h x)).trans ?_
  congr 1
  unfold Data.lg
  rw [div_div, Finset.sum_div]
  exact Finset.sum_congr rfl fun x _ => by ring

theorem real_pm (h : Fin 8) (s r : Fin 8192) : (arr m c).pm h s r = ((D.p h s r : ℝ) : EReal) := by
  unfold Arr.pm
  by_cases hr : r.val ≤ s.val
  · rw [if_pos hr, logits m c D H, arr_l m c D H, ← EReal.coe_sub]
    show Ideal.exp2 _ = _
    rw [exp2_real, D.p_pow h s r hr]
  · rw [if_neg hr]; unfold Data.p Data.ex; rw [if_neg hr, zero_div]; rfl
theorem real_g (h : Fin 8) (s : Fin 8192) (x : Fin 128) : (arr m c).g h s x = ((D.g h s x : ℝ) : EReal) := by
  unfold Arr.g Data.g
  rw [arr_y m c D H, arr_z m c D H, logistic_real, ← EReal.coe_mul, ← EReal.coe_mul]; rfl
theorem real_d (h : Fin 8) (s : Fin 8192) : (arr m c).d h s = ((D.dl h s : ℝ) : EReal) := by
  unfold Arr.d Data.dl
  rw [← coe_sum]
  refine Finset.sum_congr rfl fun x _ => ?_
  rw [real_g m c D H, EReal.coe_mul]
  exact congrArg (_ * ·) (arr_o m c D H s h x)
theorem real_ds (h : Fin 8) (s r : Fin 8192) : (arr m c).ds h s r = ((D.ds h s r : ℝ) : EReal) := by
  unfold Arr.ds Data.ds Data.dp
  have e : ∀ x : Fin 128, ((arr m c).g h s x * (arr m c).v (ix3 h r x) : EReal) = ((D.g h s x * D.v r h x : ℝ) : EReal) := fun x => by
    rw [real_g m c D H, arr_v m c D H, EReal.coe_mul]
  rw [Finset.sum_congr rfl fun x _ => e x, coe_sum, real_d m c D H, real_pm m c D H, ← EReal.coe_sub, ← EReal.coe_mul]
theorem real_dv (h : Fin 8) (r : Fin 8192) (x : Fin 128) : (arr m c).dv h r x = ((D.dv h r x : ℝ) : EReal) := by
  unfold Arr.dv Data.dv
  rw [← coe_sum]
  exact Finset.sum_congr rfl fun s _ => by rw [real_pm m c D H, real_g m c D H, EReal.coe_mul]
theorem real_dk (h : Fin 8) (r : Fin 8192) (x : Fin 256) : (arr m c).dk h r x = (((if hx : x.val < 192 then D.dk h r ⟨x.val, hx⟩ else 0 : ℝ)) : EReal) := by
  unfold Arr.dk
  have e : ∀ s : Fin 8192, ((arr m c).ds h s r * (arr m c).q (ix3 h s x) : EReal)
      = ((D.ds h s r * (if hx : x.val < 192 then D.rot s h ⟨x.val, hx⟩ / (√192 * Real.log 2) else 0) : ℝ) : EReal) := fun s => by
    rw [real_ds m c D H, arr_q m c D H, EReal.coe_mul]
  rw [Finset.sum_congr rfl fun s _ => e s, coe_sum]
  by_cases hx : x.val < 192
  · simp only [dif_pos hx]
    unfold Data.dk
    rw [Finset.sum_div]
    exact congrArg _ (Finset.sum_congr rfl fun s _ => by ring)
  · simp only [dif_neg hx, mul_zero, Finset.sum_const_zero]

/-- The rotated queries' gradient, padded. -/
def rp (D : Data) (h : Fin 8) (s : Fin 8192) (x : Fin 256) : ℝ := if hx : x.val < 192 then D.dr h s ⟨x.val, hx⟩ else 0
theorem real_dr (h : Fin 8) (s : Fin 8192) (x : Fin 256) : (arr m c).dq h s x * scaleC = ((rp D h s x : ℝ) : EReal) := by
  unfold Arr.dq rp
  have e : ∀ r : Fin 8192, ((arr m c).ds h s r * (arr m c).k (ix3 h r x) : EReal)
      = ((D.ds h s r * (if hx : x.val < 192 then D.k r h ⟨x.val, hx⟩ else 0) : ℝ) : EReal) := fun r => by
    rw [real_ds m c D H, arr_k m c D H, EReal.coe_mul]
  rw [Finset.sum_congr rfl fun s _ => e s, coe_sum, scaleC_eq, ← EReal.coe_mul]
  by_cases hx : x.val < 192
  · simp only [dif_pos hx]
    unfold Data.dr
    rw [div_eq_mul_inv]
  · simp only [dif_neg hx, mul_zero, Finset.sum_const_zero, zero_mul]

/-- The three tables. -/
def tc (D : Data) (s : Fin 8192) (x : Fin 128) : ℝ := if h : x.val < 32 then D.cs s ⟨x.val, h⟩ else if h : x.val - 32 < 32 then D.cs s ⟨x.val - 32, h⟩ else 0
def ta (D : Data) (s : Fin 8192) (x : Fin 128) : ℝ := if h : x.val < 32 then 0 else if h : x.val - 32 < 32 then D.sn s ⟨x.val - 32, h⟩ else 0
def tb (D : Data) (s : Fin 8192) (x : Fin 128) : ℝ := if h : x.val < 32 then -D.sn s ⟨x.val, h⟩ else 0

omit H in
theorem rot_back (h : Fin 8) (s : Fin 8192) (b : Fin 128) : rp D h s (up b) * tc D s b + rp D h s (up (turn 96 b)) * ta D s (turn 96 b) + rp D h s (up (turn 32 b)) * tb D s (turn 32 b)
    = if hx : 128 + b.val < 192 then D.dq h s ⟨128 + b.val, hx⟩ else 0 := by
  have v96 : (turn 96 b).val = (b.val + 32) % 128 := by show (b.val + 128 - 96) % 128 = _; omega
  have v32 : (turn 32 b).val = (b.val + 96) % 128 := by show (b.val + 128 - 32) % 128 = _; omega
  have u0 : (up b).val = 128 + b.val := rfl
  have u96 : (up (turn 96 b)).val = 128 + (b.val + 32) % 128 := congrArg (128 + ·) v96
  have u32 : (up (turn 32 b)).val = 128 + (b.val + 96) % 128 := congrArg (128 + ·) v32
  by_cases h1 : b.val < 32
  · have c1 : tb D s (turn 32 b) = 0 := dif_neg (by rw [v32]; omega)
    have c2 : tc D s b = D.cs s ⟨b.val, h1⟩ := dif_pos h1
    have c3 : ta D s (turn 96 b) = D.sn s ⟨b.val, h1⟩ := by
      unfold ta
      rw [dif_neg (by rw [v96]; omega), dif_pos (by rw [v96]; omega)]
      congr 1; exact Fin.ext (by show (turn 96 b).val - 32 = b.val; rw [v96]; omega)
    have c4 : rp D h s (up b) = D.dr h s ⟨128 + b.val, by omega⟩ := dif_pos (by rw [u0]; omega)
    have c5 : rp D h s (up (turn 96 b)) = D.dr h s ⟨128 + b.val + 32, by omega⟩ := by
      unfold rp
      rw [dif_pos (by rw [u96]; omega)]
      congr 1; exact Fin.ext (by show (up (turn 96 b)).val = 128 + b.val + 32; rw [u96]; omega)
    rw [dif_pos (by omega), c1, c2, c3, c4, c5, mul_zero, add_zero]
    unfold Data.dq
    rw [dif_neg (by show ¬ 128 + b.val < 128; omega), dif_pos (by show 128 + b.val - 128 < 32; omega)]
    have i1 : (⟨128 + b.val - 128, by omega⟩ : Fin 32) = ⟨b.val, h1⟩ := Fin.ext (by show 128 + b.val - 128 = b.val; omega)
    simp only [i1]
  · by_cases h2 : b.val < 64
    · have c1 : tb D s (turn 32 b) = -D.sn s ⟨b.val - 32, by omega⟩ := by
        unfold tb
        rw [dif_pos (by rw [v32]; omega)]
        congr 2; exact Fin.ext (by show (turn 32 b).val = b.val - 32; rw [v32]; omega)
      have c2 : tc D s b = D.cs s ⟨b.val - 32, by omega⟩ := by
        unfold tc
        rw [dif_neg h1, dif_pos (by omega)]
      have c3 : ta D s (turn 96 b) = 0 := by
        unfold ta
        rw [dif_neg (by rw [v96]; omega), dif_neg (by rw [v96]; omega)]
      have c4 : rp D h s (up b) = D.dr h s ⟨128 + b.val, by omega⟩ := dif_pos (by rw [u0]; omega)
      have c5 : rp D h s (up (turn 32 b)) = D.dr h s ⟨128 + b.val - 32, by omega⟩ := by
        unfold rp
        rw [dif_pos (by rw [u32]; omega)]
        congr 1; exact Fin.ext (by show (up (turn 32 b)).val = 128 + b.val - 32; rw [u32]; omega)
      rw [dif_pos (by omega), c1, c2, c3, c4, c5, mul_zero, add_zero]
      unfold Data.dq
      rw [dif_neg (by show ¬ 128 + b.val < 128; omega), dif_neg (by show ¬ 128 + b.val - 128 < 32; omega)]
      have i1 : (⟨128 + b.val - 128 - 32, by omega⟩ : Fin 32) = ⟨b.val - 32, by omega⟩ := Fin.ext (by show 128 + b.val - 128 - 32 = b.val - 32; omega)
      simp only [i1]
      ring
    · have c1 : tb D s (turn 32 b) = 0 := dif_neg (by rw [v32]; omega)
      have c2 : tc D s b = 0 := by
        unfold tc
        rw [dif_neg h1, dif_neg (by omega)]
      have c3 : ta D s (turn 96 b) = 0 := by
        unfold ta
        by_cases h3 : (turn 96 b).val < 32
        · rw [dif_pos h3]
        · rw [dif_neg h3, dif_neg (by rw [v96] at h3 ⊢; omega)]
      rw [c1, c2, c3, mul_zero, mul_zero, mul_zero, add_zero, add_zero, dif_neg (by omega)]

theorem arr_c (s : Fin 8192) (x : Fin 128) : (arr m c).c (ix2 s x) = ((tc D s x : ℝ) : EReal) := host63 m c D H s x
theorem arr_sa (s : Fin 8192) (x : Fin 128) : (arr m c).sa (ix2 s x) = ((ta D s x : ℝ) : EReal) := host64 m c D H s x
theorem arr_sb (s : Fin 8192) (x : Fin 128) : (arr m c).sb (ix2 s x) = ((tb D s x : ℝ) : EReal) := host66 m c D H s x
theorem real_dqUp (h : Fin 8) (s : Fin 8192) (b : Fin 128) : (arr m c).dqUp h s b
    = (((if hx : 128 + b.val < 192 then D.dq h s ⟨128 + b.val, hx⟩ else 0 : ℝ)) : EReal) := by
  rw [← rot_back]
  unfold Arr.dqUp
  rw [real_dr m c D H, real_dr m c D H, real_dr m c D H, arr_c m c D H, arr_sa m c D H, arr_sb m c D H]
  rw [← EReal.coe_mul, ← EReal.coe_mul, ← EReal.coe_mul, ← EReal.coe_add, ← EReal.coe_add]
theorem real_dqo (h : Fin 8) (s : Fin 8192) (x : Fin 256) : (arr m c).dqo h s x = (((if hx : x.val < 192 then D.dq h s ⟨x.val, hx⟩ else 0 : ℝ)) : EReal) := by
  unfold Arr.dqo
  by_cases h1 : x.val < 128
  · rw [dif_pos h1, dif_pos (by omega)]
    unfold Arr.dqLo
    rw [real_dr m c D H]
    congr 1
    unfold Data.dq
    rw [dif_pos h1]
    exact dif_pos (show x.val < 192 by omega)
  · rw [dif_neg h1, real_dqUp m c D H]
    have e : 128 + (x.val - 128) = x.val := by omega
    congr 1
    simp only [e]

/-! The four result arrays. -/

theorem kernel_dq (h : Fin 8) (s : Fin 8192) (x : Fin 256) : (dats m 0 c).arrAt 10 cfg0.N (ix3 h s x) = (((if hx : x.val < 192 then D.dq h s ⟨x.val, hx⟩ else 0 : ℝ)) : EReal) :=
  (dqArr_at m c (arr_lanes m c D H) h s x).trans (real_dqo m c D H h s x)
theorem kernel_dk (h : Fin 8) (r : Fin 8192) (x : Fin 256) : (dats m 0 c).arrAt 11 cfg0.N (ix3 h r x) = (((if hx : x.val < 192 then D.dk h r ⟨x.val, hx⟩ else 0 : ℝ)) : EReal) :=
  (dkArr_at m c (arr_lanes m c D H) h r x).trans (real_dk m c D H h r x)
theorem kernel_dv (h : Fin 8) (r : Fin 8192) (x : Fin 128) : (dats m 0 c).arrAt 12 cfg0.N (ix3 h r x) = ((D.dv h r x : ℝ) : EReal) :=
  (dvArr_at m c (arr_lanes m c D H) h r x).trans (real_dv m c D H h r x)
omit H in
theorem dz_real (y o z u : ℝ) : (y : EReal) * (o : EReal) * ((u : EReal) * (1 + (z : EReal) * (1 - (u : EReal)))) = ((y * o * (u * (1 + z * (1 - u))) : ℝ) : EReal) := by
  push_cast
  rfl
theorem real_dz (s : Fin 8192) (h : Fin 8) (x : Fin 128) : (arr m c).y (ix2 s (hc h x)) * (arr m c).o (ix2 s (hc h x))
    * (Ideal.logistic ((arr m c).z (ix2 s (hc h x))) * (1 + (arr m c).z (ix2 s (hc h x)) * (1 - Ideal.logistic ((arr m c).z (ix2 s (hc h x)))))) = ((D.dz h s x : ℝ) : EReal) := by
  rw [arr_y m c D H, arr_z m c D H, arr_o m c D H, logistic_real, dz_real]
  rfl
theorem kernel_dz (s : Fin 8192) (h : Fin 8) (x : Fin 128) : (dats m 0 c).arrAt 13 cfg0.N (ix2 s (hc h x)) = ((D.dz h s x : ℝ) : EReal) :=
  (dmzArr_at m c s (hc h x)).trans (real_dz m c D H s h x)

end Cert.KernelIdeal.Val

end
-- ==== Proof.RefAt.lean ====
/- The reference's operations at an index, over arbitrary arrays. -/
module

public import proofs.«01_k».proof.Proof.Gen.ReferenceIdeal.Run
public import proofs.«01_k».proof.Proof.Ereal
public import Idealize.ShloMosaic.Lib.Claim

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Pointwise Idealize.SL.Sem

/-! The rotation and the logits. -/

theorem at0 (X : FVec Ideal S8192x8x192 .f32) (s : Fin 8192) (h : Fin 8) (x : Fin 64) :
    extractStridedSlice S8192x8x64 ![0, 0, 128] X slices_S8192x8x192_S8192x8x64_0_0_128 (ix3 s h x) = X (ix3 s h ⟨128 + x.val, by omega⟩) := by
  pointwise []
theorem at3 (X : FVec Ideal S8192x8x64 .f32) (s : Fin 8192) (h : Fin 8) (x : Fin 32) :
    extractStridedSlice S8192x8x32 ![0, 0, 0] X slices_S8192x8x64_S8192x8x32_0_0_0 (ix3 s h x) = X (ix3 s h ⟨x.val, by omega⟩) := by
  pointwise []
theorem at4 (X : FVec Ideal S8192x8x64 .f32) (s : Fin 8192) (h : Fin 8) (x : Fin 32) :
    extractStridedSlice S8192x8x32 ![0, 0, 32] X slices_S8192x8x64_S8192x8x32_0_0_32 (ix3 s h x) = X (ix3 s h ⟨32 + x.val, by omega⟩) := by
  pointwise []
theorem at16 (X : FVec Ideal S8192x8x192 .f32) (s : Fin 8192) (h : Fin 8) (x : Fin 128) :
    extractStridedSlice S8192x8x128 ![0, 0, 0] X slices_S8192x8x192_S8192x8x128_0_0_0 (ix3 s h x) = X (ix3 s h ⟨x.val, by omega⟩) := by
  pointwise []
theorem at1 (X : FVec Ideal S8192x32 .f32) (s : Fin 8192) (x : Fin 32) :
    broadcastInDim S8192x1x32 ![0, 2] bcast_S8192x32_S8192x1x32_0_2 X (ix3 s 0 x) = X (ix2 s x) := by
  pointwise []
theorem at15 (X3 X4 : FVec Ideal S8192x8x32 .f32) (X1 X2 : FVec Ideal S8192x1x32 .f32) (s : Fin 8192) (h : Fin 8) (x : Fin 64) :
    concatenate S8192x8x64 2 [⟨S8192x8x32, (subf (mulf X3 (broadcastInDim S8192x8x32 ![0, 1, 2] bcast_S8192x1x32_S8192x8x32_0_1_2 X1)) (mulf X4 (broadcastInDim S8192x8x32 ![0, 1, 2] bcast_S8192x1x32_S8192x8x32_0_1_2 X2)))⟩, ⟨S8192x8x32, (addf (mulf X4 (broadcastInDim S8192x8x32 ![0, 1, 2] bcast_S8192x1x32_S8192x8x32_0_1_2 X1)) (mulf X3 (broadcastInDim S8192x8x32 ![0, 1, 2] bcast_S8192x1x32_S8192x8x32_0_1_2 X2)))⟩] concatenates_S8192x8x32_S8192x8x32_S8192x8x64_d2 (ix3 s h x)
    = if hx : x.val < 32 then (X3 (ix3 s h ⟨x.val, hx⟩) * X1 (ix3 s 0 ⟨x.val, hx⟩) - X4 (ix3 s h ⟨x.val, hx⟩) * X2 (ix3 s 0 ⟨x.val, hx⟩) : EReal)
      else (X4 (ix3 s h ⟨x.val - 32, by omega⟩) * X1 (ix3 s 0 ⟨x.val - 32, by omega⟩) + X3 (ix3 s h ⟨x.val - 32, by omega⟩) * X2 (ix3 s 0 ⟨x.val - 32, by omega⟩) : EReal) := by
  pointwise []
theorem at32_1 (h : Fin 8) (s r : Fin 8192) :
    broadcastInDim S8x8192x8192 ![1, 2] bcast_S8192x8192_S8x8192x8192_1_2 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))) (ix3 h s r)
    = IntOp.cmpi CmpIPredicate.sge (BitVec.ofNat 32 s.val) (BitVec.ofNat 32 r.val) := by
  pointwise []
theorem at32 (B : IVec S8x8192x8192 1) (X Y : FVec Ideal S8192x8x128 .f32) (Z W : FVec Ideal S8192x8x64 .f32) (U T : FVec Ideal S_ .f32) (h : Fin 8) (s r : Fin 8192) :
    select B (Host.divf (addf (Host.dotGeneral dot_S8192x8x128_S8192x8x128_S8x8192x8192_2_2_0_0_1_1 none X Y) (Host.dotGeneral dot_S8192x8x64_S8192x8x64_S8x8192x8192_2_2_0_0_1_1 none Z W)) (broadcastInDim S8x8192x8192 ![] bcast_S_S8x8192x8192 U)) (broadcastInDim S8x8192x8192 ![] bcast_S_S8x8192x8192 T) (ix3 h s r)
    = Scalar.select (B (ix3 h s r)) (Ideal.div (∑ x, X (ix3 s h x) * Y (ix3 r h x) + ∑ x, Z (ix3 s h x) * W (ix3 r h x)) (U ix0)) (T ix0) := by
  pointwise []
  all_goals rfl

/-! The softmax. -/

theorem at33 (X : FVec Ideal S8x8192x8192 .f32) (h : Fin 8) (s : Fin 8192) : Host.reduce FloatOps.maximumf X (constant S_ .f32 4286578688#32)
    reducesTo_S8x8192x8192_S8x8192_d2 h_S_ (ix2 h s) = Finset.fold max (Ideal.ofBits FTy.f32 4286578688#32) (fun x => X (ix3 h s x)) Finset.univ := by
  pointwise []
theorem at53 (X : FVec Ideal S8x8192x8192 .f32) (Y : FVec Ideal S8x8192 .f32) (h : Fin 8) (s r : Fin 8192) :
    Host.exp (subf X (broadcastInDim S8x8192x8192 ![0, 1, 2] bcast_S8x8192x1_S8x8192x8192_0_1_2 (broadcastInDim S8x8192x1 ![0, 1] bcast_S8x8192_S8x8192x1_0_1 (maximumf (broadcastInDim S8x8192 ![] bcast_S_S8x8192 (constant S_ .f32 0xFF800000#32)) Y)))) (ix3 h s r)
    = Ideal.exp (X (ix3 h s r) - max (Ideal.ofBits FTy.f32 4286578688#32) (Y (ix2 h s))) := by
  pointwise []
theorem at55 (X : FVec Ideal S8x8192x8192 .f32) (h : Fin 8) (s : Fin 8192) :
    broadcastInDim S8x8192x1 ![0, 1] bcast_S8x8192_S8x8192x1_0_1 (Host.reduceAdd X (constant S_ .f32 0x00000000#32) reducesTo_S8x8192x8192_S8x8192_d2 h_S_) (ix3 h s 0) = ∑ r, X (ix3 h s r) := by
  pointwise []
theorem at57 (X : FVec Ideal S8x8192x8192 .f32) (Y : FVec Ideal S8x8192x1 .f32) (h : Fin 8) (s r : Fin 8192) :
    Host.divf X (broadcastInDim S8x8192x8192 ![0, 1, 2] bcast_S8x8192x1_S8x8192x8192_0_1_2 Y) (ix3 h s r) = Ideal.div (X (ix3 h s r)) (Y (ix3 h s 0)) := by
  pointwise []

/-! The output and its gate. -/

theorem at63 (X : FVec Ideal S8192x8x128 .f32) (Y : FVec Ideal S8x8192x8192 .f32) (s : Fin 8192) (h : Fin 8) (x : Fin 128) :
    shapeCast S8192x1024 (transpose S8192x8x128 [2, 0, 1] (Host.dotGeneral dot_S8192x8x128_S8x8192x8192_S8x128x8192_0_2_2_1_1_0 none X Y) transposes_S8x128x8192_S8192x8x128_2_0_1) shapeCasts_S8192x8x128_S8192x1024 (ix2 s (hc h x))
    = ∑ r, X (ix3 r h x) * Y (ix3 h s r) := by
  have e : ∀ Z : FVec Ideal S8192x8x128 .f32, shapeCast S8192x1024 Z shapeCasts_S8192x8x128_S8192x1024 (ix2 s (hc h x)) = Z (ix3 s h x) := fun Z => by
    unfold hc
    pointwise []
    all_goals trace_state
  rw [e]
  pointwise []
theorem at64 (X : FVec Ideal S8192x1024 .f32) (s : Fin 8192) (e : Fin 1024) :
    Host.divf (broadcastInDim S8192x1024 ![] bcast_S_S8192x1024 (constant S_ .f32 0x3F800000#32)) (addf (broadcastInDim S8192x1024 ![] bcast_S_S8192x1024 (constant S_ .f32 0x3F800000#32)) (Host.exp (Host.negf X))) (ix2 s e)
    = Ideal.div (Ideal.ofBits FTy.f32 1065353216#32) (Ideal.ofBits FTy.f32 1065353216#32 + Ideal.exp (-X (ix2 s e))) := by
  pointwise []
theorem swap70 (Z : FVec Ideal S8192x8x128 .f32) (s : Fin 8192) (h : Fin 8) (x : Fin 128) :
    transpose S8x128x8192 [1, 2, 0] Z transposes_S8192x8x128_S8x128x8192_1_2_0 (ix3 h x s) = Z (ix3 s h x) := by
  pointwise []
theorem at70 (X Y : FVec Ideal S8192x1024 .f32) (s : Fin 8192) (h : Fin 8) (x : Fin 128) :
    transpose S8x128x8192 [1, 2, 0] (shapeCast S8192x8x128 (mulf X Y) shapeCasts_S8192x1024_S8192x8x128) transposes_S8192x8x128_S8x128x8192_1_2_0 (ix3 h x s)
    = X (ix2 s (hc h x)) * Y (ix2 s (hc h x)) := by
  have e : ∀ Z : FVec Ideal S8192x1024 .f32, shapeCast S8192x8x128 Z shapeCasts_S8192x1024_S8192x8x128 (ix3 s h x) = Z (ix2 s (hc h x)) := fun Z => by
    unfold hc
    pointwise []
    all_goals exact congrArg Z (congrArg (ix2 s) (Fin.ext (by show h.val * 128 + x.val = 128 * h.val + x.val; omega)))
  rw [show transpose S8x128x8192 [1, 2, 0] (shapeCast S8192x8x128 (mulf X Y) shapeCasts_S8192x1024_S8192x8x128) transposes_S8192x8x128_S8x128x8192_1_2_0 (ix3 h x s)
    = shapeCast S8192x8x128 (mulf X Y) shapeCasts_S8192x1024_S8192x8x128 (ix3 s h x) from swap70 _ s h x, e]
  rfl

/-! The gradients. -/

theorem at71 (X : FVec Ideal S8x128x8192 .f32) (Y : FVec Ideal S8192x8x128 .f32) (h : Fin 8) (s r : Fin 8192) :
    Host.dotGeneral dot_S8x128x8192_S8192x8x128_S8x8192x8192_1_2_2_0_0_1 none X Y (ix3 h s r) = ∑ x, X (ix3 h x s) * Y (ix3 r h x) := by
  pointwise []
theorem at92 (X : FVec Ideal S8x8192x8192 .f32) (Y : FVec Ideal S8192x8x64 .f32) (s : Fin 8192) (h : Fin 8) (x : Fin 64) :
    transpose S8192x8x64 [1, 0, 2] (Host.dotGeneral dot_S8x8192x8192_S8192x8x64_S8x8192x64_2_0_1_2_0_1 none X Y) transposes_S8x8192x64_S8192x8x64_1_0_2 (ix3 s h x)
    = ∑ r, X (ix3 h s r) * Y (ix3 r h x) := by
  pointwise []
theorem at128 (X : FVec Ideal S8x128x8192 .f32) (Y : FVec Ideal S8x8192x8192 .f32) (h : Fin 8) (r : Fin 8192) (x : Fin 128) :
    transpose S8x8192x128 [1, 0, 2] (transpose S8192x8x128 [2, 0, 1] (Host.dotGeneral dot_S8x128x8192_S8x8192x8192_S8x128x8192_2_1_1_2_0_0 none X Y) transposes_S8x128x8192_S8192x8x128_2_0_1) transposes_S8192x8x128_S8x8192x128_1_0_2 (ix3 h r x)
    = ∑ s, X (ix3 h x s) * Y (ix3 h s r) := by
  pointwise []
theorem at129 (X Y Z : FVec Ideal S8192x1024 .f32) (s : Fin 8192) (e : Fin 1024) :
    truncf .bf16 (addf (mulf Y Z) (mulf (mulf X Y) (mulf Z (subf (broadcastInDim S8192x1024 ![] bcast_S_S8192x1024 (constant S_ .f32 0x3F800000#32)) Z)))) bitsLt_bf16_f32 (ix2 s e)
    = Y (ix2 s e) * Z (ix2 s e) + X (ix2 s e) * Y (ix2 s e) * (Z (ix2 s e) * (Ideal.ofBits FTy.f32 1065353216#32 - Z (ix2 s e))) := by
  pointwise []

theorem at88 (B : IVec S8x8192x8192 1) (X E : FVec Ideal S8x8192x8192 .f32) (L : FVec Ideal S8x8192x1 .f32) (U : FVec Ideal S_ .f32) (h : Fin 8) (s r : Fin 8192) :
    Host.divf (select B (mulf (addf (Host.divf X (broadcastInDim S8x8192x8192 ![0, 1, 2] bcast_S8x8192x1_S8x8192x8192_0_1_2 L)) (broadcastInDim S8x8192x8192 ![0, 1] bcast_S8x8192_S8x8192x8192_0_1 (Host.reduceAdd (Host.negf (shapeCast S8x8192x1 (Host.reduceAdd (mulf (mulf X (broadcastInDim S8x8192x8192 ![0, 1, 2] bcast_S8x8192x1_S8x8192x8192_0_1_2 (Host.divf (broadcastInDim S8x8192x1 ![] bcast_S_S8x8192x1 (constant S_ .f32 0x3F800000#32)) (mulf L L)))) E) (constant S_ .f32 0x00000000#32) reducesTo_S8x8192x8192_S8x8192_d2 h_S_) shapeCasts_S8x8192_S8x8192x1)) (constant S_ .f32 0x00000000#32) reducesTo_S8x8192x1_S8x8192_d2 h_S_))) E) (broadcastInDim S8x8192x8192 ![] bcast_S_S8x8192x8192 (constant S_ .f32 0x00000000#32))) (broadcastInDim S8x8192x8192 ![] bcast_S_S8x8192x8192 U) (ix3 h s r)
    = Ideal.div (Scalar.select (B (ix3 h s r)) ((Ideal.div (X (ix3 h s r)) (L (ix3 h s 0))
        + -∑ r, X (ix3 h s r) * Ideal.div (Ideal.ofBits FTy.f32 1065353216#32) (L (ix3 h s 0) * L (ix3 h s 0)) * E (ix3 h s r)) * E (ix3 h s r)) (0 : EReal)) (U ix0) := by
  pointwise []
  all_goals rw [Fin.sum_univ_one]
theorem at127 (X : FVec Ideal S8x8192x8192 .f32) (Y : FVec Ideal S8192x8x64 .f32) (Z : FVec Ideal S8192x8x128 .f32) (U : FVec Ideal S_ .f32) (h : Fin 8) (r : Fin 8192) (x : Fin 256) :
    Host.divf (pad S8x8192x256 ![0, 0, 0] ![0, 0, 64] ![0, 0, 0] (transpose S8x8192x192 [1, 0, 2] (addf (pad S8192x8x192 ![0, 0, 128] ![0, 0, 0] ![0, 0, 0] (transpose S8192x8x64 [1, 0, 2] (Host.dotGeneral dot_S8x8192x8192_S8192x8x64_S8x8192x64_1_0_2_2_0_1 none X Y) transposes_S8x8192x64_S8192x8x64_1_0_2) (constant S_ .f32 0x00000000#32) pads_S8192x8x64_S8192x8x192_000_000_12800 h_S_) (pad S8192x8x192 ![0, 0, 0] ![0, 0, 64] ![0, 0, 0] (transpose S8192x8x128 [1, 0, 2] (Host.dotGeneral dot_S8x8192x8192_S8192x8x128_S8x8192x128_1_0_2_2_0_1 none X Z) transposes_S8x8192x128_S8192x8x128_1_0_2) (constant S_ .f32 0x00000000#32) pads_S8192x8x128_S8192x8x192_000_000_0640 h_S_)) transposes_S8192x8x192_S8x8192x192_1_0_2) (sitofp .f32 (constantI S_ 32 0#32)) pads_S8x8192x192_S8x8192x256_000_000_0640 h_S_) (broadcastInDim S8x8192x256 ![] bcast_S_S8x8192x256 U) (ix3 h r x)
    = Ideal.div (if hx : x.val < 192 then
        (if h1 : 128 ≤ x.val ∧ x.val - 128 < 64 then ∑ s, X (ix3 h s r) * Y (ix3 s h ⟨x.val - 128, by omega⟩) else 0)
        + (if h1 : x.val < 128 then ∑ s, X (ix3 h s r) * Z (ix3 s h ⟨x.val, h1⟩) else 0)
      else FloatOps.sitofp (F := Ideal) FTy.f32 (0#32 : BitVec 32) : EReal) (U ix0) := by
  pointwise []
theorem at121 (X : FVec Ideal S8x8192x8192 .f32) (Z : FVec Ideal S8192x8x128 .f32) (P Q : FVec Ideal S8192x8x32 .f32) (C S : FVec Ideal S8192x1x32 .f32) (h : Fin 8) (s : Fin 8192) (x : Fin 256) :
    truncf .bf16 (pad S8x8192x256 ![0, 0, 0] ![0, 0, 64] ![0, 0, 0] (transpose S8x8192x192 [1, 0, 2] (addf (pad S8192x8x192 ![0, 0, 0] ![0, 0, 64] ![0, 0, 0] (transpose S8192x8x128 [1, 0, 2] (Host.dotGeneral dot_S8x8192x8192_S8192x8x128_S8x8192x128_2_0_1_2_0_1 none X Z) transposes_S8x8192x128_S8192x8x128_1_0_2) (constant S_ .f32 0x00000000#32) pads_S8192x8x128_S8192x8x192_000_000_0640 h_S_) (pad S8192x8x192 ![0, 0, 128] ![0, 0, 0] ![0, 0, 0] (addf (pad S8192x8x64 ![0, 0, 32] ![0, 0, 0] ![0, 0, 0] (addf (mulf Q (broadcastInDim S8192x8x32 ![0, 1, 2] bcast_S8192x1x32_S8192x8x32_0_1_2 C)) (mulf (Host.negf P) (broadcastInDim S8192x8x32 ![0, 1, 2] bcast_S8192x1x32_S8192x8x32_0_1_2 S))) (constant S_ .f32 0x00000000#32) pads_S8192x8x32_S8192x8x64_000_000_3200 h_S_) (pad S8192x8x64 ![0, 0, 0] ![0, 0, 32] ![0, 0, 0] (addf (mulf Q (broadcastInDim S8192x8x32 ![0, 1, 2] bcast_S8192x1x32_S8192x8x32_0_1_2 S)) (mulf P (broadcastInDim S8192x8x32 ![0, 1, 2] bcast_S8192x1x32_S8192x8x32_0_1_2 C))) (constant S_ .f32 0x00000000#32) pads_S8192x8x32_S8192x8x64_000_000_0320 h_S_)) (constant S_ .f32 0x00000000#32) pads_S8192x8x64_S8192x8x192_000_000_12800 h_S_)) transposes_S8192x8x192_S8x8192x192_1_0_2) (sitofp .f32 (constantI S_ 32 0#32)) pads_S8x8192x192_S8x8192x256_000_000_0640 h_S_) bitsLt_bf16_f32 (ix3 h s x)
    = (if hx : x.val < 192 then
        (if h1 : x.val < 128 then ∑ r, X (ix3 h s r) * Z (ix3 r h ⟨x.val, h1⟩) else 0)
        + (if h1 : 128 ≤ x.val ∧ x.val - 128 < 64 then
            (if h2 : 32 ≤ x.val - 128 ∧ x.val - 128 - 32 < 32 then
              Q (ix3 s h ⟨x.val - 128 - 32, h2.2⟩) * C (ix3 s 0 ⟨x.val - 128 - 32, h2.2⟩) + -P (ix3 s h ⟨x.val - 128 - 32, h2.2⟩) * S (ix3 s 0 ⟨x.val - 128 - 32, h2.2⟩) else 0)
            + (if h2 : x.val - 128 < 32 then
              Q (ix3 s h ⟨x.val - 128, h2⟩) * S (ix3 s 0 ⟨x.val - 128, h2⟩) + P (ix3 s h ⟨x.val - 128, h2⟩) * C (ix3 s 0 ⟨x.val - 128, h2⟩) else 0)
          else 0)
      else FloatOps.sitofp (F := Ideal) FTy.f32 (0#32 : BitVec 32) : EReal) := by
  pointwise []

end Cert.ReferenceIdeal.Val

end
-- ==== Proof.RefReal.lean ====
/- The reference's arrays over the reals: for real arguments each element is a real number. -/
module

public import proofs.«01_k».proof.Proof.RefAt
public import proofs.«01_k».proof.Proof.Ereal
public import Idealize.ShloMosaic.Lib.Claim

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Pointwise Idealize.SL.Sem

open Cert.ReferenceIdeal.Value

variable (σ : Valuation τ sig (Elt Ideal))

/-- The seven arguments are the real data. -/
structure Holds (D : Data) : Prop where
  q : ∀ s h x, σ (Proc.devRef .tc main_arg0) (ix3 s h x) = ((D.q s h x : ℝ) : EReal)
  k : ∀ s h x, σ (Proc.devRef .tc main_arg1) (ix3 s h x) = ((D.k s h x : ℝ) : EReal)
  v : ∀ s h x, σ (Proc.devRef .tc main_arg2) (ix3 s h x) = ((D.v s h x : ℝ) : EReal)
  z : ∀ s x, σ (Proc.devRef .tc main_arg3) (ix2 s x) = ((D.z s x : ℝ) : EReal)
  cs : ∀ s x, σ (Proc.devRef .tc main_arg4) (ix2 s x) = ((D.cs s x : ℝ) : EReal)
  sn : ∀ s x, σ (Proc.devRef .tc main_arg5) (ix2 s x) = ((D.sn s x : ℝ) : EReal)
  y : ∀ s x, σ (Proc.devRef .tc main_arg6) (ix2 s x) = ((D.y s x : ℝ) : EReal)

/-! The arrays, as functions to the extended reals. -/

def b0 : S8192x8x64.Idx → EReal := res_main_v0 σ
def b1 : S8192x1x32.Idx → EReal := res_main_v1 σ
def b2 : S8192x1x32.Idx → EReal := res_main_v2 σ
def b3 : S8192x8x32.Idx → EReal := res_main_v3 σ
def b4 : S8192x8x32.Idx → EReal := res_main_v4 σ
def b15 : S8192x8x64.Idx → EReal := res_main_v15 σ
def b16 : S8192x8x128.Idx → EReal := res_main_v16 σ
def b17 : S8192x8x128.Idx → EReal := res_main_v17 σ
def b19 : S8192x8x64.Idx → EReal := res_main_v19 σ
def b32 : S8x8192x8192.Idx → EReal := res_main_v32_0 σ
def b33 : S8x8192.Idx → EReal := res_main_v33 σ
def b53 : S8x8192x8192.Idx → EReal := res_main_v53 σ
def b55 : S8x8192x1.Idx → EReal := res_main_v55 σ
def b57 : S8x8192x8192.Idx → EReal := res_main_v57 σ
def b63 : S8192x1024.Idx → EReal := res_main_v63 σ
def b64 : S8192x1024.Idx → EReal := res_main_v64_2 σ
def b640 : S8192x1024.Idx → EReal := res_main_v64_0 σ
def b66 : S8192x1024.Idx → EReal := res_main_v66 σ
def b70 : S8x128x8192.Idx → EReal := res_main_v70 σ
def b71 : S8x8192x8192.Idx → EReal := res_main_v71 σ
def b88 : S8x8192x8192.Idx → EReal := res_main_v88 σ
def b92 : S8192x8x64.Idx → EReal := res_main_v92 σ
def b101 : S8192x8x32.Idx → EReal := res_main_v101 σ
def b102 : S8192x8x32.Idx → EReal := res_main_v102 σ
def ar2 : S8192x8x128.Idx → EReal := σ (Proc.devRef .tc main_arg2)
def ar3 : S8192x1024.Idx → EReal := σ (Proc.devRef .tc main_arg3)
def ar6 : S8192x1024.Idx → EReal := σ (Proc.devRef .tc main_arg6)

variable (D : Data) (H : Holds σ D)
include H

theorem ar2_at (s : Fin 8192) (h : Fin 8) (x : Fin 128) : ar2 σ (ix3 s h x) = ((D.v s h x : ℝ) : EReal) := H.v s h x
theorem ar3_at (s : Fin 8192) (e : Fin 1024) : ar3 σ (ix2 s e) = ((D.z s e : ℝ) : EReal) := H.z s e
theorem ar6_at (s : Fin 8192) (e : Fin 1024) : ar6 σ (ix2 s e) = ((D.y s e : ℝ) : EReal) := H.y s e

/-! The rotation and the logits. -/

theorem ref0 (s : Fin 8192) (h : Fin 8) (x : Fin 64) : b0 σ (ix3 s h x) = ((D.q s h ⟨128 + x.val, by omega⟩ : ℝ) : EReal) :=
  (at0 (σ (Proc.devRef .tc main_arg0)) s h x).trans (H.q s h _)
theorem ref3 (s : Fin 8192) (h : Fin 8) (x : Fin 32) : b3 σ (ix3 s h x) = ((D.q s h ⟨128 + x.val, by omega⟩ : ℝ) : EReal) :=
  (at3 (b0 σ) s h x).trans (ref0 σ D H s h _)
theorem ref4 (s : Fin 8192) (h : Fin 8) (x : Fin 32) : b4 σ (ix3 s h x) = ((D.q s h ⟨128 + (32 + x.val), by omega⟩ : ℝ) : EReal) :=
  (at4 (b0 σ) s h x).trans (ref0 σ D H s h _)
theorem ref1 (s : Fin 8192) (x : Fin 32) : b1 σ (ix3 s 0 x) = ((D.cs s x : ℝ) : EReal) :=
  (at1 (σ (Proc.devRef .tc main_arg4)) s x).trans (H.cs s x)
theorem ref2 (s : Fin 8192) (x : Fin 32) : b2 σ (ix3 s 0 x) = ((D.sn s x : ℝ) : EReal) :=
  (at1 (σ (Proc.devRef .tc main_arg5)) s x).trans (H.sn s x)
theorem ref16 (s : Fin 8192) (h : Fin 8) (x : Fin 128) : b16 σ (ix3 s h x) = ((D.q s h ⟨x.val, by omega⟩ : ℝ) : EReal) :=
  (at16 (σ (Proc.devRef .tc main_arg0)) s h x).trans (H.q s h _)
theorem ref17 (s : Fin 8192) (h : Fin 8) (x : Fin 128) : b17 σ (ix3 s h x) = ((D.k s h ⟨x.val, by omega⟩ : ℝ) : EReal) :=
  (at16 (σ (Proc.devRef .tc main_arg1)) s h x).trans (H.k s h _)
theorem ref19 (s : Fin 8192) (h : Fin 8) (x : Fin 64) : b19 σ (ix3 s h x) = ((D.k s h ⟨128 + x.val, by omega⟩ : ℝ) : EReal) :=
  (at0 (σ (Proc.devRef .tc main_arg1)) s h x).trans (H.k s h _)
theorem ref15 (s : Fin 8192) (h : Fin 8) (x : Fin 64) : b15 σ (ix3 s h x) = ((D.rot s h ⟨128 + x.val, by omega⟩ : ℝ) : EReal) := by
  refine (at15 (b3 σ) (b4 σ) (b1 σ) (b2 σ) s h x).trans ?_
  simp only [ref3 σ D H, ref4 σ D H, ref1 σ D H, ref2 σ D H, ← EReal.coe_mul, ← EReal.coe_sub, ← EReal.coe_add]
  unfold Data.rot
  have e0 : ¬ 128 + x.val < 128 := by omega
  by_cases h1 : x.val < 32
  · have h2 : 128 + x.val - 128 < 32 := by omega
    have i1 : (⟨128 + x.val - 128, by omega⟩ : Fin 32) = ⟨x.val, h1⟩ := Fin.ext (by show 128 + x.val - 128 = x.val; omega)
    have i2 : (⟨128 + x.val + 32, by omega⟩ : Fin 192) = ⟨128 + (32 + x.val), by omega⟩ := Fin.ext (by show 128 + x.val + 32 = 128 + (32 + x.val); omega)
    rw [dif_pos h1, dif_neg e0, dif_pos h2]
    simp only [i1, i2]
  · have h2 : ¬ 128 + x.val - 128 < 32 := by omega
    have i1 : (⟨128 + x.val - 128 - 32, by omega⟩ : Fin 32) = ⟨x.val - 32, by omega⟩ := Fin.ext (by show 128 + x.val - 128 - 32 = x.val - 32; omega)
    have i2 : (⟨128 + x.val - 32, by omega⟩ : Fin 192) = ⟨128 + (x.val - 32), by omega⟩ := Fin.ext (by show 128 + x.val - 32 = 128 + (x.val - 32); omega)
    have i3 : (⟨128 + (32 + (x.val - 32)), by omega⟩ : Fin 192) = ⟨128 + x.val, by omega⟩ := Fin.ext (by show 128 + (32 + (x.val - 32)) = 128 + x.val; omega)
    rw [dif_neg h1, dif_neg e0, dif_neg h2]
    simp only [i1, i2, i3]
omit H in
/-- A sum over a head's columns is the sum over its first 128 and its last 64. -/
theorem sum_split (f : Fin 192 → ℝ) : ∑ x, f x = ∑ x : Fin 128, f ⟨x.val, by omega⟩ + ∑ x : Fin 64, f ⟨128 + x.val, by omega⟩ :=
  Fin.sum_univ_add (a := 128) (b := 64) f
omit H in
theorem rot_low (s : Fin 8192) (h : Fin 8) (x : Fin 128) : D.rot s h ⟨x.val, by omega⟩ = D.q s h ⟨x.val, by omega⟩ := dif_pos x.isLt
omit H in
theorem root192 : id (Host.sqrt (constant (F := Ideal) S_ FTy.f32 1128267776#32)) ix0 = ((√192 : ℝ) : EReal) := by
  show Ideal.sqrt (Ideal.ofBits FTy.f32 1128267776#32) = _
  rw [word_192, sqrt_real (by norm_num)]
omit H in
theorem mask_select (a b : Fin 8192) (X Y : EReal) : Scalar.select (IntOp.cmpi CmpIPredicate.sge (BitVec.ofNat 32 a.val) (BitVec.ofNat 32 b.val)) X Y = if b.val ≤ a.val then X else Y := by
  have h1 : (BitVec.ofNat 32 a.val).toInt = a.val := by rw [BitVec.toInt_eq_toNat_of_lt] <;> simp <;> omega
  have h2 : (BitVec.ofNat 32 b.val).toInt = b.val := by rw [BitVec.toInt_eq_toNat_of_lt] <;> simp <;> omega
  have e : IntOp.cmpi CmpIPredicate.sge (BitVec.ofNat 32 a.val) (BitVec.ofNat 32 b.val) = BitVec.ofBool (decide (b.val ≤ a.val)) := by
    show BitVec.ofBool (decide ((BitVec.ofNat 32 b.val).toInt ≤ (BitVec.ofNat 32 a.val).toInt)) = _
    rw [h1, h2]; simp
  rw [e]
  by_cases h : b.val ≤ a.val
  · rw [if_pos h, decide_eq_true h]; rfl
  · rw [if_neg h, decide_eq_false h]; rfl
omit H in
theorem mask_at (h : Fin 8) (s r : Fin 8192) : res_main_v32_1 σ (ix3 h s r) = IntOp.cmpi CmpIPredicate.sge (BitVec.ofNat 32 s.val) (BitVec.ofNat 32 r.val) :=
  at32_1 h s r
theorem ref32 (h : Fin 8) (s r : Fin 8192) : b32 σ (ix3 h s r) = if r.val ≤ s.val then ((D.lg h s r : ℝ) : EReal) else ⊥ := by
  refine (at32 (res_main_v32_1 σ) (b16 σ) (b17 σ) (b15 σ) (b19 σ) (res_main_v23 σ) (id (constant S_ .f32 0xFF800000#32)) h s r).trans ?_
  have eU : (res_main_v23 σ ix0 : EReal) = ((√192 : ℝ) : EReal) := root192
  have eT : id (constant (F := Ideal) S_ .f32 0xFF800000#32) ix0 = (⊥ : EReal) := word_bot
  rw [mask_at, mask_select, eU, eT]
  simp only [ref16 σ D H, ref17 σ D H, ref15 σ D H, ref19 σ D H, ← EReal.coe_mul]
  rw [coe_sum, coe_sum, ← EReal.coe_add, div_real _ sqrt192_pos.ne']
  unfold Data.lg
  rw [sum_split fun x => D.rot s h x * D.k r h x]
  simp only [rot_low]

/-! The softmax. -/

theorem ref33 (h : Fin 8) (s : Fin 8192) : ∃ M : ℝ, b33 σ (ix2 h s) = (M : EReal) := by
  have e : b33 σ (ix2 h s) = Finset.fold max ⊥ (fun x => b32 σ (ix3 h s x)) Finset.univ := by
    refine (at33 (b32 σ) h s).trans ?_
    rw [word_bot]
  rw [e]
  refine fold_real _ s (fun x => ?_) ?_
  · show b32 σ (ix3 h s x) < ⊤
    rw [ref32 σ D H]; split
    · exact EReal.coe_lt_top _
    · exact bot_lt_top
  · show ⊥ < b32 σ (ix3 h s s)
    rw [ref32 σ D H, if_pos le_rfl]; exact EReal.bot_lt_coe _
theorem ref53 (h : Fin 8) (s r : Fin 8192) (M : ℝ) (hM : b33 σ (ix2 h s) = (M : EReal)) : b53 σ (ix3 h s r) = ((D.ex h s r * Real.exp (-M) : ℝ) : EReal) := by
  refine (at53 (b32 σ) (b33 σ) h s r).trans ?_
  rw [ref32 σ D H, hM, word_bot, max_eq_right bot_le, D.shift]
  split
  · rw [← EReal.coe_sub, Ideal.exp_coe]
  · rw [EReal.bot_sub, exp_bot]
theorem ref55 (h : Fin 8) (s : Fin 8192) (M : ℝ) (hM : b33 σ (ix2 h s) = (M : EReal)) : b55 σ (ix3 h s 0) = ((D.zs h s * Real.exp (-M) : ℝ) : EReal) := by
  refine (at55 (b53 σ) h s).trans ?_
  rw [← D.shift_sum, ← coe_sum]
  exact Finset.sum_congr rfl fun r _ => ref53 σ D H h s r M hM
theorem ref57 (h : Fin 8) (s r : Fin 8192) : b57 σ (ix3 h s r) = ((D.p h s r : ℝ) : EReal) := by
  obtain ⟨M, hM⟩ := ref33 σ D H h s
  refine (at57 (b53 σ) (b55 σ) h s r).trans ?_
  rw [ref53 σ D H h s r M hM, ref55 σ D H h s M hM, div_real _ (mul_pos (D.zs_pos h s) (Real.exp_pos _)).ne', D.shift_div]

/-! The output, its gate and the gradient at the output. -/

theorem ref63 (s : Fin 8192) (h : Fin 8) (x : Fin 128) : b63 σ (ix2 s (hc h x)) = ((D.out h s x : ℝ) : EReal) := by
  refine (at63 (ar2 σ) (b57 σ) s h x).trans ?_
  rw [Data.out, ← coe_sum]
  exact Finset.sum_congr rfl fun r _ => by rw [ar2_at σ D H, ref57 σ D H, mul_comm, EReal.coe_mul]
theorem ref64 (s : Fin 8192) (e : Fin 1024) : b64 σ (ix2 s e) = ((Data.sg (D.z s e) : ℝ) : EReal) := by
  refine (at64 (ar3 σ) s e).trans ?_
  have hp : (1 : ℝ) + Real.exp (-D.z s e) ≠ 0 := (add_pos one_pos (Real.exp_pos _)).ne'
  rw [ar3_at σ D H, word_1, ← EReal.coe_neg, Ideal.exp_coe, ← EReal.coe_add, div_real _ hp]
  rfl
theorem ref640 (s : Fin 8192) (e : Fin 1024) : b640 σ (ix2 s e) = ((D.z s e * Data.sg (D.z s e) : ℝ) : EReal) := by
  have e0 : b640 σ (ix2 s e) = ar3 σ (ix2 s e) * b64 σ (ix2 s e) := rfl
  rw [e0, ar3_at σ D H, ref64 σ D H, EReal.coe_mul]
theorem ref66 (s : Fin 8192) (h : Fin 8) (x : Fin 128) : b66 σ (ix2 s (hc h x)) = ((D.out h s x * D.y s (hc h x) : ℝ) : EReal) := by
  have e0 : b66 σ (ix2 s (hc h x)) = b63 σ (ix2 s (hc h x)) * ar6 σ (ix2 s (hc h x)) := rfl
  rw [e0, ref63 σ D H, ar6_at σ D H, EReal.coe_mul]
theorem ref70 (s : Fin 8192) (h : Fin 8) (x : Fin 128) : b70 σ (ix3 h x s) = ((D.g h s x : ℝ) : EReal) := by
  refine (at70 (ar6 σ) (b640 σ) s h x).trans ?_
  rw [ar6_at σ D H, ref640 σ D H, ← EReal.coe_mul]; rfl

/-! The gradients at the probabilities and at the logits. -/

theorem ref71 (h : Fin 8) (s r : Fin 8192) : b71 σ (ix3 h s r) = ((D.dp h s r : ℝ) : EReal) := by
  refine (at71 (b70 σ) (ar2 σ) h s r).trans ?_
  rw [Data.dp, ← coe_sum]
  exact Finset.sum_congr rfl fun x _ => by rw [ref70 σ D H, ar2_at σ D H, EReal.coe_mul]
omit H in
/-- The division's and the product's two parts of the softmax's gradient make its usual form. -/
theorem soft (h : Fin 8) (s r : Fin 8192) (M : ℝ) : (D.dp h s r / (D.zs h s * Real.exp (-M))
    + -∑ r, D.dp h s r * (1 / (D.zs h s * Real.exp (-M) * (D.zs h s * Real.exp (-M)))) * (D.ex h s r * Real.exp (-M))) * (D.ex h s r * Real.exp (-M)) = D.ds h s r := by
  have hL : D.zs h s * Real.exp (-M) ≠ 0 := (mul_pos (D.zs_pos h s) (Real.exp_pos _)).ne'
  have e1 : ∀ r, D.ex h s r * Real.exp (-M) = D.p h s r * (D.zs h s * Real.exp (-M)) := fun r => by rw [← D.shift_div h s r M, div_mul_cancel₀ _ hL]
  have e2 : ∑ r, D.dp h s r * (1 / (D.zs h s * Real.exp (-M) * (D.zs h s * Real.exp (-M)))) * (D.ex h s r * Real.exp (-M)) = D.dl h s / (D.zs h s * Real.exp (-M)) := by
    rw [D.dl_eq, Finset.sum_div]
    refine Finset.sum_congr rfl fun r _ => ?_
    rw [e1]
    field_simp
  rw [e2, e1, Data.ds]
  generalize D.zs h s * Real.exp (-M) = L at hL ⊢
  field_simp
  ring
theorem ref88 (h : Fin 8) (s r : Fin 8192) : b88 σ (ix3 h s r) = ((D.ds h s r / √192 : ℝ) : EReal) := by
  obtain ⟨M, hM⟩ := ref33 σ D H h s
  have hL : D.zs h s * Real.exp (-M) ≠ 0 := (mul_pos (D.zs_pos h s) (Real.exp_pos _)).ne'
  refine (at88 (res_main_v32_1 σ) (b71 σ) (b53 σ) (b55 σ) (res_main_v23 σ) h s r).trans ?_
  have eU : (res_main_v23 σ ix0 : EReal) = ((√192 : ℝ) : EReal) := root192
  have eS : ∀ r, b71 σ (ix3 h s r) * Ideal.div (Ideal.ofBits FTy.f32 1065353216#32) (b55 σ (ix3 h s 0) * b55 σ (ix3 h s 0)) * b53 σ (ix3 h s r)
      = ((D.dp h s r * (1 / (D.zs h s * Real.exp (-M) * (D.zs h s * Real.exp (-M)))) * (D.ex h s r * Real.exp (-M)) : ℝ) : EReal) := fun r => by
    rw [ref71 σ D H, ref55 σ D H h s M hM, ref53 σ D H h s r M hM, word_1, ← EReal.coe_mul, div_real _ (mul_ne_zero hL hL), ← EReal.coe_mul, ← EReal.coe_mul]
  rw [mask_at, mask_select, eU, Finset.sum_congr rfl fun r _ => eS r, coe_sum, ref71 σ D H, ref55 σ D H h s M hM, ref53 σ D H h s r M hM, div_real _ hL,
    ← EReal.coe_neg, ← EReal.coe_add, ← EReal.coe_mul, soft]
  by_cases hr : r.val ≤ s.val
  · rw [if_pos hr, div_real _ sqrt192_pos.ne']
  · have e0 : D.ds h s r = 0 := by unfold Data.ds Data.p Data.ex; rw [if_neg hr]; simp
    rw [if_neg hr, e0, ← EReal.coe_zero, div_real _ sqrt192_pos.ne']

end Cert.ReferenceIdeal.Val

end
-- ==== Proof.RefOut.lean ====
/- The reference's four results over the reals. -/
module

public import proofs.«01_k».proof.Proof.RefReal
public import proofs.«01_k».proof.Proof.Ereal
public import Idealize.ShloMosaic.Lib.Claim

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Pointwise Idealize.SL.Sem

open Cert.ReferenceIdeal.Value

variable (σ : Valuation τ sig (Elt Ideal))

/-! The four results. -/

def rdq : S8x8192x256.Idx → EReal := truncf .bf16 (pad S8x8192x256 ![0, 0, 0] ![0, 0, 64] ![0, 0, 0] (transpose S8x8192x192 [1, 0, 2] (addf (pad S8192x8x192 ![0, 0, 0] ![0, 0, 64] ![0, 0, 0] (transpose S8192x8x128 [1, 0, 2] (Host.dotGeneral dot_S8x8192x8192_S8192x8x128_S8x8192x128_2_0_1_2_0_1 (φ₁ := .f32) (φ₂ := .f32) none (res_main_v88 σ) (res_main_v17 σ)) transposes_S8x8192x128_S8192x8x128_1_0_2) (constant S_ .f32 0x00000000#32) pads_S8192x8x128_S8192x8x192_000_000_0640 h_S_) (pad S8192x8x192 ![0, 0, 128] ![0, 0, 0] ![0, 0, 0] (addf (pad S8192x8x64 ![0, 0, 32] ![0, 0, 0] ![0, 0, 0] (addf (mulf (res_main_v102 σ) (broadcastInDim S8192x8x32 ![0, 1, 2] bcast_S8192x1x32_S8192x8x32_0_1_2 (res_main_v1 σ))) (mulf (Host.negf (res_main_v101 σ)) (broadcastInDim S8192x8x32 ![0, 1, 2] bcast_S8192x1x32_S8192x8x32_0_1_2 (res_main_v2 σ)))) (constant S_ .f32 0x00000000#32) pads_S8192x8x32_S8192x8x64_000_000_3200 h_S_) (pad S8192x8x64 ![0, 0, 0] ![0, 0, 32] ![0, 0, 0] (addf (mulf (res_main_v102 σ) (broadcastInDim S8192x8x32 ![0, 1, 2] bcast_S8192x1x32_S8192x8x32_0_1_2 (res_main_v2 σ))) (mulf (res_main_v101 σ) (broadcastInDim S8192x8x32 ![0, 1, 2] bcast_S8192x1x32_S8192x8x32_0_1_2 (res_main_v1 σ)))) (constant S_ .f32 0x00000000#32) pads_S8192x8x32_S8192x8x64_000_000_0320 h_S_)) (constant S_ .f32 0x00000000#32) pads_S8192x8x64_S8192x8x192_000_000_12800 h_S_)) transposes_S8192x8x192_S8x8192x192_1_0_2) (sitofp .f32 (constantI S_ 32 0#32)) pads_S8x8192x192_S8x8192x256_000_000_0640 h_S_) bitsLt_bf16_f32
def rdk : S8x8192x256.Idx → EReal := Host.divf (pad S8x8192x256 ![0, 0, 0] ![0, 0, 64] ![0, 0, 0] (transpose S8x8192x192 [1, 0, 2] (addf (pad S8192x8x192 ![0, 0, 128] ![0, 0, 0] ![0, 0, 0] (transpose S8192x8x64 [1, 0, 2] (Host.dotGeneral dot_S8x8192x8192_S8192x8x64_S8x8192x64_1_0_2_2_0_1 (φ₁ := .f32) (φ₂ := .f32) none (res_main_v88 σ) (res_main_v15 σ)) transposes_S8x8192x64_S8192x8x64_1_0_2) (constant S_ .f32 0x00000000#32) pads_S8192x8x64_S8192x8x192_000_000_12800 h_S_) (pad S8192x8x192 ![0, 0, 0] ![0, 0, 64] ![0, 0, 0] (transpose S8192x8x128 [1, 0, 2] (Host.dotGeneral dot_S8x8192x8192_S8192x8x128_S8x8192x128_1_0_2_2_0_1 (φ₁ := .f32) (φ₂ := .f32) none (res_main_v88 σ) (res_main_v16 σ)) transposes_S8x8192x128_S8192x8x128_1_0_2) (constant S_ .f32 0x00000000#32) pads_S8192x8x128_S8192x8x192_000_000_0640 h_S_)) transposes_S8192x8x192_S8x8192x192_1_0_2) (sitofp .f32 (constantI S_ 32 0#32)) pads_S8x8192x192_S8x8192x256_000_000_0640 h_S_) (broadcastInDim S8x8192x256 ![] bcast_S_S8x8192x256 (id (Host.log (constant S_ .f32 0x40000000#32))))
def rdv : S8x8192x128.Idx → EReal := transpose S8x8192x128 [1, 0, 2] (transpose S8192x8x128 [2, 0, 1] (Host.dotGeneral dot_S8x128x8192_S8x8192x8192_S8x128x8192_2_1_1_2_0_0 (φ₁ := .f32) (φ₂ := .f32) none (res_main_v70 σ) (res_main_v57 σ)) transposes_S8x128x8192_S8192x8x128_2_0_1) transposes_S8192x8x128_S8x8192x128_1_0_2
def rdz : S8192x1024.Idx → EReal := truncf .bf16 (addf (mulf (res_main_v66 σ) (res_main_v64_2 σ)) (mulf (mulf (σ (Proc.devRef .tc main_arg3)) (res_main_v66 σ)) (mulf (res_main_v64_2 σ) (subf (broadcastInDim S8192x1024 ![] bcast_S_S8192x1024 (constant S_ .f32 0x3F800000#32)) (res_main_v64_2 σ))))) bitsLt_bf16_f32

variable (D : Data) (H : Holds σ D)
include H

/-! Sums of the gradient at the logits. -/

omit H in
theorem zero_int : FloatOps.sitofp (F := Ideal) FTy.f32 (0#32 : BitVec 32) = ((0 : ℝ) : EReal) := by
  show (((0#32 : BitVec 32).toInt : ℝ) : EReal) = _
  simp
omit H in
theorem log_two : id (Host.log (constant (F := Ideal) S_ FTy.f32 0x40000000#32)) ix0 = ((Real.log 2 : ℝ) : EReal) := by
  show Ideal.log (Ideal.ofBits FTy.f32 1073741824#32) = _
  rw [word_2, log_real (by norm_num)]
/-- Over the keys, against any real column of them: the rotated queries' gradient. -/
theorem over_keys (h : Fin 8) (s : Fin 8192) (x : Fin 192) (f : Fin 8192 → EReal) (hf : ∀ r, f r = ((D.k r h x : ℝ) : EReal)) :
    ∑ r, b88 σ (ix3 h s r) * f r = ((D.dr h s x : ℝ) : EReal) := by
  rw [Data.dr, Finset.sum_div, ← coe_sum]
  exact Finset.sum_congr rfl fun r _ => by rw [ref88 σ D H, hf, ← EReal.coe_mul, div_mul_eq_mul_div]
/-- Over the queries, against any real column of the rotated ones: the keys' gradient. -/
theorem over_queries (h : Fin 8) (r : Fin 8192) (x : Fin 192) (f : Fin 8192 → EReal) (hf : ∀ s, f s = ((D.rot s h x : ℝ) : EReal)) :
    ∑ s, b88 σ (ix3 h s r) * f s = (((∑ s, D.ds h s r * D.rot s h x) / √192 : ℝ) : EReal) := by
  rw [Finset.sum_div, ← coe_sum]
  exact Finset.sum_congr rfl fun s _ => by rw [ref88 σ D H, hf, ← EReal.coe_mul, div_mul_eq_mul_div]
theorem ref92 (s : Fin 8192) (h : Fin 8) (x : Fin 64) : b92 σ (ix3 s h x) = ((D.dr h s ⟨128 + x.val, by omega⟩ : ℝ) : EReal) :=
  (at92 (b88 σ) (b19 σ) s h x).trans (over_keys σ D H h s _ _ fun r => ref19 σ D H r h x)
theorem ref101 (s : Fin 8192) (h : Fin 8) (x : Fin 32) : b101 σ (ix3 s h x) = ((D.dr h s ⟨128 + x.val, by omega⟩ : ℝ) : EReal) :=
  (at3 (b92 σ) s h x).trans (ref92 σ D H s h _)
theorem ref102 (s : Fin 8192) (h : Fin 8) (x : Fin 32) : b102 σ (ix3 s h x) = ((D.dr h s ⟨128 + (32 + x.val), by omega⟩ : ℝ) : EReal) :=
  (at4 (b92 σ) s h x).trans (ref92 σ D H s h _)

/-! Each is real. -/

theorem ref_dv (h : Fin 8) (r : Fin 8192) (x : Fin 128) : rdv σ (ix3 h r x) = ((D.dv h r x : ℝ) : EReal) := by
  refine (at128 (b70 σ) (b57 σ) h r x).trans ?_
  rw [Data.dv, ← coe_sum]
  exact Finset.sum_congr rfl fun s _ => by rw [ref70 σ D H, ref57 σ D H, mul_comm, EReal.coe_mul]
theorem ref_dz (s : Fin 8192) (h : Fin 8) (x : Fin 128) : rdz σ (ix2 s (hc h x)) = ((D.dz h s x : ℝ) : EReal) := by
  refine (at129 (ar3 σ) (b66 σ) (b64 σ) s (hc h x)).trans ?_
  rw [ref66 σ D H, ref64 σ D H, ar3_at σ D H, word_1, ← EReal.coe_sub, ← EReal.coe_mul, ← EReal.coe_mul, ← EReal.coe_mul, ← EReal.coe_mul, ← EReal.coe_add, Data.dz]
  congr 1
  ring
theorem ref_dk (h : Fin 8) (r : Fin 8192) (x : Fin 256) : rdk σ (ix3 h r x) = (((if hx : x.val < 192 then D.dk h r ⟨x.val, hx⟩ else 0 : ℝ)) : EReal) := by
  refine (at127 (b88 σ) (b15 σ) (b16 σ) (id (Host.log (constant S_ .f32 0x40000000#32))) h r x).trans ?_
  rw [log_two, zero_int]
  by_cases hx : x.val < 192
  · rw [dif_pos hx, dif_pos hx, Data.dk, ← div_div, ← div_real _ log2_pos.ne']
    congr 1
    by_cases h1 : x.val < 128
    · rw [dif_neg (by omega), dif_pos h1, zero_add]
      exact over_queries σ D H h r ⟨x.val, hx⟩ _ fun s => by rw [ref16 σ D H, ← rot_low]
    · rw [dif_pos (by omega), dif_neg h1, add_zero]
      refine over_queries σ D H h r ⟨x.val, hx⟩ _ fun s => ?_
      rw [ref15 σ D H]
      have e : (⟨128 + (x.val - 128), by omega⟩ : Fin 192) = ⟨x.val, hx⟩ := Fin.ext (by show 128 + (x.val - 128) = x.val; omega)
      simp only [e]
  · rw [dif_neg hx, dif_neg hx, div_real _ log2_pos.ne', zero_div]
theorem ref_dq (h : Fin 8) (s : Fin 8192) (x : Fin 256) : rdq σ (ix3 h s x) = (((if hx : x.val < 192 then D.dq h s ⟨x.val, hx⟩ else 0 : ℝ)) : EReal) := by
  refine (at121 (b88 σ) (b17 σ) (b101 σ) (b102 σ) (b1 σ) (b2 σ) h s x).trans ?_
  rw [zero_int]
  by_cases hx : x.val < 192
  · rw [dif_pos hx, dif_pos hx]
    unfold Data.dq
    by_cases h1 : x.val < 128
    · rw [dif_pos h1, dif_neg (by omega), add_zero, dif_pos (show (⟨x.val, hx⟩ : Fin 192).val < 128 from h1)]
      exact over_keys σ D H h s ⟨x.val, hx⟩ _ fun r => ref17 σ D H r h ⟨x.val, h1⟩
    · rw [dif_neg h1, zero_add, dif_pos (by omega), dif_neg (show ¬ (⟨x.val, hx⟩ : Fin 192).val < 128 from h1)]
      have e0 : (⟨128 + (x.val - 128), by omega⟩ : Fin 192) = ⟨x.val, hx⟩ := Fin.ext (by show 128 + (x.val - 128) = x.val; omega)
      by_cases h2 : x.val - 128 < 32
      · rw [dif_neg (by omega), zero_add, dif_pos h2, dif_pos (show (⟨x.val, hx⟩ : Fin 192).val - 128 < 32 from h2),
          ref102 σ D H, ref101 σ D H, ref1 σ D H, ref2 σ D H, ← EReal.coe_mul, ← EReal.coe_mul, ← EReal.coe_add]
        have e1 : (⟨128 + (32 + (x.val - 128)), by omega⟩ : Fin 192) = ⟨x.val + 32, by omega⟩ := Fin.ext (by show 128 + (32 + (x.val - 128)) = x.val + 32; omega)
        congr 1
        simp only [e0, e1]
        ring
      · rw [dif_pos (by omega), dif_neg h2, add_zero, dif_neg (show ¬ (⟨x.val, hx⟩ : Fin 192).val - 128 < 32 from h2),
          ref102 σ D H, ref101 σ D H, ref1 σ D H, ref2 σ D H, ← EReal.coe_neg, ← EReal.coe_mul, ← EReal.coe_mul, ← EReal.coe_add]
        have e1 : (⟨128 + (32 + (x.val - 128 - 32)), by omega⟩ : Fin 192) = ⟨x.val, hx⟩ := Fin.ext (by show 128 + (32 + (x.val - 128 - 32)) = x.val; omega)
        have e2 : (⟨128 + (x.val - 128 - 32), by omega⟩ : Fin 192) = ⟨x.val - 32, by omega⟩ := Fin.ext (by show 128 + (x.val - 128 - 32) = x.val - 32; omega)
        congr 1
        simp only [e1, e2]
        ring
  · rw [dif_neg hx, dif_neg hx]

end Cert.ReferenceIdeal.Val

end
-- ==== Proof.Algebraic.lean ====
/- The value claim: the kernel's run and the reference's end with the same four arrays. -/
module

public import proofs.«01_k».proof.Proof.Frames
public import proofs.«01_k».proof.Proof.Pre
public import proofs.«01_k».proof.Proof.KernelReal
public import proofs.«01_k».proof.Proof.RefOut

@[expose] public section

set_option maxRecDepth 16384

noncomputable section

namespace Cert.Proof

open Idealize.ShloMosaic Idealize.ShloMosaic.TcCoe Idealize.ShloMosaic.Pointwise Idealize.SL.Sem

section Kernel
open Cert.KernelIdeal Cert.KernelIdeal.Gen Cert.KernelIdeal.Body

set_option maxHeartbeats 4000000 in
/-- The kernel's run, read at its results and its arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v67_0) = (dats m 0 c).arrAt 10 cfg0.N
      ∧ r.2.mem ((c.tc : Thread nD τ).loc main_v67_1) = (dats m 0 c).arrAt 11 cfg0.N
      ∧ r.2.mem ((c.tc : Thread nD τ).loc main_v67_2) = (dats m 0 c).arrAt 12 cfg0.N
      ∧ r.2.mem ((c.tc : Thread nD τ).loc main_v67_3) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 10, (h.1 c).1 11, (h.1 c).1 12, (h.1 c).1 13,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 4).trans (((dats m 0 c).arrAt_in 4 rfl _).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 3).trans (((dats m 0 c).arrAt_in 3 rfl _).trans (V_main_arg6 m c))⟩) (run_main (F := Ideal) m ρ)
end Kernel

/-- The reference's run, read at its results and its arguments. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => ∀ c : Dev ReferenceIdeal.nD,
      r.2.mem ((c.tc : Thread ReferenceIdeal.nD ReferenceIdeal.τ).loc ReferenceIdeal.main_v121) = ReferenceIdeal.Val.rdq (StableHlo.launchContents m c)
      ∧ r.2.mem ((c.tc : Thread ReferenceIdeal.nD ReferenceIdeal.τ).loc ReferenceIdeal.main_v127) = ReferenceIdeal.Val.rdk (StableHlo.launchContents m c)
      ∧ r.2.mem ((c.tc : Thread ReferenceIdeal.nD ReferenceIdeal.τ).loc ReferenceIdeal.main_v128) = ReferenceIdeal.Val.rdv (StableHlo.launchContents m c)
      ∧ r.2.mem ((c.tc : Thread ReferenceIdeal.nD ReferenceIdeal.τ).loc ReferenceIdeal.main_v129) = ReferenceIdeal.Val.rdz (StableHlo.launchContents m c)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)) :=
  ReferenceIdeal.Value.run (F := Ideal) m ρ

/-! The arrays' equality, index by index. -/

theorem ext3 {n0 n1 n2 : ℕ} (X Y : Shape.Idx ⟨3, ![n0, n1, n2]⟩ → EReal) (h : ∀ a b c, X (ix3 a b c) = Y (ix3 a b c)) : X = Y := by
  funext i
  have e : i = ix3 (i 0) (i 1) (i 2) := by
    funext a
    match a with
    | 0 => rfl
    | 1 => rfl
    | 2 => rfl
  rw [e]; exact h _ _ _
theorem ext2 (X Y : Shape.Idx ⟨2, ![8192, 1024]⟩ → EReal) (h : ∀ s h x, X (ix2 s (hc h x)) = Y (ix2 s (hc h x))) : X = Y := by
  funext i
  have hb : (i 1).val < 1024 := (i 1).isLt
  have e : i = ix2 (i 0) (hc ⟨(i 1).val / 128, by omega⟩ ⟨(i 1).val % 128, Nat.mod_lt _ (by norm_num)⟩) := by
    funext a
    match a with
    | 0 => rfl
    | 1 => exact Fin.ext (Nat.div_add_mod (i 1).val 128).symm
  rw [e]; exact h _ _ _

section Same
open Cert.KernelIdeal Cert.KernelIdeal.Gen Cert.KernelIdeal.Body
variable (m : (ℓ : Loc nD τ sig) → Buf (Elt Ideal) ℓ) (c : Dev nD) (σ : Valuation ReferenceIdeal.τ ReferenceIdeal.sig (Elt Ideal)) (D : Data)
  (H : Val.Holds m c D) (H' : ReferenceIdeal.Val.Holds σ D)
include H H'

theorem same_dq : @Eq (S8x8192x256.Idx → EReal) (ReferenceIdeal.Val.rdq σ) ((dats m 0 c).arrAt 10 cfg0.N) :=
  ext3 _ _ fun h s x => (ReferenceIdeal.Val.ref_dq σ D H' h s x).trans (Val.kernel_dq m c D H h s x).symm
theorem same_dk : @Eq (S8x8192x256.Idx → EReal) (ReferenceIdeal.Val.rdk σ) ((dats m 0 c).arrAt 11 cfg0.N) :=
  ext3 _ _ fun h r x => (ReferenceIdeal.Val.ref_dk σ D H' h r x).trans (Val.kernel_dk m c D H h r x).symm
theorem same_dv : @Eq (S8x8192x128.Idx → EReal) (ReferenceIdeal.Val.rdv σ) ((dats m 0 c).arrAt 12 cfg0.N) :=
  ext3 _ _ fun h r x => (ReferenceIdeal.Val.ref_dv σ D H' h r x).trans (Val.kernel_dv m c D H h r x).symm
theorem same_dz : @Eq (S8192x1024.Idx → EReal) (ReferenceIdeal.Val.rdz σ) ((dats m 0 c).arrAt 13 cfg0.N) :=
  ext2 _ _ fun s h x => (ReferenceIdeal.Val.ref_dz σ D H' s h x).trans (Val.kernel_dz m c D H s h x).symm
end Same

/-- Over the reals, for finite arguments, the kernel and the reference return the same four gradients. -/
theorem algebraic : Cert.algebraic_KernelIdeal_ReferenceIdeal_pre_finite_args (hPre_finite_args := Cert.Finite.facts) := by
  intro m g m' g' hpre hagree
  have H := fun c => Cert.Finite.holds m hpre c
  have H' : ∀ c, ReferenceIdeal.Val.Holds (StableHlo.launchContents m' c) (Cert.Finite.data m c) := fun c =>
    { q := fun s h x => (congrFun (hagree c).1 (ix3 s h x)).trans ((H c).q s h x)
      k := fun s h x => (congrFun (hagree c).2.1 (ix3 s h x)).trans ((H c).k s h x)
      v := fun s h x => (congrFun (hagree c).2.2.1 (ix3 s h x)).trans ((H c).v s h x)
      z := fun s x => (congrFun (hagree c).2.2.2.1 (ix2 s x)).trans ((H c).z s x)
      cs := fun s x => (congrFun (hagree c).2.2.2.2.1 (ix2 s x)).trans ((H c).cs s x)
      sn := fun s x => (congrFun (hagree c).2.2.2.2.2.1 (ix2 s x)).trans ((H c).sn s x)
      y := fun s x => (congrFun (hagree c).2.2.2.2.2.2 (ix2 s x)).trans ((H c).y s x) }
  refine ⟨_, _, _, _, kernel_run m g, (θ_run ReferenceIdeal.defs _ _).mono (fun r h c => ?_) (reference_run m' g')⟩
  exact ⟨(h c).1.trans (same_dq m c _ _ (H c) (H' c)), (h c).2.1.trans (same_dk m c _ _ (H c) (H' c)), (h c).2.2.1.trans (same_dv m c _ _ (H c) (H' c)),
    (h c).2.2.2.1.trans (same_dz m c _ _ (H c) (H' c)), (h c).2.2.2.2⟩

end Cert.Proof

end
-- ==== Proof.F.Base.lean ====
module

public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Frame
public import proofs.«01_k».proof.Proof.Gen.Reference2Ideal.Run
public import proofs.«01_k».proof.Proof.Gen.Reference2Ideal.Read

@[expose] public section

noncomputable section

end
-- ==== Proof.F.Host.lean ====
/- The arrays the host prepares for the forward call, over the reals, and the block that each grid point reads. -/
module

public import proofs.«01_k».proof.Proof.Host
public import proofs.«01_k».proof.Proof.F.Base

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Pointwise Idealize.SL.Sem
open Cert.KernelIdeal.Val (rotE zero_int scale_eq)

variable (m : (ℓ : Loc nD τ sig) → Buf (Elt Ideal) ℓ) (c : Dev nD)

/-- The device's six arguments are the real data. -/
structure Holds (D : Data) : Prop where
  q : ∀ s h x, m (c, Proc.devRef .tc main_arg0) (ix3 s h x) = ((D.q s h x : ℝ) : EReal)
  k : ∀ s h x, m (c, Proc.devRef .tc main_arg1) (ix3 s h x) = ((D.k s h x : ℝ) : EReal)
  v : ∀ s h x, m (c, Proc.devRef .tc main_arg2) (ix3 s h x) = ((D.v s h x : ℝ) : EReal)
  z : ∀ s x, m (c, Proc.devRef .tc main_arg3) (ix2 s x) = ((D.z s x : ℝ) : EReal)
  cs : ∀ s x, m (c, Proc.devRef .tc main_arg4) (ix2 s x) = ((D.cs s x : ℝ) : EReal)
  sn : ∀ s x, m (c, Proc.devRef .tc main_arg5) (ix2 s x) = ((D.sn s x : ℝ) : EReal)

/-- The host's operations past the rotation. -/
abbrev rest : List (HloOp τ sig (Elt Ideal)) := [hostOps0_1, hostOps0_2, hostOps0_3, hostOps0_4].flatten
/-- What they leave from given contents. -/
abbrev after2 (σ : Valuation τ sig (Elt Ideal)) (b : Ref sig .tc) : Buf (Elt Ideal) ((c : Thread nD τ).loc b) := StableHlo.after rest σ b
/-- The contents with the queries rotated. -/
abbrev first : Valuation τ sig (Elt Ideal) := StableHlo.after hostOps0 (fun b => m (c, b))
theorem V_cut (b : Ref sig .tc) : V m c b = after2 c (first m c) b := by
  unfold V after2 first rest
  rw [List.flatten_cons, StableHlo.after_append]

theorem at24 (σ : Valuation τ sig (Elt Ideal)) (h : Fin 8) (s : Fin 8192) (x : Fin 256) :
    after2 c σ main_v24 (ix3 h s x) = Ideal.div (if hx : x.val < 192 then σ main_v16 (ix3 h s ⟨x.val, hx⟩) else FloatOps.sitofp (F := Ideal) FTy.f32 (σ main_c (Shape.Idx.first h_S_)))
      (id (mulf (Host.sqrt (constant (F := Ideal) S_ FTy.f32 1128267776#32)) (Host.log (constant S_ FTy.f32 1073741824#32))) ix0) := by
  unfold after2 rest
  after_reads_at
  all_goals rfl
theorem zero_c : first m c main_c (Shape.Idx.first h_S_) = (0#32 : BitVec 32) := by
  unfold first
  after_reads_at
  all_goals rfl

variable (D : Data) (H : Holds m c D)
include H

theorem host16 (s : Fin 8192) (h : Fin 8) (x : Fin 192) : first m c main_v16 (ix3 h s x) = ((D.rot s h x : ℝ) : EReal) := by
  unfold first
  after_reads_at
  after_reads_at
  exact rotE D (m (c, Proc.devRef .tc main_arg0)) (m (c, Proc.devRef .tc main_arg4)) (m (c, Proc.devRef .tc main_arg5)) H.q H.cs H.sn s h x
theorem host24 (h : Fin 8) (s : Fin 8192) (x : Fin 256) : V m c main_v24 (ix3 h s x)
    = (((if hx : x.val < 192 then D.rot s h ⟨x.val, hx⟩ / (√192 * Real.log 2) else 0 : ℝ)) : EReal) := by
  have hn : √192 * Real.log 2 ≠ 0 := (mul_pos sqrt192_pos log2_pos).ne'
  rw [V_cut, at24, scale_eq, zero_c, zero_int]
  by_cases hx : x.val < 192
  · rw [dif_pos hx, dif_pos hx, host16 m c D H, div_real _ hn]
  · rw [dif_neg hx, dif_neg hx, div_real _ hn, zero_div]
theorem host27 (h : Fin 8) (s : Fin 8192) (x : Fin 256) : V m c main_v27 (ix3 h s x)
    = (((if hx : x.val < 192 then D.k s h ⟨x.val, hx⟩ else 0 : ℝ)) : EReal) := by
  unfold V
  after_reads_at
  by_cases hx : x.val < 192
  · rw [dif_pos hx, dif_pos hx]; exact H.k s h ⟨x.val, hx⟩
  · rw [dif_neg hx, dif_neg hx]
    show (((0#32 : BitVec 32).toInt : ℝ) : EReal) = _
    simp
theorem host29 (h : Fin 8) (s : Fin 8192) (x : Fin 128) : V m c main_v29 (ix3 h s x) = ((D.v s h x : ℝ) : EReal) := by
  unfold V
  after_reads_at
  exact H.v s h x
theorem host3 (s : Fin 8192) (e : Fin 1024) : V m c main_arg3 (ix2 s e) = ((D.z s e : ℝ) : EReal) := by
  rw [V_main_arg3]; exact H.z s e

end Cert.Kernel2Ideal.Val

end
-- ==== Proof.F.Row.lean ====
/- One row of the running softmax over the reals: what maximum, sum and weighted sum hold once the first `n` keys have
   passed, and that a further block of keys keeps this. -/
module

public import proofs.«01_k».proof.Proof.Ereal

@[expose] public section

noncomputable section

namespace Cert.Fwd

open Idealize.ShloMosaic

/-- Base-2 logits `L` and values `V` of the keys; the first `n` have passed. Either no key has, or the maximum is some
    real number that sum and weighted sum are taken relative to. -/
def RowOK (L : ℕ → ℝ) (V : ℕ → Fin 128 → ℝ) (n : ℕ) (m l a : Fin 128 → EReal) : Prop :=
  (n = 0 ∧ (∀ x, m x = ⊥) ∧ (∀ x, l x = 0) ∧ ∀ x, a x = 0) ∨
  ∃ μ : ℝ, (∀ x, m x = (μ : EReal)) ∧ (∀ x, l x = ((∑ r ∈ Finset.range n, (2 : ℝ) ^ (L r - μ) : ℝ) : EReal))
    ∧ ∀ x, a x = ((∑ r ∈ Finset.range n, (2 : ℝ) ^ (L r - μ) * V r x : ℝ) : EReal)

variable {L : ℕ → ℝ} {V : ℕ → Fin 128 → ℝ}

theorem RowOK.lane {n : ℕ} {m l a : Fin 128 → EReal} (h : RowOK L V n m l a) (x : Fin 128) : m x = m 0 := by
  rcases h with ⟨_, h, _, _⟩ | ⟨μ, h, _, _⟩ <;> rw [h, h]

/-- A block's sum is one over the next keys. -/
theorem block_sum (f : ℕ → ℝ) {w : ℕ} (hw : w ≤ 512) : ∑ b : Fin 512, (if b.val < w then f b.val else 0) = ∑ r ∈ Finset.range w, f r := by
  rw [Fin.sum_univ_eq_sum_range (fun b => if b < w then f b else 0) 512, ← Finset.sum_filter]
  congr 1
  ext r
  simp only [Finset.mem_filter, Finset.mem_range]
  omega

theorem exp2_bot : Ideal.exp2 ⊥ = ((0 : ℝ) : EReal) := rfl

theorem row_step {n w : ℕ} (hw0 : 0 < w) (hw : w ≤ 512) {sc : Fin 512 → EReal} (hsc : ∀ b, sc b = if b.val < w then ((L (n + b.val) : ℝ) : EReal) else ⊥)
    {v : Fin 512 → Fin 128 → EReal} (hv : ∀ b x, v b x = ((V (n + b.val) x : ℝ) : EReal)) {m l a m' l' a' : Fin 128 → EReal} (h : RowOK L V n m l a)
    (hm' : ∀ x, m' x = max (m x) (Finset.fold max ⊥ sc Finset.univ))
    (hl' : ∀ x, l' x = Ideal.exp2 (m x - m' 0) * l x + ∑ b, Ideal.exp2 (sc b - m' 0))
    (ha' : ∀ x, a' x = Ideal.exp2 (m x - m' 0) * a x + ∑ b, Ideal.exp2 (sc b - m' 0) * v b x) :
    RowOK L V (n + w) m' l' a' := by
  obtain ⟨M, hM⟩ := fold_real sc ⟨0, by omega⟩ (fun b => by rw [hsc]; split; exact EReal.coe_lt_top _; exact bot_lt_top)
    (by rw [hsc, if_pos hw0]; exact EReal.bot_lt_coe _)
  have key : ∀ μ : ℝ, ∀ b, Ideal.exp2 (sc b - (μ : EReal)) = (((if b.val < w then (2 : ℝ) ^ (L (n + b.val) - μ) else 0 : ℝ)) : EReal) := by
    intro μ b
    rw [hsc]
    split
    · rw [← EReal.coe_sub, exp2_real]
    · rw [EReal.bot_sub, exp2_bot]
  have kl : ∀ μ : ℝ, ∑ b, Ideal.exp2 (sc b - (μ : EReal)) = ((∑ r ∈ Finset.range w, (2 : ℝ) ^ (L (n + r) - μ) : ℝ) : EReal) := by
    intro μ
    rw [Finset.sum_congr rfl fun b _ => key μ b, coe_sum, block_sum (fun r => (2 : ℝ) ^ (L (n + r) - μ)) hw]
  have ka : ∀ (μ : ℝ) (x : Fin 128), ∑ b, Ideal.exp2 (sc b - (μ : EReal)) * v b x = ((∑ r ∈ Finset.range w, (2 : ℝ) ^ (L (n + r) - μ) * V (n + r) x : ℝ) : EReal) := by
    intro μ x
    have : ∀ b ∈ Finset.univ, Ideal.exp2 (sc b - (μ : EReal)) * v b x = (((if b.val < w then (2 : ℝ) ^ (L (n + b.val) - μ) * V (n + b.val) x else 0 : ℝ)) : EReal) := by
      intro b _
      rw [key, hv, ← EReal.coe_mul, ite_mul, zero_mul]
    rw [Finset.sum_congr rfl this, coe_sum, block_sum (fun r => (2 : ℝ) ^ (L (n + r) - μ) * V (n + r) x) hw]
  rcases h with ⟨rfl, hm, hl, ha⟩ | ⟨μ, hm, hl, ha⟩
  · have e : ∀ x, m' x = (M : EReal) := fun x => by rw [hm', hm, hM, max_eq_right bot_le]
    refine Or.inr ⟨M, e, fun x => ?_, fun x => ?_⟩
    · rw [hl', hl, e, kl, mul_zero, zero_add, zero_add]; simp only [zero_add]
    · rw [ha', ha, e, ka, mul_zero, zero_add, zero_add]; simp only [zero_add]
  · have e : ∀ x, m' x = ((max μ M : ℝ) : EReal) := fun x => by rw [hm', hm, hM]; exact (EReal.coe_strictMono.monotone.map_max).symm
    generalize max μ M = ν at e
    have al : ∀ r, (2 : ℝ) ^ (μ - ν) * (2 : ℝ) ^ (L r - μ) = (2 : ℝ) ^ (L r - ν) := fun r => by
      rw [← Real.rpow_add (by norm_num)]; congr 1; ring
    refine Or.inr ⟨ν, e, fun x => ?_, fun x => ?_⟩
    · rw [hl', hl, hm, e, kl, ← EReal.coe_sub, exp2_real, ← EReal.coe_mul, ← EReal.coe_add, Finset.mul_sum, Finset.sum_range_add]
      simp only [al]
    · rw [ha', ha, hm, e, ka, ← EReal.coe_sub, exp2_real, ← EReal.coe_mul, ← EReal.coe_add, Finset.mul_sum, Finset.sum_range_add]
      simp only [← mul_assoc, al]

end Cert.Fwd

end
-- ==== Proof.F.Box.lean ====
/- What the forward kernel's stored vectors of one block of keys are over the reals, at one index: on all rows of a
   block of queries, on half of them, and on half of them under the causal mask. -/
module

public import proofs.«01_k».proof.Proof.Gen.Kernel2Ideal.Skeleton
public import Idealize.ShloMosaic.Lib.Pointwise
public import proofs.«01_k».proof.Proof.F.Row

@[expose] public section

set_option maxRecDepth 16384

noncomputable section

namespace Cert.Fwd

open Cert.Kernel2Ideal Cert.Kernel2Ideal.Gen
open Idealize.ShloMosaic Idealize.ShloMosaic.TcCoe Idealize.ShloMosaic.Pointwise Idealize.SL.Sem

theorem lanes4 {b : Fin 512} (x : EReal) : (if h : (b : ℕ) < 128 then x else if h : (b : ℕ) - 128 < 128 then x else if h : (b : ℕ) - 128 - 128 < 128 then x else x) = x := by
  split_ifs <;> rfl

theorem sge (a b : Fin 512) : IntOp.cmpi CmpIPredicate.sge (BitVec.ofNat 32 a.val) (BitVec.ofNat 32 b.val) = BitVec.ofBool (decide (b.val ≤ a.val)) := by
  have ha := a.isLt
  have hb := b.isLt
  have h1 : (BitVec.ofNat 32 a.val).toInt = a.val := by rw [BitVec.toInt_eq_toNat_of_lt] <;> simp <;> omega
  have h2 : (BitVec.ofNat 32 b.val).toInt = b.val := by rw [BitVec.toInt_eq_toNat_of_lt] <;> simp <;> omega
  show BitVec.ofBool (decide ((BitVec.ofNat 32 b.val).toInt ≤ (BitVec.ofNat 32 a.val).toInt)) = _
  rw [h1, h2]; simp

variable (q : Vec Ideal S1x1024x256 .bf16) (q' : Vec Ideal S1x512x256 .bf16) (k : Vec Ideal S1x512x256 .bf16) (v : Vec Ideal S1x512x128 .bf16)
  (m l a : Vec Ideal S1x1024x128 .f32) (m' l' a' : Vec Ideal S1x512x128 .f32)

/-- A block of all rows: the maxima, sums and weighted sums after it. -/
def wm : Vec Ideal S1x1024x128 .f32 := k0_pay10 (k0_pay4 (F := Ideal) q k m)
def wl : Vec Ideal S1x1024x128 .f32 := k0_pay7 (F := Ideal) q k m l
def wa : Vec Ideal S1x1024x128 .f32 := k0_pay9 (k0_pay5 (F := Ideal) q k m) (k0_pay6 q k m) (k0_pay8 a) v
/-- The same on half the rows, unmasked, -/
def um : Vec Ideal S1x512x128 .f32 := k0_pay219 (k0_pay214 (F := Ideal) q' k m')
def ul : Vec Ideal S1x512x128 .f32 := k0_pay217 (k0_pay215 (F := Ideal) q' k m') (k0_pay216 q' k m') l'
def ua : Vec Ideal S1x512x128 .f32 := k0_pay218 (k0_pay215 (F := Ideal) q' k m') (k0_pay216 q' k m') a' v
/-- and under the mask. -/
def cm : Vec Ideal S1x512x128 .f32 := k0_pay211 (k0_pay206 (F := Ideal) q' k m')
def cl : Vec Ideal S1x512x128 .f32 := k0_pay209 (F := Ideal) q' k m' l'
def ca : Vec Ideal S1x512x128 .f32 := k0_pay210 (k0_pay207 (F := Ideal) q' k m') (k0_pay208 q' k m') a' v

theorem wm_at (s : Fin 1024) (x : Fin 128) : wm q k m (ix3 0 s x) = max (m (ix3 0 s x)) (Finset.fold max ⊥ (fun b => ∑ c, q (ix3 0 s c) * k (ix3 0 b c)) Finset.univ) := by
  have hb : Ideal.ofBits FTy.f32 4286578688#32 = ⊥ := word_bot
  pointwise [wm, k0_pay10, k0_pay4, k0_pay3, k0_pay2, hb]

theorem cm_at (s : Fin 512) (x : Fin 128) : cm q' k m' (ix3 0 s x) = max (m' (ix3 0 s x)) (Finset.fold max ⊥ (fun b : Fin 512 => if b.val ≤ s.val then ∑ c, q' (ix3 0 s c) * k (ix3 0 b c) else ⊥) Finset.univ) := by
  have hb : Ideal.ofBits FTy.f32 4286578688#32 = ⊥ := word_bot
  pointwise [cm, k0_pay211, k0_pay206, k0_pay205, k0_pay204, hb, sge]

section
variable (hm : ∀ (s : Fin 1024) (x : Fin 128), m (ix3 0 s x) = m (ix3 0 s 0))
include hm
theorem w4_at (s : Fin 1024) (x : Fin 128) : k0_pay4 (F := Ideal) q k m (ix2 s x) = wm q k m (ix3 0 s 0) := by
  have e : k0_pay4 (F := Ideal) q k m (ix2 s x) = wm q k m (ix3 0 s x) := by
    pointwise [wm, k0_pay10]
  rw [e, wm_at, wm_at, hm]
theorem wl_at (s : Fin 1024) (x : Fin 128) : wl q k m l (ix3 0 s x)
    = Ideal.exp2 (m (ix3 0 s x) - wm q k m (ix3 0 s 0)) * l (ix3 0 s x) + ∑ b : Fin 512, Ideal.exp2 ((∑ c, q (ix3 0 s c) * k (ix3 0 b c)) - wm q k m (ix3 0 s 0)) := by
  have h4 := w4_at q k m hm
  have hb : Ideal.ofBits FTy.f32 4286578688#32 = ⊥ := word_bot
  pointwise [wl, k0_pay7, k0_pay6, k0_pay5, k0_pay3, k0_pay2, h4, lanes4, hb, sge]
  rfl
theorem wa_at (s : Fin 1024) (x : Fin 128) : wa q k v m a (ix3 0 s x)
    = Ideal.exp2 (m (ix3 0 s x) - wm q k m (ix3 0 s 0)) * a (ix3 0 s x) + ∑ b : Fin 512, Ideal.exp2 ((∑ c, q (ix3 0 s c) * k (ix3 0 b c)) - wm q k m (ix3 0 s 0)) * v (ix3 0 b x) := by
  have h4 := w4_at q k m hm
  have hb : Ideal.ofBits FTy.f32 4286578688#32 = ⊥ := word_bot
  pointwise [wa, k0_pay9, k0_pay8, k0_pay6, k0_pay5, k0_pay3, k0_pay2, h4, lanes4, hb, sge]
  rfl
end

theorem um_at (s : Fin 512) (x : Fin 128) : um q' k m' (ix3 0 s x) = max (m' (ix3 0 s x)) (Finset.fold max ⊥ (fun b => ∑ c, q' (ix3 0 s c) * k (ix3 0 b c)) Finset.univ) := by
  have hb : Ideal.ofBits FTy.f32 4286578688#32 = ⊥ := word_bot
  pointwise [um, k0_pay219, k0_pay214, k0_pay213, k0_pay212, hb]

section
variable (hm : ∀ (s : Fin 512) (x : Fin 128), m' (ix3 0 s x) = m' (ix3 0 s 0))
include hm
theorem u4_at (s : Fin 512) (x : Fin 128) : k0_pay214 (F := Ideal) q' k m' (ix2 s x) = um q' k m' (ix3 0 s 0) := by
  have e : k0_pay214 (F := Ideal) q' k m' (ix2 s x) = um q' k m' (ix3 0 s x) := by
    pointwise [um, k0_pay219]
  rw [e, um_at, um_at, hm]
theorem ul_at (s : Fin 512) (x : Fin 128) : ul q' k m' l' (ix3 0 s x)
    = Ideal.exp2 (m' (ix3 0 s x) - um q' k m' (ix3 0 s 0)) * l' (ix3 0 s x) + ∑ b : Fin 512, Ideal.exp2 ((∑ c, q' (ix3 0 s c) * k (ix3 0 b c)) - um q' k m' (ix3 0 s 0)) := by
  have h4 := u4_at q' k m' hm
  have hb : Ideal.ofBits FTy.f32 4286578688#32 = ⊥ := word_bot
  pointwise [ul, k0_pay217, k0_pay216, k0_pay215, k0_pay213, k0_pay212, h4, lanes4, hb, sge]
  rfl
theorem ua_at (s : Fin 512) (x : Fin 128) : ua q' k v m' a' (ix3 0 s x)
    = Ideal.exp2 (m' (ix3 0 s x) - um q' k m' (ix3 0 s 0)) * a' (ix3 0 s x) + ∑ b : Fin 512, Ideal.exp2 ((∑ c, q' (ix3 0 s c) * k (ix3 0 b c)) - um q' k m' (ix3 0 s 0)) * v (ix3 0 b x) := by
  have h4 := u4_at q' k m' hm
  have hb : Ideal.ofBits FTy.f32 4286578688#32 = ⊥ := word_bot
  pointwise [ua, k0_pay218, k0_pay216, k0_pay215, k0_pay213, k0_pay212, h4, lanes4, hb, sge]
  rfl
end

section
variable (hm : ∀ (s : Fin 512) (x : Fin 128), m' (ix3 0 s x) = m' (ix3 0 s 0))
include hm
theorem c4_at (s : Fin 512) (x : Fin 128) : k0_pay206 (F := Ideal) q' k m' (ix2 s x) = cm q' k m' (ix3 0 s 0) := by
  have e : k0_pay206 (F := Ideal) q' k m' (ix2 s x) = cm q' k m' (ix3 0 s x) := by
    pointwise [cm, k0_pay211]
  rw [e, cm_at, cm_at, hm]
theorem cl_at (s : Fin 512) (x : Fin 128) : cl q' k m' l' (ix3 0 s x)
    = Ideal.exp2 (m' (ix3 0 s x) - cm q' k m' (ix3 0 s 0)) * l' (ix3 0 s x) + ∑ b : Fin 512, Ideal.exp2 ((if b.val ≤ s.val then ∑ c, q' (ix3 0 s c) * k (ix3 0 b c) else ⊥) - cm q' k m' (ix3 0 s 0)) := by
  have h4 := c4_at q' k m' hm
  have hb : Ideal.ofBits FTy.f32 4286578688#32 = ⊥ := word_bot
  pointwise [cl, k0_pay209, k0_pay208, k0_pay207, k0_pay205, k0_pay204, h4, lanes4, hb, sge]
  rfl
theorem ca_at (s : Fin 512) (x : Fin 128) : ca q' k v m' a' (ix3 0 s x)
    = Ideal.exp2 (m' (ix3 0 s x) - cm q' k m' (ix3 0 s 0)) * a' (ix3 0 s x) + ∑ b : Fin 512, Ideal.exp2 ((if b.val ≤ s.val then ∑ c, q' (ix3 0 s c) * k (ix3 0 b c) else ⊥) - cm q' k m' (ix3 0 s 0)) * v (ix3 0 b x) := by
  have h4 := c4_at q' k m' hm
  have hb : Ideal.ofBits FTy.f32 4286578688#32 = ⊥ := word_bot
  pointwise [ca, k0_pay210, k0_pay208, k0_pay207, k0_pay205, k0_pay204, h4, lanes4, hb, sge]
  rfl
end

end Cert.Fwd

end
-- ==== Proof.F.Good.lean ====
/- The running softmax's three buffers, read row by row: what they hold before and after a block of keys. -/
module

public import proofs.«01_k».proof.Proof.F.Box
public import Idealize.ShloMosaic.Lib.Tactic

@[expose] public section

set_option maxRecDepth 16384

noncomputable section

namespace Cert.Fwd

open Cert.Kernel2Ideal Cert.Kernel2Ideal.Gen
open Idealize.ShloMosaic Idealize.ShloMosaic.TcCoe Idealize.ShloMosaic.Pointwise Idealize.SL.Sem

/-- A box of one head and `n` rows, read. -/
theorem rd_box {A B D n : ℕ} {e : EltTy} (v : View sig .tc .vmem ⟨3, ![A, B, D]⟩ e) (f : v.ty.Contents (Elt Ideal)) {off : Fin 3 → ℕ}
    (inb : ∀ a, off a + (![1, n, D] : Fin 3 → ℕ) a ≤ (⟨3, ![A, B, D]⟩ : Shape).size a) {h o : ℕ} (hoff : off = ![h, o, 0]) (hh : h < A) (ho : o + n ≤ B) (s : Fin n) (x : Fin D) :
    v.readAt (Elt Ideal) (Rect.unit (s := ⟨3, ![A, B, D]⟩) off ![1, n, D] inb).toLoadRect f (ix3 0 s x) = v.read (Elt Ideal) f (ix3 ⟨h, hh⟩ ⟨o + s.val, by omega⟩ x) := by
  subst hoff
  show v.read (Elt Ideal) f _ = _
  congr 1
  funext a
  apply Fin.ext
  fin_cases a
  · show h + 1 * 0 = h; omega
  · show o + 1 * s.val = o + s.val; omega
  · show 0 + 1 * x.val = x.val; omega

/-- A read of what stores through some other contents left, where they cover it. -/
theorem cov_box {A B D n : ℕ} {e : EltTy} (v : View sig .tc .vmem ⟨3, ![A, B, D]⟩ e) (f : v.ty.Contents (Elt Ideal)) (L : List (View.Piece (Elt Ideal) ⟨3, ![A, B, D]⟩ e)) {off : Fin 3 → ℕ}
    (inb : ∀ a, off a + (![1, n, D] : Fin 3 → ℕ) a ≤ (⟨3, ![A, B, D]⟩ : Shape).size a) {h o : ℕ} (hoff : off = ![h, o, 0]) (hh : h < A) (ho : o + n ≤ B)
    (hc : f = v.junk ∨ ∃ p ∈ L, p.1 = Rect.unit (s := ⟨3, ![A, B, D]⟩) off ![1, n, D] inb) (s : Fin n) (x : Fin D) :
    v.readCov L (Rect.unit (s := ⟨3, ![A, B, D]⟩) off ![1, n, D] inb).toLoadRect (ix3 0 s x) = v.read (Elt Ideal) (v.writes (Elt Ideal) f L) (ix3 ⟨h, hh⟩ ⟨o + s.val, by omega⟩ x) := by
  refine (rd_box v (v.writes (Elt Ideal) v.junk L) inb hoff hh ho s x).trans ?_
  rcases hc with rfl | ⟨p, hp, he⟩
  · rfl
  · refine View.read_writes_apply_eq v _ v _ _ L ⟨p, hp, ?_⟩
    rw [he]
    subst hoff
    refine Rect.mem_set_unit.mpr fun a => ?_
    fin_cases a
    · exact ⟨le_refl h, Nat.lt_succ_self h⟩
    · exact ⟨Nat.le_add_right o s.val, Nat.add_lt_add_left s.isLt o⟩
    · exact ⟨Nat.zero_le _, by show x.val < 0 + D; omega⟩

/-- The block's inputs: queries, keys and values, with the real logits and values they make. -/
structure Ctx where
  x0 : Vec Ideal S2x1024x256 .bf16
  x1 : Vec Ideal S2x8192x256 .bf16
  x2 : Vec Ideal S2x8192x128 .bf16
  L : Fin 2 → Fin 1024 → ℕ → ℝ
  V : Fin 2 → ℕ → Fin 128 → ℝ
  hL : ∀ h s (r : Fin 8192), ∑ c, x0 (ix3 h s c) * x1 (ix3 h r c) = ((L h s r.val : ℝ) : EReal)
  hV : ∀ h (r : Fin 8192) x, x2 (ix3 h r x) = ((V h r.val x : ℝ) : EReal)

variable (C : Ctx)

/-- The three buffers after, per head and row, the first `N` keys. -/
def Good (m l a : Vec Ideal S2x1024x128 .f32) (N : Fin 2 → Fin 1024 → ℕ) : Prop :=
  ∀ h s, RowOK (C.L h s) (C.V h) (N h s) (fun x => m (ix3 h s x)) (fun x => l (ix3 h s x)) (fun x => a (ix3 h s x))

theorem put_in {A B D n : ℕ} {e : EltTy} (v : View sig .tc .vmem ⟨3, ![A, B, D]⟩ e) (f : v.ty.Contents (Elt Ideal)) (L : List (View.Piece (Elt Ideal) ⟨3, ![A, B, D]⟩ e)) {off : Fin 3 → ℕ}
    (inb : ∀ a, off a + (![1, n, D] : Fin 3 → ℕ) a ≤ (⟨3, ![A, B, D]⟩ : Shape).size a) (w : (Rect.unit (s := ⟨3, ![A, B, D]⟩) off ![1, n, D] inb).shape.Idx → Elt Ideal e)
    {h o : ℕ} (hoff : off = ![h, o, 0]) (hh : h < A) (ho : o + n ≤ B) (s : Fin n) (x : Fin D) :
    v.read (Elt Ideal) (v.writes (Elt Ideal) f (⟨Rect.unit (s := ⟨3, ![A, B, D]⟩) off ![1, n, D] inb, w⟩ :: L)) (ix3 ⟨h, hh⟩ ⟨o + s.val, by omega⟩ x) = w (ix3 0 s x) := by
  subst hoff
  refine View.read_writes_cons_hit_of_coords v f _ w L (ix3 0 s x) _ fun a => ?_
  fin_cases a
  · show h = h + 1 * 0; omega
  · show o + s.val = o + 1 * s.val; omega
  · show x.val = 0 + 1 * x.val; omega

theorem put_out {A B D n : ℕ} {e : EltTy} (v : View sig .tc .vmem ⟨3, ![A, B, D]⟩ e) (f : v.ty.Contents (Elt Ideal)) (L : List (View.Piece (Elt Ideal) ⟨3, ![A, B, D]⟩ e)) {off : Fin 3 → ℕ}
    (inb : ∀ a, off a + (![1, n, D] : Fin 3 → ℕ) a ≤ (⟨3, ![A, B, D]⟩ : Shape).size a) (w : (Rect.unit (s := ⟨3, ![A, B, D]⟩) off ![1, n, D] inb).shape.Idx → Elt Ideal e)
    {h o : ℕ} (hoff : off = ![h, o, 0]) (h' : Fin A) (s : Fin B) (x : Fin D) (hn : ¬(h'.val = h ∧ o ≤ s.val ∧ s.val < o + n)) :
    v.read (Elt Ideal) (v.writes (Elt Ideal) f (⟨Rect.unit (s := ⟨3, ![A, B, D]⟩) off ![1, n, D] inb, w⟩ :: L)) (ix3 h' s x) = v.read (Elt Ideal) (v.writes (Elt Ideal) f L) (ix3 h' s x) := by
  subst hoff
  refine View.read_writes_cons_miss v f _ L _ fun hy => hn ?_
  have hy' : ix3 h' s x ∈ (Rect.unit (s := ⟨3, ![A, B, D]⟩) ![h, o, 0] ![1, n, D] inb).set := hy
  have h0 := Rect.mem_set_unit.mp hy' 0
  have h1 := Rect.mem_set_unit.mp hy' 1
  have e0 : h ≤ h'.val ∧ h'.val < h + 1 := h0
  have e1 : o ≤ s.val ∧ s.val < o + n := h1
  exact ⟨by omega, e1⟩

section
variable {h : Fin 2} {o r0 : ℕ} (ho : o + 512 ≤ 8192)

theorem row_w {q : Vec Ideal S1x1024x256 .bf16} {k : Vec Ideal S1x512x256 .bf16} {v : Vec Ideal S1x512x128 .bf16} {m l a : Vec Ideal S1x1024x128 .f32} (hr0 : r0 + 1024 ≤ 1024)
    (hq : ∀ s c, q (ix3 0 s c) = C.x0 (ix3 h ⟨r0 + s.val, by omega⟩ c)) (hk : ∀ b c, k (ix3 0 b c) = C.x1 (ix3 h ⟨o + b.val, by omega⟩ c)) (hv : ∀ b x, v (ix3 0 b x) = C.x2 (ix3 h ⟨o + b.val, by omega⟩ x))
    (hr : ∀ s : Fin 1024, RowOK (C.L h ⟨r0 + s.val, by omega⟩) (C.V h) o (fun x => m (ix3 0 s x)) (fun x => l (ix3 0 s x)) (fun x => a (ix3 0 s x))) (s : Fin 1024) :
    RowOK (C.L h ⟨r0 + s.val, by omega⟩) (C.V h) (o + 512) (fun x => wm q k m (ix3 0 s x)) (fun x => wl q k m l (ix3 0 s x)) (fun x => wa q k v m a (ix3 0 s x)) := by
  have hm : ∀ s x, m (ix3 0 s x) = m (ix3 0 s 0) := fun s x => (hr s).lane x
  have hs : ∀ b : Fin 512, ∑ c, q (ix3 0 s c) * k (ix3 0 b c) = ((C.L h ⟨r0 + s.val, by omega⟩ (o + b.val) : ℝ) : EReal) := fun b => by
    simp only [hq, hk]; exact C.hL h _ _
  refine row_step (w := 512) (by norm_num) le_rfl (sc := fun b => ∑ c, q (ix3 0 s c) * k (ix3 0 b c)) (v := fun b x => v (ix3 0 b x))
    (fun b => (hs b).trans (if_pos b.isLt).symm) (fun b x => (hv b x).trans (C.hV h _ x)) (hr s) (fun x => wm_at q k m s x) (fun x => wl_at q k m l hm s x) (fun x => wa_at q k v m a hm s x)

theorem row_u {q : Vec Ideal S1x512x256 .bf16} {k : Vec Ideal S1x512x256 .bf16} {v : Vec Ideal S1x512x128 .bf16} {m l a : Vec Ideal S1x512x128 .f32} (hr0 : r0 + 512 ≤ 1024)
    (hq : ∀ s c, q (ix3 0 s c) = C.x0 (ix3 h ⟨r0 + s.val, by omega⟩ c)) (hk : ∀ b c, k (ix3 0 b c) = C.x1 (ix3 h ⟨o + b.val, by omega⟩ c)) (hv : ∀ b x, v (ix3 0 b x) = C.x2 (ix3 h ⟨o + b.val, by omega⟩ x))
    (hr : ∀ s : Fin 512, RowOK (C.L h ⟨r0 + s.val, by omega⟩) (C.V h) o (fun x => m (ix3 0 s x)) (fun x => l (ix3 0 s x)) (fun x => a (ix3 0 s x))) (s : Fin 512) :
    RowOK (C.L h ⟨r0 + s.val, by omega⟩) (C.V h) (o + 512) (fun x => um q k m (ix3 0 s x)) (fun x => ul q k m l (ix3 0 s x)) (fun x => ua q k v m a (ix3 0 s x)) := by
  have hm : ∀ s x, m (ix3 0 s x) = m (ix3 0 s 0) := fun s x => (hr s).lane x
  have hs : ∀ b : Fin 512, ∑ c, q (ix3 0 s c) * k (ix3 0 b c) = ((C.L h ⟨r0 + s.val, by omega⟩ (o + b.val) : ℝ) : EReal) := fun b => by
    simp only [hq, hk]; exact C.hL h _ _
  refine row_step (w := 512) (by norm_num) le_rfl (sc := fun b => ∑ c, q (ix3 0 s c) * k (ix3 0 b c)) (v := fun b x => v (ix3 0 b x))
    (fun b => (hs b).trans (if_pos b.isLt).symm) (fun b x => (hv b x).trans (C.hV h _ x)) (hr s) (fun x => um_at q k m s x) (fun x => ul_at q k m l hm s x) (fun x => ua_at q k v m a hm s x)

theorem row_c {q : Vec Ideal S1x512x256 .bf16} {k : Vec Ideal S1x512x256 .bf16} {v : Vec Ideal S1x512x128 .bf16} {m l a : Vec Ideal S1x512x128 .f32} (hr0 : r0 + 512 ≤ 1024)
    (hq : ∀ s c, q (ix3 0 s c) = C.x0 (ix3 h ⟨r0 + s.val, by omega⟩ c)) (hk : ∀ b c, k (ix3 0 b c) = C.x1 (ix3 h ⟨o + b.val, by omega⟩ c)) (hv : ∀ b x, v (ix3 0 b x) = C.x2 (ix3 h ⟨o + b.val, by omega⟩ x))
    (hr : ∀ s : Fin 512, RowOK (C.L h ⟨r0 + s.val, by omega⟩) (C.V h) o (fun x => m (ix3 0 s x)) (fun x => l (ix3 0 s x)) (fun x => a (ix3 0 s x))) (s : Fin 512) :
    RowOK (C.L h ⟨r0 + s.val, by omega⟩) (C.V h) (o + (s.val + 1)) (fun x => cm q k m (ix3 0 s x)) (fun x => cl q k m l (ix3 0 s x)) (fun x => ca q k v m a (ix3 0 s x)) := by
  have hm : ∀ s x, m (ix3 0 s x) = m (ix3 0 s 0) := fun s x => (hr s).lane x
  have hs : ∀ b : Fin 512, ∑ c, q (ix3 0 s c) * k (ix3 0 b c) = ((C.L h ⟨r0 + s.val, by omega⟩ (o + b.val) : ℝ) : EReal) := fun b => by
    simp only [hq, hk]; exact C.hL h _ _
  refine row_step (w := s.val + 1) (Nat.succ_pos _) (by omega) (sc := fun b => if b.val ≤ s.val then ∑ c, q (ix3 0 s c) * k (ix3 0 b c) else ⊥) (v := fun b x => v (ix3 0 b x))
    (fun b => ?_) (fun b x => (hv b x).trans (C.hV h _ x)) (hr s) (fun x => cm_at q k m s x) (fun x => cl_at q k m l hm s x) (fun x => ca_at q k v m a hm s x)
  show (if b.val ≤ s.val then _ else _) = _
  by_cases hb : b.val ≤ s.val
  · rw [if_pos hb, if_pos (Nat.lt_succ_of_le hb), hs]
  · rw [if_neg hb, if_neg (fun hh => hb (Nat.le_of_lt_succ hh))]
end

section
variable {C}
variable {v9 v10 v11 : View sig .tc .vmem S2x1024x128 .f32} {f9 : v9.ty.Contents (Elt Ideal)} {f10 : v10.ty.Contents (Elt Ideal)} {f11 : v11.ty.Contents (Elt Ideal)}
  {L9 L10 L11 : List (View.Piece (Elt Ideal) S2x1024x128 .f32)} {N : Fin 2 → Fin 1024 → ℕ}

/-- What the buffers read after the stores listed. -/
abbrev rdl (v : View sig .tc .vmem S2x1024x128 .f32) (f : v.ty.Contents (Elt Ideal)) (L : List (View.Piece (Elt Ideal) S2x1024x128 .f32)) : Vec Ideal S2x1024x128 .f32 :=
  v.read (Elt Ideal) (v.writes (Elt Ideal) f L)

/-- Rows stored anew in one head. -/
theorem good_put (hG : Good C (rdl v9 f9 L9) (rdl v10 f10 L10) (rdl v11 f11 L11) N) {n : ℕ} (h : Fin 2) {r0 : ℕ} (hr0 : r0 + n ≤ 1024) {off : Fin 3 → ℕ} (hoff : off = ![h.val, r0, 0])
    (inb : ∀ a, off a + (![1, n, 128] : Fin 3 → ℕ) a ≤ S2x1024x128.size a) {m l a : Vec Ideal ⟨3, ![1, n, 128]⟩ .f32} (N' : Fin 2 → Fin 1024 → ℕ)
    (hin : ∀ s : Fin n, RowOK (C.L h ⟨r0 + s.val, by omega⟩) (C.V h) (N' h ⟨r0 + s.val, by omega⟩) (fun x => m (ix3 0 s x)) (fun x => l (ix3 0 s x)) (fun x => a (ix3 0 s x)))
    (hout : ∀ h' s', ¬(h'.val = h.val ∧ r0 ≤ s'.val ∧ s'.val < r0 + n) → N' h' s' = N h' s') :
    Good C (rdl v9 f9 (⟨Rect.unit (s := S2x1024x128) off ![1, n, 128] inb, m⟩ :: L9)) (rdl v10 f10 (⟨Rect.unit (s := S2x1024x128) off ![1, n, 128] inb, l⟩ :: L10))
      (rdl v11 f11 (⟨Rect.unit (s := S2x1024x128) off ![1, n, 128] inb, a⟩ :: L11)) N' := by
  intro h' s'
  by_cases hc : h'.val = h.val ∧ r0 ≤ s'.val ∧ s'.val < r0 + n
  · obtain ⟨hh, h1, h2⟩ := hc
    obtain rfl : h' = h := Fin.ext hh
    obtain ⟨s, hs⟩ : ∃ s : Fin n, s' = ⟨r0 + s.val, lt_of_lt_of_le (Nat.add_lt_add_left s.isLt r0) hr0⟩ := ⟨⟨s'.val - r0, by omega⟩, Fin.ext (by show s'.val = r0 + (s'.val - r0); omega)⟩
    subst hs
    have e9 : ∀ x, rdl v9 f9 (⟨Rect.unit (s := S2x1024x128) off ![1, n, 128] inb, m⟩ :: L9) (ix3 h' ⟨r0 + s.val, by omega⟩ x) = m (ix3 0 s x) := put_in v9 f9 L9 inb m hoff h'.isLt hr0 s
    have e10 : ∀ x, rdl v10 f10 (⟨Rect.unit (s := S2x1024x128) off ![1, n, 128] inb, l⟩ :: L10) (ix3 h' ⟨r0 + s.val, by omega⟩ x) = l (ix3 0 s x) := put_in v10 f10 L10 inb l hoff h'.isLt hr0 s
    have e11 : ∀ x, rdl v11 f11 (⟨Rect.unit (s := S2x1024x128) off ![1, n, 128] inb, a⟩ :: L11) (ix3 h' ⟨r0 + s.val, by omega⟩ x) = a (ix3 0 s x) := put_in v11 f11 L11 inb a hoff h'.isLt hr0 s
    rw [funext e9, funext e10, funext e11]
    exact hin s
  · have e9 : ∀ x, rdl v9 f9 (⟨Rect.unit (s := S2x1024x128) off ![1, n, 128] inb, m⟩ :: L9) (ix3 h' s' x) = rdl v9 f9 L9 (ix3 h' s' x) := fun x => put_out v9 f9 L9 inb m hoff h' s' x hc
    have e10 : ∀ x, rdl v10 f10 (⟨Rect.unit (s := S2x1024x128) off ![1, n, 128] inb, l⟩ :: L10) (ix3 h' s' x) = rdl v10 f10 L10 (ix3 h' s' x) := fun x => put_out v10 f10 L10 inb l hoff h' s' x hc
    have e11 : ∀ x, rdl v11 f11 (⟨Rect.unit (s := S2x1024x128) off ![1, n, 128] inb, a⟩ :: L11) (ix3 h' s' x) = rdl v11 f11 L11 (ix3 h' s' x) := fun x => put_out v11 f11 L11 inb a hoff h' s' x hc
    rw [funext e9, funext e10, funext e11, hout h' s' hc]
    exact hG h' s'

theorem step_w (hG : Good C (rdl v9 f9 L9) (rdl v10 f10 L10) (rdl v11 f11 L11) N) (h : Fin 2) {r0 o : ℕ} (hr0 : r0 + 1024 ≤ 1024) (ho : o + 512 ≤ 8192) {off : Fin 3 → ℕ} (hoff : off = ![h.val, r0, 0])
    (inb : ∀ a, off a + (![1, 1024, 128] : Fin 3 → ℕ) a ≤ S2x1024x128.size a) {q : Vec Ideal S1x1024x256 .bf16} {k : Vec Ideal S1x512x256 .bf16} {v : Vec Ideal S1x512x128 .bf16} {m l a : Vec Ideal S1x1024x128 .f32}
    (hq : ∀ s c, q (ix3 0 s c) = C.x0 (ix3 h ⟨r0 + s.val, by omega⟩ c)) (hk : ∀ b c, k (ix3 0 b c) = C.x1 (ix3 h ⟨o + b.val, by omega⟩ c)) (hv : ∀ b x, v (ix3 0 b x) = C.x2 (ix3 h ⟨o + b.val, by omega⟩ x))
    (hm : ∀ s x, m (ix3 0 s x) = rdl v9 f9 L9 (ix3 h ⟨r0 + s.val, by omega⟩ x)) (hl : ∀ s x, l (ix3 0 s x) = rdl v10 f10 L10 (ix3 h ⟨r0 + s.val, by omega⟩ x))
    (ha : ∀ s x, a (ix3 0 s x) = rdl v11 f11 L11 (ix3 h ⟨r0 + s.val, by omega⟩ x)) (N' : Fin 2 → Fin 1024 → ℕ)
    (hN : ∀ s : Fin 1024, N h ⟨r0 + s.val, by omega⟩ = o) (hin : ∀ s : Fin 1024, N' h ⟨r0 + s.val, by omega⟩ = o + 512)
    (hout : ∀ h' s', ¬(h'.val = h.val ∧ r0 ≤ s'.val ∧ s'.val < r0 + 1024) → N' h' s' = N h' s') :
    Good C (rdl v9 f9 (⟨Rect.unit (s := S2x1024x128) off ![1, 1024, 128] inb, wm q k m⟩ :: L9)) (rdl v10 f10 (⟨Rect.unit (s := S2x1024x128) off ![1, 1024, 128] inb, wl q k m l⟩ :: L10))
      (rdl v11 f11 (⟨Rect.unit (s := S2x1024x128) off ![1, 1024, 128] inb, wa q k v m a⟩ :: L11)) N' := by
  refine good_put hG h hr0 hoff inb N' (fun s => ?_) hout
  rw [hin s]
  refine row_w C ho hr0 hq hk hv (fun s => ?_) s
  rw [funext (hm s), funext (hl s), funext (ha s)]
  have := hG h ⟨r0 + s.val, by omega⟩
  rw [hN s] at this
  exact this

theorem step_u (hG : Good C (rdl v9 f9 L9) (rdl v10 f10 L10) (rdl v11 f11 L11) N) (h : Fin 2) {r0 o : ℕ} (hr0 : r0 + 512 ≤ 1024) (ho : o + 512 ≤ 8192) {off : Fin 3 → ℕ} (hoff : off = ![h.val, r0, 0])
    (inb : ∀ a, off a + (![1, 512, 128] : Fin 3 → ℕ) a ≤ S2x1024x128.size a) {q : Vec Ideal S1x512x256 .bf16} {k : Vec Ideal S1x512x256 .bf16} {v : Vec Ideal S1x512x128 .bf16} {m l a : Vec Ideal S1x512x128 .f32}
    (hq : ∀ s c, q (ix3 0 s c) = C.x0 (ix3 h ⟨r0 + s.val, by omega⟩ c)) (hk : ∀ b c, k (ix3 0 b c) = C.x1 (ix3 h ⟨o + b.val, by omega⟩ c)) (hv : ∀ b x, v (ix3 0 b x) = C.x2 (ix3 h ⟨o + b.val, by omega⟩ x))
    (hm : ∀ s x, m (ix3 0 s x) = rdl v9 f9 L9 (ix3 h ⟨r0 + s.val, by omega⟩ x)) (hl : ∀ s x, l (ix3 0 s x) = rdl v10 f10 L10 (ix3 h ⟨r0 + s.val, by omega⟩ x))
    (ha : ∀ s x, a (ix3 0 s x) = rdl v11 f11 L11 (ix3 h ⟨r0 + s.val, by omega⟩ x)) (N' : Fin 2 → Fin 1024 → ℕ)
    (hN : ∀ s : Fin 512, N h ⟨r0 + s.val, by omega⟩ = o) (hin : ∀ s : Fin 512, N' h ⟨r0 + s.val, by omega⟩ = o + 512)
    (hout : ∀ h' s', ¬(h'.val = h.val ∧ r0 ≤ s'.val ∧ s'.val < r0 + 512) → N' h' s' = N h' s') :
    Good C (rdl v9 f9 (⟨Rect.unit (s := S2x1024x128) off ![1, 512, 128] inb, um q k m⟩ :: L9)) (rdl v10 f10 (⟨Rect.unit (s := S2x1024x128) off ![1, 512, 128] inb, ul q k m l⟩ :: L10))
      (rdl v11 f11 (⟨Rect.unit (s := S2x1024x128) off ![1, 512, 128] inb, ua q k v m a⟩ :: L11)) N' := by
  refine good_put hG h hr0 hoff inb N' (fun s => ?_) hout
  rw [hin s]
  refine row_u C ho hr0 hq hk hv (fun s => ?_) s
  rw [funext (hm s), funext (hl s), funext (ha s)]
  have := hG h ⟨r0 + s.val, by omega⟩
  rw [hN s] at this
  exact this

theorem step_c (hG : Good C (rdl v9 f9 L9) (rdl v10 f10 L10) (rdl v11 f11 L11) N) (h : Fin 2) {r0 o : ℕ} (hr0 : r0 + 512 ≤ 1024) (ho : o + 512 ≤ 8192) {off : Fin 3 → ℕ} (hoff : off = ![h.val, r0, 0])
    (inb : ∀ a, off a + (![1, 512, 128] : Fin 3 → ℕ) a ≤ S2x1024x128.size a) {q : Vec Ideal S1x512x256 .bf16} {k : Vec Ideal S1x512x256 .bf16} {v : Vec Ideal S1x512x128 .bf16} {m l a : Vec Ideal S1x512x128 .f32}
    (hq : ∀ s c, q (ix3 0 s c) = C.x0 (ix3 h ⟨r0 + s.val, by omega⟩ c)) (hk : ∀ b c, k (ix3 0 b c) = C.x1 (ix3 h ⟨o + b.val, by omega⟩ c)) (hv : ∀ b x, v (ix3 0 b x) = C.x2 (ix3 h ⟨o + b.val, by omega⟩ x))
    (hm : ∀ s x, m (ix3 0 s x) = rdl v9 f9 L9 (ix3 h ⟨r0 + s.val, by omega⟩ x)) (hl : ∀ s x, l (ix3 0 s x) = rdl v10 f10 L10 (ix3 h ⟨r0 + s.val, by omega⟩ x))
    (ha : ∀ s x, a (ix3 0 s x) = rdl v11 f11 L11 (ix3 h ⟨r0 + s.val, by omega⟩ x)) (N' : Fin 2 → Fin 1024 → ℕ)
    (hN : ∀ s : Fin 512, N h ⟨r0 + s.val, by omega⟩ = o) (hin : ∀ s : Fin 512, N' h ⟨r0 + s.val, by omega⟩ = o + (s.val + 1))
    (hout : ∀ h' s', ¬(h'.val = h.val ∧ r0 ≤ s'.val ∧ s'.val < r0 + 512) → N' h' s' = N h' s') :
    Good C (rdl v9 f9 (⟨Rect.unit (s := S2x1024x128) off ![1, 512, 128] inb, cm q k m⟩ :: L9)) (rdl v10 f10 (⟨Rect.unit (s := S2x1024x128) off ![1, 512, 128] inb, cl q k m l⟩ :: L10))
      (rdl v11 f11 (⟨Rect.unit (s := S2x1024x128) off ![1, 512, 128] inb, ca q k v m a⟩ :: L11)) N' := by
  refine good_put hG h hr0 hoff inb N' (fun s => ?_) hout
  rw [hin s]
  refine row_c C ho hr0 hq hk hv (fun s => ?_) s
  rw [funext (hm s), funext (hl s), funext (ha s)]
  have := hG h ⟨r0 + s.val, by omega⟩
  rw [hN s] at this
  exact this
end

end Cert.Fwd

end
-- ==== Proof.F.Final.lean ====
/- What one row's running softmax gives once its keys have passed, over the reals: the weighted mean of the values and
   the base-2 logarithm of the weights' sum, whatever real number the row was taken relative to. -/
module

public import proofs.«01_k».proof.Proof.F.Row

@[expose] public section

noncomputable section

namespace Cert.Fwd

open Idealize.ShloMosaic

/-- The sum of the weights of the first `n` keys, -/
def wsum (L : ℕ → ℝ) (n : ℕ) : ℝ := ∑ r ∈ Finset.range n, (2 : ℝ) ^ L r
/-- and that of their values. -/
def vsum (L : ℕ → ℝ) (V : ℕ → Fin 128 → ℝ) (n : ℕ) (x : Fin 128) : ℝ := ∑ r ∈ Finset.range n, (2 : ℝ) ^ L r * V r x

variable {L : ℕ → ℝ} {V : ℕ → Fin 128 → ℝ} {n : ℕ} {m l a : Fin 128 → EReal}

theorem pow_shift (L : ℕ → ℝ) (μ : ℝ) (r : ℕ) : (2 : ℝ) ^ (L r - μ) = (2 : ℝ) ^ L r * (2 : ℝ) ^ (-μ) := by
  rw [← Real.rpow_add (by norm_num), sub_eq_add_neg]
theorem wsum_pos (L : ℕ → ℝ) (hn : 0 < n) : 0 < wsum L n :=
  Finset.sum_pos (fun _ _ => Real.rpow_pos_of_pos (by norm_num) _) ⟨0, Finset.mem_range.mpr hn⟩
theorem wsum_shift (L : ℕ → ℝ) (μ : ℝ) : ∑ r ∈ Finset.range n, (2 : ℝ) ^ (L r - μ) = wsum L n * (2 : ℝ) ^ (-μ) := by
  rw [wsum, Finset.sum_mul]; exact Finset.sum_congr rfl fun r _ => pow_shift L μ r
theorem vsum_shift (L : ℕ → ℝ) (V : ℕ → Fin 128 → ℝ) (μ : ℝ) (x : Fin 128) :
    ∑ r ∈ Finset.range n, (2 : ℝ) ^ (L r - μ) * V r x = vsum L V n x * (2 : ℝ) ^ (-μ) := by
  rw [vsum, Finset.sum_mul]; exact Finset.sum_congr rfl fun r _ => by rw [pow_shift]; ring

theorem row_out (h : RowOK L V n m l a) (hn : 0 < n) (x : Fin 128) : Ideal.div (a x) (l x) = ((vsum L V n x / wsum L n : ℝ) : EReal) := by
  rcases h with ⟨h, _⟩ | ⟨μ, _, hl, ha⟩
  · omega
  have hp : (0 : ℝ) < (2 : ℝ) ^ (-μ) := Real.rpow_pos_of_pos (by norm_num) _
  rw [hl, ha, wsum_shift, vsum_shift, div_real _ (mul_pos (wsum_pos L hn) hp).ne', mul_div_mul_right _ _ hp.ne']

theorem row_lse (h : RowOK L V n m l a) (hn : 0 < n) (x : Fin 128) :
    m x + Ideal.div (Ideal.log (l x)) (Ideal.log (Ideal.ofBits FTy.f32 1073741824#32)) = ((Real.log (wsum L n) / Real.log 2 : ℝ) : EReal) := by
  rcases h with ⟨h, _⟩ | ⟨μ, hm, hl, _⟩
  · omega
  have hp : (0 : ℝ) < (2 : ℝ) ^ (-μ) := Real.rpow_pos_of_pos (by norm_num) _
  rw [hl, hm, wsum_shift, word_2, log_real (mul_pos (wsum_pos L hn) hp), log_real (by norm_num), div_real _ log2_pos.ne', ← EReal.coe_add,
    Real.log_mul (wsum_pos L hn).ne' hp.ne', Real.log_rpow (by norm_num)]
  congr 1
  field_simp [log2_pos.ne']
  ring

end Cert.Fwd

end
-- ==== Proof.F.Block.lean ====
/- What a grid point reads: its two heads' logits and values, over the reals, and the sums over a row's keys. -/
module

public import proofs.«01_k».proof.Proof.F.Host
public import proofs.«01_k».proof.Proof.F.Good
public import proofs.«01_k».proof.Proof.F.Final
public import proofs.«01_k».proof.Proof.KernelReal
public import Idealize.ShloMosaic.Lib.Pipeline.ValueKit

@[expose] public section

set_option maxRecDepth 16384

noncomputable section

namespace Cert.Kernel2Ideal.Val

open Cert.Kernel2Ideal Cert.Kernel2Ideal.Gen Cert.Fwd
open Idealize.ShloMosaic Idealize.ShloMosaic.TcCoe Idealize.ShloMosaic.Pointwise Idealize.SL.Sem
open Cert.KernelIdeal.Val (sum_pad)

/-- Head `h` of pair `p`. -/
def hd (p : Fin 4) (h : Fin 2) : Fin 8 := ⟨2 * p.val + h.val, by omega⟩
/-- Row `s` of block `j`. -/
def ro (j : Fin 8) (s : Fin 1024) : Fin 8192 := ⟨1024 * j.val + s.val, by omega⟩

section Sums
variable (D : Data) (h : Fin 8) (s : Fin 8192)

/-- A row's base-2 logits by key number, -/
def lgs (r : ℕ) : ℝ := if hr : r < 8192 then D.lg h s ⟨r, hr⟩ / Real.log 2 else 0
/-- and a head's values. -/
def vls (r : ℕ) (x : Fin 128) : ℝ := if hr : r < 8192 then D.v ⟨r, hr⟩ h x else 0

/-- The keys up to a row's own are those that the causal mask leaves. -/
theorem sum_causal (f : ℕ → ℝ) : ∑ r ∈ Finset.range (s.val + 1), f r = ∑ r : Fin 8192, if r.val ≤ s.val then f r.val else 0 := by
  rw [Fin.sum_univ_eq_sum_range (fun r => if r ≤ s.val then f r else 0) 8192]
  have h1 : ∀ r ∈ Finset.range (s.val + 1), f r = if r ≤ s.val then f r else 0 := fun r hr => by
    rw [if_pos (Nat.lt_succ_iff.mp (Finset.mem_range.mp hr))]
  rw [Finset.sum_congr rfl h1]
  refine Finset.sum_subset (fun r hr => ?_) (fun r _ hr => ?_)
  · have := Finset.mem_range.mp hr
    exact Finset.mem_range.mpr (by omega)
  · exact if_neg fun hle => hr (Finset.mem_range.mpr (by omega))
theorem pow_lg (r : Fin 8192) : (2 : ℝ) ^ lgs D h s r.val = Real.exp (D.lg h s r) := by
  unfold lgs
  rw [dif_pos r.isLt, Real.rpow_def_of_pos (by norm_num), mul_div_cancel₀ _ log2_pos.ne']
theorem wsum_zs : wsum (lgs D h s) (s.val + 1) = D.zs h s := by
  unfold wsum Data.zs
  rw [sum_causal]
  refine Finset.sum_congr rfl fun r _ => ?_
  rw [pow_lg]; rfl
theorem vsum_out (x : Fin 128) : vsum (lgs D h s) (vls D h) (s.val + 1) x / wsum (lgs D h s) (s.val + 1) = D.out h s x := by
  rw [wsum_zs]
  unfold vsum Data.out
  rw [sum_causal, Finset.sum_div]
  refine Finset.sum_congr rfl fun r _ => ?_
  unfold Data.p Data.ex
  rw [pow_lg]
  unfold vls
  rw [dif_pos r.isLt]
  split
  · ring
  · simp
end Sums

theorem idx : ∀ t : Fin cfg0.N, win0_0.index t = ![t.val / 8, t.val % 8, 0] ∧ win0_1.index t = ![t.val / 8, 0, 0] ∧ win0_2.index t = ![t.val / 8, 0, 0]
    ∧ win0_3.index t = ![t.val % 8, t.val / 8] ∧ win0_4.index t = ![t.val % 8, t.val / 8] ∧ win0_5.index t = ![t.val % 8, t.val / 8]
    ∧ win0_6.index t = ![t.val / 8, t.val % 8, 0] :=
  (by decide +kernel : ∀ t : Fin grid0.N, _)
/-- The grid's inner coordinate. -/
theorem coords_1 : ∀ t : Fin cfg0.N, (grid0.coords t 1).val = t.val % 8 := by decide +kernel

variable (m : (ℓ : Loc nD τ sig) → Buf (Elt Ideal) ℓ) (c : Dev nD) (p : Fin 4) (j : Fin 8) (t : Fin cfg0.N) (ht : t.val = 8 * p.val + j.val)

/-! Its blocks, as functions to the extended reals. -/

def bq : S2x1024x256.Idx → EReal := iblk m c 0 t
def bk : S2x8192x256.Idx → EReal := iblk m c 1 t

include ht in
theorem blk_q (h : Fin 2) (s : Fin 1024) (x : Fin 256) : bq m c t (ix3 h s x) = V m c main_v24 (ix3 (hd p h) (ro j s) x) := by
  unfold bq hd ro; blk_ext [iblk, idx t]
include ht in
theorem blk_k (h : Fin 2) (r : Fin 8192) (x : Fin 256) : bk m c t (ix3 h r x) = V m c main_v27 (ix3 (hd p h) r x) := by
  unfold bk hd; blk_ext [iblk, idx t]
include ht in
theorem blk_v (h : Fin 2) (r : Fin 8192) (x : Fin 128) : iblk m c 2 t (ix3 h r x) = V m c main_v29 (ix3 (hd p h) r x) := by
  unfold hd; blk_ext [iblk, idx t]
include ht in
theorem blk_z (s : Fin 1024) (h : Fin 2) (x : Fin 128) : iblk m c 3 t (ix2 s ⟨128 * h.val + x.val, by omega⟩) = V m c main_arg3 (ix2 (ro j s) (hc (hd p h) x)) := by
  unfold hd ro hc; blk_ext [iblk, idx t]

variable (D : Data) (H : Holds m c D)

include ht H in
theorem blk_lg (h : Fin 2) (s : Fin 1024) (r : Fin 8192) : (∑ x, bq m c t (ix3 h s x) * bk m c t (ix3 h r x) : EReal)
    = ((lgs D (hd p h) (ro j s) r.val : ℝ) : EReal) := by
  have e : ∀ x : Fin 256, (bq m c t (ix3 h s x) * bk m c t (ix3 h r x) : EReal)
      = (((if hx : x.val < 192 then (fun x => D.rot (ro j s) (hd p h) x / (√192 * Real.log 2) * D.k r (hd p h) x) ⟨x.val, hx⟩ else 0 : ℝ)) : EReal) := fun x => by
    rw [blk_q m c p j t ht, blk_k m c p j t ht, host24 m c D H, host27 m c D H, ← EReal.coe_mul]
    by_cases hx : x.val < 192
    · rw [dif_pos hx, dif_pos hx, dif_pos hx]
    · rw [dif_neg hx, dif_neg hx, dif_neg hx, zero_mul]
  rw [Finset.sum_congr rfl fun x _ => e x, coe_sum]
  refine (congrArg ((↑) : ℝ → EReal) (sum_pad fun x => D.rot (ro j s) (hd p h) x / (√192 * Real.log 2) * D.k r (hd p h) x)).trans ?_
  congr 1
  unfold lgs
  rw [dif_pos r.isLt]
  unfold Data.lg
  rw [div_div, Finset.sum_div]
  exact Finset.sum_congr rfl fun x _ => by ring

/-- The point's blocks as the loops read them. -/
def ctx (ht : t.val = 8 * p.val + j.val) (H : Holds m c D) : Ctx where
  x0 := iblk m c 0 t
  x1 := iblk m c 1 t
  x2 := iblk m c 2 t
  L h s := lgs D (hd p h) (ro j s)
  V h := vls D (hd p h)
  hL h s r := blk_lg m c p j t ht D H h s r
  hV h r x := by
    refine (blk_v m c p j t ht h r x).trans ((host29 m c D H _ _ _).trans ?_)
    unfold vls
    rw [dif_pos r.isLt]

end Cert.Kernel2Ideal.Val

end
-- ==== Proof.F.Offs.lean ====
/- Where the blocks of keys and values lie, and how many trips the sweep makes. -/
module

public import proofs.«01_k».proof.Proof.F.Base

@[expose] public section

set_option maxRecDepth 16384

namespace Cert.Fwd

open Cert.Kernel2Ideal Cert.Kernel2Ideal.Gen
open Idealize.ShloMosaic Idealize.ShloMosaic.TcCoe

theorem off1 : ∀ (i : grid0.Coords) (k : Fin (k0_t1_loop i).trips) (u : Fin 4), k0_off1 i k (BitVec.ofNat 32 u.val) = ![0, 2048 * k.val + 512 * u.val, 0] := by decide +kernel

theorem off2 : ∀ (i : grid0.Coords) (k : Fin (k0_t1_loop i).trips) (u : Fin 4), k0_off2 i k (BitVec.ofNat 32 u.val) = ![0, 2048 * k.val + 512 * u.val, 0] := by decide +kernel

theorem off3 : ∀ (i : grid0.Coords) (k : Fin (k0_t1_loop i).trips) (u : Fin 4), k0_off3 i k (BitVec.ofNat 32 u.val) = ![1, 2048 * k.val + 512 * u.val, 0] := by decide +kernel

theorem off4 : ∀ (i : grid0.Coords) (k : Fin (k0_t1_loop i).trips) (u : Fin 4), k0_off4 i k (BitVec.ofNat 32 u.val) = ![1, 2048 * k.val + 512 * u.val, 0] := by decide +kernel

theorem off9 : ∀ (i : grid0.Coords) (_ : k0_cond1 i = 1#1) (r : Fin 2), k0_off9 i (BitVec.ofNat 32 (1 + r.val)) = ![0, 1024 * (i 1).val - 512 * (r.val + 1), 0] := by decide +kernel

theorem off10 : ∀ (i : grid0.Coords) (_ : k0_cond1 i = 1#1) (r : Fin 2), k0_off10 i (BitVec.ofNat 32 (1 + r.val)) = ![0, 1024 * (i 1).val - 512 * (r.val + 1), 0] := by decide +kernel

theorem off11 : ∀ (i : grid0.Coords) (_ : k0_cond1 i = 1#1) (r : Fin 2), k0_off11 i (BitVec.ofNat 32 (1 + r.val)) = ![1, 1024 * (i 1).val - 512 * (r.val + 1), 0] := by decide +kernel

theorem off12 : ∀ (i : grid0.Coords) (_ : k0_cond1 i = 1#1) (r : Fin 2), k0_off12 i (BitVec.ofNat 32 (1 + r.val)) = ![1, 1024 * (i 1).val - 512 * (r.val + 1), 0] := by decide +kernel

theorem trips1 : ∀ i : grid0.Coords, (k0_t1_loop i).trips = (i 1).val / 2 := by decide +kernel

theorem trips2 : ∀ i : grid0.Coords, (k0_t2_loop i).trips = 0 := by decide +kernel

theorem cond_odd : ∀ i : grid0.Coords, k0_cond1 i = 1#1 ↔ (i 1).val % 2 = 1 := by decide +kernel

theorem kbound (i : grid0.Coords) (k : Fin (k0_t1_loop i).trips) : k.val < 4 := by
  have h := Nat.lt_of_lt_of_eq k.isLt (trips1 i)
  have h1 : (i 1).val < 8 := (i 1).isLt
  omega

end Cert.Fwd

end
-- ==== Proof.F.Trip.lean ====
/- One trip of the sweep over the keys: four blocks of 512 keys, each for both heads. -/
module

public import proofs.«01_k».proof.Proof.F.Good
public import proofs.«01_k».proof.Proof.F.Offs
public import proofs.«01_k».proof.Proof.F.Base

@[expose] public section

set_option maxRecDepth 16384

noncomputable section

namespace Cert.Fwd

open Cert.Kernel2Ideal Cert.Kernel2Ideal.Gen
open Idealize.ShloMosaic Idealize.ShloMosaic.TcCoe Idealize.ShloMosaic.Pointwise Idealize.SL.Sem Idealize.SL Idealize.ShloMosaic.Tactic
open Idealize.ShloMosaic.Rounds
open Idealize.ShloMosaic.Pipeline (Dat Cfg Window BodyObligation cellOf)

/-- How many keys each head's rows have seen. -/
def N2 (a b : ℕ) : Fin 2 → Fin 1024 → ℕ := fun h _ => if h.val = 0 then a else b

theorem n2_0 (a a' b : ℕ) : ∀ (h' : Fin 2) (s' : Fin 1024), ¬(h'.val = (0 : Fin 2).val ∧ 0 ≤ s'.val ∧ s'.val < 0 + 1024) → N2 a' b h' s' = N2 a b h' s' := by
  intro h' s' hn
  have : h'.val ≠ 0 := fun e => hn ⟨e, Nat.zero_le _, by omega⟩
  simp only [N2, if_neg this]

theorem n2_1 (a b b' : ℕ) : ∀ (h' : Fin 2) (s' : Fin 1024), ¬(h'.val = (1 : Fin 2).val ∧ 0 ≤ s'.val ∧ s'.val < 0 + 1024) → N2 a b' h' s' = N2 a b h' s' := by
  intro h' s' hn
  have : h'.val = 0 := by
    by_contra e
    exact hn ⟨by show h'.val = 1; omega, Nat.zero_le _, by omega⟩
  simp only [N2, if_pos this]

variable (𝒱 : Variants) (c : Dev nD) (bd : Option 𝒱.V) (i : grid0.Coords)
  (b2 : Memref sig .tc .vmem S2x1024x256 .bf16) (w2 : b2.IsWhole) (b3 : Memref sig .tc .vmem S2x8192x256 .bf16) (w3 : b3.IsWhole)
  (b4 : Memref sig .tc .vmem S2x8192x128 .bf16) (w4 : b4.IsWhole) (b5 : Memref sig .tc .vmem S1024x256 .f32) (w5 : b5.IsWhole)
  (b6 : Memref sig .tc .vmem S1024x256 .f32) (w6 : b6.IsWhole) (b7 : Memref sig .tc .vmem S1024x256 .bf16) (w7 : b7.IsWhole)
  (b8 : Memref sig .tc .vmem S2x1024x128 .f32) (w8 : b8.IsWhole) (b9 : Memref sig .tc .vmem S2x1024x128 .f32) (w9 : b9.IsWhole)
  (b10 : Memref sig .tc .vmem S2x1024x128 .f32) (w10 : b10.IsWhole) (b11 : Memref sig .tc .vmem S2x1024x128 .f32) (w11 : b11.IsWhole)

set_option maxHeartbeats 4000000 in
/-- A trip takes every row 2048 keys further. -/
theorem trip_good (b1 c0 v32 : BitVec 32) (X_arg2 : Buf (Elt Ideal) (b2.view.loc (c : Thread nD τ))) (X_arg3 : Buf (Elt Ideal) (b3.view.loc (c : Thread nD τ))) (X_arg4 : Buf (Elt Ideal) (b4.view.loc (c : Thread nD τ)))
    (k : Fin (k0_t1_loop i).trips) (f_arg9 : Buf (Elt Ideal) (b9.view.loc (c : Thread nD τ))) (f_arg10 : Buf (Elt Ideal) (b10.view.loc (c : Thread nD τ))) (f_arg11 : Buf (Elt Ideal) (b11.view.loc (c : Thread nD τ)))
    (C : Ctx) (h2 : b2.view.read (Elt Ideal) X_arg2 = C.x0) (h3 : b3.view.read (Elt Ideal) X_arg3 = C.x1) (h4 : b4.view.read (Elt Ideal) X_arg4 = C.x2)
    (hG : Good C (rdl b9.view f_arg9 []) (rdl b10.view f_arg10 []) (rdl b11.view f_arg11 []) (N2 (2048 * k.val + 0) (2048 * k.val + 0))) :
    Good C (rdl b9.view f_arg9 (tripL_k0_t1 (F := Ideal) 𝒱 c bd i b2 w2 b3 w3 b4 w4 b5 w5 b6 w6 b7 w7 b8 w8 b9 w9 b10 w10 b11 w11 b1 c0 v32 X_arg2 X_arg3 X_arg4 k f_arg9 f_arg10 f_arg11).1)
      (rdl b10.view f_arg10 (tripL_k0_t1 (F := Ideal) 𝒱 c bd i b2 w2 b3 w3 b4 w4 b5 w5 b6 w6 b7 w7 b8 w8 b9 w9 b10 w10 b11 w11 b1 c0 v32 X_arg2 X_arg3 X_arg4 k f_arg9 f_arg10 f_arg11).2.1)
      (rdl b11.view f_arg11 (tripL_k0_t1 (F := Ideal) 𝒱 c bd i b2 w2 b3 w3 b4 w4 b5 w5 b6 w6 b7 w7 b8 w8 b9 w9 b10 w10 b11 w11 b1 c0 v32 X_arg2 X_arg3 X_arg4 k f_arg9 f_arg10 f_arg11).2.2) (N2 (2048 * k.val + 2048) (2048 * k.val + 2048)) := by
  have g1 := step_w hG 0 (o := (2048 * k.val + 0)) (r0 := 0) (by decide) (by have := kbound i k; omega) (off := ![0, 0, 0]) rfl inb_S2x1024x128_S1x1024x128_0_0_0
    (q := (View.readAt (Elt Ideal) b2.view (Rect.unit (s := S2x1024x256) ![0, 0, 0] S1x1024x256.size inb_S2x1024x256_S1x1024x256_0_0_0).toLoadRect X_arg2))
    (k := (View.readAt (Elt Ideal) b3.view (Rect.unit (s := S2x8192x256) (k0_off1 i k 0#32) S1x512x256.size (k0_off1_inb i k 0)).toLoadRect X_arg3))
    (v := (View.readAt (Elt Ideal) b4.view (Rect.unit (s := S2x8192x128) (k0_off2 i k 0#32) S1x512x128.size (k0_off2_inb i k 0)).toLoadRect X_arg4))
    (m := (View.readAt (Elt Ideal) b9.view (Rect.unit (s := S2x1024x128) ![0, 0, 0] S1x1024x128.size inb_S2x1024x128_S1x1024x128_0_0_0).toLoadRect f_arg9))
    (l := (View.readAt (Elt Ideal) b10.view (Rect.unit (s := S2x1024x128) ![0, 0, 0] S1x1024x128.size inb_S2x1024x128_S1x1024x128_0_0_0).toLoadRect f_arg10))
    (a := (View.readAt (Elt Ideal) b11.view (Rect.unit (s := S2x1024x128) ![0, 0, 0] S1x1024x128.size inb_S2x1024x128_S1x1024x128_0_0_0).toLoadRect f_arg11))
    (fun s c => (rd_box b2.view X_arg2 inb_S2x1024x256_S1x1024x256_0_0_0 rfl (by decide) (by decide) s c).trans (congrFun h2 _))
    (fun b c => (rd_box b3.view X_arg3 (k0_off1_inb i k 0) (off1 i k 0) (by decide) (by have := kbound i k; show _ + 512 ≤ 8192; simp; omega) b c).trans (congrFun h3 _))
    (fun b c => (rd_box b4.view X_arg4 (k0_off2_inb i k 0) (off2 i k 0) (by decide) (by have := kbound i k; show _ + 512 ≤ 8192; simp; omega) b c).trans (congrFun h4 _))
    (fun s x => rd_box b9.view f_arg9 inb_S2x1024x128_S1x1024x128_0_0_0 rfl (by decide) (by decide) s x)
    (fun s x => rd_box b10.view f_arg10 inb_S2x1024x128_S1x1024x128_0_0_0 rfl (by decide) (by decide) s x)
    (fun s x => rd_box b11.view f_arg11 inb_S2x1024x128_S1x1024x128_0_0_0 rfl (by decide) (by decide) s x)
    (N2 (2048 * k.val + 512) (2048 * k.val + 0)) (fun _ => rfl) (fun _ => rfl) (n2_0 _ _ _)
  have g2 := step_w g1 1 (o := (2048 * k.val + 0)) (r0 := 0) (by decide) (by have := kbound i k; omega) (off := ![1, 0, 0]) rfl inb_S2x1024x128_S1x1024x128_1_0_0
    (q := (View.readAt (Elt Ideal) b2.view (Rect.unit (s := S2x1024x256) ![1, 0, 0] S1x1024x256.size inb_S2x1024x256_S1x1024x256_1_0_0).toLoadRect X_arg2))
    (k := (View.readAt (Elt Ideal) b3.view (Rect.unit (s := S2x8192x256) (k0_off3 i k 0#32) S1x512x256.size (k0_off3_inb i k 0)).toLoadRect X_arg3))
    (v := (View.readAt (Elt Ideal) b4.view (Rect.unit (s := S2x8192x128) (k0_off4 i k 0#32) S1x512x128.size (k0_off4_inb i k 0)).toLoadRect X_arg4))
    (m := (View.readAt (Elt Ideal) b9.view (Rect.unit (s := S2x1024x128) ![1, 0, 0] S1x1024x128.size inb_S2x1024x128_S1x1024x128_1_0_0).toLoadRect f_arg9))
    (l := (View.readAt (Elt Ideal) b10.view (Rect.unit (s := S2x1024x128) ![1, 0, 0] S1x1024x128.size inb_S2x1024x128_S1x1024x128_1_0_0).toLoadRect f_arg10))
    (a := (View.readAt (Elt Ideal) b11.view (Rect.unit (s := S2x1024x128) ![1, 0, 0] S1x1024x128.size inb_S2x1024x128_S1x1024x128_1_0_0).toLoadRect f_arg11))
    (fun s c => (rd_box b2.view X_arg2 inb_S2x1024x256_S1x1024x256_1_0_0 rfl (by decide) (by decide) s c).trans (congrFun h2 _))
    (fun b c => (rd_box b3.view X_arg3 (k0_off3_inb i k 0) (off3 i k 0) (by decide) (by have := kbound i k; show _ + 512 ≤ 8192; simp; omega) b c).trans (congrFun h3 _))
    (fun b c => (rd_box b4.view X_arg4 (k0_off4_inb i k 0) (off4 i k 0) (by decide) (by have := kbound i k; show _ + 512 ≤ 8192; simp; omega) b c).trans (congrFun h4 _))
    (fun s x => (rd_box b9.view f_arg9 inb_S2x1024x128_S1x1024x128_1_0_0 rfl (by decide) (by decide) s x).trans (put_out b9.view f_arg9 [] inb_S2x1024x128_S1x1024x128_0_0_0 _ rfl 1 ⟨0 + s.val, by omega⟩ x (by simp)).symm)
    (fun s x => (rd_box b10.view f_arg10 inb_S2x1024x128_S1x1024x128_1_0_0 rfl (by decide) (by decide) s x).trans (put_out b10.view f_arg10 [] inb_S2x1024x128_S1x1024x128_0_0_0 _ rfl 1 ⟨0 + s.val, by omega⟩ x (by simp)).symm)
    (fun s x => (rd_box b11.view f_arg11 inb_S2x1024x128_S1x1024x128_1_0_0 rfl (by decide) (by decide) s x).trans (put_out b11.view f_arg11 [] inb_S2x1024x128_S1x1024x128_0_0_0 _ rfl 1 ⟨0 + s.val, by omega⟩ x (by simp)).symm)
    (N2 (2048 * k.val + 512) (2048 * k.val + 512)) (fun _ => rfl) (fun _ => rfl) (n2_1 _ _ _)
  replace g2 : Good C (rdl b9.view f_arg9 (trip_k0_t1.sl.HW_arg9_2 (F := Ideal) i b2 b3 b9 X_arg2 X_arg3 k f_arg9)) (rdl b10.view f_arg10 (trip_k0_t1.sl.HW_arg10_2 (F := Ideal) i b2 b3 b9 b10 X_arg2 X_arg3 k f_arg9 f_arg10)) (rdl b11.view f_arg11 (trip_k0_t1.sl.HW_arg11_2 (F := Ideal) i b2 b3 b4 b9 b11 X_arg2 X_arg3 X_arg4 k f_arg9 f_arg11)) (N2 (2048 * k.val + 512) (2048 * k.val + 512)) := g2
  have g3 := step_w g2 0 (o := (2048 * k.val + 512)) (r0 := 0) (by decide) (by have := kbound i k; omega) (off := ![0, 0, 0]) rfl inb_S2x1024x128_S1x1024x128_0_0_0
    (q := (View.readAt (Elt Ideal) b2.view (Rect.unit (s := S2x1024x256) ![0, 0, 0] S1x1024x256.size inb_S2x1024x256_S1x1024x256_0_0_0).toLoadRect X_arg2))
    (k := (View.readAt (Elt Ideal) b3.view (Rect.unit (s := S2x8192x256) (k0_off1 i k 1#32) S1x512x256.size (k0_off1_inb i k 1)).toLoadRect X_arg3))
    (v := (View.readAt (Elt Ideal) b4.view (Rect.unit (s := S2x8192x128) (k0_off2 i k 1#32) S1x512x128.size (k0_off2_inb i k 1)).toLoadRect X_arg4))
    (m := (trip_k0_t1.sl.v480 (F := Ideal) i b2 b3 b9 X_arg2 X_arg3 k f_arg9))
    (l := (trip_k0_t1.sl.v492 (F := Ideal) i b2 b3 b9 b10 X_arg2 X_arg3 k f_arg9 f_arg10))
    (a := (trip_k0_t1.sl.v503 (F := Ideal) i b2 b3 b4 b9 b11 X_arg2 X_arg3 X_arg4 k f_arg9 f_arg11))
    (fun s c => (rd_box b2.view X_arg2 inb_S2x1024x256_S1x1024x256_0_0_0 rfl (by decide) (by decide) s c).trans (congrFun h2 _))
    (fun b c => (rd_box b3.view X_arg3 (k0_off1_inb i k 1) (off1 i k 1) (by decide) (by have := kbound i k; show _ + 512 ≤ 8192; simp; omega) b c).trans (congrFun h3 _))
    (fun b c => (rd_box b4.view X_arg4 (k0_off2_inb i k 1) (off2 i k 1) (by decide) (by have := kbound i k; show _ + 512 ≤ 8192; simp; omega) b c).trans (congrFun h4 _))
    (fun s x => cov_box b9.view f_arg9 (trip_k0_t1.sl.HW_arg9_2 (F := Ideal) i b2 b3 b9 X_arg2 X_arg3 k f_arg9) inb_S2x1024x128_S1x1024x128_0_0_0 rfl (by decide) (by decide) (Or.inr ⟨_, List.mem_cons_of_mem _ List.mem_cons_self, rfl⟩) s x)
    (fun s x => cov_box b10.view f_arg10 (trip_k0_t1.sl.HW_arg10_2 (F := Ideal) i b2 b3 b9 b10 X_arg2 X_arg3 k f_arg9 f_arg10) inb_S2x1024x128_S1x1024x128_0_0_0 rfl (by decide) (by decide) (Or.inr ⟨_, List.mem_cons_of_mem _ List.mem_cons_self, rfl⟩) s x)
    (fun s x => cov_box b11.view f_arg11 (trip_k0_t1.sl.HW_arg11_2 (F := Ideal) i b2 b3 b4 b9 b11 X_arg2 X_arg3 X_arg4 k f_arg9 f_arg11) inb_S2x1024x128_S1x1024x128_0_0_0 rfl (by decide) (by decide) (Or.inr ⟨_, List.mem_cons_of_mem _ List.mem_cons_self, rfl⟩) s x)
    (N2 (2048 * k.val + 1024) (2048 * k.val + 512)) (fun _ => rfl) (fun _ => rfl) (n2_0 _ _ _)
  replace g3 : Good C (rdl b9.view f_arg9 (trip_k0_t1.sl.HW_arg9_3 (F := Ideal) i b2 b3 b9 X_arg2 X_arg3 k f_arg9)) (rdl b10.view f_arg10 (trip_k0_t1.sl.HW_arg10_3 (F := Ideal) i b2 b3 b9 b10 X_arg2 X_arg3 k f_arg9 f_arg10)) (rdl b11.view f_arg11 (trip_k0_t1.sl.HW_arg11_3 (F := Ideal) i b2 b3 b4 b9 b11 X_arg2 X_arg3 X_arg4 k f_arg9 f_arg11)) (N2 (2048 * k.val + 1024) (2048 * k.val + 512)) := g3
  have g4 := step_w g3 1 (o := (2048 * k.val + 512)) (r0 := 0) (by decide) (by have := kbound i k; omega) (off := ![1, 0, 0]) rfl inb_S2x1024x128_S1x1024x128_1_0_0
    (q := (View.readAt (Elt Ideal) b2.view (Rect.unit (s := S2x1024x256) ![1, 0, 0] S1x1024x256.size inb_S2x1024x256_S1x1024x256_1_0_0).toLoadRect X_arg2))
    (k := (View.readAt (Elt Ideal) b3.view (Rect.unit (s := S2x8192x256) (k0_off3 i k 1#32) S1x512x256.size (k0_off3_inb i k 1)).toLoadRect X_arg3))
    (v := (View.readAt (Elt Ideal) b4.view (Rect.unit (s := S2x8192x128) (k0_off4 i k 1#32) S1x512x128.size (k0_off4_inb i k 1)).toLoadRect X_arg4))
    (m := (trip_k0_t1.sl.v523 (F := Ideal) i b2 b3 b9 X_arg2 X_arg3 k f_arg9))
    (l := (trip_k0_t1.sl.v535 (F := Ideal) i b2 b3 b9 b10 X_arg2 X_arg3 k f_arg9 f_arg10))
    (a := (trip_k0_t1.sl.v546 (F := Ideal) i b2 b3 b4 b9 b11 X_arg2 X_arg3 X_arg4 k f_arg9 f_arg11))
    (fun s c => (rd_box b2.view X_arg2 inb_S2x1024x256_S1x1024x256_1_0_0 rfl (by decide) (by decide) s c).trans (congrFun h2 _))
    (fun b c => (rd_box b3.view X_arg3 (k0_off3_inb i k 1) (off3 i k 1) (by decide) (by have := kbound i k; show _ + 512 ≤ 8192; simp; omega) b c).trans (congrFun h3 _))
    (fun b c => (rd_box b4.view X_arg4 (k0_off4_inb i k 1) (off4 i k 1) (by decide) (by have := kbound i k; show _ + 512 ≤ 8192; simp; omega) b c).trans (congrFun h4 _))
    (fun s x => cov_box b9.view f_arg9 (trip_k0_t1.sl.HW_arg9_3 (F := Ideal) i b2 b3 b9 X_arg2 X_arg3 k f_arg9) inb_S2x1024x128_S1x1024x128_1_0_0 rfl (by decide) (by decide) (Or.inr ⟨_, List.mem_cons_of_mem _ List.mem_cons_self, rfl⟩) s x)
    (fun s x => cov_box b10.view f_arg10 (trip_k0_t1.sl.HW_arg10_3 (F := Ideal) i b2 b3 b9 b10 X_arg2 X_arg3 k f_arg9 f_arg10) inb_S2x1024x128_S1x1024x128_1_0_0 rfl (by decide) (by decide) (Or.inr ⟨_, List.mem_cons_of_mem _ List.mem_cons_self, rfl⟩) s x)
    (fun s x => cov_box b11.view f_arg11 (trip_k0_t1.sl.HW_arg11_3 (F := Ideal) i b2 b3 b4 b9 b11 X_arg2 X_arg3 X_arg4 k f_arg9 f_arg11) inb_S2x1024x128_S1x1024x128_1_0_0 rfl (by decide) (by decide) (Or.inr ⟨_, List.mem_cons_of_mem _ List.mem_cons_self, rfl⟩) s x)
    (N2 (2048 * k.val + 1024) (2048 * k.val + 1024)) (fun _ => rfl) (fun _ => rfl) (n2_1 _ _ _)
  replace g4 : Good C (rdl b9.view f_arg9 (trip_k0_t1.sl.HW_arg9_4 (F := Ideal) i b2 b3 b9 X_arg2 X_arg3 k f_arg9)) (rdl b10.view f_arg10 (trip_k0_t1.sl.HW_arg10_4 (F := Ideal) i b2 b3 b9 b10 X_arg2 X_arg3 k f_arg9 f_arg10)) (rdl b11.view f_arg11 (trip_k0_t1.sl.HW_arg11_4 (F := Ideal) i b2 b3 b4 b9 b11 X_arg2 X_arg3 X_arg4 k f_arg9 f_arg11)) (N2 (2048 * k.val + 1024) (2048 * k.val + 1024)) := g4
  have g5 := step_w g4 0 (o := (2048 * k.val + 1024)) (r0 := 0) (by decide) (by have := kbound i k; omega) (off := ![0, 0, 0]) rfl inb_S2x1024x128_S1x1024x128_0_0_0
    (q := (View.readAt (Elt Ideal) b2.view (Rect.unit (s := S2x1024x256) ![0, 0, 0] S1x1024x256.size inb_S2x1024x256_S1x1024x256_0_0_0).toLoadRect X_arg2))
    (k := (View.readAt (Elt Ideal) b3.view (Rect.unit (s := S2x8192x256) (k0_off1 i k 2#32) S1x512x256.size (k0_off1_inb i k 2)).toLoadRect X_arg3))
    (v := (View.readAt (Elt Ideal) b4.view (Rect.unit (s := S2x8192x128) (k0_off2 i k 2#32) S1x512x128.size (k0_off2_inb i k 2)).toLoadRect X_arg4))
    (m := (trip_k0_t1.sl.v570 (F := Ideal) i b2 b3 b9 X_arg2 X_arg3 k f_arg9))
    (l := (trip_k0_t1.sl.v582 (F := Ideal) i b2 b3 b9 b10 X_arg2 X_arg3 k f_arg9 f_arg10))
    (a := (trip_k0_t1.sl.v593 (F := Ideal) i b2 b3 b4 b9 b11 X_arg2 X_arg3 X_arg4 k f_arg9 f_arg11))
    (fun s c => (rd_box b2.view X_arg2 inb_S2x1024x256_S1x1024x256_0_0_0 rfl (by decide) (by decide) s c).trans (congrFun h2 _))
    (fun b c => (rd_box b3.view X_arg3 (k0_off1_inb i k 2) (off1 i k 2) (by decide) (by have := kbound i k; show _ + 512 ≤ 8192; simp; omega) b c).trans (congrFun h3 _))
    (fun b c => (rd_box b4.view X_arg4 (k0_off2_inb i k 2) (off2 i k 2) (by decide) (by have := kbound i k; show _ + 512 ≤ 8192; simp; omega) b c).trans (congrFun h4 _))
    (fun s x => cov_box b9.view f_arg9 (trip_k0_t1.sl.HW_arg9_4 (F := Ideal) i b2 b3 b9 X_arg2 X_arg3 k f_arg9) inb_S2x1024x128_S1x1024x128_0_0_0 rfl (by decide) (by decide) (Or.inr ⟨_, List.mem_cons_of_mem _ List.mem_cons_self, rfl⟩) s x)
    (fun s x => cov_box b10.view f_arg10 (trip_k0_t1.sl.HW_arg10_4 (F := Ideal) i b2 b3 b9 b10 X_arg2 X_arg3 k f_arg9 f_arg10) inb_S2x1024x128_S1x1024x128_0_0_0 rfl (by decide) (by decide) (Or.inr ⟨_, List.mem_cons_of_mem _ List.mem_cons_self, rfl⟩) s x)
    (fun s x => cov_box b11.view f_arg11 (trip_k0_t1.sl.HW_arg11_4 (F := Ideal) i b2 b3 b4 b9 b11 X_arg2 X_arg3 X_arg4 k f_arg9 f_arg11) inb_S2x1024x128_S1x1024x128_0_0_0 rfl (by decide) (by decide) (Or.inr ⟨_, List.mem_cons_of_mem _ List.mem_cons_self, rfl⟩) s x)
    (N2 (2048 * k.val + 1536) (2048 * k.val + 1024)) (fun _ => rfl) (fun _ => rfl) (n2_0 _ _ _)
  replace g5 : Good C (rdl b9.view f_arg9 (trip_k0_t1.sl.HW_arg9_5 (F := Ideal) i b2 b3 b9 X_arg2 X_arg3 k f_arg9)) (rdl b10.view f_arg10 (trip_k0_t1.sl.HW_arg10_5 (F := Ideal) i b2 b3 b9 b10 X_arg2 X_arg3 k f_arg9 f_arg10)) (rdl b11.view f_arg11 (trip_k0_t1.sl.HW_arg11_5 (F := Ideal) i b2 b3 b4 b9 b11 X_arg2 X_arg3 X_arg4 k f_arg9 f_arg11)) (N2 (2048 * k.val + 1536) (2048 * k.val + 1024)) := g5
  have g6 := step_w g5 1 (o := (2048 * k.val + 1024)) (r0 := 0) (by decide) (by have := kbound i k; omega) (off := ![1, 0, 0]) rfl inb_S2x1024x128_S1x1024x128_1_0_0
    (q := (View.readAt (Elt Ideal) b2.view (Rect.unit (s := S2x1024x256) ![1, 0, 0] S1x1024x256.size inb_S2x1024x256_S1x1024x256_1_0_0).toLoadRect X_arg2))
    (k := (View.readAt (Elt Ideal) b3.view (Rect.unit (s := S2x8192x256) (k0_off3 i k 2#32) S1x512x256.size (k0_off3_inb i k 2)).toLoadRect X_arg3))
    (v := (View.readAt (Elt Ideal) b4.view (Rect.unit (s := S2x8192x128) (k0_off4 i k 2#32) S1x512x128.size (k0_off4_inb i k 2)).toLoadRect X_arg4))
    (m := (trip_k0_t1.sl.v613 (F := Ideal) i b2 b3 b9 X_arg2 X_arg3 k f_arg9))
    (l := (trip_k0_t1.sl.v625 (F := Ideal) i b2 b3 b9 b10 X_arg2 X_arg3 k f_arg9 f_arg10))
    (a := (trip_k0_t1.sl.v636 (F := Ideal) i b2 b3 b4 b9 b11 X_arg2 X_arg3 X_arg4 k f_arg9 f_arg11))
    (fun s c => (rd_box b2.view X_arg2 inb_S2x1024x256_S1x1024x256_1_0_0 rfl (by decide) (by decide) s c).trans (congrFun h2 _))
    (fun b c => (rd_box b3.view X_arg3 (k0_off3_inb i k 2) (off3 i k 2) (by decide) (by have := kbound i k; show _ + 512 ≤ 8192; simp; omega) b c).trans (congrFun h3 _))
    (fun b c => (rd_box b4.view X_arg4 (k0_off4_inb i k 2) (off4 i k 2) (by decide) (by have := kbound i k; show _ + 512 ≤ 8192; simp; omega) b c).trans (congrFun h4 _))
    (fun s x => cov_box b9.view f_arg9 (trip_k0_t1.sl.HW_arg9_5 (F := Ideal) i b2 b3 b9 X_arg2 X_arg3 k f_arg9) inb_S2x1024x128_S1x1024x128_1_0_0 rfl (by decide) (by decide) (Or.inr ⟨_, List.mem_cons_of_mem _ List.mem_cons_self, rfl⟩) s x)
    (fun s x => cov_box b10.view f_arg10 (trip_k0_t1.sl.HW_arg10_5 (F := Ideal) i b2 b3 b9 b10 X_arg2 X_arg3 k f_arg9 f_arg10) inb_S2x1024x128_S1x1024x128_1_0_0 rfl (by decide) (by decide) (Or.inr ⟨_, List.mem_cons_of_mem _ List.mem_cons_self, rfl⟩) s x)
    (fun s x => cov_box b11.view f_arg11 (trip_k0_t1.sl.HW_arg11_5 (F := Ideal) i b2 b3 b4 b9 b11 X_arg2 X_arg3 X_arg4 k f_arg9 f_arg11) inb_S2x1024x128_S1x1024x128_1_0_0 rfl (by decide) (by decide) (Or.inr ⟨_, List.mem_cons_of_mem _ List.mem_cons_self, rfl⟩) s x)
    (N2 (2048 * k.val + 1536) (2048 * k.val + 1536)) (fun _ => rfl) (fun _ => rfl) (n2_1 _ _ _)
  replace g6 : Good C (rdl b9.view f_arg9 (trip_k0_t1.sl.HW_arg9_6 (F := Ideal) i b2 b3 b9 X_arg2 X_arg3 k f_arg9)) (rdl b10.view f_arg10 (trip_k0_t1.sl.HW_arg10_6 (F := Ideal) i b2 b3 b9 b10 X_arg2 X_arg3 k f_arg9 f_arg10)) (rdl b11.view f_arg11 (trip_k0_t1.sl.HW_arg11_6 (F := Ideal) i b2 b3 b4 b9 b11 X_arg2 X_arg3 X_arg4 k f_arg9 f_arg11)) (N2 (2048 * k.val + 1536) (2048 * k.val + 1536)) := g6
  have g7 := step_w g6 0 (o := (2048 * k.val + 1536)) (r0 := 0) (by decide) (by have := kbound i k; omega) (off := ![0, 0, 0]) rfl inb_S2x1024x128_S1x1024x128_0_0_0
    (q := (View.readAt (Elt Ideal) b2.view (Rect.unit (s := S2x1024x256) ![0, 0, 0] S1x1024x256.size inb_S2x1024x256_S1x1024x256_0_0_0).toLoadRect X_arg2))
    (k := (View.readAt (Elt Ideal) b3.view (Rect.unit (s := S2x8192x256) (k0_off1 i k 3#32) S1x512x256.size (k0_off1_inb i k 3)).toLoadRect X_arg3))
    (v := (View.readAt (Elt Ideal) b4.view (Rect.unit (s := S2x8192x128) (k0_off2 i k 3#32) S1x512x128.size (k0_off2_inb i k 3)).toLoadRect X_arg4))
    (m := (trip_k0_t1.sl.v660 (F := Ideal) i b2 b3 b9 X_arg2 X_arg3 k f_arg9))
    (l := (trip_k0_t1.sl.v672 (F := Ideal) i b2 b3 b9 b10 X_arg2 X_arg3 k f_arg9 f_arg10))
    (a := (trip_k0_t1.sl.v683 (F := Ideal) i b2 b3 b4 b9 b11 X_arg2 X_arg3 X_arg4 k f_arg9 f_arg11))
    (fun s c => (rd_box b2.view X_arg2 inb_S2x1024x256_S1x1024x256_0_0_0 rfl (by decide) (by decide) s c).trans (congrFun h2 _))
    (fun b c => (rd_box b3.view X_arg3 (k0_off1_inb i k 3) (off1 i k 3) (by decide) (by have := kbound i k; show _ + 512 ≤ 8192; simp; omega) b c).trans (congrFun h3 _))
    (fun b c => (rd_box b4.view X_arg4 (k0_off2_inb i k 3) (off2 i k 3) (by decide) (by have := kbound i k; show _ + 512 ≤ 8192; simp; omega) b c).trans (congrFun h4 _))
    (fun s x => cov_box b9.view f_arg9 (trip_k0_t1.sl.HW_arg9_6 (F := Ideal) i b2 b3 b9 X_arg2 X_arg3 k f_arg9) inb_S2x1024x128_S1x1024x128_0_0_0 rfl (by decide) (by decide) (Or.inr ⟨_, List.mem_cons_of_mem _ List.mem_cons_self, rfl⟩) s x)
    (fun s x => cov_box b10.view f_arg10 (trip_k0_t1.sl.HW_arg10_6 (F := Ideal) i b2 b3 b9 b10 X_arg2 X_arg3 k f_arg9 f_arg10) inb_S2x1024x128_S1x1024x128_0_0_0 rfl (by decide) (by decide) (Or.inr ⟨_, List.mem_cons_of_mem _ List.mem_cons_self, rfl⟩) s x)
    (fun s x => cov_box b11.view f_arg11 (trip_k0_t1.sl.HW_arg11_6 (F := Ideal) i b2 b3 b4 b9 b11 X_arg2 X_arg3 X_arg4 k f_arg9 f_arg11) inb_S2x1024x128_S1x1024x128_0_0_0 rfl (by decide) (by decide) (Or.inr ⟨_, List.mem_cons_of_mem _ List.mem_cons_self, rfl⟩) s x)
    (N2 (2048 * k.val + 2048) (2048 * k.val + 1536)) (fun _ => rfl) (fun _ => rfl) (n2_0 _ _ _)
  replace g7 : Good C (rdl b9.view f_arg9 (trip_k0_t1.sl.HW_arg9_7 (F := Ideal) i b2 b3 b9 X_arg2 X_arg3 k f_arg9)) (rdl b10.view f_arg10 (trip_k0_t1.sl.HW_arg10_7 (F := Ideal) i b2 b3 b9 b10 X_arg2 X_arg3 k f_arg9 f_arg10)) (rdl b11.view f_arg11 (trip_k0_t1.sl.HW_arg11_7 (F := Ideal) i b2 b3 b4 b9 b11 X_arg2 X_arg3 X_arg4 k f_arg9 f_arg11)) (N2 (2048 * k.val + 2048) (2048 * k.val + 1536)) := g7
  have g8 := step_w g7 1 (o := (2048 * k.val + 1536)) (r0 := 0) (by decide) (by have := kbound i k; omega) (off := ![1, 0, 0]) rfl inb_S2x1024x128_S1x1024x128_1_0_0
    (q := (View.readAt (Elt Ideal) b2.view (Rect.unit (s := S2x1024x256) ![1, 0, 0] S1x1024x256.size inb_S2x1024x256_S1x1024x256_1_0_0).toLoadRect X_arg2))
    (k := (View.readAt (Elt Ideal) b3.view (Rect.unit (s := S2x8192x256) (k0_off3 i k 3#32) S1x512x256.size (k0_off3_inb i k 3)).toLoadRect X_arg3))
    (v := (View.readAt (Elt Ideal) b4.view (Rect.unit (s := S2x8192x128) (k0_off4 i k 3#32) S1x512x128.size (k0_off4_inb i k 3)).toLoadRect X_arg4))
    (m := (trip_k0_t1.sl.v703 (F := Ideal) i b2 b3 b9 X_arg2 X_arg3 k f_arg9))
    (l := (trip_k0_t1.sl.v715 (F := Ideal) i b2 b3 b9 b10 X_arg2 X_arg3 k f_arg9 f_arg10))
    (a := (trip_k0_t1.sl.v726 (F := Ideal) i b2 b3 b4 b9 b11 X_arg2 X_arg3 X_arg4 k f_arg9 f_arg11))
    (fun s c => (rd_box b2.view X_arg2 inb_S2x1024x256_S1x1024x256_1_0_0 rfl (by decide) (by decide) s c).trans (congrFun h2 _))
    (fun b c => (rd_box b3.view X_arg3 (k0_off3_inb i k 3) (off3 i k 3) (by decide) (by have := kbound i k; show _ + 512 ≤ 8192; simp; omega) b c).trans (congrFun h3 _))
    (fun b c => (rd_box b4.view X_arg4 (k0_off4_inb i k 3) (off4 i k 3) (by decide) (by have := kbound i k; show _ + 512 ≤ 8192; simp; omega) b c).trans (congrFun h4 _))
    (fun s x => cov_box b9.view f_arg9 (trip_k0_t1.sl.HW_arg9_7 (F := Ideal) i b2 b3 b9 X_arg2 X_arg3 k f_arg9) inb_S2x1024x128_S1x1024x128_1_0_0 rfl (by decide) (by decide) (Or.inr ⟨_, List.mem_cons_of_mem _ List.mem_cons_self, rfl⟩) s x)
    (fun s x => cov_box b10.view f_arg10 (trip_k0_t1.sl.HW_arg10_7 (F := Ideal) i b2 b3 b9 b10 X_arg2 X_arg3 k f_arg9 f_arg10) inb_S2x1024x128_S1x1024x128_1_0_0 rfl (by decide) (by decide) (Or.inr ⟨_, List.mem_cons_of_mem _ List.mem_cons_self, rfl⟩) s x)
    (fun s x => cov_box b11.view f_arg11 (trip_k0_t1.sl.HW_arg11_7 (F := Ideal) i b2 b3 b4 b9 b11 X_arg2 X_arg3 X_arg4 k f_arg9 f_arg11) inb_S2x1024x128_S1x1024x128_1_0_0 rfl (by decide) (by decide) (Or.inr ⟨_, List.mem_cons_of_mem _ List.mem_cons_self, rfl⟩) s x)
    (N2 (2048 * k.val + 2048) (2048 * k.val + 2048)) (fun _ => rfl) (fun _ => rfl) (n2_1 _ _ _)
  unfold tripL_k0_t1 trip_k0_t1
  exact g8

end Cert.Fwd

end
-- ==== Proof.F.Sweep.lean ====
/- The sweep over the keys below the block, and the buffers it starts from. -/
module

public import proofs.«01_k».proof.Proof.F.Trip

@[expose] public section

set_option maxRecDepth 16384

noncomputable section

namespace Cert.Fwd

open Cert.Kernel2Ideal Cert.Kernel2Ideal.Gen
open Idealize.ShloMosaic Idealize.ShloMosaic.TcCoe Idealize.ShloMosaic.Pointwise Idealize.SL.Sem Idealize.SL Idealize.ShloMosaic.Tactic
open Idealize.ShloMosaic.Rounds
open Idealize.ShloMosaic.Pipeline (Dat Cfg Window BodyObligation cellOf)

theorem step_lists {v9 v10 v11 : View sig .tc .vmem S2x1024x128 .f32} {f9 : v9.ty.Contents (Elt Ideal)} {f10 : v10.ty.Contents (Elt Ideal)} {f11 : v11.ty.Contents (Elt Ideal)}
    {C : Ctx} {N : Fin 2 → Fin 1024 → ℕ} {A P T : List (View.Piece (Elt Ideal) S2x1024x128 .f32) × List (View.Piece (Elt Ideal) S2x1024x128 .f32) × List (View.Piece (Elt Ideal) S2x1024x128 .f32)}
    (e : T = (A.1 ++ P.1, A.2.1 ++ P.2.1, A.2.2 ++ P.2.2))
    (h : Good C (rdl v9 (v9.writes (Elt Ideal) f9 P.1) A.1) (rdl v10 (v10.writes (Elt Ideal) f10 P.2.1) A.2.1) (rdl v11 (v11.writes (Elt Ideal) f11 P.2.2) A.2.2) N) :
    Good C (rdl v9 f9 T.1) (rdl v10 f10 T.2.1) (rdl v11 f11 T.2.2) N := by
  subst e
  unfold rdl at h ⊢
  rw [View.writes_append, View.writes_append, View.writes_append]
  exact h

variable (𝒱 : Variants) (c : Dev nD) (bd : Option 𝒱.V) (i : grid0.Coords)
  (b2 : Memref sig .tc .vmem S2x1024x256 .bf16) (w2 : b2.IsWhole) (b3 : Memref sig .tc .vmem S2x8192x256 .bf16) (w3 : b3.IsWhole)
  (b4 : Memref sig .tc .vmem S2x8192x128 .bf16) (w4 : b4.IsWhole) (b5 : Memref sig .tc .vmem S1024x256 .f32) (w5 : b5.IsWhole)
  (b6 : Memref sig .tc .vmem S1024x256 .f32) (w6 : b6.IsWhole) (b7 : Memref sig .tc .vmem S1024x256 .bf16) (w7 : b7.IsWhole)
  (b8 : Memref sig .tc .vmem S2x1024x128 .f32) (w8 : b8.IsWhole) (b9 : Memref sig .tc .vmem S2x1024x128 .f32) (w9 : b9.IsWhole)
  (b10 : Memref sig .tc .vmem S2x1024x128 .f32) (w10 : b10.IsWhole) (b11 : Memref sig .tc .vmem S2x1024x128 .f32) (w11 : b11.IsWhole)

set_option maxHeartbeats 2000000 in
/-- After `n` trips every row has seen the first `2048 * n` keys. -/
theorem sweep_good (b1 c0 v32 : BitVec 32) (X_arg2 : Buf (Elt Ideal) (b2.view.loc (c : Thread nD τ))) (X_arg3 : Buf (Elt Ideal) (b3.view.loc (c : Thread nD τ))) (X_arg4 : Buf (Elt Ideal) (b4.view.loc (c : Thread nD τ)))
    (G9 : Buf (Elt Ideal) (b9.view.loc (c : Thread nD τ))) (G10 : Buf (Elt Ideal) (b10.view.loc (c : Thread nD τ))) (G11 : Buf (Elt Ideal) (b11.view.loc (c : Thread nD τ)))
    (C : Ctx) (h2 : b2.view.read (Elt Ideal) X_arg2 = C.x0) (h3 : b3.view.read (Elt Ideal) X_arg3 = C.x1) (h4 : b4.view.read (Elt Ideal) X_arg4 = C.x2)
    (hG : Good C (rdl b9.view G9 []) (rdl b10.view G10 []) (rdl b11.view G11 []) (N2 0 0)) :
    ∀ n, n ≤ (k0_t1_loop i).trips → Good C (rdl b9.view G9 (pb_k0_t1 (F := Ideal) 𝒱 c bd i b2 w2 b3 w3 b4 w4 b5 w5 b6 w6 b7 w7 b8 w8 b9 w9 b10 w10 b11 w11 b1 c0 v32 X_arg2 X_arg3 X_arg4 G9 G10 G11 n).1)
      (rdl b10.view G10 (pb_k0_t1 (F := Ideal) 𝒱 c bd i b2 w2 b3 w3 b4 w4 b5 w5 b6 w6 b7 w7 b8 w8 b9 w9 b10 w10 b11 w11 b1 c0 v32 X_arg2 X_arg3 X_arg4 G9 G10 G11 n).2.1)
      (rdl b11.view G11 (pb_k0_t1 (F := Ideal) 𝒱 c bd i b2 w2 b3 w3 b4 w4 b5 w5 b6 w6 b7 w7 b8 w8 b9 w9 b10 w10 b11 w11 b1 c0 v32 X_arg2 X_arg3 X_arg4 G9 G10 G11 n).2.2) (N2 (2048 * n) (2048 * n))
  := by
  intro n
  induction n with
  | zero => exact fun _ => hG
  | succ n ihn =>
    intro hn
    have ih := ihn (Nat.le_of_succ_le hn)
    have st := trip_good 𝒱 c bd i b2 w2 b3 w3 b4 w4 b5 w5 b6 w6 b7 w7 b8 w8 b9 w9 b10 w10 b11 w11 b1 c0 v32 X_arg2 X_arg3 X_arg4 ⟨n, hn⟩ _ _ _ C h2 h3 h4 ih
    have e := pb_k0_t1_succ (F := Ideal) 𝒱 c bd i b2 w2 b3 w3 b4 w4 b5 w5 b6 w6 b7 w7 b8 w8 b9 w9 b10 w10 b11 w11 b1 c0 v32 X_arg2 X_arg3 X_arg4 G9 G10 G11 ⟨n, hn⟩
    exact step_lists (C := C) e st

theorem whole_put {A B D : ℕ} {e : EltTy} (v : View sig .tc .vmem ⟨3, ![A, B, D]⟩ e) (f : v.ty.Contents (Elt Ideal)) (L : List (View.Piece (Elt Ideal) ⟨3, ![A, B, D]⟩ e))
    (inb : ∀ a, (![0, 0, 0] : Fin 3 → ℕ) a + (![A, B, D] : Fin 3 → ℕ) a ≤ (⟨3, ![A, B, D]⟩ : Shape).size a) (w : (Rect.unit (s := ⟨3, ![A, B, D]⟩) ![0, 0, 0] ![A, B, D] inb).shape.Idx → Elt Ideal e) (h : Fin A) (s : Fin B) (x : Fin D) :
    v.read (Elt Ideal) (v.writes (Elt Ideal) f (⟨Rect.unit (s := ⟨3, ![A, B, D]⟩) ![0, 0, 0] ![A, B, D] inb, w⟩ :: L)) (ix3 h s x) = w (ix3 h s x) := by
  refine View.read_writes_cons_hit_of_coords v f _ w L (ix3 h s x) _ fun a => ?_
  fin_cases a
  · show h.val = 0 + 1 * h.val; omega
  · show s.val = 0 + 1 * s.val; omega
  · show x.val = 0 + 1 * x.val; omega

theorem whole_piece (v : View sig .tc .vmem S2x1024x128 .f32) (f : v.ty.Contents (Elt Ideal)) (w : Vec Ideal S2x1024x128 .f32) (h s x) :
    rdl v f [⟨Rect.unit (s := S2x1024x128) ![0, 0, 0] S2x1024x128.size inb_S2x1024x128_S2x1024x128_0_0_0, w⟩] (ix3 h s x) = w (ix3 h s x) :=
  whole_put v f [] inb_S2x1024x128_S2x1024x128_0_0_0 w h s x

/-- At the start no key is seen: the maxima are −∞, the sums and products zero. -/
theorem init_good (C : Ctx) (v9 v10 v11 : View sig .tc .vmem S2x1024x128 .f32) (f9 : v9.ty.Contents (Elt Ideal)) (f10 : v10.ty.Contents (Elt Ideal)) (f11 : v11.ty.Contents (Elt Ideal)) :
    Good C (rdl v9 f9 [⟨Rect.unit (s := S2x1024x128) ![0, 0, 0] S2x1024x128.size inb_S2x1024x128_S2x1024x128_0_0_0, (k0_pay178 (F := Ideal))⟩])
      (rdl v10 f10 [⟨Rect.unit (s := S2x1024x128) ![0, 0, 0] S2x1024x128.size inb_S2x1024x128_S2x1024x128_0_0_0, (k0_pay179 (F := Ideal))⟩])
      (rdl v11 f11 [⟨Rect.unit (s := S2x1024x128) ![0, 0, 0] S2x1024x128.size inb_S2x1024x128_S2x1024x128_0_0_0, (k0_pay180 (F := Ideal))⟩]) (N2 0 0) := by
  intro h s
  refine Or.inl ⟨by simp [N2], fun x => (whole_piece _ _ _ _ _ _).trans ?_, fun x => (whole_piece _ _ _ _ _ _).trans ?_, fun x => (whole_piece _ _ _ _ _ _).trans ?_⟩
  · exact Cert.word_bot
  · exact Cert.word_0
  · exact Cert.word_0

theorem base_good {v9 v10 v11 : View sig .tc .vmem S2x1024x128 .f32} {f9 : v9.ty.Contents (Elt Ideal)} {f10 : v10.ty.Contents (Elt Ideal)} {f11 : v11.ty.Contents (Elt Ideal)}
    {C : Ctx} {H9 H10 H11 : List (View.Piece (Elt Ideal) S2x1024x128 .f32)} {N : Fin 2 → Fin 1024 → ℕ} {T : List (View.Piece (Elt Ideal) S2x1024x128 .f32) × List (View.Piece (Elt Ideal) S2x1024x128 .f32) × List (View.Piece (Elt Ideal) S2x1024x128 .f32)}
    {P : v9.ty.Contents (Elt Ideal) → v10.ty.Contents (Elt Ideal) → v11.ty.Contents (Elt Ideal) → List (View.Piece (Elt Ideal) S2x1024x128 .f32) × List (View.Piece (Elt Ideal) S2x1024x128 .f32) × List (View.Piece (Elt Ideal) S2x1024x128 .f32)} (e : ∀ a b d, P a b d = ([], [], []))
    (h : Good C (rdl v9 (v9.writes (Elt Ideal) f9 H9) T.1) (rdl v10 (v10.writes (Elt Ideal) f10 H10) T.2.1) (rdl v11 (v11.writes (Elt Ideal) f11 H11) T.2.2) N) :
    let R := P (v9.writes (Elt Ideal) f9 (T.1 ++ H9)) (v10.writes (Elt Ideal) f10 (T.2.1 ++ H10)) (v11.writes (Elt Ideal) f11 (T.2.2 ++ H11))
    Good C (rdl v9 f9 (R.1 ++ (T.1 ++ H9))) (rdl v10 f10 (R.2.1 ++ (T.2.1 ++ H10))) (rdl v11 f11 (R.2.2 ++ (T.2.2 ++ H11))) N := by
  dsimp only
  rw [e]
  unfold rdl at h ⊢
  rw [List.nil_append, List.nil_append, List.nil_append, View.writes_append, View.writes_append, View.writes_append]
  exact h

/-- How many keys each head's rows have seen, the two halves apart. -/
def N4 (a b c d : ℕ → ℕ) : Fin 2 → Fin 1024 → ℕ := fun h s => if h.val = 0 then (if s.val < 512 then a s.val else b s.val) else (if s.val < 512 then c s.val else d s.val)

theorem good_cast {C : Ctx} {m l a : Vec Ideal S2x1024x128 .f32} {N N' : Fin 2 → Fin 1024 → ℕ} (h : Good C m l a N) (e : ∀ h s, N h s = N' h s) : Good C m l a N' :=
  fun h' s' => e h' s' ▸ h h' s'

end Cert.Fwd

end
-- ==== Proof.F.BodyA.lean ====
/- The block of an even grid point: its remaining blocks of keys, the last two masked. -/
module

public import proofs.«01_k».proof.Proof.F.Sweep

@[expose] public section

set_option maxRecDepth 16384

noncomputable section

namespace Cert.Fwd

open Cert.Kernel2Ideal Cert.Kernel2Ideal.Gen
open Idealize.ShloMosaic Idealize.ShloMosaic.TcCoe Idealize.ShloMosaic.Pointwise Idealize.SL.Sem Idealize.SL Idealize.ShloMosaic.Tactic
open Idealize.ShloMosaic.Rounds
open Idealize.ShloMosaic.Pipeline (Dat Cfg Window BodyObligation cellOf)

variable (𝒱 : Variants) (c : Dev nD) (bd : Option 𝒱.V) (i : grid0.Coords)
  (b2 : Memref sig .tc .vmem S2x1024x256 .bf16) (w2 : b2.IsWhole) (b3 : Memref sig .tc .vmem S2x8192x256 .bf16) (w3 : b3.IsWhole)
  (b4 : Memref sig .tc .vmem S2x8192x128 .bf16) (w4 : b4.IsWhole) (b5 : Memref sig .tc .vmem S1024x256 .f32) (w5 : b5.IsWhole)
  (b6 : Memref sig .tc .vmem S1024x256 .f32) (w6 : b6.IsWhole) (b7 : Memref sig .tc .vmem S1024x256 .bf16) (w7 : b7.IsWhole)
  (b8 : Memref sig .tc .vmem S2x1024x128 .f32) (w8 : b8.IsWhole) (b9 : Memref sig .tc .vmem S2x1024x128 .f32) (w9 : b9.IsWhole)
  (b10 : Memref sig .tc .vmem S2x1024x128 .f32) (w10 : b10.IsWhole) (b11 : Memref sig .tc .vmem S2x1024x128 .f32) (w11 : b11.IsWhole)

theorem pb2_nilA (b1 c0 v32 v33 : BitVec 32) (X_arg2 : Buf (Elt Ideal) (b2.view.loc (c : Thread nD τ))) (X_arg3 : Buf (Elt Ideal) (b3.view.loc (c : Thread nD τ))) (X_arg4 : Buf (Elt Ideal) (b4.view.loc (c : Thread nD τ)))
    (G9 : Buf (Elt Ideal) (b9.view.loc (c : Thread nD τ))) (G10 : Buf (Elt Ideal) (b10.view.loc (c : Thread nD τ))) (G11 : Buf (Elt Ideal) (b11.view.loc (c : Thread nD τ))) :
    pb_k0_t2 (F := Ideal) 𝒱 c bd i b2 w2 b3 w3 b4 w4 b5 w5 b6 w6 b7 w7 b8 w8 b9 w9 b10 w10 b11 w11 b1 c0 v32 v33 X_arg2 X_arg3 X_arg4 G9 G10 G11 (Scf.trips (k0_t2_loop i).lb (k0_t2_loop i).ub (k0_t2_loop i).st) = ([], [], []) := by
  rw [show Scf.trips (k0_t2_loop i).lb (k0_t2_loop i).ub (k0_t2_loop i).st = 0 from trips2 i]
  rfl

variable (x0 : Vec Ideal S2x1024x256 .bf16) (x1 : Vec Ideal S2x8192x256 .bf16) (x2 : Vec Ideal S2x8192x128 .bf16)

set_option maxHeartbeats 4000000 in
/-- At the end row `s` of the block has seen the keys up to its own. -/
theorem final_A (hc0 : ¬cond0_0 i) (C : Ctx) (h2 : x0 = C.x0) (h3 : x1 = C.x1) (h4 : x2 = C.x2) :
    Good C (rdl b9.view b9.view.junk (kernelRun0_A.sl.HS0_6 (F := Ideal) c i b2 w2 b3 w3 b4 w4 b5 w5 b6 w6 b7 w7 b8 w8 b9 w9 b10 w10 b11 w11 x0 x1 x2)) (rdl b10.view b10.view.junk (kernelRun0_A.sl.HS1_6 (F := Ideal) c i b2 w2 b3 w3 b4 w4 b5 w5 b6 w6 b7 w7 b8 w8 b9 w9 b10 w10 b11 w11 x0 x1 x2)) (rdl b11.view b11.view.junk (kernelRun0_A.sl.HS2_6 (F := Ideal) c i b2 w2 b3 w3 b4 w4 b5 w5 b6 w6 b7 w7 b8 w8 b9 w9 b10 w10 b11 w11 x0 x1 x2)) (fun _ s => 1024 * (i 1).val + s.val + 1) := by
  have hi : (i 1).val < 8 := (i 1).isLt
  have hp : (i 1).val % 2 = 0 := by
    have := cond_odd i
    have h0 : ¬ k0_cond1 i = 1#1 := hc0
    rw [this] at h0; omega
  have hs := sweep_good Variants.none c none i b2 w2 b3 w3 b4 w4 b5 w5 b6 w6 b7 w7 b8 w8 b9 w9 b10 w10 b11 w11 (BitVec.ofNat 32 (i 1).val) (0#32) (kernelRun0_A.sl.v32 i)
    (w2.unread x0) (w3.unread x1) (w4.unread x2) (b9.view.writes (Elt Ideal) b9.view.junk (kernelRun0_A.sl.HS0_1 (F := Ideal))) (b10.view.writes (Elt Ideal) b10.view.junk (kernelRun0_A.sl.HS1_1 (F := Ideal))) (b11.view.writes (Elt Ideal) b11.view.junk (kernelRun0_A.sl.HS2_1 (F := Ideal))) C ((w2.read_unread x0).trans h2) ((w3.read_unread x1).trans h3) ((w4.read_unread x2).trans h4)
    (init_good C b9.view b10.view b11.view b9.view.junk b10.view.junk b11.view.junk) _ (le_refl _)
  have g0 := base_good (H9 := kernelRun0_A.sl.HS0_1 (F := Ideal)) (H10 := kernelRun0_A.sl.HS1_1 (F := Ideal)) (H11 := kernelRun0_A.sl.HS2_1 (F := Ideal)) (f9 := b9.view.junk) (f10 := b10.view.junk) (f11 := b11.view.junk)
    (pb2_nilA Variants.none c none i b2 w2 b3 w3 b4 w4 b5 w5 b6 w6 b7 w7 b8 w8 b9 w9 b10 w10 b11 w11 (BitVec.ofNat 32 (i 1).val) (0#32) (kernelRun0_A.sl.v32 i) (kernelRun0_A.sl.v33 i) (w2.unread x0) (w3.unread x1) (w4.unread x2))
    (good_cast hs (N' := (N4 (fun s => 1024 * (i 1).val) (fun s => 1024 * (i 1).val) (fun s => 1024 * (i 1).val) (fun s => 1024 * (i 1).val))) (by
      intro h s
      have ht := trips1 i
      simp only [N2, N4]
      split_ifs <;> omega))
  have g1 := step_c g0 0 (o := (1024 * (i 1).val + 0)) (r0 := 0) (by decide) (by omega) (off := ![0, 0, 0]) rfl inb_S2x1024x128_S1x512x128_0_0_0
    (m := (kernelRun0_A.sl.v61 (F := Ideal) c i b2 w2 b3 w3 b4 w4 b5 w5 b6 w6 b7 w7 b8 w8 b9 w9 b10 w10 b11 w11 x0 x1 x2))
    (l := (kernelRun0_A.sl.v73 (F := Ideal) c i b2 w2 b3 w3 b4 w4 b5 w5 b6 w6 b7 w7 b8 w8 b9 w9 b10 w10 b11 w11 x0 x1 x2))
    (a := (kernelRun0_A.sl.v84 (F := Ideal) c i b2 w2 b3 w3 b4 w4 b5 w5 b6 w6 b7 w7 b8 w8 b9 w9 b10 w10 b11 w11 x0 x1 x2))
    (fun s c' => (rd_box b2.view (w2.unread x0) inb_S2x1024x256_S1x512x256_0_0_0 rfl (by decide) (by decide) s c').trans (congrFun ((w2.read_unread x0).trans h2) _))
    (fun b c' => (rd_box b3.view (w3.unread x1) (k0_off13_inb i) (k0_off13_eq i) (by decide) (by omega) b c').trans (congrFun ((w3.read_unread x1).trans h3) _))
    (fun b c' => (rd_box b4.view (w4.unread x2) (k0_off14_inb i) (k0_off14_eq i) (by decide) (by omega) b c').trans (congrFun ((w4.read_unread x2).trans h4) _))
    (fun s x => cov_box b9.view b9.view.junk _ inb_S2x1024x128_S1x512x128_0_0_0 rfl (by decide) (by decide) (Or.inl rfl) s x)
    (fun s x => cov_box b10.view b10.view.junk _ inb_S2x1024x128_S1x512x128_0_0_0 rfl (by decide) (by decide) (Or.inl rfl) s x)
    (fun s x => cov_box b11.view b11.view.junk _ inb_S2x1024x128_S1x512x128_0_0_0 rfl (by decide) (by decide) (Or.inl rfl) s x)
    (N4 (fun s => 1024 * (i 1).val + s + 1) (fun s => 1024 * (i 1).val) (fun s => 1024 * (i 1).val) (fun s => 1024 * (i 1).val)) (fun s => by simp [N4] <;> omega) (fun s => by simp [N4] <;> omega) (fun h' s' hn => by simp only [N4, Fin.val_zero, Fin.val_one] at hn ⊢; split_ifs <;> omega)
  replace g1 : Good C (rdl b9.view b9.view.junk (kernelRun0_A.sl.HS0_1_1 (F := Ideal) c i b2 w2 b3 w3 b4 w4 b5 w5 b6 w6 b7 w7 b8 w8 b9 w9 b10 w10 b11 w11 x0 x1 x2)) (rdl b10.view b10.view.junk (kernelRun0_A.sl.HS1_1_1 (F := Ideal) c i b2 w2 b3 w3 b4 w4 b5 w5 b6 w6 b7 w7 b8 w8 b9 w9 b10 w10 b11 w11 x0 x1 x2)) (rdl b11.view b11.view.junk (kernelRun0_A.sl.HS2_1_1 (F := Ideal) c i b2 w2 b3 w3 b4 w4 b5 w5 b6 w6 b7 w7 b8 w8 b9 w9 b10 w10 b11 w11 x0 x1 x2)) (N4 (fun s => 1024 * (i 1).val + s + 1) (fun s => 1024 * (i 1).val) (fun s => 1024 * (i 1).val) (fun s => 1024 * (i 1).val)) := g1
  have g2 := step_u g1 0 (o := (1024 * (i 1).val + 0)) (r0 := 512) (by decide) (by omega) (off := ![0, 512, 0]) rfl inb_S2x1024x128_S1x512x128_0_512_0
    (m := (kernelRun0_A.sl.v104 (F := Ideal) c i b2 w2 b3 w3 b4 w4 b5 w5 b6 w6 b7 w7 b8 w8 b9 w9 b10 w10 b11 w11 x0 x1 x2))
    (l := (kernelRun0_A.sl.v116 (F := Ideal) c i b2 w2 b3 w3 b4 w4 b5 w5 b6 w6 b7 w7 b8 w8 b9 w9 b10 w10 b11 w11 x0 x1 x2))
    (a := (kernelRun0_A.sl.v127 (F := Ideal) c i b2 w2 b3 w3 b4 w4 b5 w5 b6 w6 b7 w7 b8 w8 b9 w9 b10 w10 b11 w11 x0 x1 x2))
    (fun s c' => (rd_box b2.view (w2.unread x0) inb_S2x1024x256_S1x512x256_0_512_0 rfl (by decide) (by decide) s c').trans (congrFun ((w2.read_unread x0).trans h2) _))
    (fun b c' => (rd_box b3.view (w3.unread x1) (k0_off13_inb i) (k0_off13_eq i) (by decide) (by omega) b c').trans (congrFun ((w3.read_unread x1).trans h3) _))
    (fun b c' => (rd_box b4.view (w4.unread x2) (k0_off14_inb i) (k0_off14_eq i) (by decide) (by omega) b c').trans (congrFun ((w4.read_unread x2).trans h4) _))
    (fun s x => cov_box b9.view b9.view.junk _ inb_S2x1024x128_S1x512x128_0_512_0 rfl (by decide) (by decide) (Or.inl rfl) s x)
    (fun s x => cov_box b10.view b10.view.junk _ inb_S2x1024x128_S1x512x128_0_512_0 rfl (by decide) (by decide) (Or.inl rfl) s x)
    (fun s x => cov_box b11.view b11.view.junk _ inb_S2x1024x128_S1x512x128_0_512_0 rfl (by decide) (by decide) (Or.inl rfl) s x)
    (N4 (fun s => 1024 * (i 1).val + s + 1) (fun s => (1024 * (i 1).val + 0) + 512) (fun s => 1024 * (i 1).val) (fun s => 1024 * (i 1).val)) (fun s => by simp [N4] <;> omega) (fun s => by simp [N4] <;> omega) (fun h' s' hn => by simp only [N4, Fin.val_zero, Fin.val_one] at hn ⊢; split_ifs <;> omega)
  replace g2 : Good C (rdl b9.view b9.view.junk (kernelRun0_A.sl.HS0_2 (F := Ideal) c i b2 w2 b3 w3 b4 w4 b5 w5 b6 w6 b7 w7 b8 w8 b9 w9 b10 w10 b11 w11 x0 x1 x2)) (rdl b10.view b10.view.junk (kernelRun0_A.sl.HS1_2 (F := Ideal) c i b2 w2 b3 w3 b4 w4 b5 w5 b6 w6 b7 w7 b8 w8 b9 w9 b10 w10 b11 w11 x0 x1 x2)) (rdl b11.view b11.view.junk (kernelRun0_A.sl.HS2_2 (F := Ideal) c i b2 w2 b3 w3 b4 w4 b5 w5 b6 w6 b7 w7 b8 w8 b9 w9 b10 w10 b11 w11 x0 x1 x2)) (N4 (fun s => 1024 * (i 1).val + s + 1) (fun s => (1024 * (i 1).val + 0) + 512) (fun s => 1024 * (i 1).val) (fun s => 1024 * (i 1).val)) := g2
  have g3 := step_c g2 1 (o := (1024 * (i 1).val + 0)) (r0 := 0) (by decide) (by omega) (off := ![1, 0, 0]) rfl inb_S2x1024x128_S1x512x128_1_0_0
    (m := (kernelRun0_A.sl.v152 (F := Ideal) c i b2 w2 b3 w3 b4 w4 b5 w5 b6 w6 b7 w7 b8 w8 b9 w9 b10 w10 b11 w11 x0 x1 x2))
    (l := (kernelRun0_A.sl.v164 (F := Ideal) c i b2 w2 b3 w3 b4 w4 b5 w5 b6 w6 b7 w7 b8 w8 b9 w9 b10 w10 b11 w11 x0 x1 x2))
    (a := (kernelRun0_A.sl.v175 (F := Ideal) c i b2 w2 b3 w3 b4 w4 b5 w5 b6 w6 b7 w7 b8 w8 b9 w9 b10 w10 b11 w11 x0 x1 x2))
    (fun s c' => (rd_box b2.view (w2.unread x0) inb_S2x1024x256_S1x512x256_1_0_0 rfl (by decide) (by decide) s c').trans (congrFun ((w2.read_unread x0).trans h2) _))
    (fun b c' => (rd_box b3.view (w3.unread x1) (k0_off15_inb i) (k0_off15_eq i) (by decide) (by omega) b c').trans (congrFun ((w3.read_unread x1).trans h3) _))
    (fun b c' => (rd_box b4.view (w4.unread x2) (k0_off16_inb i) (k0_off16_eq i) (by decide) (by omega) b c').trans (congrFun ((w4.read_unread x2).trans h4) _))
    (fun s x => cov_box b9.view b9.view.junk _ inb_S2x1024x128_S1x512x128_1_0_0 rfl (by decide) (by decide) (Or.inl rfl) s x)
    (fun s x => cov_box b10.view b10.view.junk _ inb_S2x1024x128_S1x512x128_1_0_0 rfl (by decide) (by decide) (Or.inl rfl) s x)
    (fun s x => cov_box b11.view b11.view.junk _ inb_S2x1024x128_S1x512x128_1_0_0 rfl (by decide) (by decide) (Or.inl rfl) s x)
    (N4 (fun s => 1024 * (i 1).val + s + 1) (fun s => (1024 * (i 1).val + 0) + 512) (fun s => 1024 * (i 1).val + s + 1) (fun s => 1024 * (i 1).val)) (fun s => by simp [N4] <;> omega) (fun s => by simp [N4] <;> omega) (fun h' s' hn => by simp only [N4, Fin.val_zero, Fin.val_one] at hn ⊢; split_ifs <;> omega)
  replace g3 : Good C (rdl b9.view b9.view.junk (kernelRun0_A.sl.HS0_3 (F := Ideal) c i b2 w2 b3 w3 b4 w4 b5 w5 b6 w6 b7 w7 b8 w8 b9 w9 b10 w10 b11 w11 x0 x1 x2)) (rdl b10.view b10.view.junk (kernelRun0_A.sl.HS1_3 (F := Ideal) c i b2 w2 b3 w3 b4 w4 b5 w5 b6 w6 b7 w7 b8 w8 b9 w9 b10 w10 b11 w11 x0 x1 x2)) (rdl b11.view b11.view.junk (kernelRun0_A.sl.HS2_3 (F := Ideal) c i b2 w2 b3 w3 b4 w4 b5 w5 b6 w6 b7 w7 b8 w8 b9 w9 b10 w10 b11 w11 x0 x1 x2)) (N4 (fun s => 1024 * (i 1).val + s + 1) (fun s => (1024 * (i 1).val + 0) + 512) (fun s => 1024 * (i 1).val + s + 1) (fun s => 1024 * (i 1).val)) := g3
  have g4 := step_u g3 1 (o := (1024 * (i 1).val + 0)) (r0 := 512) (by decide) (by omega) (off := ![1, 512, 0]) rfl inb_S2x1024x128_S1x512x128_1_512_0
    (m := (kernelRun0_A.sl.v195 (F := Ideal) c i b2 w2 b3 w3 b4 w4 b5 w5 b6 w6 b7 w7 b8 w8 b9 w9 b10 w10 b11 w11 x0 x1 x2))
    (l := (kernelRun0_A.sl.v207 (F := Ideal) c i b2 w2 b3 w3 b4 w4 b5 w5 b6 w6 b7 w7 b8 w8 b9 w9 b10 w10 b11 w11 x0 x1 x2))
    (a := (kernelRun0_A.sl.v218 (F := Ideal) c i b2 w2 b3 w3 b4 w4 b5 w5 b6 w6 b7 w7 b8 w8 b9 w9 b10 w10 b11 w11 x0 x1 x2))
    (fun s c' => (rd_box b2.view (w2.unread x0) inb_S2x1024x256_S1x512x256_1_512_0 rfl (by decide) (by decide) s c').trans (congrFun ((w2.read_unread x0).trans h2) _))
    (fun b c' => (rd_box b3.view (w3.unread x1) (k0_off15_inb i) (k0_off15_eq i) (by decide) (by omega) b c').trans (congrFun ((w3.read_unread x1).trans h3) _))
    (fun b c' => (rd_box b4.view (w4.unread x2) (k0_off16_inb i) (k0_off16_eq i) (by decide) (by omega) b c').trans (congrFun ((w4.read_unread x2).trans h4) _))
    (fun s x => cov_box b9.view b9.view.junk _ inb_S2x1024x128_S1x512x128_1_512_0 rfl (by decide) (by decide) (Or.inl rfl) s x)
    (fun s x => cov_box b10.view b10.view.junk _ inb_S2x1024x128_S1x512x128_1_512_0 rfl (by decide) (by decide) (Or.inl rfl) s x)
    (fun s x => cov_box b11.view b11.view.junk _ inb_S2x1024x128_S1x512x128_1_512_0 rfl (by decide) (by decide) (Or.inl rfl) s x)
    (N4 (fun s => 1024 * (i 1).val + s + 1) (fun s => (1024 * (i 1).val + 0) + 512) (fun s => 1024 * (i 1).val + s + 1) (fun s => (1024 * (i 1).val + 0) + 512)) (fun s => by simp [N4] <;> omega) (fun s => by simp [N4] <;> omega) (fun h' s' hn => by simp only [N4, Fin.val_zero, Fin.val_one] at hn ⊢; split_ifs <;> omega)
  replace g4 : Good C (rdl b9.view b9.view.junk (kernelRun0_A.sl.HS0_4 (F := Ideal) c i b2 w2 b3 w3 b4 w4 b5 w5 b6 w6 b7 w7 b8 w8 b9 w9 b10 w10 b11 w11 x0 x1 x2)) (rdl b10.view b10.view.junk (kernelRun0_A.sl.HS1_4 (F := Ideal) c i b2 w2 b3 w3 b4 w4 b5 w5 b6 w6 b7 w7 b8 w8 b9 w9 b10 w10 b11 w11 x0 x1 x2)) (rdl b11.view b11.view.junk (kernelRun0_A.sl.HS2_4 (F := Ideal) c i b2 w2 b3 w3 b4 w4 b5 w5 b6 w6 b7 w7 b8 w8 b9 w9 b10 w10 b11 w11 x0 x1 x2)) (N4 (fun s => 1024 * (i 1).val + s + 1) (fun s => (1024 * (i 1).val + 0) + 512) (fun s => 1024 * (i 1).val + s + 1) (fun s => (1024 * (i 1).val + 0) + 512)) := g4
  have g5 := step_c g4 0 (o := (1024 * (i 1).val + 512)) (r0 := 512) (by decide) (by omega) (off := ![0, 512, 0]) rfl inb_S2x1024x128_S1x512x128_0_512_0
    (m := (kernelRun0_A.sl.v247 (F := Ideal) c i b2 w2 b3 w3 b4 w4 b5 w5 b6 w6 b7 w7 b8 w8 b9 w9 b10 w10 b11 w11 x0 x1 x2))
    (l := (kernelRun0_A.sl.v259 (F := Ideal) c i b2 w2 b3 w3 b4 w4 b5 w5 b6 w6 b7 w7 b8 w8 b9 w9 b10 w10 b11 w11 x0 x1 x2))
    (a := (kernelRun0_A.sl.v270 (F := Ideal) c i b2 w2 b3 w3 b4 w4 b5 w5 b6 w6 b7 w7 b8 w8 b9 w9 b10 w10 b11 w11 x0 x1 x2))
    (fun s c' => (rd_box b2.view (w2.unread x0) inb_S2x1024x256_S1x512x256_0_512_0 rfl (by decide) (by decide) s c').trans (congrFun ((w2.read_unread x0).trans h2) _))
    (fun b c' => (rd_box b3.view (w3.unread x1) (k0_off17_inb i) (k0_off17_eq i) (by decide) (by omega) b c').trans (congrFun ((w3.read_unread x1).trans h3) _))
    (fun b c' => (rd_box b4.view (w4.unread x2) (k0_off18_inb i) (k0_off18_eq i) (by decide) (by omega) b c').trans (congrFun ((w4.read_unread x2).trans h4) _))
    (fun s x => cov_box b9.view b9.view.junk _ inb_S2x1024x128_S1x512x128_0_512_0 rfl (by decide) (by decide) (Or.inl rfl) s x)
    (fun s x => cov_box b10.view b10.view.junk _ inb_S2x1024x128_S1x512x128_0_512_0 rfl (by decide) (by decide) (Or.inl rfl) s x)
    (fun s x => cov_box b11.view b11.view.junk _ inb_S2x1024x128_S1x512x128_0_512_0 rfl (by decide) (by decide) (Or.inl rfl) s x)
    (N4 (fun s => 1024 * (i 1).val + s + 1) (fun s => 1024 * (i 1).val + s + 1) (fun s => 1024 * (i 1).val + s + 1) (fun s => (1024 * (i 1).val + 0) + 512)) (fun s => by simp [N4] <;> omega) (fun s => by simp [N4] <;> omega) (fun h' s' hn => by simp only [N4, Fin.val_zero, Fin.val_one] at hn ⊢; split_ifs <;> omega)
  replace g5 : Good C (rdl b9.view b9.view.junk (kernelRun0_A.sl.HS0_5 (F := Ideal) c i b2 w2 b3 w3 b4 w4 b5 w5 b6 w6 b7 w7 b8 w8 b9 w9 b10 w10 b11 w11 x0 x1 x2)) (rdl b10.view b10.view.junk (kernelRun0_A.sl.HS1_5 (F := Ideal) c i b2 w2 b3 w3 b4 w4 b5 w5 b6 w6 b7 w7 b8 w8 b9 w9 b10 w10 b11 w11 x0 x1 x2)) (rdl b11.view b11.view.junk (kernelRun0_A.sl.HS2_5 (F := Ideal) c i b2 w2 b3 w3 b4 w4 b5 w5 b6 w6 b7 w7 b8 w8 b9 w9 b10 w10 b11 w11 x0 x1 x2)) (N4 (fun s => 1024 * (i 1).val + s + 1) (fun s => 1024 * (i 1).val + s + 1) (fun s => 1024 * (i 1).val + s + 1) (fun s => (1024 * (i 1).val + 0) + 512)) := g5
  have g6 := step_c g5 1 (o := (1024 * (i 1).val + 512)) (r0 := 512) (by decide) (by omega) (off := ![1, 512, 0]) rfl inb_S2x1024x128_S1x512x128_1_512_0
    (m := (kernelRun0_A.sl.v295 (F := Ideal) c i b2 w2 b3 w3 b4 w4 b5 w5 b6 w6 b7 w7 b8 w8 b9 w9 b10 w10 b11 w11 x0 x1 x2))
    (l := (kernelRun0_A.sl.v307 (F := Ideal) c i b2 w2 b3 w3 b4 w4 b5 w5 b6 w6 b7 w7 b8 w8 b9 w9 b10 w10 b11 w11 x0 x1 x2))
    (a := (kernelRun0_A.sl.v318 (F := Ideal) c i b2 w2 b3 w3 b4 w4 b5 w5 b6 w6 b7 w7 b8 w8 b9 w9 b10 w10 b11 w11 x0 x1 x2))
    (fun s c' => (rd_box b2.view (w2.unread x0) inb_S2x1024x256_S1x512x256_1_512_0 rfl (by decide) (by decide) s c').trans (congrFun ((w2.read_unread x0).trans h2) _))
    (fun b c' => (rd_box b3.view (w3.unread x1) (k0_off19_inb i) (k0_off19_eq i) (by decide) (by omega) b c').trans (congrFun ((w3.read_unread x1).trans h3) _))
    (fun b c' => (rd_box b4.view (w4.unread x2) (k0_off20_inb i) (k0_off20_eq i) (by decide) (by omega) b c').trans (congrFun ((w4.read_unread x2).trans h4) _))
    (fun s x => cov_box b9.view b9.view.junk _ inb_S2x1024x128_S1x512x128_1_512_0 rfl (by decide) (by decide) (Or.inl rfl) s x)
    (fun s x => cov_box b10.view b10.view.junk _ inb_S2x1024x128_S1x512x128_1_512_0 rfl (by decide) (by decide) (Or.inl rfl) s x)
    (fun s x => cov_box b11.view b11.view.junk _ inb_S2x1024x128_S1x512x128_1_512_0 rfl (by decide) (by decide) (Or.inl rfl) s x)
    (N4 (fun s => 1024 * (i 1).val + s + 1) (fun s => 1024 * (i 1).val + s + 1) (fun s => 1024 * (i 1).val + s + 1) (fun s => 1024 * (i 1).val + s + 1)) (fun s => by simp [N4] <;> omega) (fun s => by simp [N4] <;> omega) (fun h' s' hn => by simp only [N4, Fin.val_zero, Fin.val_one] at hn ⊢; split_ifs <;> omega)
  replace g6 : Good C (rdl b9.view b9.view.junk (kernelRun0_A.sl.HS0_6 (F := Ideal) c i b2 w2 b3 w3 b4 w4 b5 w5 b6 w6 b7 w7 b8 w8 b9 w9 b10 w10 b11 w11 x0 x1 x2)) (rdl b10.view b10.view.junk (kernelRun0_A.sl.HS1_6 (F := Ideal) c i b2 w2 b3 w3 b4 w4 b5 w5 b6 w6 b7 w7 b8 w8 b9 w9 b10 w10 b11 w11 x0 x1 x2)) (rdl b11.view b11.view.junk (kernelRun0_A.sl.HS2_6 (F := Ideal) c i b2 w2 b3 w3 b4 w4 b5 w5 b6 w6 b7 w7 b8 w8 b9 w9 b10 w10 b11 w11 x0 x1 x2)) (N4 (fun s => 1024 * (i 1).val + s + 1) (fun s => 1024 * (i 1).val + s + 1) (fun s => 1024 * (i 1).val + s + 1) (fun s => 1024 * (i 1).val + s + 1)) := g6
  refine good_cast g6 ?_
  intro h s
  simp only [N4]
  split_ifs <;> omega

end Cert.Fwd

end
-- ==== Proof.F.BodyB.lean ====
/- The block of an odd grid point: its remaining blocks of keys, the last two masked. -/
module

public import proofs.«01_k».proof.Proof.F.Sweep

@[expose] public section

set_option maxRecDepth 16384

noncomputable section

namespace Cert.Fwd

open Cert.Kernel2Ideal Cert.Kernel2Ideal.Gen
open Idealize.ShloMosaic Idealize.ShloMosaic.TcCoe Idealize.ShloMosaic.Pointwise Idealize.SL.Sem Idealize.SL Idealize.ShloMosaic.Tactic
open Idealize.ShloMosaic.Rounds
open Idealize.ShloMosaic.Pipeline (Dat Cfg Window BodyObligation cellOf)

variable (𝒱 : Variants) (c : Dev nD) (bd : Option 𝒱.V) (i : grid0.Coords)
  (b2 : Memref sig .tc .vmem S2x1024x256 .bf16) (w2 : b2.IsWhole) (b3 : Memref sig .tc .vmem S2x8192x256 .bf16) (w3 : b3.IsWhole)
  (b4 : Memref sig .tc .vmem S2x8192x128 .bf16) (w4 : b4.IsWhole) (b5 : Memref sig .tc .vmem S1024x256 .f32) (w5 : b5.IsWhole)
  (b6 : Memref sig .tc .vmem S1024x256 .f32) (w6 : b6.IsWhole) (b7 : Memref sig .tc .vmem S1024x256 .bf16) (w7 : b7.IsWhole)
  (b8 : Memref sig .tc .vmem S2x1024x128 .f32) (w8 : b8.IsWhole) (b9 : Memref sig .tc .vmem S2x1024x128 .f32) (w9 : b9.IsWhole)
  (b10 : Memref sig .tc .vmem S2x1024x128 .f32) (w10 : b10.IsWhole) (b11 : Memref sig .tc .vmem S2x1024x128 .f32) (w11 : b11.IsWhole)

theorem pb2_nilB (b1 c0 v32 v33 : BitVec 32) (X_arg2 : Buf (Elt Ideal) (b2.view.loc (c : Thread nD τ))) (X_arg3 : Buf (Elt Ideal) (b3.view.loc (c : Thread nD τ))) (X_arg4 : Buf (Elt Ideal) (b4.view.loc (c : Thread nD τ)))
    (G9 : Buf (Elt Ideal) (b9.view.loc (c : Thread nD τ))) (G10 : Buf (Elt Ideal) (b10.view.loc (c : Thread nD τ))) (G11 : Buf (Elt Ideal) (b11.view.loc (c : Thread nD τ))) :
    pb_k0_t2 (F := Ideal) 𝒱 c bd i b2 w2 b3 w3 b4 w4 b5 w5 b6 w6 b7 w7 b8 w8 b9 w9 b10 w10 b11 w11 b1 c0 v32 v33 X_arg2 X_arg3 X_arg4 G9 G10 G11 (Scf.trips (k0_t2_loop i).lb (k0_t2_loop i).ub (k0_t2_loop i).st) = ([], [], []) := by
  rw [show Scf.trips (k0_t2_loop i).lb (k0_t2_loop i).ub (k0_t2_loop i).st = 0 from trips2 i]
  rfl

variable (x0 : Vec Ideal S2x1024x256 .bf16) (x1 : Vec Ideal S2x8192x256 .bf16) (x2 : Vec Ideal S2x8192x128 .bf16)

set_option maxHeartbeats 4000000 in
/-- At the end row `s` of the block has seen the keys up to its own. -/
theorem final_B (hc0 : cond0_0 i) (C : Ctx) (h2 : x0 = C.x0) (h3 : x1 = C.x1) (h4 : x2 = C.x2) :
    Good C (rdl b9.view b9.view.junk (kernelRun0_B.sl.HS0_10 (F := Ideal) c i b2 w2 b3 w3 b4 w4 b5 w5 b6 w6 b7 w7 b8 w8 b9 w9 b10 w10 b11 w11 hc0 x0 x1 x2)) (rdl b10.view b10.view.junk (kernelRun0_B.sl.HS1_10 (F := Ideal) c i b2 w2 b3 w3 b4 w4 b5 w5 b6 w6 b7 w7 b8 w8 b9 w9 b10 w10 b11 w11 hc0 x0 x1 x2)) (rdl b11.view b11.view.junk (kernelRun0_B.sl.HS2_10 (F := Ideal) c i b2 w2 b3 w3 b4 w4 b5 w5 b6 w6 b7 w7 b8 w8 b9 w9 b10 w10 b11 w11 hc0 x0 x1 x2)) (fun _ s => 1024 * (i 1).val + s.val + 1) := by
  have hi : (i 1).val < 8 := (i 1).isLt
  have hp : (i 1).val % 2 = 1 := by
    have := cond_odd i
    have h0 : k0_cond1 i = 1#1 := hc0
    exact this.mp h0
  have hc1 : k0_cond1 i = 1#1 := hc0
  have hs := sweep_good Variants.none c none i b2 w2 b3 w3 b4 w4 b5 w5 b6 w6 b7 w7 b8 w8 b9 w9 b10 w10 b11 w11 (BitVec.ofNat 32 (i 1).val) (0#32) (kernelRun0_B.sl.v32 i)
    (w2.unread x0) (w3.unread x1) (w4.unread x2) (b9.view.writes (Elt Ideal) b9.view.junk (kernelRun0_B.sl.HS0_1 (F := Ideal))) (b10.view.writes (Elt Ideal) b10.view.junk (kernelRun0_B.sl.HS1_1 (F := Ideal))) (b11.view.writes (Elt Ideal) b11.view.junk (kernelRun0_B.sl.HS2_1 (F := Ideal))) C ((w2.read_unread x0).trans h2) ((w3.read_unread x1).trans h3) ((w4.read_unread x2).trans h4)
    (init_good C b9.view b10.view b11.view b9.view.junk b10.view.junk b11.view.junk) _ (le_refl _)
  have g0 := base_good (H9 := kernelRun0_B.sl.HS0_1 (F := Ideal)) (H10 := kernelRun0_B.sl.HS1_1 (F := Ideal)) (H11 := kernelRun0_B.sl.HS2_1 (F := Ideal)) (f9 := b9.view.junk) (f10 := b10.view.junk) (f11 := b11.view.junk)
    (pb2_nilB Variants.none c none i b2 w2 b3 w3 b4 w4 b5 w5 b6 w6 b7 w7 b8 w8 b9 w9 b10 w10 b11 w11 (BitVec.ofNat 32 (i 1).val) (0#32) (kernelRun0_B.sl.v32 i) (kernelRun0_B.sl.v33 i) (w2.unread x0) (w3.unread x1) (w4.unread x2))
    (good_cast hs (N' := (N4 (fun s => 1024 * (i 1).val - 1024) (fun s => 1024 * (i 1).val - 1024) (fun s => 1024 * (i 1).val - 1024) (fun s => 1024 * (i 1).val - 1024))) (by
      intro h s
      have ht := trips1 i
      simp only [N2, N4]
      split_ifs <;> omega))
  have g1 := step_w g0 0 (o := (1024 * (i 1).val - 1024)) (r0 := 0) (by decide) (by omega) (off := ![0, 0, 0]) rfl inb_S2x1024x128_S1x1024x128_0_0_0
    (m := (kernelRun0_B.sl.v390 (F := Ideal) c i b2 w2 b3 w3 b4 w4 b5 w5 b6 w6 b7 w7 b8 w8 b9 w9 b10 w10 b11 w11 x0 x1 x2))
    (l := (kernelRun0_B.sl.v402 (F := Ideal) c i b2 w2 b3 w3 b4 w4 b5 w5 b6 w6 b7 w7 b8 w8 b9 w9 b10 w10 b11 w11 x0 x1 x2))
    (a := (kernelRun0_B.sl.v413 (F := Ideal) c i b2 w2 b3 w3 b4 w4 b5 w5 b6 w6 b7 w7 b8 w8 b9 w9 b10 w10 b11 w11 x0 x1 x2))
    (fun s c' => (rd_box b2.view (w2.unread x0) inb_S2x1024x256_S1x1024x256_0_0_0 rfl (by decide) (by decide) s c').trans (congrFun ((w2.read_unread x0).trans h2) _))
    (fun b c' => (rd_box b3.view (w3.unread x1) (k0_off9_inb i hc1 1) (off9 i hc1 1) (by decide) (by omega) b c').trans (congrFun ((w3.read_unread x1).trans h3) _))
    (fun b c' => (rd_box b4.view (w4.unread x2) (k0_off10_inb i hc1 1) (off10 i hc1 1) (by decide) (by omega) b c').trans (congrFun ((w4.read_unread x2).trans h4) _))
    (fun s x => cov_box b9.view b9.view.junk _ inb_S2x1024x128_S1x1024x128_0_0_0 rfl (by decide) (by decide) (Or.inl rfl) s x)
    (fun s x => cov_box b10.view b10.view.junk _ inb_S2x1024x128_S1x1024x128_0_0_0 rfl (by decide) (by decide) (Or.inl rfl) s x)
    (fun s x => cov_box b11.view b11.view.junk _ inb_S2x1024x128_S1x1024x128_0_0_0 rfl (by decide) (by decide) (Or.inl rfl) s x)
    (N4 (fun s => (1024 * (i 1).val - 1024) + 512) (fun s => (1024 * (i 1).val - 1024) + 512) (fun s => 1024 * (i 1).val - 1024) (fun s => 1024 * (i 1).val - 1024)) (fun s => by simp [N4] <;> omega) (fun s => by simp [N4] <;> omega) (fun h' s' hn => by simp only [N4, Fin.val_zero, Fin.val_one] at hn ⊢; split_ifs <;> omega)
  replace g1 : Good C (rdl b9.view b9.view.junk (kernelRun0_B.sl.HS0_1_1 (F := Ideal) c i b2 w2 b3 w3 b4 w4 b5 w5 b6 w6 b7 w7 b8 w8 b9 w9 b10 w10 b11 w11 hc0 x0 x1 x2)) (rdl b10.view b10.view.junk (kernelRun0_B.sl.HS1_1_1 (F := Ideal) c i b2 w2 b3 w3 b4 w4 b5 w5 b6 w6 b7 w7 b8 w8 b9 w9 b10 w10 b11 w11 hc0 x0 x1 x2)) (rdl b11.view b11.view.junk (kernelRun0_B.sl.HS2_1_1 (F := Ideal) c i b2 w2 b3 w3 b4 w4 b5 w5 b6 w6 b7 w7 b8 w8 b9 w9 b10 w10 b11 w11 hc0 x0 x1 x2)) (N4 (fun s => (1024 * (i 1).val - 1024) + 512) (fun s => (1024 * (i 1).val - 1024) + 512) (fun s => 1024 * (i 1).val - 1024) (fun s => 1024 * (i 1).val - 1024)) := g1
  have g2 := step_w g1 1 (o := (1024 * (i 1).val - 1024)) (r0 := 0) (by decide) (by omega) (off := ![1, 0, 0]) rfl inb_S2x1024x128_S1x1024x128_1_0_0
    (m := (kernelRun0_B.sl.v433 (F := Ideal) c i b2 w2 b3 w3 b4 w4 b5 w5 b6 w6 b7 w7 b8 w8 b9 w9 b10 w10 b11 w11 hc0 x0 x1 x2))
    (l := (kernelRun0_B.sl.v445 (F := Ideal) c i b2 w2 b3 w3 b4 w4 b5 w5 b6 w6 b7 w7 b8 w8 b9 w9 b10 w10 b11 w11 hc0 x0 x1 x2))
    (a := (kernelRun0_B.sl.v456 (F := Ideal) c i b2 w2 b3 w3 b4 w4 b5 w5 b6 w6 b7 w7 b8 w8 b9 w9 b10 w10 b11 w11 hc0 x0 x1 x2))
    (fun s c' => (rd_box b2.view (w2.unread x0) inb_S2x1024x256_S1x1024x256_1_0_0 rfl (by decide) (by decide) s c').trans (congrFun ((w2.read_unread x0).trans h2) _))
    (fun b c' => (rd_box b3.view (w3.unread x1) (k0_off11_inb i hc1 1) (off11 i hc1 1) (by decide) (by omega) b c').trans (congrFun ((w3.read_unread x1).trans h3) _))
    (fun b c' => (rd_box b4.view (w4.unread x2) (k0_off12_inb i hc1 1) (off12 i hc1 1) (by decide) (by omega) b c').trans (congrFun ((w4.read_unread x2).trans h4) _))
    (fun s x => cov_box b9.view b9.view.junk _ inb_S2x1024x128_S1x1024x128_1_0_0 rfl (by decide) (by decide) (Or.inl rfl) s x)
    (fun s x => cov_box b10.view b10.view.junk _ inb_S2x1024x128_S1x1024x128_1_0_0 rfl (by decide) (by decide) (Or.inl rfl) s x)
    (fun s x => cov_box b11.view b11.view.junk _ inb_S2x1024x128_S1x1024x128_1_0_0 rfl (by decide) (by decide) (Or.inl rfl) s x)
    (N4 (fun s => (1024 * (i 1).val - 1024) + 512) (fun s => (1024 * (i 1).val - 1024) + 512) (fun s => (1024 * (i 1).val - 1024) + 512) (fun s => (1024 * (i 1).val - 1024) + 512)) (fun s => by simp [N4] <;> omega) (fun s => by simp [N4] <;> omega) (fun h' s' hn => by simp only [N4, Fin.val_zero, Fin.val_one] at hn ⊢; split_ifs <;> omega)
  replace g2 : Good C (rdl b9.view b9.view.junk (kernelRun0_B.sl.HS0_2 (F := Ideal) c i b2 w2 b3 w3 b4 w4 b5 w5 b6 w6 b7 w7 b8 w8 b9 w9 b10 w10 b11 w11 hc0 x0 x1 x2)) (rdl b10.view b10.view.junk (kernelRun0_B.sl.HS1_2 (F := Ideal) c i b2 w2 b3 w3 b4 w4 b5 w5 b6 w6 b7 w7 b8 w8 b9 w9 b10 w10 b11 w11 hc0 x0 x1 x2)) (rdl b11.view b11.view.junk (kernelRun0_B.sl.HS2_2 (F := Ideal) c i b2 w2 b3 w3 b4 w4 b5 w5 b6 w6 b7 w7 b8 w8 b9 w9 b10 w10 b11 w11 hc0 x0 x1 x2)) (N4 (fun s => (1024 * (i 1).val - 1024) + 512) (fun s => (1024 * (i 1).val - 1024) + 512) (fun s => (1024 * (i 1).val - 1024) + 512) (fun s => (1024 * (i 1).val - 1024) + 512)) := g2
  have g3 := step_w g2 0 (o := (1024 * (i 1).val - 512)) (r0 := 0) (by decide) (by omega) (off := ![0, 0, 0]) rfl inb_S2x1024x128_S1x1024x128_0_0_0
    (m := (kernelRun0_B.sl.v480 (F := Ideal) c i b2 w2 b3 w3 b4 w4 b5 w5 b6 w6 b7 w7 b8 w8 b9 w9 b10 w10 b11 w11 hc0 x0 x1 x2))
    (l := (kernelRun0_B.sl.v492 (F := Ideal) c i b2 w2 b3 w3 b4 w4 b5 w5 b6 w6 b7 w7 b8 w8 b9 w9 b10 w10 b11 w11 hc0 x0 x1 x2))
    (a := (kernelRun0_B.sl.v503 (F := Ideal) c i b2 w2 b3 w3 b4 w4 b5 w5 b6 w6 b7 w7 b8 w8 b9 w9 b10 w10 b11 w11 hc0 x0 x1 x2))
    (fun s c' => (rd_box b2.view (w2.unread x0) inb_S2x1024x256_S1x1024x256_0_0_0 rfl (by decide) (by decide) s c').trans (congrFun ((w2.read_unread x0).trans h2) _))
    (fun b c' => (rd_box b3.view (w3.unread x1) (k0_off9_inb i hc1 0) (off9 i hc1 0) (by decide) (by omega) b c').trans (congrFun ((w3.read_unread x1).trans h3) _))
    (fun b c' => (rd_box b4.view (w4.unread x2) (k0_off10_inb i hc1 0) (off10 i hc1 0) (by decide) (by omega) b c').trans (congrFun ((w4.read_unread x2).trans h4) _))
    (fun s x => cov_box b9.view b9.view.junk _ inb_S2x1024x128_S1x1024x128_0_0_0 rfl (by decide) (by decide) (Or.inl rfl) s x)
    (fun s x => cov_box b10.view b10.view.junk _ inb_S2x1024x128_S1x1024x128_0_0_0 rfl (by decide) (by decide) (Or.inl rfl) s x)
    (fun s x => cov_box b11.view b11.view.junk _ inb_S2x1024x128_S1x1024x128_0_0_0 rfl (by decide) (by decide) (Or.inl rfl) s x)
    (N4 (fun s => (1024 * (i 1).val - 512) + 512) (fun s => (1024 * (i 1).val - 512) + 512) (fun s => (1024 * (i 1).val - 1024) + 512) (fun s => (1024 * (i 1).val - 1024) + 512)) (fun s => by simp [N4] <;> omega) (fun s => by simp [N4] <;> omega) (fun h' s' hn => by simp only [N4, Fin.val_zero, Fin.val_one] at hn ⊢; split_ifs <;> omega)
  replace g3 : Good C (rdl b9.view b9.view.junk (kernelRun0_B.sl.HS0_3 (F := Ideal) c i b2 w2 b3 w3 b4 w4 b5 w5 b6 w6 b7 w7 b8 w8 b9 w9 b10 w10 b11 w11 hc0 x0 x1 x2)) (rdl b10.view b10.view.junk (kernelRun0_B.sl.HS1_3 (F := Ideal) c i b2 w2 b3 w3 b4 w4 b5 w5 b6 w6 b7 w7 b8 w8 b9 w9 b10 w10 b11 w11 hc0 x0 x1 x2)) (rdl b11.view b11.view.junk (kernelRun0_B.sl.HS2_3 (F := Ideal) c i b2 w2 b3 w3 b4 w4 b5 w5 b6 w6 b7 w7 b8 w8 b9 w9 b10 w10 b11 w11 hc0 x0 x1 x2)) (N4 (fun s => (1024 * (i 1).val - 512) + 512) (fun s => (1024 * (i 1).val - 512) + 512) (fun s => (1024 * (i 1).val - 1024) + 512) (fun s => (1024 * (i 1).val - 1024) + 512)) := g3
  have g4 := step_w g3 1 (o := (1024 * (i 1).val - 512)) (r0 := 0) (by decide) (by omega) (off := ![1, 0, 0]) rfl inb_S2x1024x128_S1x1024x128_1_0_0
    (m := (kernelRun0_B.sl.v523 (F := Ideal) c i b2 w2 b3 w3 b4 w4 b5 w5 b6 w6 b7 w7 b8 w8 b9 w9 b10 w10 b11 w11 hc0 x0 x1 x2))
    (l := (kernelRun0_B.sl.v535 (F := Ideal) c i b2 w2 b3 w3 b4 w4 b5 w5 b6 w6 b7 w7 b8 w8 b9 w9 b10 w10 b11 w11 hc0 x0 x1 x2))
    (a := (kernelRun0_B.sl.v546 (F := Ideal) c i b2 w2 b3 w3 b4 w4 b5 w5 b6 w6 b7 w7 b8 w8 b9 w9 b10 w10 b11 w11 hc0 x0 x1 x2))
    (fun s c' => (rd_box b2.view (w2.unread x0) inb_S2x1024x256_S1x1024x256_1_0_0 rfl (by decide) (by decide) s c').trans (congrFun ((w2.read_unread x0).trans h2) _))
    (fun b c' => (rd_box b3.view (w3.unread x1) (k0_off11_inb i hc1 0) (off11 i hc1 0) (by decide) (by omega) b c').trans (congrFun ((w3.read_unread x1).trans h3) _))
    (fun b c' => (rd_box b4.view (w4.unread x2) (k0_off12_inb i hc1 0) (off12 i hc1 0) (by decide) (by omega) b c').trans (congrFun ((w4.read_unread x2).trans h4) _))
    (fun s x => cov_box b9.view b9.view.junk _ inb_S2x1024x128_S1x1024x128_1_0_0 rfl (by decide) (by decide) (Or.inl rfl) s x)
    (fun s x => cov_box b10.view b10.view.junk _ inb_S2x1024x128_S1x1024x128_1_0_0 rfl (by decide) (by decide) (Or.inl rfl) s x)
    (fun s x => cov_box b11.view b11.view.junk _ inb_S2x1024x128_S1x1024x128_1_0_0 rfl (by decide) (by decide) (Or.inl rfl) s x)
    (N4 (fun s => (1024 * (i 1).val - 512) + 512) (fun s => (1024 * (i 1).val - 512) + 512) (fun s => (1024 * (i 1).val - 512) + 512) (fun s => (1024 * (i 1).val - 512) + 512)) (fun s => by simp [N4] <;> omega) (fun s => by simp [N4] <;> omega) (fun h' s' hn => by simp only [N4, Fin.val_zero, Fin.val_one] at hn ⊢; split_ifs <;> omega)
  replace g4 : Good C (rdl b9.view b9.view.junk (kernelRun0_B.sl.HS0_4 (F := Ideal) c i b2 w2 b3 w3 b4 w4 b5 w5 b6 w6 b7 w7 b8 w8 b9 w9 b10 w10 b11 w11 hc0 x0 x1 x2)) (rdl b10.view b10.view.junk (kernelRun0_B.sl.HS1_4 (F := Ideal) c i b2 w2 b3 w3 b4 w4 b5 w5 b6 w6 b7 w7 b8 w8 b9 w9 b10 w10 b11 w11 hc0 x0 x1 x2)) (rdl b11.view b11.view.junk (kernelRun0_B.sl.HS2_4 (F := Ideal) c i b2 w2 b3 w3 b4 w4 b5 w5 b6 w6 b7 w7 b8 w8 b9 w9 b10 w10 b11 w11 hc0 x0 x1 x2)) (N4 (fun s => (1024 * (i 1).val - 512) + 512) (fun s => (1024 * (i 1).val - 512) + 512) (fun s => (1024 * (i 1).val - 512) + 512) (fun s => (1024 * (i 1).val - 512) + 512)) := g4
  have g5 := step_c g4 0 (o := (1024 * (i 1).val + 0)) (r0 := 0) (by decide) (by omega) (off := ![0, 0, 0]) rfl inb_S2x1024x128_S1x512x128_0_0_0
    (m := (kernelRun0_B.sl.v61 (F := Ideal) c i b2 w2 b3 w3 b4 w4 b5 w5 b6 w6 b7 w7 b8 w8 b9 w9 b10 w10 b11 w11 hc0 x0 x1 x2))
    (l := (kernelRun0_B.sl.v73 (F := Ideal) c i b2 w2 b3 w3 b4 w4 b5 w5 b6 w6 b7 w7 b8 w8 b9 w9 b10 w10 b11 w11 hc0 x0 x1 x2))
    (a := (kernelRun0_B.sl.v84 (F := Ideal) c i b2 w2 b3 w3 b4 w4 b5 w5 b6 w6 b7 w7 b8 w8 b9 w9 b10 w10 b11 w11 hc0 x0 x1 x2))
    (fun s c' => (rd_box b2.view (w2.unread x0) inb_S2x1024x256_S1x512x256_0_0_0 rfl (by decide) (by decide) s c').trans (congrFun ((w2.read_unread x0).trans h2) _))
    (fun b c' => (rd_box b3.view (w3.unread x1) (k0_off13_inb i) (k0_off13_eq i) (by decide) (by omega) b c').trans (congrFun ((w3.read_unread x1).trans h3) _))
    (fun b c' => (rd_box b4.view (w4.unread x2) (k0_off14_inb i) (k0_off14_eq i) (by decide) (by omega) b c').trans (congrFun ((w4.read_unread x2).trans h4) _))
    (fun s x => cov_box b9.view b9.view.junk _ inb_S2x1024x128_S1x512x128_0_0_0 rfl (by decide) (by decide) (Or.inl rfl) s x)
    (fun s x => cov_box b10.view b10.view.junk _ inb_S2x1024x128_S1x512x128_0_0_0 rfl (by decide) (by decide) (Or.inl rfl) s x)
    (fun s x => cov_box b11.view b11.view.junk _ inb_S2x1024x128_S1x512x128_0_0_0 rfl (by decide) (by decide) (Or.inl rfl) s x)
    (N4 (fun s => 1024 * (i 1).val + s + 1) (fun s => (1024 * (i 1).val - 512) + 512) (fun s => (1024 * (i 1).val - 512) + 512) (fun s => (1024 * (i 1).val - 512) + 512)) (fun s => by simp [N4] <;> omega) (fun s => by simp [N4] <;> omega) (fun h' s' hn => by simp only [N4, Fin.val_zero, Fin.val_one] at hn ⊢; split_ifs <;> omega)
  replace g5 : Good C (rdl b9.view b9.view.junk (kernelRun0_B.sl.HS0_5 (F := Ideal) c i b2 w2 b3 w3 b4 w4 b5 w5 b6 w6 b7 w7 b8 w8 b9 w9 b10 w10 b11 w11 hc0 x0 x1 x2)) (rdl b10.view b10.view.junk (kernelRun0_B.sl.HS1_5 (F := Ideal) c i b2 w2 b3 w3 b4 w4 b5 w5 b6 w6 b7 w7 b8 w8 b9 w9 b10 w10 b11 w11 hc0 x0 x1 x2)) (rdl b11.view b11.view.junk (kernelRun0_B.sl.HS2_5 (F := Ideal) c i b2 w2 b3 w3 b4 w4 b5 w5 b6 w6 b7 w7 b8 w8 b9 w9 b10 w10 b11 w11 hc0 x0 x1 x2)) (N4 (fun s => 1024 * (i 1).val + s + 1) (fun s => (1024 * (i 1).val - 512) + 512) (fun s => (1024 * (i 1).val - 512) + 512) (fun s => (1024 * (i 1).val - 512) + 512)) := g5
  have g6 := step_u g5 0 (o := (1024 * (i 1).val + 0)) (r0 := 512) (by decide) (by omega) (off := ![0, 512, 0]) rfl inb_S2x1024x128_S1x512x128_0_512_0
    (m := (kernelRun0_B.sl.v104 (F := Ideal) c i b2 w2 b3 w3 b4 w4 b5 w5 b6 w6 b7 w7 b8 w8 b9 w9 b10 w10 b11 w11 hc0 x0 x1 x2))
    (l := (kernelRun0_B.sl.v116 (F := Ideal) c i b2 w2 b3 w3 b4 w4 b5 w5 b6 w6 b7 w7 b8 w8 b9 w9 b10 w10 b11 w11 hc0 x0 x1 x2))
    (a := (kernelRun0_B.sl.v127 (F := Ideal) c i b2 w2 b3 w3 b4 w4 b5 w5 b6 w6 b7 w7 b8 w8 b9 w9 b10 w10 b11 w11 hc0 x0 x1 x2))
    (fun s c' => (rd_box b2.view (w2.unread x0) inb_S2x1024x256_S1x512x256_0_512_0 rfl (by decide) (by decide) s c').trans (congrFun ((w2.read_unread x0).trans h2) _))
    (fun b c' => (rd_box b3.view (w3.unread x1) (k0_off13_inb i) (k0_off13_eq i) (by decide) (by omega) b c').trans (congrFun ((w3.read_unread x1).trans h3) _))
    (fun b c' => (rd_box b4.view (w4.unread x2) (k0_off14_inb i) (k0_off14_eq i) (by decide) (by omega) b c').trans (congrFun ((w4.read_unread x2).trans h4) _))
    (fun s x => cov_box b9.view b9.view.junk _ inb_S2x1024x128_S1x512x128_0_512_0 rfl (by decide) (by decide) (Or.inl rfl) s x)
    (fun s x => cov_box b10.view b10.view.junk _ inb_S2x1024x128_S1x512x128_0_512_0 rfl (by decide) (by decide) (Or.inl rfl) s x)
    (fun s x => cov_box b11.view b11.view.junk _ inb_S2x1024x128_S1x512x128_0_512_0 rfl (by decide) (by decide) (Or.inl rfl) s x)
    (N4 (fun s => 1024 * (i 1).val + s + 1) (fun s => (1024 * (i 1).val + 0) + 512) (fun s => (1024 * (i 1).val - 512) + 512) (fun s => (1024 * (i 1).val - 512) + 512)) (fun s => by simp [N4] <;> omega) (fun s => by simp [N4] <;> omega) (fun h' s' hn => by simp only [N4, Fin.val_zero, Fin.val_one] at hn ⊢; split_ifs <;> omega)
  replace g6 : Good C (rdl b9.view b9.view.junk (kernelRun0_B.sl.HS0_6 (F := Ideal) c i b2 w2 b3 w3 b4 w4 b5 w5 b6 w6 b7 w7 b8 w8 b9 w9 b10 w10 b11 w11 hc0 x0 x1 x2)) (rdl b10.view b10.view.junk (kernelRun0_B.sl.HS1_6 (F := Ideal) c i b2 w2 b3 w3 b4 w4 b5 w5 b6 w6 b7 w7 b8 w8 b9 w9 b10 w10 b11 w11 hc0 x0 x1 x2)) (rdl b11.view b11.view.junk (kernelRun0_B.sl.HS2_6 (F := Ideal) c i b2 w2 b3 w3 b4 w4 b5 w5 b6 w6 b7 w7 b8 w8 b9 w9 b10 w10 b11 w11 hc0 x0 x1 x2)) (N4 (fun s => 1024 * (i 1).val + s + 1) (fun s => (1024 * (i 1).val + 0) + 512) (fun s => (1024 * (i 1).val - 512) + 512) (fun s => (1024 * (i 1).val - 512) + 512)) := g6
  have g7 := step_c g6 1 (o := (1024 * (i 1).val + 0)) (r0 := 0) (by decide) (by omega) (off := ![1, 0, 0]) rfl inb_S2x1024x128_S1x512x128_1_0_0
    (m := (kernelRun0_B.sl.v152 (F := Ideal) c i b2 w2 b3 w3 b4 w4 b5 w5 b6 w6 b7 w7 b8 w8 b9 w9 b10 w10 b11 w11 hc0 x0 x1 x2))
    (l := (kernelRun0_B.sl.v164 (F := Ideal) c i b2 w2 b3 w3 b4 w4 b5 w5 b6 w6 b7 w7 b8 w8 b9 w9 b10 w10 b11 w11 hc0 x0 x1 x2))
    (a := (kernelRun0_B.sl.v175 (F := Ideal) c i b2 w2 b3 w3 b4 w4 b5 w5 b6 w6 b7 w7 b8 w8 b9 w9 b10 w10 b11 w11 hc0 x0 x1 x2))
    (fun s c' => (rd_box b2.view (w2.unread x0) inb_S2x1024x256_S1x512x256_1_0_0 rfl (by decide) (by decide) s c').trans (congrFun ((w2.read_unread x0).trans h2) _))
    (fun b c' => (rd_box b3.view (w3.unread x1) (k0_off15_inb i) (k0_off15_eq i) (by decide) (by omega) b c').trans (congrFun ((w3.read_unread x1).trans h3) _))
    (fun b c' => (rd_box b4.view (w4.unread x2) (k0_off16_inb i) (k0_off16_eq i) (by decide) (by omega) b c').trans (congrFun ((w4.read_unread x2).trans h4) _))
    (fun s x => cov_box b9.view b9.view.junk _ inb_S2x1024x128_S1x512x128_1_0_0 rfl (by decide) (by decide) (Or.inl rfl) s x)
    (fun s x => cov_box b10.view b10.view.junk _ inb_S2x1024x128_S1x512x128_1_0_0 rfl (by decide) (by decide) (Or.inl rfl) s x)
    (fun s x => cov_box b11.view b11.view.junk _ inb_S2x1024x128_S1x512x128_1_0_0 rfl (by decide) (by decide) (Or.inl rfl) s x)
    (N4 (fun s => 1024 * (i 1).val + s + 1) (fun s => (1024 * (i 1).val + 0) + 512) (fun s => 1024 * (i 1).val + s + 1) (fun s => (1024 * (i 1).val - 512) + 512)) (fun s => by simp [N4] <;> omega) (fun s => by simp [N4] <;> omega) (fun h' s' hn => by simp only [N4, Fin.val_zero, Fin.val_one] at hn ⊢; split_ifs <;> omega)
  replace g7 : Good C (rdl b9.view b9.view.junk (kernelRun0_B.sl.HS0_7 (F := Ideal) c i b2 w2 b3 w3 b4 w4 b5 w5 b6 w6 b7 w7 b8 w8 b9 w9 b10 w10 b11 w11 hc0 x0 x1 x2)) (rdl b10.view b10.view.junk (kernelRun0_B.sl.HS1_7 (F := Ideal) c i b2 w2 b3 w3 b4 w4 b5 w5 b6 w6 b7 w7 b8 w8 b9 w9 b10 w10 b11 w11 hc0 x0 x1 x2)) (rdl b11.view b11.view.junk (kernelRun0_B.sl.HS2_7 (F := Ideal) c i b2 w2 b3 w3 b4 w4 b5 w5 b6 w6 b7 w7 b8 w8 b9 w9 b10 w10 b11 w11 hc0 x0 x1 x2)) (N4 (fun s => 1024 * (i 1).val + s + 1) (fun s => (1024 * (i 1).val + 0) + 512) (fun s => 1024 * (i 1).val + s + 1) (fun s => (1024 * (i 1).val - 512) + 512)) := g7
  have g8 := step_u g7 1 (o := (1024 * (i 1).val + 0)) (r0 := 512) (by decide) (by omega) (off := ![1, 512, 0]) rfl inb_S2x1024x128_S1x512x128_1_512_0
    (m := (kernelRun0_B.sl.v195 (F := Ideal) c i b2 w2 b3 w3 b4 w4 b5 w5 b6 w6 b7 w7 b8 w8 b9 w9 b10 w10 b11 w11 hc0 x0 x1 x2))
    (l := (kernelRun0_B.sl.v207 (F := Ideal) c i b2 w2 b3 w3 b4 w4 b5 w5 b6 w6 b7 w7 b8 w8 b9 w9 b10 w10 b11 w11 hc0 x0 x1 x2))
    (a := (kernelRun0_B.sl.v218 (F := Ideal) c i b2 w2 b3 w3 b4 w4 b5 w5 b6 w6 b7 w7 b8 w8 b9 w9 b10 w10 b11 w11 hc0 x0 x1 x2))
    (fun s c' => (rd_box b2.view (w2.unread x0) inb_S2x1024x256_S1x512x256_1_512_0 rfl (by decide) (by decide) s c').trans (congrFun ((w2.read_unread x0).trans h2) _))
    (fun b c' => (rd_box b3.view (w3.unread x1) (k0_off15_inb i) (k0_off15_eq i) (by decide) (by omega) b c').trans (congrFun ((w3.read_unread x1).trans h3) _))
    (fun b c' => (rd_box b4.view (w4.unread x2) (k0_off16_inb i) (k0_off16_eq i) (by decide) (by omega) b c').trans (congrFun ((w4.read_unread x2).trans h4) _))
    (fun s x => cov_box b9.view b9.view.junk _ inb_S2x1024x128_S1x512x128_1_512_0 rfl (by decide) (by decide) (Or.inl rfl) s x)
    (fun s x => cov_box b10.view b10.view.junk _ inb_S2x1024x128_S1x512x128_1_512_0 rfl (by decide) (by decide) (Or.inl rfl) s x)
    (fun s x => cov_box b11.view b11.view.junk _ inb_S2x1024x128_S1x512x128_1_512_0 rfl (by decide) (by decide) (Or.inl rfl) s x)
    (N4 (fun s => 1024 * (i 1).val + s + 1) (fun s => (1024 * (i 1).val + 0) + 512) (fun s => 1024 * (i 1).val + s + 1) (fun s => (1024 * (i 1).val + 0) + 512)) (fun s => by simp [N4] <;> omega) (fun s => by simp [N4] <;> omega) (fun h' s' hn => by simp only [N4, Fin.val_zero, Fin.val_one] at hn ⊢; split_ifs <;> omega)
  replace g8 : Good C (rdl b9.view b9.view.junk (kernelRun0_B.sl.HS0_8 (F := Ideal) c i b2 w2 b3 w3 b4 w4 b5 w5 b6 w6 b7 w7 b8 w8 b9 w9 b10 w10 b11 w11 hc0 x0 x1 x2)) (rdl b10.view b10.view.junk (kernelRun0_B.sl.HS1_8 (F := Ideal) c i b2 w2 b3 w3 b4 w4 b5 w5 b6 w6 b7 w7 b8 w8 b9 w9 b10 w10 b11 w11 hc0 x0 x1 x2)) (rdl b11.view b11.view.junk (kernelRun0_B.sl.HS2_8 (F := Ideal) c i b2 w2 b3 w3 b4 w4 b5 w5 b6 w6 b7 w7 b8 w8 b9 w9 b10 w10 b11 w11 hc0 x0 x1 x2)) (N4 (fun s => 1024 * (i 1).val + s + 1) (fun s => (1024 * (i 1).val + 0) + 512) (fun s => 1024 * (i 1).val + s + 1) (fun s => (1024 * (i 1).val + 0) + 512)) := g8
  have g9 := step_c g8 0 (o := (1024 * (i 1).val + 512)) (r0 := 512) (by decide) (by omega) (off := ![0, 512, 0]) rfl inb_S2x1024x128_S1x512x128_0_512_0
    (m := (kernelRun0_B.sl.v247 (F := Ideal) c i b2 w2 b3 w3 b4 w4 b5 w5 b6 w6 b7 w7 b8 w8 b9 w9 b10 w10 b11 w11 hc0 x0 x1 x2))
    (l := (kernelRun0_B.sl.v259 (F := Ideal) c i b2 w2 b3 w3 b4 w4 b5 w5 b6 w6 b7 w7 b8 w8 b9 w9 b10 w10 b11 w11 hc0 x0 x1 x2))
    (a := (kernelRun0_B.sl.v270 (F := Ideal) c i b2 w2 b3 w3 b4 w4 b5 w5 b6 w6 b7 w7 b8 w8 b9 w9 b10 w10 b11 w11 hc0 x0 x1 x2))
    (fun s c' => (rd_box b2.view (w2.unread x0) inb_S2x1024x256_S1x512x256_0_512_0 rfl (by decide) (by decide) s c').trans (congrFun ((w2.read_unread x0).trans h2) _))
    (fun b c' => (rd_box b3.view (w3.unread x1) (k0_off17_inb i) (k0_off17_eq i) (by decide) (by omega) b c').trans (congrFun ((w3.read_unread x1).trans h3) _))
    (fun b c' => (rd_box b4.view (w4.unread x2) (k0_off18_inb i) (k0_off18_eq i) (by decide) (by omega) b c').trans (congrFun ((w4.read_unread x2).trans h4) _))
    (fun s x => cov_box b9.view b9.view.junk _ inb_S2x1024x128_S1x512x128_0_512_0 rfl (by decide) (by decide) (Or.inl rfl) s x)
    (fun s x => cov_box b10.view b10.view.junk _ inb_S2x1024x128_S1x512x128_0_512_0 rfl (by decide) (by decide) (Or.inl rfl) s x)
    (fun s x => cov_box b11.view b11.view.junk _ inb_S2x1024x128_S1x512x128_0_512_0 rfl (by decide) (by decide) (Or.inl rfl) s x)
    (N4 (fun s => 1024 * (i 1).val + s + 1) (fun s => 1024 * (i 1).val + s + 1) (fun s => 1024 * (i 1).val + s + 1) (fun s => (1024 * (i 1).val + 0) + 512)) (fun s => by simp [N4] <;> omega) (fun s => by simp [N4] <;> omega) (fun h' s' hn => by simp only [N4, Fin.val_zero, Fin.val_one] at hn ⊢; split_ifs <;> omega)
  replace g9 : Good C (rdl b9.view b9.view.junk (kernelRun0_B.sl.HS0_9 (F := Ideal) c i b2 w2 b3 w3 b4 w4 b5 w5 b6 w6 b7 w7 b8 w8 b9 w9 b10 w10 b11 w11 hc0 x0 x1 x2)) (rdl b10.view b10.view.junk (kernelRun0_B.sl.HS1_9 (F := Ideal) c i b2 w2 b3 w3 b4 w4 b5 w5 b6 w6 b7 w7 b8 w8 b9 w9 b10 w10 b11 w11 hc0 x0 x1 x2)) (rdl b11.view b11.view.junk (kernelRun0_B.sl.HS2_9 (F := Ideal) c i b2 w2 b3 w3 b4 w4 b5 w5 b6 w6 b7 w7 b8 w8 b9 w9 b10 w10 b11 w11 hc0 x0 x1 x2)) (N4 (fun s => 1024 * (i 1).val + s + 1) (fun s => 1024 * (i 1).val + s + 1) (fun s => 1024 * (i 1).val + s + 1) (fun s => (1024 * (i 1).val + 0) + 512)) := g9
  have g10 := step_c g9 1 (o := (1024 * (i 1).val + 512)) (r0 := 512) (by decide) (by omega) (off := ![1, 512, 0]) rfl inb_S2x1024x128_S1x512x128_1_512_0
    (m := (kernelRun0_B.sl.v295 (F := Ideal) c i b2 w2 b3 w3 b4 w4 b5 w5 b6 w6 b7 w7 b8 w8 b9 w9 b10 w10 b11 w11 hc0 x0 x1 x2))
    (l := (kernelRun0_B.sl.v307 (F := Ideal) c i b2 w2 b3 w3 b4 w4 b5 w5 b6 w6 b7 w7 b8 w8 b9 w9 b10 w10 b11 w11 hc0 x0 x1 x2))
    (a := (kernelRun0_B.sl.v318 (F := Ideal) c i b2 w2 b3 w3 b4 w4 b5 w5 b6 w6 b7 w7 b8 w8 b9 w9 b10 w10 b11 w11 hc0 x0 x1 x2))
    (fun s c' => (rd_box b2.view (w2.unread x0) inb_S2x1024x256_S1x512x256_1_512_0 rfl (by decide) (by decide) s c').trans (congrFun ((w2.read_unread x0).trans h2) _))
    (fun b c' => (rd_box b3.view (w3.unread x1) (k0_off19_inb i) (k0_off19_eq i) (by decide) (by omega) b c').trans (congrFun ((w3.read_unread x1).trans h3) _))
    (fun b c' => (rd_box b4.view (w4.unread x2) (k0_off20_inb i) (k0_off20_eq i) (by decide) (by omega) b c').trans (congrFun ((w4.read_unread x2).trans h4) _))
    (fun s x => cov_box b9.view b9.view.junk _ inb_S2x1024x128_S1x512x128_1_512_0 rfl (by decide) (by decide) (Or.inl rfl) s x)
    (fun s x => cov_box b10.view b10.view.junk _ inb_S2x1024x128_S1x512x128_1_512_0 rfl (by decide) (by decide) (Or.inl rfl) s x)
    (fun s x => cov_box b11.view b11.view.junk _ inb_S2x1024x128_S1x512x128_1_512_0 rfl (by decide) (by decide) (Or.inl rfl) s x)
    (N4 (fun s => 1024 * (i 1).val + s + 1) (fun s => 1024 * (i 1).val + s + 1) (fun s => 1024 * (i 1).val + s + 1) (fun s => 1024 * (i 1).val + s + 1)) (fun s => by simp [N4] <;> omega) (fun s => by simp [N4] <;> omega) (fun h' s' hn => by simp only [N4, Fin.val_zero, Fin.val_one] at hn ⊢; split_ifs <;> omega)
  replace g10 : Good C (rdl b9.view b9.view.junk (kernelRun0_B.sl.HS0_10 (F := Ideal) c i b2 w2 b3 w3 b4 w4 b5 w5 b6 w6 b7 w7 b8 w8 b9 w9 b10 w10 b11 w11 hc0 x0 x1 x2)) (rdl b10.view b10.view.junk (kernelRun0_B.sl.HS1_10 (F := Ideal) c i b2 w2 b3 w3 b4 w4 b5 w5 b6 w6 b7 w7 b8 w8 b9 w9 b10 w10 b11 w11 hc0 x0 x1 x2)) (rdl b11.view b11.view.junk (kernelRun0_B.sl.HS2_10 (F := Ideal) c i b2 w2 b3 w3 b4 w4 b5 w5 b6 w6 b7 w7 b8 w8 b9 w9 b10 w10 b11 w11 hc0 x0 x1 x2)) (N4 (fun s => 1024 * (i 1).val + s + 1) (fun s => 1024 * (i 1).val + s + 1) (fun s => 1024 * (i 1).val + s + 1) (fun s => 1024 * (i 1).val + s + 1)) := g10
  refine good_cast g10 ?_
  intro h s
  simp only [N4]
  split_ifs <;> omega

end Cert.Fwd

end
-- ==== Proof.F.Put.lean ====
/- The forward call's stored values at an index: its outputs' pieces, the scratch rows and the gate that they read. -/
module

public import proofs.«01_k».proof.Proof.F.Sweep
public import proofs.«01_k».proof.Proof.F.Final

@[expose] public section

set_option maxRecDepth 16384

noncomputable section

namespace Cert.Fwd

open Cert.Kernel2Ideal Cert.Kernel2Ideal.Gen
open Idealize.ShloMosaic Idealize.ShloMosaic.TcCoe Idealize.ShloMosaic.Pointwise Idealize.SL.Sem

/-- Column `x` of head `h` of a pair. -/
def pc (h : Fin 2) (x : Fin 128) : Fin 256 := ⟨128 * h.val + x.val, by omega⟩

/-! The two heads' columns of an output stored one after the other. -/

theorem put2_hi {e : EltTy} (v : View sig .tc .vmem S1024x256 e) (f : v.ty.Contents (Elt Ideal)) (w1 w0 : S1024x128.Idx → Elt Ideal e) (s : Fin 1024) (x : Fin 128) :
    v.read (Elt Ideal) (v.writes (Elt Ideal) f [⟨Rect.unit (s := S1024x256) ![0, 128] ![1024, 128] inb_S1024x256_S1024x128_0_128, w1⟩,
      ⟨Rect.unit (s := S1024x256) ![0, 0] ![1024, 128] inb_S1024x256_S1024x128_0_0, w0⟩]) (ix2 s (pc 1 x)) = w1 (ix2 s x) := by
  refine View.read_writes_cons_hit_of_coords v f (Rect.unit (s := S1024x256) ![0, 128] ![1024, 128] inb_S1024x256_S1024x128_0_128) w1 _ (ix2 s x) _ fun a => ?_
  fin_cases a
  · show s.val = 0 + 1 * s.val; omega
  · show 128 * 1 + x.val = 128 + 1 * x.val; omega
theorem put2_lo {e : EltTy} (v : View sig .tc .vmem S1024x256 e) (f : v.ty.Contents (Elt Ideal)) (w1 w0 : S1024x128.Idx → Elt Ideal e) (s : Fin 1024) (x : Fin 128) :
    v.read (Elt Ideal) (v.writes (Elt Ideal) f [⟨Rect.unit (s := S1024x256) ![0, 128] ![1024, 128] inb_S1024x256_S1024x128_0_128, w1⟩,
      ⟨Rect.unit (s := S1024x256) ![0, 0] ![1024, 128] inb_S1024x256_S1024x128_0_0, w0⟩]) (ix2 s (pc 0 x)) = w0 (ix2 s x) := by
  refine (View.read_writes_cons_miss v f _ _ _ fun hy => ?_).trans ?_
  · have hy' : ix2 s (pc 0 x) ∈ (Rect.unit (s := S1024x256) ![0, 128] ![1024, 128] inb_S1024x256_S1024x128_0_128).set := hy
    have h1 : 128 ≤ 128 * 0 + x.val ∧ 128 * 0 + x.val < 128 + 128 := Rect.mem_set_unit.mp hy' 1
    omega
  refine View.read_writes_cons_hit_of_coords v f (Rect.unit (s := S1024x256) ![0, 0] ![1024, 128] inb_S1024x256_S1024x128_0_0) w0 _ (ix2 s x) _ fun a => ?_
  fin_cases a
  · show s.val = 0 + 1 * s.val; omega
  · show 128 * 0 + x.val = 0 + 1 * x.val; omega
theorem put3_hi (v : View sig .tc .vmem S2x1024x128 .f32) (f : v.ty.Contents (Elt Ideal)) (w1 w0 : S1x1024x128.Idx → Elt Ideal .f32) (s : Fin 1024) (x : Fin 128) :
    v.read (Elt Ideal) (v.writes (Elt Ideal) f [⟨Rect.unit (s := S2x1024x128) ![1, 0, 0] ![1, 1024, 128] inb_S2x1024x128_S1x1024x128_1_0_0, w1⟩,
      ⟨Rect.unit (s := S2x1024x128) ![0, 0, 0] ![1, 1024, 128] inb_S2x1024x128_S1x1024x128_0_0_0, w0⟩]) (ix3 1 s x) = w1 (ix3 0 s x) := by
  have h := put_in v f [⟨Rect.unit (s := S2x1024x128) ![0, 0, 0] ![1, 1024, 128] inb_S2x1024x128_S1x1024x128_0_0_0, w0⟩] inb_S2x1024x128_S1x1024x128_1_0_0 w1 (h := 1) (o := 0) rfl (by decide) (by decide) s x
  have e : (⟨0 + s.val, by omega⟩ : Fin 1024) = s := Fin.ext (Nat.zero_add _)
  rw [e] at h
  exact h
theorem put3_lo (v : View sig .tc .vmem S2x1024x128 .f32) (f : v.ty.Contents (Elt Ideal)) (w1 w0 : S1x1024x128.Idx → Elt Ideal .f32) (s : Fin 1024) (x : Fin 128) :
    v.read (Elt Ideal) (v.writes (Elt Ideal) f [⟨Rect.unit (s := S2x1024x128) ![1, 0, 0] ![1, 1024, 128] inb_S2x1024x128_S1x1024x128_1_0_0, w1⟩,
      ⟨Rect.unit (s := S2x1024x128) ![0, 0, 0] ![1, 1024, 128] inb_S2x1024x128_S1x1024x128_0_0_0, w0⟩]) (ix3 0 s x) = w0 (ix3 0 s x) := by
  refine (put_out v f _ inb_S2x1024x128_S1x1024x128_1_0_0 w1 (h := 1) (o := 0) rfl 0 s x (fun h => absurd h.1 (by decide))).trans ?_
  have h := put_in v f [] inb_S2x1024x128_S1x1024x128_0_0_0 w0 (h := 0) (o := 0) rfl (by decide) (by decide) s x
  have e : (⟨0 + s.val, by omega⟩ : Fin 1024) = s := Fin.ext (Nat.zero_add _)
  rw [e] at h
  exact h

/-! A head's rows of a scratch buffer, and the gate's columns. -/

theorem cov0 (v : View sig .tc .vmem S2x1024x128 .f32) (L : List (View.Piece (Elt Ideal) S2x1024x128 .f32)) (s : Fin 1024) (x : Fin 128) :
    v.readCov L (Rect.unit (s := S2x1024x128) ![0, 0, 0] ![1, 1024, 128] inb_S2x1024x128_S1x1024x128_0_0_0).toLoadRect (ix3 0 s x) = rdl v v.junk L (ix3 0 s x) := by
  have h := cov_box v v.junk L inb_S2x1024x128_S1x1024x128_0_0_0 (h := 0) (o := 0) rfl (by decide) (by decide) (Or.inl rfl) s x
  have e : (⟨0 + s.val, by omega⟩ : Fin 1024) = s := Fin.ext (Nat.zero_add _)
  rw [e] at h
  exact h
theorem cov1 (v : View sig .tc .vmem S2x1024x128 .f32) (L : List (View.Piece (Elt Ideal) S2x1024x128 .f32)) (s : Fin 1024) (x : Fin 128) :
    v.readCov L (Rect.unit (s := S2x1024x128) ![1, 0, 0] ![1, 1024, 128] inb_S2x1024x128_S1x1024x128_1_0_0).toLoadRect (ix3 0 s x) = rdl v v.junk L (ix3 1 s x) := by
  have h := cov_box v v.junk L inb_S2x1024x128_S1x1024x128_1_0_0 (h := 1) (o := 0) rfl (by decide) (by decide) (Or.inl rfl) s x
  have e : (⟨0 + s.val, by omega⟩ : Fin 1024) = s := Fin.ext (Nat.zero_add _)
  rw [e] at h
  exact h
theorem gate0 (v : View sig .tc .vmem S1024x256 .f32) (f : v.ty.Contents (Elt Ideal)) (s : Fin 1024) (x : Fin 128) :
    v.readAt (Elt Ideal) (Rect.unit (s := S1024x256) ![0, 0] ![1024, 128] inb_S1024x256_S1024x128_0_0).toLoadRect f (ix2 s x) = v.read (Elt Ideal) f (ix2 s (pc 0 x)) := by
  show v.read (Elt Ideal) f _ = _
  congr 1
  funext a
  apply Fin.ext
  fin_cases a
  · show 0 + 1 * s.val = s.val; omega
  · show 0 + 1 * x.val = 128 * 0 + x.val; omega
theorem gate1 (v : View sig .tc .vmem S1024x256 .f32) (f : v.ty.Contents (Elt Ideal)) (s : Fin 1024) (x : Fin 128) :
    v.readAt (Elt Ideal) (Rect.unit (s := S1024x256) ![0, 128] ![1024, 128] inb_S1024x256_S1024x128_0_128).toLoadRect f (ix2 s x) = v.read (Elt Ideal) f (ix2 s (pc 1 x)) := by
  show v.read (Elt Ideal) f _ = _
  congr 1
  funext a
  apply Fin.ext
  fin_cases a
  · show 0 + 1 * s.val = s.val; omega
  · show 128 + 1 * x.val = 128 * 1 + x.val; omega

/-! The stored values at an index. -/

theorem out_lo (a l : Vec Ideal S1x1024x128 .f32) (s : Fin 1024) (x : Fin 128) : k0_pay239 a l (ix2 s x) = Ideal.div (a (ix3 0 s x)) (l (ix3 0 s x)) := by
  pointwise [k0_pay239]
theorem out_hi (a l : Vec Ideal S1x1024x128 .f32) (s : Fin 1024) (x : Fin 128) : k0_pay242 a l (ix2 s x) = Ideal.div (a (ix3 0 s x)) (l (ix3 0 s x)) := by
  pointwise [k0_pay242]
theorem yb_lo (a l : Vec Ideal S1x1024x128 .f32) (z : Vec Ideal S1024x128 .f32) (s : Fin 1024) (x : Fin 128) : k0_pay240 a l z (ix2 s x)
    = Ideal.div (a (ix3 0 s x)) (l (ix3 0 s x)) * (z (ix2 s x) * Ideal.logistic (z (ix2 s x))) := by
  pointwise [k0_pay240, k0_pay239]
theorem yb_hi (a l : Vec Ideal S1x1024x128 .f32) (z : Vec Ideal S1024x128 .f32) (s : Fin 1024) (x : Fin 128) : k0_pay243 a l z (ix2 s x)
    = Ideal.div (a (ix3 0 s x)) (l (ix3 0 s x)) * (z (ix2 s x) * Ideal.logistic (z (ix2 s x))) := by
  pointwise [k0_pay243, k0_pay242]
theorem lse_lo (m l : Vec Ideal S1x1024x128 .f32) (s : Fin 1024) (x : Fin 128) : k0_pay241 m l (ix3 0 s x)
    = m (ix3 0 s x) + Ideal.div (Ideal.log (l (ix3 0 s x))) (Ideal.log (Ideal.ofBits FTy.f32 1073741824#32)) := by
  pointwise [k0_pay241]
theorem lse_hi (m l : Vec Ideal S1x1024x128 .f32) (s : Fin 1024) (x : Fin 128) : k0_pay1 (k0_pay244 m) (k0_pay245 l) (Scalar.ofBits .f32 0x40000000#32) (ix3 0 s x)
    = m (ix3 0 s x) + Ideal.div (Ideal.log (l (ix3 0 s x))) (Ideal.log (Ideal.ofBits FTy.f32 1073741824#32)) := by
  pointwise [k0_pay1, k0_pay244, k0_pay245]

end Cert.Fwd

end
-- ==== Proof.F.Out.lean ====
/- What a point leaves in its three outputs, over the reals: the weighted means of the values, these gated, and the base-2
   log-sums of the weights. -/
module

public import proofs.«01_k».proof.Proof.F.BodyA
public import proofs.«01_k».proof.Proof.F.BodyB
public import proofs.«01_k».proof.Proof.F.Put

@[expose] public section

set_option maxRecDepth 16384

noncomputable section

namespace Cert.Fwd

open Cert.Kernel2Ideal Cert.Kernel2Ideal.Gen
open Idealize.ShloMosaic Idealize.ShloMosaic.TcCoe Idealize.ShloMosaic.Pointwise Idealize.SL.Sem

variable (c : Dev nD) (i : grid0.Coords)
  (b2 : Memref sig .tc .vmem S2x1024x256 .bf16) (w2 : b2.IsWhole) (b3 : Memref sig .tc .vmem S2x8192x256 .bf16) (w3 : b3.IsWhole)
  (b4 : Memref sig .tc .vmem S2x8192x128 .bf16) (w4 : b4.IsWhole) (b5 : Memref sig .tc .vmem S1024x256 .f32) (w5 : b5.IsWhole)
  (b6 : Memref sig .tc .vmem S1024x256 .f32) (w6 : b6.IsWhole) (b7 : Memref sig .tc .vmem S1024x256 .bf16) (w7 : b7.IsWhole)
  (b8 : Memref sig .tc .vmem S2x1024x128 .f32) (w8 : b8.IsWhole) (b9 : Memref sig .tc .vmem S2x1024x128 .f32) (w9 : b9.IsWhole)
  (b10 : Memref sig .tc .vmem S2x1024x128 .f32) (w10 : b10.IsWhole) (b11 : Memref sig .tc .vmem S2x1024x128 .f32) (w11 : b11.IsWhole)
  (x0 : Vec Ideal S2x1024x256 .bf16) (x1 : Vec Ideal S2x8192x256 .bf16) (x2 : Vec Ideal S2x8192x128 .bf16) (x3 : Vec Ideal S1024x256 .f32)

/-! An even point's last reads of its scratch rows, and its outputs. -/

theorem e332A (s : Fin 1024) (x : Fin 128) : kernelRun0_A.sl.v332 (F := Ideal) c i b2 w2 b3 w3 b4 w4 b5 w5 b6 w6 b7 w7 b8 w8 b9 w9 b10 w10 b11 w11 x0 x1 x2 (ix3 0 s x) = rdl b11.view b11.view.junk (kernelRun0_A.sl.HS2_6 (F := Ideal) c i b2 w2 b3 w3 b4 w4 b5 w5 b6 w6 b7 w7 b8 w8 b9 w9 b10 w10 b11 w11 x0 x1 x2) (ix3 0 s x) := by
  unfold kernelRun0_A.sl.v332; exact cov0 _ _ s x
theorem e334A (s : Fin 1024) (x : Fin 128) : kernelRun0_A.sl.v334 (F := Ideal) c i b2 w2 b3 w3 b4 w4 b5 w5 b6 w6 b7 w7 b8 w8 b9 w9 b10 w10 b11 w11 x0 x1 x2 (ix3 0 s x) = rdl b10.view b10.view.junk (kernelRun0_A.sl.HS1_6 (F := Ideal) c i b2 w2 b3 w3 b4 w4 b5 w5 b6 w6 b7 w7 b8 w8 b9 w9 b10 w10 b11 w11 x0 x1 x2) (ix3 0 s x) := by
  unfold kernelRun0_A.sl.v334; exact cov0 _ _ s x
theorem e344A (s : Fin 1024) (x : Fin 128) : kernelRun0_A.sl.v344 (F := Ideal) c i b2 w2 b3 w3 b4 w4 b5 w5 b6 w6 b7 w7 b8 w8 b9 w9 b10 w10 b11 w11 x0 x1 x2 (ix3 0 s x) = rdl b9.view b9.view.junk (kernelRun0_A.sl.HS0_6 (F := Ideal) c i b2 w2 b3 w3 b4 w4 b5 w5 b6 w6 b7 w7 b8 w8 b9 w9 b10 w10 b11 w11 x0 x1 x2) (ix3 0 s x) := by
  unfold kernelRun0_A.sl.v344; exact cov0 _ _ s x
theorem e356A (s : Fin 1024) (x : Fin 128) : kernelRun0_A.sl.v356 (F := Ideal) c i b2 w2 b3 w3 b4 w4 b5 w5 b6 w6 b7 w7 b8 w8 b9 w9 b10 w10 b11 w11 x0 x1 x2 (ix3 0 s x) = rdl b11.view b11.view.junk (kernelRun0_A.sl.HS2_6 (F := Ideal) c i b2 w2 b3 w3 b4 w4 b5 w5 b6 w6 b7 w7 b8 w8 b9 w9 b10 w10 b11 w11 x0 x1 x2) (ix3 1 s x) := by
  unfold kernelRun0_A.sl.v356; exact cov1 _ _ s x
theorem e358A (s : Fin 1024) (x : Fin 128) : kernelRun0_A.sl.v358 (F := Ideal) c i b2 w2 b3 w3 b4 w4 b5 w5 b6 w6 b7 w7 b8 w8 b9 w9 b10 w10 b11 w11 x0 x1 x2 (ix3 0 s x) = rdl b10.view b10.view.junk (kernelRun0_A.sl.HS1_6 (F := Ideal) c i b2 w2 b3 w3 b4 w4 b5 w5 b6 w6 b7 w7 b8 w8 b9 w9 b10 w10 b11 w11 x0 x1 x2) (ix3 1 s x) := by
  unfold kernelRun0_A.sl.v358; exact cov1 _ _ s x
theorem e368A (s : Fin 1024) (x : Fin 128) : kernelRun0_A.sl.v368 (F := Ideal) c i b2 w2 b3 w3 b4 w4 b5 w5 b6 w6 b7 w7 b8 w8 b9 w9 b10 w10 b11 w11 x0 x1 x2 (ix3 0 s x) = rdl b9.view b9.view.junk (kernelRun0_A.sl.HS0_6 (F := Ideal) c i b2 w2 b3 w3 b4 w4 b5 w5 b6 w6 b7 w7 b8 w8 b9 w9 b10 w10 b11 w11 x0 x1 x2) (ix3 1 s x) := by
  unfold kernelRun0_A.sl.v368; exact cov1 _ _ s x

set_option maxHeartbeats 4000000 in
theorem outA4 (hc0 : ¬cond0_0 i) (C : Ctx) (h2 : x0 = C.x0) (h3 : x1 = C.x1) (h4 : x2 = C.x2) (h : Fin 2) (s : Fin 1024) (x : Fin 128) :
    out0_A_4 (F := Ideal) c i b2 w2 b3 w3 b4 w4 b5 w5 b6 w6 b7 w7 b8 w8 b9 w9 b10 w10 b11 w11 hc0 x0 x1 x2 x3 (ix2 s (pc h x)) = ((vsum (C.L h s) (C.V h) (1024 * (i 1).val + s.val + 1) x / wsum (C.L h s) (1024 * (i 1).val + s.val + 1) : ℝ) : EReal) := by
  obtain rfl | rfl : h = 0 ∨ h = 1 := by omega
  · have r := row_out (final_A c i b2 w2 b3 w3 b4 w4 b5 w5 b6 w6 b7 w7 b8 w8 b9 w9 b10 w10 b11 w11 x0 x1 x2 hc0 C h2 h3 h4 0 s) (Nat.succ_pos _) x
    unfold out0_A_4 kernelRun0_A
    dsimp only
    refine (put2_lo _ _ _ _ s x).trans ((out_lo _ _ s x).trans ?_)
    rw [e332A, e334A]; exact r
  · have r := row_out (final_A c i b2 w2 b3 w3 b4 w4 b5 w5 b6 w6 b7 w7 b8 w8 b9 w9 b10 w10 b11 w11 x0 x1 x2 hc0 C h2 h3 h4 1 s) (Nat.succ_pos _) x
    unfold out0_A_4 kernelRun0_A
    dsimp only
    refine (put2_hi _ _ _ _ s x).trans ((out_hi _ _ s x).trans ?_)
    rw [e356A, e358A]; exact r

set_option maxHeartbeats 4000000 in
theorem outA5 (hc0 : ¬cond0_0 i) (C : Ctx) (h2 : x0 = C.x0) (h3 : x1 = C.x1) (h4 : x2 = C.x2) (h : Fin 2) (s : Fin 1024) (x : Fin 128) (z : ℝ) (hz : x3 (ix2 s (pc h x)) = (z : EReal)) :
    out0_A_5 (F := Ideal) c i b2 w2 b3 w3 b4 w4 b5 w5 b6 w6 b7 w7 b8 w8 b9 w9 b10 w10 b11 w11 hc0 x0 x1 x2 x3 (ix2 s (pc h x)) = ((vsum (C.L h s) (C.V h) (1024 * (i 1).val + s.val + 1) x / wsum (C.L h s) (1024 * (i 1).val + s.val + 1) * (z * Data.sg z) : ℝ) : EReal) := by
  obtain rfl | rfl : h = 0 ∨ h = 1 := by omega
  · have r := row_out (final_A c i b2 w2 b3 w3 b4 w4 b5 w5 b6 w6 b7 w7 b8 w8 b9 w9 b10 w10 b11 w11 x0 x1 x2 hc0 C h2 h3 h4 0 s) (Nat.succ_pos _) x
    unfold out0_A_5 kernelRun0_A
    dsimp only
    refine (put2_lo _ _ _ _ s x).trans ((yb_lo _ _ _ s x).trans ?_)
    rw [e332A, e334A, gate0, congrFun (w5.read_unread x3) _, hz]
    refine (congrArg (· * _) r).trans ?_
    rw [logistic_real, ← EReal.coe_mul, ← EReal.coe_mul]
  · have r := row_out (final_A c i b2 w2 b3 w3 b4 w4 b5 w5 b6 w6 b7 w7 b8 w8 b9 w9 b10 w10 b11 w11 x0 x1 x2 hc0 C h2 h3 h4 1 s) (Nat.succ_pos _) x
    unfold out0_A_5 kernelRun0_A
    dsimp only
    refine (put2_hi _ _ _ _ s x).trans ((yb_hi _ _ _ s x).trans ?_)
    rw [e356A, e358A, gate1, congrFun (w5.read_unread x3) _, hz]
    refine (congrArg (· * _) r).trans ?_
    rw [logistic_real, ← EReal.coe_mul, ← EReal.coe_mul]

set_option maxHeartbeats 4000000 in
theorem outA6 (hc0 : ¬cond0_0 i) (C : Ctx) (h2 : x0 = C.x0) (h3 : x1 = C.x1) (h4 : x2 = C.x2) (h : Fin 2) (s : Fin 1024) (x : Fin 128) :
    out0_A_6 (F := Ideal) c i b2 w2 b3 w3 b4 w4 b5 w5 b6 w6 b7 w7 b8 w8 b9 w9 b10 w10 b11 w11 hc0 x0 x1 x2 x3 (ix3 h s x) = ((Real.log (wsum (C.L h s) (1024 * (i 1).val + s.val + 1)) / Real.log 2 : ℝ) : EReal) := by
  obtain rfl | rfl : h = 0 ∨ h = 1 := by omega
  · have r := row_lse (final_A c i b2 w2 b3 w3 b4 w4 b5 w5 b6 w6 b7 w7 b8 w8 b9 w9 b10 w10 b11 w11 x0 x1 x2 hc0 C h2 h3 h4 0 s) (Nat.succ_pos _) x
    unfold out0_A_6 kernelRun0_A
    dsimp only
    refine (put3_lo _ _ _ _ s x).trans ((lse_lo _ _ s x).trans ?_)
    rw [e344A, e334A]; exact r
  · have r := row_lse (final_A c i b2 w2 b3 w3 b4 w4 b5 w5 b6 w6 b7 w7 b8 w8 b9 w9 b10 w10 b11 w11 x0 x1 x2 hc0 C h2 h3 h4 1 s) (Nat.succ_pos _) x
    unfold out0_A_6 kernelRun0_A
    dsimp only
    unfold kernelRun0_A.sl.r_21 kernelRun0_A.sl.r_22
    refine (put3_hi _ _ _ _ s x).trans ((lse_hi _ _ s x).trans ?_)
    rw [e368A, e358A]; exact r

/-! An odd point's last reads of its scratch rows, and its outputs. -/

theorem e332B (hc0 : cond0_0 i) (s : Fin 1024) (x : Fin 128) : kernelRun0_B.sl.v332 (F := Ideal) c i b2 w2 b3 w3 b4 w4 b5 w5 b6 w6 b7 w7 b8 w8 b9 w9 b10 w10 b11 w11 hc0 x0 x1 x2 (ix3 0 s x) = rdl b11.view b11.view.junk (kernelRun0_B.sl.HS2_10 (F := Ideal) c i b2 w2 b3 w3 b4 w4 b5 w5 b6 w6 b7 w7 b8 w8 b9 w9 b10 w10 b11 w11 hc0 x0 x1 x2) (ix3 0 s x) := by
  unfold kernelRun0_B.sl.v332; exact cov0 _ _ s x
theorem e334B (hc0 : cond0_0 i) (s : Fin 1024) (x : Fin 128) : kernelRun0_B.sl.v334 (F := Ideal) c i b2 w2 b3 w3 b4 w4 b5 w5 b6 w6 b7 w7 b8 w8 b9 w9 b10 w10 b11 w11 hc0 x0 x1 x2 (ix3 0 s x) = rdl b10.view b10.view.junk (kernelRun0_B.sl.HS1_10 (F := Ideal) c i b2 w2 b3 w3 b4 w4 b5 w5 b6 w6 b7 w7 b8 w8 b9 w9 b10 w10 b11 w11 hc0 x0 x1 x2) (ix3 0 s x) := by
  unfold kernelRun0_B.sl.v334; exact cov0 _ _ s x
theorem e344B (hc0 : cond0_0 i) (s : Fin 1024) (x : Fin 128) : kernelRun0_B.sl.v344 (F := Ideal) c i b2 w2 b3 w3 b4 w4 b5 w5 b6 w6 b7 w7 b8 w8 b9 w9 b10 w10 b11 w11 hc0 x0 x1 x2 (ix3 0 s x) = rdl b9.view b9.view.junk (kernelRun0_B.sl.HS0_10 (F := Ideal) c i b2 w2 b3 w3 b4 w4 b5 w5 b6 w6 b7 w7 b8 w8 b9 w9 b10 w10 b11 w11 hc0 x0 x1 x2) (ix3 0 s x) := by
  unfold kernelRun0_B.sl.v344; exact cov0 _ _ s x
theorem e356B (hc0 : cond0_0 i) (s : Fin 1024) (x : Fin 128) : kernelRun0_B.sl.v356 (F := Ideal) c i b2 w2 b3 w3 b4 w4 b5 w5 b6 w6 b7 w7 b8 w8 b9 w9 b10 w10 b11 w11 hc0 x0 x1 x2 (ix3 0 s x) = rdl b11.view b11.view.junk (kernelRun0_B.sl.HS2_10 (F := Ideal) c i b2 w2 b3 w3 b4 w4 b5 w5 b6 w6 b7 w7 b8 w8 b9 w9 b10 w10 b11 w11 hc0 x0 x1 x2) (ix3 1 s x) := by
  unfold kernelRun0_B.sl.v356; exact cov1 _ _ s x
theorem e358B (hc0 : cond0_0 i) (s : Fin 1024) (x : Fin 128) : kernelRun0_B.sl.v358 (F := Ideal) c i b2 w2 b3 w3 b4 w4 b5 w5 b6 w6 b7 w7 b8 w8 b9 w9 b10 w10 b11 w11 hc0 x0 x1 x2 (ix3 0 s x) = rdl b10.view b10.view.junk (kernelRun0_B.sl.HS1_10 (F := Ideal) c i b2 w2 b3 w3 b4 w4 b5 w5 b6 w6 b7 w7 b8 w8 b9 w9 b10 w10 b11 w11 hc0 x0 x1 x2) (ix3 1 s x) := by
  unfold kernelRun0_B.sl.v358; exact cov1 _ _ s x
theorem e368B (hc0 : cond0_0 i) (s : Fin 1024) (x : Fin 128) : kernelRun0_B.sl.v368 (F := Ideal) c i b2 w2 b3 w3 b4 w4 b5 w5 b6 w6 b7 w7 b8 w8 b9 w9 b10 w10 b11 w11 hc0 x0 x1 x2 (ix3 0 s x) = rdl b9.view b9.view.junk (kernelRun0_B.sl.HS0_10 (F := Ideal) c i b2 w2 b3 w3 b4 w4 b5 w5 b6 w6 b7 w7 b8 w8 b9 w9 b10 w10 b11 w11 hc0 x0 x1 x2) (ix3 1 s x) := by
  unfold kernelRun0_B.sl.v368; exact cov1 _ _ s x

set_option maxHeartbeats 4000000 in
theorem outB4 (hc0 : cond0_0 i) (C : Ctx) (h2 : x0 = C.x0) (h3 : x1 = C.x1) (h4 : x2 = C.x2) (h : Fin 2) (s : Fin 1024) (x : Fin 128) :
    out0_B_4 (F := Ideal) c i b2 w2 b3 w3 b4 w4 b5 w5 b6 w6 b7 w7 b8 w8 b9 w9 b10 w10 b11 w11 hc0 x0 x1 x2 x3 (ix2 s (pc h x)) = ((vsum (C.L h s) (C.V h) (1024 * (i 1).val + s.val + 1) x / wsum (C.L h s) (1024 * (i 1).val + s.val + 1) : ℝ) : EReal) := by
  obtain rfl | rfl : h = 0 ∨ h = 1 := by omega
  · have r := row_out (final_B c i b2 w2 b3 w3 b4 w4 b5 w5 b6 w6 b7 w7 b8 w8 b9 w9 b10 w10 b11 w11 x0 x1 x2 hc0 C h2 h3 h4 0 s) (Nat.succ_pos _) x
    unfold out0_B_4 kernelRun0_B
    dsimp only
    refine (put2_lo _ _ _ _ s x).trans ((out_lo _ _ s x).trans ?_)
    rw [e332B, e334B]; exact r
  · have r := row_out (final_B c i b2 w2 b3 w3 b4 w4 b5 w5 b6 w6 b7 w7 b8 w8 b9 w9 b10 w10 b11 w11 x0 x1 x2 hc0 C h2 h3 h4 1 s) (Nat.succ_pos _) x
    unfold out0_B_4 kernelRun0_B
    dsimp only
    refine (put2_hi _ _ _ _ s x).trans ((out_hi _ _ s x).trans ?_)
    rw [e356B, e358B]; exact r

set_option maxHeartbeats 4000000 in
theorem outB5 (hc0 : cond0_0 i) (C : Ctx) (h2 : x0 = C.x0) (h3 : x1 = C.x1) (h4 : x2 = C.x2) (h : Fin 2) (s : Fin 1024) (x : Fin 128) (z : ℝ) (hz : x3 (ix2 s (pc h x)) = (z : EReal)) :
    out0_B_5 (F := Ideal) c i b2 w2 b3 w3 b4 w4 b5 w5 b6 w6 b7 w7 b8 w8 b9 w9 b10 w10 b11 w11 hc0 x0 x1 x2 x3 (ix2 s (pc h x)) = ((vsum (C.L h s) (C.V h) (1024 * (i 1).val + s.val + 1) x / wsum (C.L h s) (1024 * (i 1).val + s.val + 1) * (z * Data.sg z) : ℝ) : EReal) := by
  obtain rfl | rfl : h = 0 ∨ h = 1 := by omega
  · have r := row_out (final_B c i b2 w2 b3 w3 b4 w4 b5 w5 b6 w6 b7 w7 b8 w8 b9 w9 b10 w10 b11 w11 x0 x1 x2 hc0 C h2 h3 h4 0 s) (Nat.succ_pos _) x
    unfold out0_B_5 kernelRun0_B
    dsimp only
    refine (put2_lo _ _ _ _ s x).trans ((yb_lo _ _ _ s x).trans ?_)
    rw [e332B, e334B, gate0, congrFun (w5.read_unread x3) _, hz]
    refine (congrArg (· * _) r).trans ?_
    rw [logistic_real, ← EReal.coe_mul, ← EReal.coe_mul]
  · have r := row_out (final_B c i b2 w2 b3 w3 b4 w4 b5 w5 b6 w6 b7 w7 b8 w8 b9 w9 b10 w10 b11 w11 x0 x1 x2 hc0 C h2 h3 h4 1 s) (Nat.succ_pos _) x
    unfold out0_B_5 kernelRun0_B
    dsimp only
    refine (put2_hi _ _ _ _ s x).trans ((yb_hi _ _ _ s x).trans ?_)
    rw [e356B, e358B, gate1, congrFun (w5.read_unread x3) _, hz]
    refine (congrArg (· * _) r).trans ?_
    rw [logistic_real, ← EReal.coe_mul, ← EReal.coe_mul]

set_option maxHeartbeats 4000000 in
theorem outB6 (hc0 : cond0_0 i) (C : Ctx) (h2 : x0 = C.x0) (h3 : x1 = C.x1) (h4 : x2 = C.x2) (h : Fin 2) (s : Fin 1024) (x : Fin 128) :
    out0_B_6 (F := Ideal) c i b2 w2 b3 w3 b4 w4 b5 w5 b6 w6 b7 w7 b8 w8 b9 w9 b10 w10 b11 w11 hc0 x0 x1 x2 x3 (ix3 h s x) = ((Real.log (wsum (C.L h s) (1024 * (i 1).val + s.val + 1)) / Real.log 2 : ℝ) : EReal) := by
  obtain rfl | rfl : h = 0 ∨ h = 1 := by omega
  · have r := row_lse (final_B c i b2 w2 b3 w3 b4 w4 b5 w5 b6 w6 b7 w7 b8 w8 b9 w9 b10 w10 b11 w11 x0 x1 x2 hc0 C h2 h3 h4 0 s) (Nat.succ_pos _) x
    unfold out0_B_6 kernelRun0_B
    dsimp only
    refine (put3_lo _ _ _ _ s x).trans ((lse_lo _ _ s x).trans ?_)
    rw [e344B, e334B]; exact r
  · have r := row_lse (final_B c i b2 w2 b3 w3 b4 w4 b5 w5 b6 w6 b7 w7 b8 w8 b9 w9 b10 w10 b11 w11 x0 x1 x2 hc0 C h2 h3 h4 1 s) (Nat.succ_pos _) x
    unfold out0_B_6 kernelRun0_B
    dsimp only
    unfold kernelRun0_B.sl.r_32 kernelRun0_B.sl.r_33
    refine (put3_hi _ _ _ _ s x).trans ((lse_hi _ _ s x).trans ?_)
    rw [e368B, e358B]; exact r

end Cert.Fwd

end
-- ==== Proof.F.Arrays.lean ====
/- The forward call's three results over the reals: the attention's output, its gated form, and the base-2 row log-sums. -/
module

public import proofs.«01_k».proof.Proof.F.Block
public import proofs.«01_k».proof.Proof.F.Out

@[expose] public section

set_option maxRecDepth 16384

noncomputable section

namespace Cert.Kernel2Ideal.Val

open Cert.Kernel2Ideal Cert.Kernel2Ideal.Gen Cert.Fwd
open Idealize.ShloMosaic Idealize.ShloMosaic.TcCoe Idealize.ShloMosaic.Pointwise Idealize.SL.Sem
open Idealize.ShloMosaic.Pipeline (Dat)

variable (m : (ℓ : Loc nD τ sig) → Buf (Elt Ideal) ℓ) (c : Dev nD)

section Point
variable (p : Fin 4) (j : Fin 8) (t : Fin cfg0.N) (ht : t.val = 8 * p.val + j.val) (D : Data) (H : Holds m c D)

include ht in
theorem seen (s : Fin 1024) : 1024 * (grid0.coords t 1).val + s.val + 1 = (ro j s).val + 1 := by
  rw [coords_1, ht]
  show _ = 1024 * j.val + s.val + 1
  omega
include H ht in
theorem mean_at (h : Fin 2) (s : Fin 1024) (x : Fin 128) : vsum ((ctx m c p j t D ht H).L h s) ((ctx m c p j t D ht H).V h) (1024 * (grid0.coords t 1).val + s.val + 1) x
    / wsum ((ctx m c p j t D ht H).L h s) (1024 * (grid0.coords t 1).val + s.val + 1) = D.out (hd p h) (ro j s) x := by
  rw [seen p j t ht]; exact vsum_out D (hd p h) (ro j s) x
include H ht in
theorem norm_at (h : Fin 2) (s : Fin 1024) : wsum ((ctx m c p j t D ht H).L h s) (1024 * (grid0.coords t 1).val + s.val + 1) = D.zs (hd p h) (ro j s) := by
  rw [seen p j t ht]; exact wsum_zs D (hd p h) (ro j s)

include ht H
theorem gate_at (h : Fin 2) (s : Fin 1024) (x : Fin 128) : iblk m c 3 t (ix2 s (pc h x)) = ((D.z (ro j s) (hc (hd p h) x) : ℝ) : EReal) :=
  (blk_z m c p j t ht s h x).trans (host3 m c D H _ _)
set_option maxHeartbeats 4000000 in
theorem pt4 (h : Fin 2) (s : Fin 1024) (x : Fin 128) : (outsAt0 m c t.val t.isLt).1 (ix2 s (pc h x)) = ((D.out (hd p h) (ro j s) x : ℝ) : EReal) := by
  rw [← mean_at m c p j t ht D H]
  by_cases h0 : t.val % 2 = 1
  · exact (congrFun (congrArg (fun o => o.1) (outsAt0_B m c t h0)) _).trans (outB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      (iblk m c 0 t) (iblk m c 1 t) (iblk m c 2 t) (iblk m c 3 t) ((hcond0_0 t).mpr h0) (ctx m c p j t D ht H) rfl rfl rfl h s x)
  · exact (congrFun (congrArg (fun o => o.1) (outsAt0_A m c t h0)) _).trans (outA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      (iblk m c 0 t) (iblk m c 1 t) (iblk m c 2 t) (iblk m c 3 t) (fun h => h0 ((hcond0_0 t).mp h)) (ctx m c p j t D ht H) rfl rfl rfl h s x)
set_option maxHeartbeats 4000000 in
theorem pt5 (h : Fin 2) (s : Fin 1024) (x : Fin 128) : (outsAt0 m c t.val t.isLt).2.1 (ix2 s (pc h x))
    = ((D.out (hd p h) (ro j s) x * (D.z (ro j s) (hc (hd p h) x) * Data.sg (D.z (ro j s) (hc (hd p h) x))) : ℝ) : EReal) := by
  rw [← mean_at m c p j t ht D H]
  by_cases h0 : t.val % 2 = 1
  · exact (congrFun (congrArg (fun o => o.2.1) (outsAt0_B m c t h0)) _).trans (outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      (iblk m c 0 t) (iblk m c 1 t) (iblk m c 2 t) (iblk m c 3 t) ((hcond0_0 t).mpr h0) (ctx m c p j t D ht H) rfl rfl rfl h s x _ (gate_at m c p j t ht D H h s x))
  · exact (congrFun (congrArg (fun o => o.2.1) (outsAt0_A m c t h0)) _).trans (outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      (iblk m c 0 t) (iblk m c 1 t) (iblk m c 2 t) (iblk m c 3 t) (fun h => h0 ((hcond0_0 t).mp h)) (ctx m c p j t D ht H) rfl rfl rfl h s x _ (gate_at m c p j t ht D H h s x))
set_option maxHeartbeats 4000000 in
theorem pt6 (h : Fin 2) (s : Fin 1024) (x : Fin 128) : (outsAt0 m c t.val t.isLt).2.2 (ix3 h s x) = ((Real.log (D.zs (hd p h) (ro j s)) / Real.log 2 : ℝ) : EReal) := by
  rw [← norm_at m c p j t ht D H]
  by_cases h0 : t.val % 2 = 1
  · exact (congrFun (congrArg (fun o => o.2.2) (outsAt0_B m c t h0)) _).trans (outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      (iblk m c 0 t) (iblk m c 1 t) (iblk m c 2 t) (iblk m c 3 t) ((hcond0_0 t).mpr h0) (ctx m c p j t D ht H) rfl rfl rfl h s x)
  · exact (congrFun (congrArg (fun o => o.2.2) (outsAt0_A m c t h0)) _).trans (outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      (iblk m c 0 t) (iblk m c 1 t) (iblk m c 2 t) (iblk m c 3 t) (fun h => h0 ((hcond0_0 t).mp h)) (ctx m c p j t D ht H) rfl rfl rfl h s x)
end Point

/-- A grid point's pair of heads and block of rows. -/
theorem point (t : Fin cfg0.N) : ∃ (p : Fin 4) (j : Fin 8), t.val = 8 * p.val + j.val :=
  ⟨⟨t.val / 8, by have : t.val < 32 := lt_of_lt_of_eq t.isLt N_0; omega⟩, ⟨t.val % 8, by omega⟩, by simp only; omega⟩
/-- A column's head of the pair and place there. -/
theorem col (y : Fin 256) : ∃ (h : Fin 2) (x : Fin 128), y = pc h x :=
  ⟨⟨y.val / 128, by omega⟩, ⟨y.val % 128, by omega⟩, Fin.ext (Nat.div_add_mod y.val 128).symm⟩
/-- A column's head among all, -/
def chd (e : Fin 1024) : Fin 8 := ⟨e.val / 128, by omega⟩
/-- and its place there. -/
def cpl (e : Fin 1024) : Fin 128 := ⟨e.val % 128, by omega⟩
theorem chd_hc (h : Fin 8) (x : Fin 128) : chd (hc h x) = h := Fin.ext (by show (128 * h.val + x.val) / 128 = h.val; omega)
theorem cpl_hc (h : Fin 8) (x : Fin 128) : cpl (hc h x) = x := Fin.ext (by show (128 * h.val + x.val) % 128 = x.val; omega)

variable (D : Data) (H : Holds m c D)
include H

theorem arr4 (h : Fin 8) (s : Fin 8192) (x : Fin 128) : (dats m 0 c).arrAt 4 cfg0.N (ix2 s (hc h x)) = ((D.out h s x : ℝ) : EReal) := by
  have hG : (dats m 0 c).arrAt 4 cfg0.N = fun i : S8192x1024.Idx => ((D.out (chd (i 1)) (i 0) (cpl (i 1)) : ℝ) : EReal) := by
    refine (dats m 0 c).arrAt_eq_of_covers 4 _ (by decide +kernel) fun t hf y => ?_
    blk_simp
    rw [after0_4]
    obtain ⟨p, j, ht⟩ := point t
    idx_vars y
    obtain ⟨h', x', rfl⟩ := col y1
    have e : (win0_4.blk t).view.emb (ix2 y0 (pc h' x')) = ix2 (ro j y0) (hc (hd p h') x') := by unfold ro hc hd pc; blk_ext [idx t]
    have e' : ∀ f : S8192x1024.Idx, f = ix2 (ro j y0) (hc (hd p h') x') → (outsAt0 m c t.val t.isLt).1 (ix2 y0 (pc h' x'))
        = ((D.out (chd (f 1)) (f 0) (cpl (f 1)) : ℝ) : EReal) := fun f hf => by
      rw [hf, pt4 m c p j t ht D H]
      show _ = ((D.out (chd (hc (hd p h') x')) (ro j y0) (cpl (hc (hd p h') x')) : ℝ) : EReal)
      rw [chd_hc, cpl_hc]
    exact e' _ e
  rw [hG]
  show ((D.out (chd (hc h x)) s (cpl (hc h x)) : ℝ) : EReal) = _
  rw [chd_hc, cpl_hc]
theorem arr5 (h : Fin 8) (s : Fin 8192) (x : Fin 128) : (dats m 0 c).arrAt 5 cfg0.N (ix2 s (hc h x))
    = ((D.out h s x * (D.z s (hc h x) * Data.sg (D.z s (hc h x))) : ℝ) : EReal) := by
  have hG : (dats m 0 c).arrAt 5 cfg0.N = fun i : S8192x1024.Idx => ((D.out (chd (i 1)) (i 0) (cpl (i 1)) * (D.z (i 0) (i 1) * Data.sg (D.z (i 0) (i 1))) : ℝ) : EReal) := by
    refine (dats m 0 c).arrAt_eq_of_covers 5 _ (by decide +kernel) fun t hf y => ?_
    blk_simp
    rw [after0_5]
    obtain ⟨p, j, ht⟩ := point t
    idx_vars y
    obtain ⟨h', x', rfl⟩ := col y1
    have e : (win0_5.blk t).view.emb (ix2 y0 (pc h' x')) = ix2 (ro j y0) (hc (hd p h') x') := by unfold ro hc hd pc; blk_ext [idx t]
    have e' : ∀ f : S8192x1024.Idx, f = ix2 (ro j y0) (hc (hd p h') x') → (outsAt0 m c t.val t.isLt).2.1 (ix2 y0 (pc h' x'))
        = ((D.out (chd (f 1)) (f 0) (cpl (f 1)) * (D.z (f 0) (f 1) * Data.sg (D.z (f 0) (f 1))) : ℝ) : EReal) := fun f hf => by
      rw [hf, pt5 m c p j t ht D H]
      show _ = ((D.out (chd (hc (hd p h') x')) (ro j y0) (cpl (hc (hd p h') x'))
        * (D.z (ro j y0) (hc (hd p h') x') * Data.sg (D.z (ro j y0) (hc (hd p h') x'))) : ℝ) : EReal)
      rw [chd_hc, cpl_hc]
    exact e' _ e
  rw [hG]
  show ((D.out (chd (hc h x)) s (cpl (hc h x)) * (D.z s (hc h x) * Data.sg (D.z s (hc h x))) : ℝ) : EReal) = _
  rw [chd_hc, cpl_hc]
theorem arr6 (h : Fin 8) (s : Fin 8192) (x : Fin 128) : (dats m 0 c).arrAt 6 cfg0.N (ix3 h s x) = ((Real.log (D.zs h s) / Real.log 2 : ℝ) : EReal) := by
  have hG : (dats m 0 c).arrAt 6 cfg0.N = fun i : S8x8192x128.Idx => ((Real.log (D.zs (i 0) (i 1)) / Real.log 2 : ℝ) : EReal) := by
    refine (dats m 0 c).arrAt_eq_of_covers 6 _ (by decide +kernel) fun t hf y => ?_
    blk_simp
    rw [after0_6]
    obtain ⟨p, j, ht⟩ := point t
    idx_vars y
    have e : (win0_6.blk t).view.emb (ix3 y0 y1 y2) = ix3 (hd p y0) (ro j y1) y2 := by unfold ro hd; blk_ext [idx t]
    have e' : ∀ f : S8x8192x128.Idx, f = ix3 (hd p y0) (ro j y1) y2 → (outsAt0 m c t.val t.isLt).2.2 (ix3 y0 y1 y2)
        = ((Real.log (D.zs (f 0) (f 1)) / Real.log 2 : ℝ) : EReal) := fun f hf => by
      rw [hf, pt6 m c p j t ht D H]; rfl
    exact e' _ e
  rw [hG]; rfl

end Cert.Kernel2Ideal.Val

end
-- ==== Proof.F.Ref.lean ====
/- The forward reference's three results over the reals. -/
module

public import proofs.«01_k».proof.Proof.Gen.Reference2Ideal.Read
public import proofs.«01_k».proof.Proof.RefReal

@[expose] public section

set_option maxRecDepth 16384

noncomputable section

namespace Cert.Reference2Ideal.Val

open Cert.Reference2Ideal Cert.Reference2Ideal.Gen Cert.Reference2Ideal.Read
open Idealize.ShloMosaic Idealize.ShloMosaic.TcCoe Idealize.ShloMosaic.Pointwise Idealize.SL.Sem
open Cert.ReferenceIdeal.Val (at0 at1 at3 at4 at15 at16 at32_1 at32 at33 at53 at55 at57 at63 at64 mask_select root192 sum_split rot_low)

variable (x0 x1 : (⟨S8192x8x192, .f32⟩ : BufTy).Contents (Elt Ideal)) (x2 : (⟨S8192x8x128, .f32⟩ : BufTy).Contents (Elt Ideal))
  (x3 : (⟨S8192x1024, .f32⟩ : BufTy).Contents (Elt Ideal)) (x4 x5 : (⟨S8192x32, .f32⟩ : BufTy).Contents (Elt Ideal))

/-- The six arguments are the real data. -/
structure Holds (D : Data) : Prop where
  q : ∀ s h x, x0 (ix3 s h x) = ((D.q s h x : ℝ) : EReal)
  k : ∀ s h x, x1 (ix3 s h x) = ((D.k s h x : ℝ) : EReal)
  v : ∀ s h x, x2 (ix3 s h x) = ((D.v s h x : ℝ) : EReal)
  z : ∀ s x, x3 (ix2 s x) = ((D.z s x : ℝ) : EReal)
  cs : ∀ s x, x4 (ix2 s x) = ((D.cs s x : ℝ) : EReal)
  sn : ∀ s x, x5 (ix2 s x) = ((D.sn s x : ℝ) : EReal)

/-! The arrays, as functions to the extended reals. -/

def c0 : S8192x8x64.Idx → EReal := val_main_v0 (F := Ideal) x0
def c1 : S8192x1x32.Idx → EReal := val_main_v1 (F := Ideal) x4
def c2 : S8192x1x32.Idx → EReal := val_main_v2 (F := Ideal) x5
def c3 : S8192x8x32.Idx → EReal := val_main_v3 (F := Ideal) x0
def c4 : S8192x8x32.Idx → EReal := val_main_v4 (F := Ideal) x0
def c15 : S8192x8x64.Idx → EReal := val_main_v15 (F := Ideal) x0 x4 x5
def c16 : S8192x8x128.Idx → EReal := val_main_v16 (F := Ideal) x0
def c17 : S8192x8x128.Idx → EReal := val_main_v17 (F := Ideal) x1
def c19 : S8192x8x64.Idx → EReal := val_main_v19 (F := Ideal) x1
def c32 : S8x8192x8192.Idx → EReal := val_main_v32 (F := Ideal) x0 x1 x4 x5
def c33 : S8x8192.Idx → EReal := val_main_v33 (F := Ideal) x0 x1 x4 x5
def c39 : S8x8192x8192.Idx → EReal := val_main_v39 (F := Ideal) x0 x1 x4 x5
def c41 : S8x8192x1.Idx → EReal := val_main_v41 (F := Ideal) x0 x1 x4 x5
def c43 : S8x8192x8192.Idx → EReal := val_main_v43 (F := Ideal) x0 x1 x4 x5
def c46 : S8192x1024.Idx → EReal := val_main_v46 (F := Ideal) x0 x1 x2 x4 x5
def c51 : S8x8192x8192.Idx → EReal := val_main_v51 (F := Ideal) x0 x1 x4 x5
def c52 : S8x8192.Idx → EReal := val_main_v52 (F := Ideal) x0 x1 x4 x5
def c59 : S8192x1024.Idx → EReal := val_main_call1_v5 (F := Ideal) x3
def c61 : S8192x1024.Idx → EReal := val_main_v61 (F := Ideal) x0 x1 x2 x3 x4 x5
def c63 : S8x8192x128.Idx → EReal := val_main_v63 (F := Ideal) x0 x1 x4 x5
def a2 : S8192x8x128.Idx → EReal := x2
def a3 : S8192x1024.Idx → EReal := x3

theorem at51 (X : FVec Ideal S8x8192x8192 .f32) (Y : FVec Ideal S8x8192 .f32) (h : Fin 8) (s r : Fin 8192) : Host.exp (subf X
    (broadcastInDim S8x8192x8192 ![0, 1, 2] bcast_S8x8192x1_S8x8192x8192_0_1_2 (broadcastInDim S8x8192x1 ![0, 1] bcast_S8x8192_S8x8192x1_0_1 Y))) (ix3 h s r)
    = Ideal.exp (X (ix3 h s r) - Y (ix2 h s)) := by
  pointwise []
theorem at52 (X : FVec Ideal S8x8192x8192 .f32) (h : Fin 8) (s : Fin 8192) : Host.reduceAdd X (constant S_ .f32 0x00000000#32)
    reducesTo_S8x8192x8192_S8x8192_d2 h_S_ (ix2 h s) = ∑ r, X (ix3 h s r) := by
  pointwise []
theorem at58 (X Y : FVec Ideal S8x8192 .f32) (h : Fin 8) (s : Fin 8192) (x : Fin 128) : broadcastInDim S8x8192x128 ![0, 1, 2] bcast_S8x8192x1_S8x8192x128_0_1_2
    (broadcastInDim S8x8192x1 ![0, 1] bcast_S8x8192_S8x8192x1_0_1 (Host.divf (addf X (Host.log Y)) (broadcastInDim S8x8192 ![] bcast_S_S8x8192 (id (Host.log (constant S_ .f32 0x40000000#32)))))) (ix3 h s x)
    = Ideal.div (X (ix2 h s) + Ideal.log (Y (ix2 h s))) (Ideal.log (Ideal.ofBits FTy.f32 1073741824#32)) := by
  simp only [id]
  pointwise []

variable (D : Data) (H : Holds x0 x1 x2 x3 x4 x5 D)
include H

theorem a2_at (s : Fin 8192) (h : Fin 8) (x : Fin 128) : a2 x2 (ix3 s h x) = ((D.v s h x : ℝ) : EReal) := H.v s h x
theorem a3_at (s : Fin 8192) (e : Fin 1024) : a3 x3 (ix2 s e) = ((D.z s e : ℝ) : EReal) := H.z s e

/-! The rotation and the logits. -/

theorem ref0 (s : Fin 8192) (h : Fin 8) (x : Fin 64) : c0 x0 (ix3 s h x) = ((D.q s h ⟨128 + x.val, by omega⟩ : ℝ) : EReal) :=
  (at0 x0 s h x).trans (H.q s h _)
theorem ref3 (s : Fin 8192) (h : Fin 8) (x : Fin 32) : c3 x0 (ix3 s h x) = ((D.q s h ⟨128 + x.val, by omega⟩ : ℝ) : EReal) :=
  (at3 (c0 x0) s h x).trans (ref0 x0 x1 x2 x3 x4 x5 D H s h _)
theorem ref4 (s : Fin 8192) (h : Fin 8) (x : Fin 32) : c4 x0 (ix3 s h x) = ((D.q s h ⟨128 + (32 + x.val), by omega⟩ : ℝ) : EReal) :=
  (at4 (c0 x0) s h x).trans (ref0 x0 x1 x2 x3 x4 x5 D H s h _)
theorem ref1 (s : Fin 8192) (x : Fin 32) : c1 x4 (ix3 s 0 x) = ((D.cs s x : ℝ) : EReal) := (at1 x4 s x).trans (H.cs s x)
theorem ref2 (s : Fin 8192) (x : Fin 32) : c2 x5 (ix3 s 0 x) = ((D.sn s x : ℝ) : EReal) := (at1 x5 s x).trans (H.sn s x)
theorem ref16 (s : Fin 8192) (h : Fin 8) (x : Fin 128) : c16 x0 (ix3 s h x) = ((D.q s h ⟨x.val, by omega⟩ : ℝ) : EReal) := (at16 x0 s h x).trans (H.q s h _)
theorem ref17 (s : Fin 8192) (h : Fin 8) (x : Fin 128) : c17 x1 (ix3 s h x) = ((D.k s h ⟨x.val, by omega⟩ : ℝ) : EReal) := (at16 x1 s h x).trans (H.k s h _)
theorem ref19 (s : Fin 8192) (h : Fin 8) (x : Fin 64) : c19 x1 (ix3 s h x) = ((D.k s h ⟨128 + x.val, by omega⟩ : ℝ) : EReal) := (at0 x1 s h x).trans (H.k s h _)
theorem ref15 (s : Fin 8192) (h : Fin 8) (x : Fin 64) : c15 x0 x4 x5 (ix3 s h x) = ((D.rot s h ⟨128 + x.val, by omega⟩ : ℝ) : EReal) := by
  refine (at15 (c3 x0) (c4 x0) (c1 x4) (c2 x5) s h x).trans ?_
  simp only [ref3 x0 x1 x2 x3 x4 x5 D H, ref4 x0 x1 x2 x3 x4 x5 D H, ref1 x0 x1 x2 x3 x4 x5 D H, ref2 x0 x1 x2 x3 x4 x5 D H, ← EReal.coe_mul, ← EReal.coe_sub, ← EReal.coe_add]
  unfold Data.rot
  have e0 : ¬ 128 + x.val < 128 := by omega
  by_cases h1 : x.val < 32
  · have h2 : 128 + x.val - 128 < 32 := by omega
    have i1 : (⟨128 + x.val - 128, by omega⟩ : Fin 32) = ⟨x.val, h1⟩ := Fin.ext (by show 128 + x.val - 128 = x.val; omega)
    have i2 : (⟨128 + x.val + 32, by omega⟩ : Fin 192) = ⟨128 + (32 + x.val), by omega⟩ := Fin.ext (by show 128 + x.val + 32 = 128 + (32 + x.val); omega)
    rw [dif_pos h1, dif_neg e0, dif_pos h2]
    simp only [i1, i2]
  · have h2 : ¬ 128 + x.val - 128 < 32 := by omega
    have i1 : (⟨128 + x.val - 128 - 32, by omega⟩ : Fin 32) = ⟨x.val - 32, by omega⟩ := Fin.ext (by show 128 + x.val - 128 - 32 = x.val - 32; omega)
    have i2 : (⟨128 + x.val - 32, by omega⟩ : Fin 192) = ⟨128 + (x.val - 32), by omega⟩ := Fin.ext (by show 128 + x.val - 32 = 128 + (x.val - 32); omega)
    have i3 : (⟨128 + (32 + (x.val - 32)), by omega⟩ : Fin 192) = ⟨128 + x.val, by omega⟩ := Fin.ext (by show 128 + (32 + (x.val - 32)) = 128 + x.val; omega)
    rw [dif_neg h1, dif_neg e0, dif_neg h2]
    simp only [i1, i2, i3]
omit H in
theorem mask_at (h : Fin 8) (s r : Fin 8192) : val_main_call0_v1 (F := Ideal) (ix3 h s r) = IntOp.cmpi CmpIPredicate.sge (BitVec.ofNat 32 s.val) (BitVec.ofNat 32 r.val) :=
  at32_1 h s r
theorem ref32 (h : Fin 8) (s r : Fin 8192) : c32 x0 x1 x4 x5 (ix3 h s r) = if r.val ≤ s.val then ((D.lg h s r : ℝ) : EReal) else ⊥ := by
  refine (at32 (val_main_call0_v1 (F := Ideal)) (c16 x0) (c17 x1) (c15 x0 x4 x5) (c19 x1) (val_main_v23 (F := Ideal)) (val_main_call0_v0 (F := Ideal)) h s r).trans ?_
  have eU : (val_main_v23 (F := Ideal) ix0 : EReal) = ((√192 : ℝ) : EReal) := root192
  have eT : (val_main_call0_v0 (F := Ideal) ix0 : EReal) = (⊥ : EReal) := word_bot
  rw [mask_at, mask_select, eU, eT]
  simp only [ref16 x0 x1 x2 x3 x4 x5 D H, ref17 x0 x1 x2 x3 x4 x5 D H, ref15 x0 x1 x2 x3 x4 x5 D H, ref19 x0 x1 x2 x3 x4 x5 D H, ← EReal.coe_mul]
  rw [coe_sum, coe_sum, ← EReal.coe_add, div_real _ sqrt192_pos.ne']
  unfold Data.lg
  rw [sum_split fun x => D.rot s h x * D.k r h x]
  simp only [rot_low]

/-! The softmax. -/

theorem ref33 (h : Fin 8) (s : Fin 8192) : ∃ M : ℝ, c33 x0 x1 x4 x5 (ix2 h s) = (M : EReal) := by
  have e : c33 x0 x1 x4 x5 (ix2 h s) = Finset.fold max ⊥ (fun x => c32 x0 x1 x4 x5 (ix3 h s x)) Finset.univ := by
    refine (at33 (c32 x0 x1 x4 x5) h s).trans ?_
    rw [word_bot]
  rw [e]
  refine fold_real _ s (fun x => ?_) ?_
  · show c32 x0 x1 x4 x5 (ix3 h s x) < ⊤
    rw [ref32 x0 x1 x2 x3 x4 x5 D H]; split
    · exact EReal.coe_lt_top _
    · exact bot_lt_top
  · show ⊥ < c32 x0 x1 x4 x5 (ix3 h s s)
    rw [ref32 x0 x1 x2 x3 x4 x5 D H, if_pos le_rfl]; exact EReal.bot_lt_coe _
variable (h : Fin 8) (s r : Fin 8192) (M : ℝ) (hM : c33 x0 x1 x4 x5 (ix2 h s) = (M : EReal))
include hM
theorem ref39 : c39 x0 x1 x4 x5 (ix3 h s r) = ((D.ex h s r * Real.exp (-M) : ℝ) : EReal) := by
  refine (at53 (c32 x0 x1 x4 x5) (c33 x0 x1 x4 x5) h s r).trans ?_
  rw [ref32 x0 x1 x2 x3 x4 x5 D H, hM, word_bot, max_eq_right bot_le, D.shift]
  split
  · rw [← EReal.coe_sub, Ideal.exp_coe]
  · rw [EReal.bot_sub, exp_bot]
theorem ref41 : c41 x0 x1 x4 x5 (ix3 h s 0) = ((D.zs h s * Real.exp (-M) : ℝ) : EReal) := by
  refine (at55 (c39 x0 x1 x4 x5) h s).trans ?_
  rw [← D.shift_sum, ← coe_sum]
  exact Finset.sum_congr rfl fun r _ => ref39 x0 x1 x2 x3 x4 x5 D H h s r M hM
theorem ref51 : c51 x0 x1 x4 x5 (ix3 h s r) = ((D.ex h s r * Real.exp (-M) : ℝ) : EReal) := by
  have hM' : c33 x0 x1 x4 x5 (ix2 h s) = (M : EReal) := hM
  refine (at51 (c32 x0 x1 x4 x5) (c33 x0 x1 x4 x5) h s r).trans ?_
  rw [ref32 x0 x1 x2 x3 x4 x5 D H, hM', D.shift]
  split
  · rw [← EReal.coe_sub, Ideal.exp_coe]
  · rw [EReal.bot_sub, exp_bot]
theorem ref52 : c52 x0 x1 x4 x5 (ix2 h s) = ((D.zs h s * Real.exp (-M) : ℝ) : EReal) := by
  refine (at52 (c51 x0 x1 x4 x5) h s).trans ?_
  rw [← D.shift_sum, ← coe_sum]
  exact Finset.sum_congr rfl fun r _ => ref51 x0 x1 x2 x3 x4 x5 D H h s r M hM
omit hM
theorem ref43 : c43 x0 x1 x4 x5 (ix3 h s r) = ((D.p h s r : ℝ) : EReal) := by
  obtain ⟨M, hM⟩ := ref33 x0 x1 x2 x3 x4 x5 D H h s
  refine (at57 (c39 x0 x1 x4 x5) (c41 x0 x1 x4 x5) h s r).trans ?_
  rw [ref39 x0 x1 x2 x3 x4 x5 D H h s r M hM, ref41 x0 x1 x2 x3 x4 x5 D H h s M hM, div_real _ (mul_pos (D.zs_pos h s) (Real.exp_pos _)).ne', D.shift_div]

/-! The three results. -/

theorem ref46 (x : Fin 128) : c46 x0 x1 x2 x4 x5 (ix2 s (hc h x)) = ((D.out h s x : ℝ) : EReal) := by
  refine (at63 (a2 x2) (c43 x0 x1 x4 x5) s h x).trans ?_
  rw [Data.out, ← coe_sum]
  exact Finset.sum_congr rfl fun r _ => by rw [a2_at x0 x1 x2 x3 x4 x5 D H, ref43 x0 x1 x2 x3 x4 x5 D H, mul_comm, EReal.coe_mul]
theorem ref59 (e : Fin 1024) : c59 x3 (ix2 s e) = ((Data.sg (D.z s e) : ℝ) : EReal) := by
  refine (at64 (a3 x3) s e).trans ?_
  have hp : (1 : ℝ) + Real.exp (-D.z s e) ≠ 0 := (add_pos one_pos (Real.exp_pos _)).ne'
  rw [a3_at x0 x1 x2 x3 x4 x5 D H, word_1, ← EReal.coe_neg, Ideal.exp_coe, ← EReal.coe_add, div_real _ hp]
  rfl
theorem ref61 (x : Fin 128) : c61 x0 x1 x2 x3 x4 x5 (ix2 s (hc h x)) = ((D.out h s x * (D.z s (hc h x) * Data.sg (D.z s (hc h x))) : ℝ) : EReal) := by
  have e0 : c61 x0 x1 x2 x3 x4 x5 (ix2 s (hc h x)) = c46 x0 x1 x2 x4 x5 (ix2 s (hc h x)) * (a3 x3 (ix2 s (hc h x)) * c59 x3 (ix2 s (hc h x))) := rfl
  rw [e0, ref46 x0 x1 x2 x3 x4 x5 D H, a3_at x0 x1 x2 x3 x4 x5 D H, ref59 x0 x1 x2 x3 x4 x5 D H, EReal.coe_mul, EReal.coe_mul]
theorem ref63 (x : Fin 128) : c63 x0 x1 x4 x5 (ix3 h s x) = ((Real.log (D.zs h s) / Real.log 2 : ℝ) : EReal) := by
  obtain ⟨M, hM⟩ := ref33 x0 x1 x2 x3 x4 x5 D H h s
  refine (at58 (c33 x0 x1 x4 x5) (c52 x0 x1 x4 x5) h s x).trans ?_
  rw [ref52 x0 x1 x2 x3 x4 x5 D H h s M hM, hM, word_2, log_real (mul_pos (D.zs_pos h s) (Real.exp_pos _)), log_real (by norm_num), ← EReal.coe_add,
    div_real _ log2_pos.ne', D.shift_log]

end Cert.Reference2Ideal.Val

end
-- ==== Proof.F.Claims.lean ====
/- The forward call's claims: its frames, and the equality of its three results with the reference's. -/
module

public import proofs.«01_k».proof.Proof.F.Arrays
public import proofs.«01_k».proof.Proof.F.Ref
public import proofs.«01_k».proof.Proof.Algebraic
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run

@[expose] public section

set_option maxRecDepth 16384

noncomputable section

namespace Cert.Fwd.Proof

open Idealize.ShloMosaic Idealize.ShloMosaic.TcCoe Idealize.ShloMosaic.Pointwise Idealize.ShloMosaic.Tactic
open Idealize.SL Idealize.SL.RA Idealize.SL.BI Idealize.SL.Sem

/-! The frames. -/

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-! The precondition gives real arguments. -/

/-- The shapes the precondition's comparisons broadcast to. -/
theorem facts : Cert.Pre_finite_args2.Facts := ⟨by decide, by decide, by decide, by decide⟩

section Kernel
open Cert.Kernel2Ideal Cert.Kernel2Ideal.Gen

/-- The arguments' real values; the forward pass takes no output gradient. -/
def data (m : (ℓ : Loc nD τ sig) → Buf (Elt Ideal) ℓ) (c : Dev nD) : Data where
  q s h x := EReal.toReal (m (c, Proc.devRef .tc main_arg0) (ix3 s h x))
  k s h x := EReal.toReal (m (c, Proc.devRef .tc main_arg1) (ix3 s h x))
  v s h x := EReal.toReal (m (c, Proc.devRef .tc main_arg2) (ix3 s h x))
  z s x := EReal.toReal (m (c, Proc.devRef .tc main_arg3) (ix2 s x))
  cs s x := EReal.toReal (m (c, Proc.devRef .tc main_arg4) (ix2 s x))
  sn s x := EReal.toReal (m (c, Proc.devRef .tc main_arg5) (ix2 s x))
  y _ _ := 0

open Cert.Finite (real_at) in
/-- Under the precondition the arguments are their real values. -/
theorem holds (m : (ℓ : Loc nD τ sig) → Buf (Elt Ideal) ℓ) (h : Cert.Pre_Kernel2Ideal_finite_args2 (hPre_finite_args2 := facts) m) (c : Dev nD) : Val.Holds m c (data m c) where
  q s i x := real_at facts.1 _ (h c).1 (ix3 s i x)
  k s i x := real_at facts.1 _ (h c).2.1 (ix3 s i x)
  v s i x := real_at facts.2 _ (h c).2.2.1 (ix3 s i x)
  z s x := real_at facts.3 _ (h c).2.2.2.1 (ix2 s x)
  cs s x := real_at facts.4 _ (h c).2.2.2.2.1 (ix2 s x)
  sn s x := real_at facts.4 _ (h c).2.2.2.2.2 (ix2 s x)

set_option maxHeartbeats 4000000 in
/-- The kernel's run, read at its results and its arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30_0) = (dats m 0 c).arrAt 4 cfg0.N
      ∧ r.2.mem ((c.tc : Thread nD τ).loc main_v30_1) = (dats m 0 c).arrAt 5 cfg0.N
      ∧ r.2.mem ((c.tc : Thread nD τ).loc main_v30_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 4, (h c).1 5, (h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main (F := Ideal) m ρ)
end Kernel

/-! The arrays' equality, index by index. -/

section Same
open Cert.Kernel2Ideal Cert.Kernel2Ideal.Gen
open Cert.Proof (ext2 ext3)
variable (m : (ℓ : Loc nD τ sig) → Buf (Elt Ideal) ℓ) (c : Dev nD) (D : Data) (H : Val.Holds m c D)
  (m' : (ℓ : Loc Reference2Ideal.nD Reference2Ideal.τ Reference2Ideal.sig) → Buf (Elt Ideal) ℓ) (c' : Dev Reference2Ideal.nD)

/-- The reference's arguments are the real data. -/
abbrev RefHolds : Prop := Reference2Ideal.Val.Holds (m' ((c'.tc : Thread Reference2Ideal.nD Reference2Ideal.τ).loc Reference2Ideal.main_arg0))
  (m' ((c'.tc : Thread Reference2Ideal.nD Reference2Ideal.τ).loc Reference2Ideal.main_arg1)) (m' ((c'.tc : Thread Reference2Ideal.nD Reference2Ideal.τ).loc Reference2Ideal.main_arg2))
  (m' ((c'.tc : Thread Reference2Ideal.nD Reference2Ideal.τ).loc Reference2Ideal.main_arg3)) (m' ((c'.tc : Thread Reference2Ideal.nD Reference2Ideal.τ).loc Reference2Ideal.main_arg4))
  (m' ((c'.tc : Thread Reference2Ideal.nD Reference2Ideal.τ).loc Reference2Ideal.main_arg5)) D

variable (H' : RefHolds D m' c')
include H H'

theorem same_out : @Eq (S8192x1024.Idx → EReal) (Reference2Ideal.Value.res_main_v46 m' c') ((dats m 0 c).arrAt 4 cfg0.N) :=
  (Reference2Ideal.Read.val_main_v46_eq m' c').trans
    (ext2 _ _ fun s h x => (Reference2Ideal.Val.ref46 _ _ _ _ _ _ D H' h s x).trans (Val.arr4 m c D H h s x).symm)
theorem same_gated : @Eq (S8192x1024.Idx → EReal) (Reference2Ideal.Value.res_main_v61 m' c') ((dats m 0 c).arrAt 5 cfg0.N) :=
  (Reference2Ideal.Read.val_main_v61_eq m' c').trans
    (ext2 _ _ fun s h x => (Reference2Ideal.Val.ref61 _ _ _ _ _ _ D H' h s x).trans (Val.arr5 m c D H h s x).symm)
theorem same_lse : @Eq (S8x8192x128.Idx → EReal) (Reference2Ideal.Value.res_main_v63 m' c') ((dats m 0 c).arrAt 6 cfg0.N) :=
  (Reference2Ideal.Read.val_main_v63_eq m' c').trans
    (ext3 _ _ fun h s x => (Reference2Ideal.Val.ref63 _ _ _ _ _ _ D H' h s x).trans (Val.arr6 m c D H h s x).symm)
end Same

/-- Over the reals, for finite arguments, the forward call and its reference return the same three arrays. -/
theorem algebraic : Cert.algebraic_Kernel2Ideal_Reference2Ideal_pre_finite_args2 (hPre_finite_args2 := facts) := by
  intro m g m' g' hpre hagree
  have H := fun c => holds m hpre c
  have H' : ∀ c, RefHolds (data m c) m' c := fun c =>
    { q := fun s h x => (congrFun (hagree c).1 (ix3 s h x)).trans ((H c).q s h x)
      k := fun s h x => (congrFun (hagree c).2.1 (ix3 s h x)).trans ((H c).k s h x)
      v := fun s h x => (congrFun (hagree c).2.2.1 (ix3 s h x)).trans ((H c).v s h x)
      z := fun s x => (congrFun (hagree c).2.2.2.1 (ix2 s x)).trans ((H c).z s x)
      cs := fun s x => (congrFun (hagree c).2.2.2.2.1 (ix2 s x)).trans ((H c).cs s x)
      sn := fun s x => (congrFun (hagree c).2.2.2.2.2 (ix2 s x)).trans ((H c).sn s x) }
  refine ⟨_, _, _, kernel_run m g, (θ_run Reference2Ideal.defs _ _).mono (fun r h c => ?_) (Reference2Ideal.Value.run (F := Ideal) m' g')⟩
  exact ⟨(h c).1.trans (same_out m c _ (H c) m' c (H' c)), (h c).2.1.trans (same_gated m c _ (H c) m' c (H' c)),
    (h c).2.2.1.trans (same_lse m c _ (H c) m' c (H' c)), (h c).2.2.2⟩

end Cert.Fwd.Proof

end
-- ==== Proof.lean ====
/- The claims of this certificate, each from its own module. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.F.Claims

@[expose] public section

noncomputable section

namespace Cert.Proof

/-- Of the backward call (first) and of the forward call (second): the frames of the kernel, of its ideal program and of
    the reference (the last two also under the precondition), the kernel's idealization, and the equality of the results
    over the reals for finite arguments. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Finite.facts, Cert.Fwd.Proof.facts,
    frame_kernel, frame_ideal, fun m ρ _ => frame_ideal m ρ trivial, frame_reference, fun m ρ _ => frame_reference m ρ trivial,
    Fwd.Proof.frame_kernel, Fwd.Proof.frame_ideal, fun m ρ _ => Fwd.Proof.frame_ideal m ρ trivial,
    Fwd.Proof.frame_reference, fun m ρ _ => Fwd.Proof.frame_reference m ρ trivial,
    preserves, algebraic, trivial, Fwd.Proof.algebraic⟩

end Cert.Proof

end
